-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_even_grid [hPre_even_grid : Cert.Pre_even_grid.Facts] (m : (ℓ : Loc Cert.KernelIdeal.nD Cert.KernelIdeal.τ Cert.KernelIdeal.sig) → Buf (Elt Ideal) ℓ) : Prop :=
  ∀ c : Dev Cert.KernelIdeal.nD,
    (Cert.Pre_even_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_even_grid [hPre_even_grid : Cert.Pre_even_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_even_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Hist (m : (ℓ : Loc Cert.Hist.nD Cert.Hist.τ Cert.Hist.sig) → Buf (Elt Bits) ℓ) : Prop :=
  True

def Pre_HistIdeal (m : (ℓ : Loc Cert.HistIdeal.nD Cert.HistIdeal.τ Cert.HistIdeal.sig) → Buf (Elt Ideal) ℓ) : Prop :=
  True

def Pre_HistIdeal_even_grid_hist [hPre_even_grid_hist : Cert.Pre_even_grid_hist.Facts] (m : (ℓ : Loc Cert.HistIdeal.nD Cert.HistIdeal.τ Cert.HistIdeal.sig) → Buf (Elt Ideal) ℓ) : Prop :=
  ∀ c : Dev Cert.HistIdeal.nD,
    (Cert.Pre_even_grid_hist.fn (F := Ideal) (m ((c.tc : Thread Cert.HistIdeal.nD Cert.HistIdeal.τ).loc Cert.HistIdeal.main_arg0)) (m ((c.tc : Thread Cert.HistIdeal.nD Cert.HistIdeal.τ).loc Cert.HistIdeal.main_arg1))) = (fun _ => 1#1)

def Pre_HistReferenceIdeal (m : (ℓ : Loc Cert.HistReferenceIdeal.nD Cert.HistReferenceIdeal.τ Cert.HistReferenceIdeal.sig) → Buf (Elt Ideal) ℓ) : Prop :=
  True

def Pre_HistReferenceIdeal_even_grid_hist [hPre_even_grid_hist : Cert.Pre_even_grid_hist.Facts] (m : (ℓ : Loc Cert.HistReferenceIdeal.nD Cert.HistReferenceIdeal.τ Cert.HistReferenceIdeal.sig) → Buf (Elt Ideal) ℓ) : Prop :=
  ∀ c : Dev Cert.HistReferenceIdeal.nD,
    (Cert.Pre_even_grid_hist.fn (F := Ideal) (m ((c.tc : Thread Cert.HistReferenceIdeal.nD Cert.HistReferenceIdeal.τ).loc Cert.HistReferenceIdeal.main_arg0)) (m ((c.tc : Thread Cert.HistReferenceIdeal.nD Cert.HistReferenceIdeal.τ).loc Cert.HistReferenceIdeal.main_arg1))) = (fun _ => 1#1)

def Pre_Stats (m : (ℓ : Loc Cert.Stats.nD Cert.Stats.τ Cert.Stats.sig) → Buf (Elt Bits) ℓ) : Prop :=
  True

def Pre_StatsIdeal (m : (ℓ : Loc Cert.StatsIdeal.nD Cert.StatsIdeal.τ Cert.StatsIdeal.sig) → Buf (Elt Ideal) ℓ) : Prop :=
  True

def Pre_StatsReferenceIdeal (m : (ℓ : Loc Cert.StatsReferenceIdeal.nD Cert.StatsReferenceIdeal.τ Cert.StatsReferenceIdeal.sig) → Buf (Elt Ideal) ℓ) : Prop :=
  True

def Pre_Finalize (m : (ℓ : Loc Cert.Finalize.nD Cert.Finalize.τ Cert.Finalize.sig) → Buf (Elt Bits) ℓ) : Prop :=
  True

def Pre_FinalizeIdeal (m : (ℓ : Loc Cert.FinalizeIdeal.nD Cert.FinalizeIdeal.τ Cert.FinalizeIdeal.sig) → Buf (Elt Ideal) ℓ) : Prop :=
  True

def Pre_FinalizeReferenceIdeal (m : (ℓ : Loc Cert.FinalizeReferenceIdeal.nD Cert.FinalizeReferenceIdeal.τ Cert.FinalizeReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineIdeal_finite [hPre_finite : Cert.Pre_finite.Facts] (m : (ℓ : Loc Cert.CombineIdeal.nD Cert.CombineIdeal.τ Cert.CombineIdeal.sig) → Buf (Elt Ideal) ℓ) : Prop :=
  ∀ c : Dev Cert.CombineIdeal.nD,
    (Cert.Pre_finite.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_even_grid [hKernelIdeal : Cert.KernelIdeal.Facts] [hPre_even_grid : Cert.Pre_even_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_even_grid m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_even_grid [hReferenceIdeal : Cert.ReferenceIdeal.Facts] [hPre_even_grid : Cert.Pre_even_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_even_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Hist [hHist : Cert.Hist.Facts] : Prop :=
  ∀ (m : (ℓ : Loc Cert.Hist.nD Cert.Hist.τ Cert.Hist.sig) → Buf (Elt Bits) ℓ) (g : Dev Cert.Hist.nD → PrngReg), Pre_Hist m →
    θ_run (Cert.Hist.defs (F := Bits)) (Cert.Hist.threads (F := Bits)) ⟨m, fun _ => 0, g⟩ (fun r => (∀ c : Dev Cert.Hist.nD,
      r.2.mem ((c.tc : Thread Cert.Hist.nD Cert.Hist.τ).loc Cert.Hist.main_arg0) = m ((c.tc : Thread Cert.Hist.nD Cert.Hist.τ).loc Cert.Hist.main_arg0)
      ∧ r.2.mem ((c.tc : Thread Cert.Hist.nD Cert.Hist.τ).loc Cert.Hist.main_arg1) = m ((c.tc : Thread Cert.Hist.nD Cert.Hist.τ).loc Cert.Hist.main_arg1))
      ∧ r.2.sem = fun _ => 0)

def quiescent_HistIdeal [hHistIdeal : Cert.HistIdeal.Facts] : Prop :=
  ∀ (m : (ℓ : Loc Cert.HistIdeal.nD Cert.HistIdeal.τ Cert.HistIdeal.sig) → Buf (Elt Ideal) ℓ) (g : Dev Cert.HistIdeal.nD → PrngReg), Pre_HistIdeal m →
    θ_run (Cert.HistIdeal.defs (F := Ideal)) (Cert.HistIdeal.threads (F := Ideal)) ⟨m, fun _ => 0, g⟩ (fun r => (∀ c : Dev Cert.HistIdeal.nD,
      r.2.mem ((c.tc : Thread Cert.HistIdeal.nD Cert.HistIdeal.τ).loc Cert.HistIdeal.main_arg0) = m ((c.tc : Thread Cert.HistIdeal.nD Cert.HistIdeal.τ).loc Cert.HistIdeal.main_arg0)
      ∧ r.2.mem ((c.tc : Thread Cert.HistIdeal.nD Cert.HistIdeal.τ).loc Cert.HistIdeal.main_arg1) = m ((c.tc : Thread Cert.HistIdeal.nD Cert.HistIdeal.τ).loc Cert.HistIdeal.main_arg1))
      ∧ r.2.sem = fun _ => 0)

def quiescent_HistIdeal_pre_even_grid_hist [hHistIdeal : Cert.HistIdeal.Facts] [hPre_even_grid_hist : Cert.Pre_even_grid_hist.Facts] : Prop :=
  ∀ (m : (ℓ : Loc Cert.HistIdeal.nD Cert.HistIdeal.τ Cert.HistIdeal.sig) → Buf (Elt Ideal) ℓ) (g : Dev Cert.HistIdeal.nD → PrngReg), Pre_HistIdeal_even_grid_hist m →
    θ_run (Cert.HistIdeal.defs (F := Ideal)) (Cert.HistIdeal.threads (F := Ideal)) ⟨m, fun _ => 0, g⟩ (fun r => (∀ c : Dev Cert.HistIdeal.nD,
      r.2.mem ((c.tc : Thread Cert.HistIdeal.nD Cert.HistIdeal.τ).loc Cert.HistIdeal.main_arg0) = m ((c.tc : Thread Cert.HistIdeal.nD Cert.HistIdeal.τ).loc Cert.HistIdeal.main_arg0)
      ∧ r.2.mem ((c.tc : Thread Cert.HistIdeal.nD Cert.HistIdeal.τ).loc Cert.HistIdeal.main_arg1) = m ((c.tc : Thread Cert.HistIdeal.nD Cert.HistIdeal.τ).loc Cert.HistIdeal.main_arg1))
      ∧ r.2.sem = fun _ => 0)

def quiescent_HistReferenceIdeal [hHistReferenceIdeal : Cert.HistReferenceIdeal.Facts] : Prop :=
  ∀ (m : (ℓ : Loc Cert.HistReferenceIdeal.nD Cert.HistReferenceIdeal.τ Cert.HistReferenceIdeal.sig) → Buf (Elt Ideal) ℓ) (g : Dev Cert.HistReferenceIdeal.nD → PrngReg), Pre_HistReferenceIdeal m →
    θ_run (Cert.HistReferenceIdeal.defs (F := Ideal)) (onTc (τ := Cert.HistReferenceIdeal.τ) (Cert.HistReferenceIdeal.main (F := Ideal))) ⟨m, fun _ => 0, g⟩ (fun r => (∀ c : Dev Cert.HistReferenceIdeal.nD,
      r.2.mem ((c.tc : Thread Cert.HistReferenceIdeal.nD Cert.HistReferenceIdeal.τ).loc Cert.HistReferenceIdeal.main_arg0) = m ((c.tc : Thread Cert.HistReferenceIdeal.nD Cert.HistReferenceIdeal.τ).loc Cert.HistReferenceIdeal.main_arg0)
      ∧ r.2.mem ((c.tc : Thread Cert.HistReferenceIdeal.nD Cert.HistReferenceIdeal.τ).loc Cert.HistReferenceIdeal.main_arg1) = m ((c.tc : Thread Cert.HistReferenceIdeal.nD Cert.HistReferenceIdeal.τ).loc Cert.HistReferenceIdeal.main_arg1))
      ∧ r.2.sem = fun _ => 0)

def quiescent_HistReferenceIdeal_pre_even_grid_hist [hHistReferenceIdeal : Cert.HistReferenceIdeal.Facts] [hPre_even_grid_hist : Cert.Pre_even_grid_hist.Facts] : Prop :=
  ∀ (m : (ℓ : Loc Cert.HistReferenceIdeal.nD Cert.HistReferenceIdeal.τ Cert.HistReferenceIdeal.sig) → Buf (Elt Ideal) ℓ) (g : Dev Cert.HistReferenceIdeal.nD → PrngReg), Pre_HistReferenceIdeal_even_grid_hist m →
    θ_run (Cert.HistReferenceIdeal.defs (F := Ideal)) (onTc (τ := Cert.HistReferenceIdeal.τ) (Cert.HistReferenceIdeal.main (F := Ideal))) ⟨m, fun _ => 0, g⟩ (fun r => (∀ c : Dev Cert.HistReferenceIdeal.nD,
      r.2.mem ((c.tc : Thread Cert.HistReferenceIdeal.nD Cert.HistReferenceIdeal.τ).loc Cert.HistReferenceIdeal.main_arg0) = m ((c.tc : Thread Cert.HistReferenceIdeal.nD Cert.HistReferenceIdeal.τ).loc Cert.HistReferenceIdeal.main_arg0)
      ∧ r.2.mem ((c.tc : Thread Cert.HistReferenceIdeal.nD Cert.HistReferenceIdeal.τ).loc Cert.HistReferenceIdeal.main_arg1) = m ((c.tc : Thread Cert.HistReferenceIdeal.nD Cert.HistReferenceIdeal.τ).loc Cert.HistReferenceIdeal.main_arg1))
      ∧ r.2.sem = fun _ => 0)

def quiescent_Stats [hStats : Cert.Stats.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0))
      ∧ r.2.sem = fun _ => 0)

def quiescent_StatsIdeal [hStatsIdeal : Cert.StatsIdeal.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0))
      ∧ r.2.sem = fun _ => 0)

def quiescent_StatsReferenceIdeal [hStatsReferenceIdeal : Cert.StatsReferenceIdeal.Facts] : Prop :=
  ∀ (m : (ℓ : Loc Cert.StatsReferenceIdeal.nD Cert.StatsReferenceIdeal.τ Cert.StatsReferenceIdeal.sig) → Buf (Elt Ideal) ℓ) (g : Dev Cert.StatsReferenceIdeal.nD → PrngReg), Pre_StatsReferenceIdeal m →
    θ_run (Cert.StatsReferenceIdeal.defs (F := Ideal)) (onTc (τ := Cert.StatsReferenceIdeal.τ) (Cert.StatsReferenceIdeal.main (F := Ideal))) ⟨m, fun _ => 0, g⟩ (fun r => (∀ c : Dev Cert.StatsReferenceIdeal.nD,
      r.2.mem ((c.tc : Thread Cert.StatsReferenceIdeal.nD Cert.StatsReferenceIdeal.τ).loc Cert.StatsReferenceIdeal.main_arg0) = m ((c.tc : Thread Cert.StatsReferenceIdeal.nD Cert.StatsReferenceIdeal.τ).loc Cert.StatsReferenceIdeal.main_arg0))
      ∧ r.2.sem = fun _ => 0)

def quiescent_Finalize [hFinalize : Cert.Finalize.Facts] : Prop :=
  ∀ (m : (ℓ : Loc Cert.Finalize.nD Cert.Finalize.τ Cert.Finalize.sig) → Buf (Elt Bits) ℓ) (g : Dev Cert.Finalize.nD → PrngReg), Pre_Finalize m →
    θ_run (Cert.Finalize.defs (F := Bits)) (onTc (τ := Cert.Finalize.τ) (Cert.Finalize.main (F := Bits))) ⟨m, fun _ => 0, g⟩ (fun r => (∀ c : Dev Cert.Finalize.nD,
      r.2.mem ((c.tc : Thread Cert.Finalize.nD Cert.Finalize.τ).loc Cert.Finalize.main_arg0) = m ((c.tc : Thread Cert.Finalize.nD Cert.Finalize.τ).loc Cert.Finalize.main_arg0)
      ∧ r.2.mem ((c.tc : Thread Cert.Finalize.nD Cert.Finalize.τ).loc Cert.Finalize.main_arg1) = m ((c.tc : Thread Cert.Finalize.nD Cert.Finalize.τ).loc Cert.Finalize.main_arg1)
      ∧ r.2.mem ((c.tc : Thread Cert.Finalize.nD Cert.Finalize.τ).loc Cert.Finalize.main_arg2) = m ((c.tc : Thread Cert.Finalize.nD Cert.Finalize.τ).loc Cert.Finalize.main_arg2)
      ∧ r.2.mem ((c.tc : Thread Cert.Finalize.nD Cert.Finalize.τ).loc Cert.Finalize.main_arg3) = m ((c.tc : Thread Cert.Finalize.nD Cert.Finalize.τ).loc Cert.Finalize.main_arg3))
      ∧ r.2.sem = fun _ => 0)

def quiescent_FinalizeIdeal [hFinalizeIdeal : Cert.FinalizeIdeal.Facts] : Prop :=
  ∀ (m : (ℓ : Loc Cert.FinalizeIdeal.nD Cert.FinalizeIdeal.τ Cert.FinalizeIdeal.sig) → Buf (Elt Ideal) ℓ) (g : Dev Cert.FinalizeIdeal.nD → PrngReg), Pre_FinalizeIdeal m →
    θ_run (Cert.FinalizeIdeal.defs (F := Ideal)) (onTc (τ := Cert.FinalizeIdeal.τ) (Cert.FinalizeIdeal.main (F := Ideal))) ⟨m, fun _ => 0, g⟩ (fun r => (∀ c : Dev Cert.FinalizeIdeal.nD,
      r.2.mem ((c.tc : Thread Cert.FinalizeIdeal.nD Cert.FinalizeIdeal.τ).loc Cert.FinalizeIdeal.main_arg0) = m ((c.tc : Thread Cert.FinalizeIdeal.nD Cert.FinalizeIdeal.τ).loc Cert.FinalizeIdeal.main_arg0)
      ∧ r.2.mem ((c.tc : Thread Cert.FinalizeIdeal.nD Cert.FinalizeIdeal.τ).loc Cert.FinalizeIdeal.main_arg1) = m ((c.tc : Thread Cert.FinalizeIdeal.nD Cert.FinalizeIdeal.τ).loc Cert.FinalizeIdeal.main_arg1)
      ∧ r.2.mem ((c.tc : Thread Cert.FinalizeIdeal.nD Cert.FinalizeIdeal.τ).loc Cert.FinalizeIdeal.main_arg2) = m ((c.tc : Thread Cert.FinalizeIdeal.nD Cert.FinalizeIdeal.τ).loc Cert.FinalizeIdeal.main_arg2)
      ∧ r.2.mem ((c.tc : Thread Cert.FinalizeIdeal.nD Cert.FinalizeIdeal.τ).loc Cert.FinalizeIdeal.main_arg3) = m ((c.tc : Thread Cert.FinalizeIdeal.nD Cert.FinalizeIdeal.τ).loc Cert.FinalizeIdeal.main_arg3))
      ∧ r.2.sem = fun _ => 0)

def quiescent_FinalizeReferenceIdeal [hFinalizeReferenceIdeal : Cert.FinalizeReferenceIdeal.Facts] : Prop :=
  ∀ (m : (ℓ : Loc Cert.FinalizeReferenceIdeal.nD Cert.FinalizeReferenceIdeal.τ Cert.FinalizeReferenceIdeal.sig) → Buf (Elt Ideal) ℓ) (g : Dev Cert.FinalizeReferenceIdeal.nD → PrngReg), Pre_FinalizeReferenceIdeal m →
    θ_run (Cert.FinalizeReferenceIdeal.defs (F := Ideal)) (onTc (τ := Cert.FinalizeReferenceIdeal.τ) (Cert.FinalizeReferenceIdeal.main (F := Ideal))) ⟨m, fun _ => 0, g⟩ (fun r => (∀ c : Dev Cert.FinalizeReferenceIdeal.nD,
      r.2.mem ((c.tc : Thread Cert.FinalizeReferenceIdeal.nD Cert.FinalizeReferenceIdeal.τ).loc Cert.FinalizeReferenceIdeal.main_arg0) = m ((c.tc : Thread Cert.FinalizeReferenceIdeal.nD Cert.FinalizeReferenceIdeal.τ).loc Cert.FinalizeReferenceIdeal.main_arg0)
      ∧ r.2.mem ((c.tc : Thread Cert.FinalizeReferenceIdeal.nD Cert.FinalizeReferenceIdeal.τ).loc Cert.FinalizeReferenceIdeal.main_arg1) = m ((c.tc : Thread Cert.FinalizeReferenceIdeal.nD Cert.FinalizeReferenceIdeal.τ).loc Cert.FinalizeReferenceIdeal.main_arg1)
      ∧ r.2.mem ((c.tc : Thread Cert.FinalizeReferenceIdeal.nD Cert.FinalizeReferenceIdeal.τ).loc Cert.FinalizeReferenceIdeal.main_arg2) = m ((c.tc : Thread Cert.FinalizeReferenceIdeal.nD Cert.FinalizeReferenceIdeal.τ).loc Cert.FinalizeReferenceIdeal.main_arg2)
      ∧ r.2.mem ((c.tc : Thread Cert.FinalizeReferenceIdeal.nD Cert.FinalizeReferenceIdeal.τ).loc Cert.FinalizeReferenceIdeal.main_arg3) = m ((c.tc : Thread Cert.FinalizeReferenceIdeal.nD Cert.FinalizeReferenceIdeal.τ).loc Cert.FinalizeReferenceIdeal.main_arg3))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ r.2.sem = fun _ => 0)

def quiescent_CombineIdeal_pre_finite [hCombineIdeal : Cert.CombineIdeal.Facts] [hPre_finite : Cert.Pre_finite.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal_finite m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ r.2.sem = fun _ => 0)

def preserves_Kernel_KernelIdeal : Prop :=
  True

def algebraic_KernelIdeal_ReferenceIdeal_pre_even_grid [hKernelIdeal : Cert.KernelIdeal.Facts] [hReferenceIdeal : Cert.ReferenceIdeal.Facts] [hPre_even_grid : Cert.Pre_even_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_even_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Hist_HistIdeal : Prop :=
  True

def algebraic_HistIdeal_HistReferenceIdeal_pre_even_grid_hist [hHistIdeal : Cert.HistIdeal.Facts] [hHistReferenceIdeal : Cert.HistReferenceIdeal.Facts] [hPre_even_grid_hist : Cert.Pre_even_grid_hist.Facts] : Prop :=
  ∀ (m : (ℓ : Loc Cert.HistIdeal.nD Cert.HistIdeal.τ Cert.HistIdeal.sig) → Buf (Elt Ideal) ℓ) (g : Dev Cert.HistIdeal.nD → PrngReg)
    (m' : (ℓ : Loc Cert.HistReferenceIdeal.nD Cert.HistReferenceIdeal.τ Cert.HistReferenceIdeal.sig) → Buf (Elt Ideal) ℓ) (g' : Dev Cert.HistReferenceIdeal.nD → PrngReg), Pre_HistIdeal_even_grid_hist m →
    (∀ c : Dev Cert.HistIdeal.nD,
      m' ((c.tc : Thread Cert.HistReferenceIdeal.nD Cert.HistReferenceIdeal.τ).loc Cert.HistReferenceIdeal.main_arg0) = m ((c.tc : Thread Cert.HistIdeal.nD Cert.HistIdeal.τ).loc Cert.HistIdeal.main_arg0)
      ∧ m' ((c.tc : Thread Cert.HistReferenceIdeal.nD Cert.HistReferenceIdeal.τ).loc Cert.HistReferenceIdeal.main_arg1) = m ((c.tc : Thread Cert.HistIdeal.nD Cert.HistIdeal.τ).loc Cert.HistIdeal.main_arg1)) →
    ∃ (v0 : (c : Dev Cert.HistIdeal.nD) → Buf (Elt Ideal) ((c.tc : Thread Cert.HistIdeal.nD Cert.HistIdeal.τ).loc Cert.HistIdeal.main_v14)),
      θ_run (Cert.HistIdeal.defs (F := Ideal)) (Cert.HistIdeal.threads (F := Ideal)) ⟨m, fun _ => 0, g⟩ (fun r => ∀ c : Dev Cert.HistIdeal.nD,
          r.2.mem ((c.tc : Thread Cert.HistIdeal.nD Cert.HistIdeal.τ).loc Cert.HistIdeal.main_v14) = v0 c
          ∧ r.2.mem ((c.tc : Thread Cert.HistIdeal.nD Cert.HistIdeal.τ).loc Cert.HistIdeal.main_arg0) = m ((c.tc : Thread Cert.HistIdeal.nD Cert.HistIdeal.τ).loc Cert.HistIdeal.main_arg0)
          ∧ r.2.mem ((c.tc : Thread Cert.HistIdeal.nD Cert.HistIdeal.τ).loc Cert.HistIdeal.main_arg1) = m ((c.tc : Thread Cert.HistIdeal.nD Cert.HistIdeal.τ).loc Cert.HistIdeal.main_arg1))
      ∧ θ_run (Cert.HistReferenceIdeal.defs (F := Ideal)) (onTc (τ := Cert.HistReferenceIdeal.τ) (Cert.HistReferenceIdeal.main (F := Ideal))) ⟨m', fun _ => 0, g'⟩ (fun r => ∀ c : Dev Cert.HistReferenceIdeal.nD,
          r.2.mem ((c.tc : Thread Cert.HistReferenceIdeal.nD Cert.HistReferenceIdeal.τ).loc Cert.HistReferenceIdeal.main_v17) = v0 c
          ∧ r.2.mem ((c.tc : Thread Cert.HistReferenceIdeal.nD Cert.HistReferenceIdeal.τ).loc Cert.HistReferenceIdeal.main_arg0) = m' ((c.tc : Thread Cert.HistReferenceIdeal.nD Cert.HistReferenceIdeal.τ).loc Cert.HistReferenceIdeal.main_arg0)
          ∧ r.2.mem ((c.tc : Thread Cert.HistReferenceIdeal.nD Cert.HistReferenceIdeal.τ).loc Cert.HistReferenceIdeal.main_arg1) = m' ((c.tc : Thread Cert.HistReferenceIdeal.nD Cert.HistReferenceIdeal.τ).loc Cert.HistReferenceIdeal.main_arg1))

def preserves_Stats_StatsIdeal : Prop :=
  True

def algebraic_StatsIdeal_StatsReferenceIdeal [hStatsIdeal : Cert.StatsIdeal.Facts] [hStatsReferenceIdeal : Cert.StatsReferenceIdeal.Facts] : Prop :=
  ∀ (m : (ℓ : Loc Cert.StatsIdeal.nD Cert.StatsIdeal.τ Cert.StatsIdeal.sig) → Buf (Elt Ideal) ℓ) (g : Dev Cert.StatsIdeal.nD → PrngReg)
    (m' : (ℓ : Loc Cert.StatsReferenceIdeal.nD Cert.StatsReferenceIdeal.τ Cert.StatsReferenceIdeal.sig) → Buf (Elt Ideal) ℓ) (g' : Dev Cert.StatsReferenceIdeal.nD → PrngReg), Pre_StatsIdeal m →
    (∀ c : Dev Cert.StatsIdeal.nD,
      m' ((c.tc : Thread Cert.StatsReferenceIdeal.nD Cert.StatsReferenceIdeal.τ).loc Cert.StatsReferenceIdeal.main_arg0) = m ((c.tc : Thread Cert.StatsIdeal.nD Cert.StatsIdeal.τ).loc Cert.StatsIdeal.main_arg0)) →
    ∃ (v0 : (c : Dev Cert.StatsIdeal.nD) → Buf (Elt Ideal) ((c.tc : Thread Cert.StatsIdeal.nD Cert.StatsIdeal.τ).loc Cert.StatsIdeal.main_v1)),
      θ_run (Cert.StatsIdeal.defs (F := Ideal)) (onTc (τ := Cert.StatsIdeal.τ) (Cert.StatsIdeal.main (F := Ideal))) ⟨m, fun _ => 0, g⟩ (fun r => ∀ c : Dev Cert.StatsIdeal.nD,
          r.2.mem ((c.tc : Thread Cert.StatsIdeal.nD Cert.StatsIdeal.τ).loc Cert.StatsIdeal.main_v1) = v0 c
          ∧ r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0))
      ∧ θ_run (Cert.StatsReferenceIdeal.defs (F := Ideal)) (onTc (τ := Cert.StatsReferenceIdeal.τ) (Cert.StatsReferenceIdeal.main (F := Ideal))) ⟨m', fun _ => 0, g'⟩ (fun r => ∀ c : Dev Cert.StatsReferenceIdeal.nD,
          r.2.mem ((c.tc : Thread Cert.StatsReferenceIdeal.nD Cert.StatsReferenceIdeal.τ).loc Cert.StatsReferenceIdeal.main_v14) = v0 c
          ∧ r.2.mem ((c.tc : Thread Cert.StatsReferenceIdeal.nD Cert.StatsReferenceIdeal.τ).loc Cert.StatsReferenceIdeal.main_arg0) = m' ((c.tc : Thread Cert.StatsReferenceIdeal.nD Cert.StatsReferenceIdeal.τ).loc Cert.StatsReferenceIdeal.main_arg0))

def preserves_Finalize_FinalizeIdeal : Prop :=
  IdealRules.named_const.Statement Cert.FinalizeIdeal.κ "inv_sqrt2" .f32 0x3F3504F3#32 (((Real.sqrt 2)⁻¹ : ℝ) : EReal)

def algebraic_FinalizeIdeal_FinalizeReferenceIdeal [hFinalizeIdeal : Cert.FinalizeIdeal.Facts] [hFinalizeReferenceIdeal : Cert.FinalizeReferenceIdeal.Facts] : Prop :=
  ∀ (m : (ℓ : Loc Cert.FinalizeIdeal.nD Cert.FinalizeIdeal.τ Cert.FinalizeIdeal.sig) → Buf (Elt Ideal) ℓ) (g : Dev Cert.FinalizeIdeal.nD → PrngReg)
    (m' : (ℓ : Loc Cert.FinalizeReferenceIdeal.nD Cert.FinalizeReferenceIdeal.τ Cert.FinalizeReferenceIdeal.sig) → Buf (Elt Ideal) ℓ) (g' : Dev Cert.FinalizeReferenceIdeal.nD → PrngReg), Pre_FinalizeIdeal m →
    (∀ c : Dev Cert.FinalizeIdeal.nD,
      m' ((c.tc : Thread Cert.FinalizeReferenceIdeal.nD Cert.FinalizeReferenceIdeal.τ).loc Cert.FinalizeReferenceIdeal.main_arg0) = m ((c.tc : Thread Cert.FinalizeIdeal.nD Cert.FinalizeIdeal.τ).loc Cert.FinalizeIdeal.main_arg0)
      ∧ m' ((c.tc : Thread Cert.FinalizeReferenceIdeal.nD Cert.FinalizeReferenceIdeal.τ).loc Cert.FinalizeReferenceIdeal.main_arg1) = m ((c.tc : Thread Cert.FinalizeIdeal.nD Cert.FinalizeIdeal.τ).loc Cert.FinalizeIdeal.main_arg1)
      ∧ m' ((c.tc : Thread Cert.FinalizeReferenceIdeal.nD Cert.FinalizeReferenceIdeal.τ).loc Cert.FinalizeReferenceIdeal.main_arg2) = m ((c.tc : Thread Cert.FinalizeIdeal.nD Cert.FinalizeIdeal.τ).loc Cert.FinalizeIdeal.main_arg2)
      ∧ m' ((c.tc : Thread Cert.FinalizeReferenceIdeal.nD Cert.FinalizeReferenceIdeal.τ).loc Cert.FinalizeReferenceIdeal.main_arg3) = m ((c.tc : Thread Cert.FinalizeIdeal.nD Cert.FinalizeIdeal.τ).loc Cert.FinalizeIdeal.main_arg3)) →
    ∃ (v0 : (c : Dev Cert.FinalizeIdeal.nD) → Buf (Elt Ideal) ((c.tc : Thread Cert.FinalizeIdeal.nD Cert.FinalizeIdeal.τ).loc Cert.FinalizeIdeal.main_v0_0)) (v1 : (c : Dev Cert.FinalizeIdeal.nD) → Buf (Elt Ideal) ((c.tc : Thread Cert.FinalizeIdeal.nD Cert.FinalizeIdeal.τ).loc Cert.FinalizeIdeal.main_v0_1)),
      θ_run (Cert.FinalizeIdeal.defs (F := Ideal)) (onTc (τ := Cert.FinalizeIdeal.τ) (Cert.FinalizeIdeal.main (F := Ideal))) ⟨m, fun _ => 0, g⟩ (fun r => ∀ c : Dev Cert.FinalizeIdeal.nD,
          r.2.mem ((c.tc : Thread Cert.FinalizeIdeal.nD Cert.FinalizeIdeal.τ).loc Cert.FinalizeIdeal.main_v0_0) = v0 c
          ∧ r.2.mem ((c.tc : Thread Cert.FinalizeIdeal.nD Cert.FinalizeIdeal.τ).loc Cert.FinalizeIdeal.main_v0_1) = v1 c
          ∧ r.2.mem ((c.tc : Thread Cert.FinalizeIdeal.nD Cert.FinalizeIdeal.τ).loc Cert.FinalizeIdeal.main_arg0) = m ((c.tc : Thread Cert.FinalizeIdeal.nD Cert.FinalizeIdeal.τ).loc Cert.FinalizeIdeal.main_arg0)
          ∧ r.2.mem ((c.tc : Thread Cert.FinalizeIdeal.nD Cert.FinalizeIdeal.τ).loc Cert.FinalizeIdeal.main_arg1) = m ((c.tc : Thread Cert.FinalizeIdeal.nD Cert.FinalizeIdeal.τ).loc Cert.FinalizeIdeal.main_arg1)
          ∧ r.2.mem ((c.tc : Thread Cert.FinalizeIdeal.nD Cert.FinalizeIdeal.τ).loc Cert.FinalizeIdeal.main_arg2) = m ((c.tc : Thread Cert.FinalizeIdeal.nD Cert.FinalizeIdeal.τ).loc Cert.FinalizeIdeal.main_arg2)
          ∧ r.2.mem ((c.tc : Thread Cert.FinalizeIdeal.nD Cert.FinalizeIdeal.τ).loc Cert.FinalizeIdeal.main_arg3) = m ((c.tc : Thread Cert.FinalizeIdeal.nD Cert.FinalizeIdeal.τ).loc Cert.FinalizeIdeal.main_arg3))
      ∧ θ_run (Cert.FinalizeReferenceIdeal.defs (F := Ideal)) (onTc (τ := Cert.FinalizeReferenceIdeal.τ) (Cert.FinalizeReferenceIdeal.main (F := Ideal))) ⟨m', fun _ => 0, g'⟩ (fun r => ∀ c : Dev Cert.FinalizeReferenceIdeal.nD,
          r.2.mem ((c.tc : Thread Cert.FinalizeReferenceIdeal.nD Cert.FinalizeReferenceIdeal.τ).loc Cert.FinalizeReferenceIdeal.main_v58) = v0 c
          ∧ r.2.mem ((c.tc : Thread Cert.FinalizeReferenceIdeal.nD Cert.FinalizeReferenceIdeal.τ).loc Cert.FinalizeReferenceIdeal.main_v61) = v1 c
          ∧ r.2.mem ((c.tc : Thread Cert.FinalizeReferenceIdeal.nD Cert.FinalizeReferenceIdeal.τ).loc Cert.FinalizeReferenceIdeal.main_arg0) = m' ((c.tc : Thread Cert.FinalizeReferenceIdeal.nD Cert.FinalizeReferenceIdeal.τ).loc Cert.FinalizeReferenceIdeal.main_arg0)
          ∧ r.2.mem ((c.tc : Thread Cert.FinalizeReferenceIdeal.nD Cert.FinalizeReferenceIdeal.τ).loc Cert.FinalizeReferenceIdeal.main_arg1) = m' ((c.tc : Thread Cert.FinalizeReferenceIdeal.nD Cert.FinalizeReferenceIdeal.τ).loc Cert.FinalizeReferenceIdeal.main_arg1)
          ∧ r.2.mem ((c.tc : Thread Cert.FinalizeReferenceIdeal.nD Cert.FinalizeReferenceIdeal.τ).loc Cert.FinalizeReferenceIdeal.main_arg2) = m' ((c.tc : Thread Cert.FinalizeReferenceIdeal.nD Cert.FinalizeReferenceIdeal.τ).loc Cert.FinalizeReferenceIdeal.main_arg2)
          ∧ r.2.mem ((c.tc : Thread Cert.FinalizeReferenceIdeal.nD Cert.FinalizeReferenceIdeal.τ).loc Cert.FinalizeReferenceIdeal.main_arg3) = m' ((c.tc : Thread Cert.FinalizeReferenceIdeal.nD Cert.FinalizeReferenceIdeal.τ).loc Cert.FinalizeReferenceIdeal.main_arg3))

def preserves_Combine_CombineIdeal : Prop :=
  IdealRules.sign_bit.Statement Cert.CombineIdeal.S1024x128 .f32

def holds_CombineIdeal_near_encoding_pre_finite [hCombineIdeal : Cert.CombineIdeal.Facts] [hPre_finite : Cert.Pre_finite.Facts] [hPost_near_encoding : Cert.Post_near_encoding.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal_finite m →
    θ_run (Cert.CombineIdeal.defs (F := Ideal)) (onTc (τ := Cert.CombineIdeal.τ) (Cert.CombineIdeal.main (F := Ideal))) ⟨m, fun _ => 0, g⟩ (fun r => ∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ (Cert.Post_near_encoding.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (r.2.mem ((c.tc : Thread Cert.CombineIdeal.nD Cert.CombineIdeal.τ).loc Cert.CombineIdeal.main_v2))) = (fun _ => 1#1))

def Claim : Prop :=
  ∃ (hKernel : Cert.Kernel.Facts) (hKernelIdeal : Cert.KernelIdeal.Facts) (hReferenceIdeal : Cert.ReferenceIdeal.Facts) (hHist : Cert.Hist.Facts) (hHistIdeal : Cert.HistIdeal.Facts) (hHistReferenceIdeal : Cert.HistReferenceIdeal.Facts) (hStats : Cert.Stats.Facts) (hStatsIdeal : Cert.StatsIdeal.Facts) (hStatsReferenceIdeal : Cert.StatsReferenceIdeal.Facts) (hFinalize : Cert.Finalize.Facts) (hFinalizeIdeal : Cert.FinalizeIdeal.Facts) (hFinalizeReferenceIdeal : Cert.FinalizeReferenceIdeal.Facts) (hCombine : Cert.Combine.Facts) (hCombineIdeal : Cert.CombineIdeal.Facts) (hPre_even_grid : Cert.Pre_even_grid.Facts) (hPre_even_grid_hist : Cert.Pre_even_grid_hist.Facts) (hPre_finite : Cert.Pre_finite.Facts) (hPost_near_encoding : Cert.Post_near_encoding.Facts),
    quiescent_Kernel (hKernel := hKernel)
    ∧ quiescent_KernelIdeal (hKernelIdeal := hKernelIdeal)
    ∧ quiescent_KernelIdeal_pre_even_grid (hKernelIdeal := hKernelIdeal) (hPre_even_grid := hPre_even_grid)
    ∧ quiescent_ReferenceIdeal (hReferenceIdeal := hReferenceIdeal)
    ∧ quiescent_ReferenceIdeal_pre_even_grid (hReferenceIdeal := hReferenceIdeal) (hPre_even_grid := hPre_even_grid)
    ∧ quiescent_Hist (hHist := hHist)
    ∧ quiescent_HistIdeal (hHistIdeal := hHistIdeal)
    ∧ quiescent_HistIdeal_pre_even_grid_hist (hHistIdeal := hHistIdeal) (hPre_even_grid_hist := hPre_even_grid_hist)
    ∧ quiescent_HistReferenceIdeal (hHistReferenceIdeal := hHistReferenceIdeal)
    ∧ quiescent_HistReferenceIdeal_pre_even_grid_hist (hHistReferenceIdeal := hHistReferenceIdeal) (hPre_even_grid_hist := hPre_even_grid_hist)
    ∧ quiescent_Stats (hStats := hStats)
    ∧ quiescent_StatsIdeal (hStatsIdeal := hStatsIdeal)
    ∧ quiescent_StatsReferenceIdeal (hStatsReferenceIdeal := hStatsReferenceIdeal)
    ∧ quiescent_Finalize (hFinalize := hFinalize)
    ∧ quiescent_FinalizeIdeal (hFinalizeIdeal := hFinalizeIdeal)
    ∧ quiescent_FinalizeReferenceIdeal (hFinalizeReferenceIdeal := hFinalizeReferenceIdeal)
    ∧ quiescent_Combine (hCombine := hCombine)
    ∧ quiescent_CombineIdeal (hCombineIdeal := hCombineIdeal)
    ∧ quiescent_CombineIdeal_pre_finite (hCombineIdeal := hCombineIdeal) (hPre_finite := hPre_finite)
    ∧ preserves_Kernel_KernelIdeal
    ∧ algebraic_KernelIdeal_ReferenceIdeal_pre_even_grid (hKernelIdeal := hKernelIdeal) (hReferenceIdeal := hReferenceIdeal) (hPre_even_grid := hPre_even_grid)
    ∧ preserves_Hist_HistIdeal
    ∧ algebraic_HistIdeal_HistReferenceIdeal_pre_even_grid_hist (hHistIdeal := hHistIdeal) (hHistReferenceIdeal := hHistReferenceIdeal) (hPre_even_grid_hist := hPre_even_grid_hist)
    ∧ preserves_Stats_StatsIdeal
    ∧ algebraic_StatsIdeal_StatsReferenceIdeal (hStatsIdeal := hStatsIdeal) (hStatsReferenceIdeal := hStatsReferenceIdeal)
    ∧ preserves_Finalize_FinalizeIdeal
    ∧ algebraic_FinalizeIdeal_FinalizeReferenceIdeal (hFinalizeIdeal := hFinalizeIdeal) (hFinalizeReferenceIdeal := hFinalizeReferenceIdeal)
    ∧ preserves_Combine_CombineIdeal
    ∧ holds_CombineIdeal_near_encoding_pre_finite (hCombineIdeal := hCombineIdeal) (hPre_finite := hPre_finite) (hPost_near_encoding := hPost_near_encoding)
-- ==== Post_near_encoding.lean ====
abbrev S1x128 : Shape := ⟨2, ![1, 128]⟩
abbrev S8388608 : Shape := ⟨1, ![8388608]⟩
abbrev S65536x128 : Shape := ⟨2, ![65536, 128]⟩
abbrev S1x1 : Shape := ⟨2, ![1, 1]⟩
abbrev S_ : Shape := ⟨0, ![]⟩

class Facts : Prop where
  slices_S1x128_S1x1_0_0 : S1x128.Slices ![0, 0] S1x1
  shapeCasts_S1x1_S_ : S1x1.ShapeCasts S_
  slices_S1x128_S1x1_0_1 : S1x128.Slices ![0, 1] S1x1
  slices_S1x128_S1x1_0_2 : S1x128.Slices ![0, 2] S1x1
  slices_S1x128_S1x1_0_3 : S1x128.Slices ![0, 3] S1x1
  slices_S1x128_S1x1_0_4 : S1x128.Slices ![0, 4] S1x1
  slices_S1x128_S1x1_0_5 : S1x128.Slices ![0, 5] S1x1
  slices_S1x128_S1x1_0_6 : S1x128.Slices ![0, 6] S1x1
  bcast_S_S8388608 : S_.BroadcastsInDim S8388608 (![] : Fin 0 → Fin S8388608.rank)
  shapeCasts_S65536x128_S8388608 : S65536x128.ShapeCasts S8388608

variable [Facts]

def fn_part2 {F : FTy → Type} [FloatOps F] (main_v33 : FVec F S8388608 .f32) (main_v43 : FVec F S8388608 .f32) (main_v44 : FVec F S8388608 .f32) : IVec S8388608 1 :=
  let main_v45 : FVec F S8388608 .f32 := mulf main_v44 main_v33
  let main_v46 : FVec F S8388608 .f32 := Host.absf main_v45
  let main_cst_2 : FVec F S_ .f32 := constant S_ .f32 0x34210FB0#32
  let main_v47 : FVec F S8388608 .f32 := broadcastInDim S8388608 ![] bcast_S_S8388608 main_cst_2
  let main_v48 : FVec F S8388608 .f32 := mulf main_v47 main_v46
  let main_v49 : IVec S8388608 1 := cmpf .ole main_v43 main_v48
  main_v49

def fn_part1 {F : FTy → Type} [FloatOps F] (main_arg1 : FVec F S8388608 .f32) (main_arg2 : FVec F S8388608 .f32) (main_arg3 : FVec F S65536x128 .f32) (main_v5 : FVec F S_ .f32) (main_v7 : FVec F S_ .f32) (main_v9 : FVec F S_ .f32) (main_v13 : FVec F S_ .f32) (main_v20 : FVec F S8388608 .f32) (main_v22 : FVec F S8388608 .f32) : IVec S8388608 1 :=
  let main_v23 : FVec F S8388608 .f32 := broadcastInDim S8388608 ![] bcast_S_S8388608 main_v13
  let main_v24 : FVec F S8388608 .f32 := addf main_v22 main_v23
  let main_v25 : FVec F S8388608 .f32 := Host.sin main_v24
  let main_v26 : FVec F S8388608 .f32 := Host.absf main_arg1
  let main_cst_0 : FVec F S_ .f32 := constant S_ .f32 0x358637BD#32
  let main_v27 : FVec F S8388608 .f32 := broadcastInDim S8388608 ![] bcast_S_S8388608 main_cst_0
  let main_v28 : IVec S8388608 1 := cmpf .olt main_v26 main_v27
  let main_v29 : FVec F S8388608 .f32 := uitofp .f32 main_v28
  let main_v30 : FVec F S8388608 .f32 := broadcastInDim S8388608 ![] bcast_S_S8388608 main_v9
  let main_v31 : FVec F S8388608 .f32 := mulf main_v30 main_v29
  let main_cst_1 : FVec F S_ .f32 := constant S_ .f32 0x3F800000#32
  let main_v32 : FVec F S8388608 .f32 := broadcastInDim S8388608 ![] bcast_S_S8388608 main_cst_1
  let main_v33 : FVec F S8388608 .f32 := subf main_v32 main_v31
  let main_v34 : FVec F S8388608 .f32 := broadcastInDim S8388608 ![] bcast_S_S8388608 main_v5
  let main_v35 : FVec F S8388608 .f32 := mulf main_v34 main_v20
  let main_v36 : FVec F S8388608 .f32 := addf main_arg2 main_v35
  let main_v37 : FVec F S8388608 .f32 := broadcastInDim S8388608 ![] bcast_S_S8388608 main_v7
  let main_v38 : FVec F S8388608 .f32 := mulf main_v37 main_v25
  let main_v39 : FVec F S8388608 .f32 := addf main_v36 main_v38
  let main_v40 : FVec F S8388608 .f32 := mulf main_v39 main_v33
  let main_v41 : FVec F S8388608 .f32 := shapeCast S8388608 main_arg3 shapeCasts_S65536x128_S8388608
  let main_v42 : FVec F S8388608 .f32 := subf main_v41 main_v40
  let main_v43 : FVec F S8388608 .f32 := Host.absf main_v42
  let main_v44 : FVec F S8388608 .f32 := broadcastInDim S8388608 ![] bcast_S_S8388608 main_v5
  fn_part2 (F := F) main_v33 main_v43 main_v44

def fn {F : FTy → Type} [FloatOps F] (main_arg0 : FVec F S1x128 .f32) (main_arg1 : FVec F S8388608 .f32) (main_arg2 : FVec F S8388608 .f32) (main_arg3 : FVec F S65536x128 .f32) : IVec S8388608 1 :=
  let main_v0 : FVec F S1x1 .f32 := (extractStridedSlice S1x1 ![0, 0] · slices_S1x128_S1x1_0_0) main_arg0
  let main_v1 : FVec F S_ .f32 := shapeCast S_ main_v0 shapeCasts_S1x1_S_
  let main_v2 : FVec F S1x1 .f32 := (extractStridedSlice S1x1 ![0, 1] · slices_S1x128_S1x1_0_1) main_arg0
  let main_v3 : FVec F S_ .f32 := shapeCast S_ main_v2 shapeCasts_S1x1_S_
  let main_v4 : FVec F S1x1 .f32 := (extractStridedSlice S1x1 ![0, 2] · slices_S1x128_S1x1_0_2) main_arg0
  let main_v5 : FVec F S_ .f32 := shapeCast S_ main_v4 shapeCasts_S1x1_S_
  let main_v6 : FVec F S1x1 .f32 := (extractStridedSlice S1x1 ![0, 3] · slices_S1x128_S1x1_0_3) main_arg0
  let main_v7 : FVec F S_ .f32 := shapeCast S_ main_v6 shapeCasts_S1x1_S_
  let main_v8 : FVec F S1x1 .f32 := (extractStridedSlice S1x1 ![0, 4] · slices_S1x128_S1x1_0_4) main_arg0
  let main_v9 : FVec F S_ .f32 := shapeCast S_ main_v8 shapeCasts_S1x1_S_
  let main_v10 : FVec F S1x1 .f32 := (extractStridedSlice S1x1 ![0, 5] · slices_S1x128_S1x1_0_5) main_arg0
  let main_v11 : FVec F S_ .f32 := shapeCast S_ main_v10 shapeCasts_S1x1_S_
  let main_v12 : FVec F S1x1 .f32 := (extractStridedSlice S1x1 ![0, 6] · slices_S1x128_S1x1_0_6) main_arg0
  let main_v13 : FVec F S_ .f32 := shapeCast S_ main_v12 shapeCasts_S1x1_S_
  let main_v14 : FVec F S8388608 .f32 := broadcastInDim S8388608 ![] bcast_S_S8388608 main_v1
  let main_v15 : FVec F S8388608 .f32 := subf main_arg1 main_v14
  let main_v16 : FVec F S8388608 .f32 := broadcastInDim S8388608 ![] bcast_S_S8388608 main_v3
  let main_v17 : FVec F S8388608 .f32 := mulf main_v15 main_v16
  let main_v18 : FVec F S8388608 .f32 := Host.erf main_v17
  let main_cst : FVec F S_ .f32 := constant S_ .f32 0x3F800000#32
  let main_v19 : FVec F S8388608 .f32 := broadcastInDim S8388608 ![] bcast_S_S8388608 main_cst
  let main_v20 : FVec F S8388608 .f32 := addf main_v19 main_v18
  let main_v21 : FVec F S8388608 .f32 := broadcastInDim S8388608 ![] bcast_S_S8388608 main_v11
  let main_v22 : FVec F S8388608 .f32 := mulf main_v21 main_arg1
  fn_part1 (F := F) main_arg1 main_arg2 main_arg3 main_v5 main_v7 main_v9 main_v13 main_v20 main_v22
-- ==== Pre_even_grid.lean ====
abbrev S8388608 : Shape := ⟨1, ![8388608]⟩
abbrev S1024 : Shape := ⟨1, ![1024]⟩
abbrev S999 : Shape := ⟨1, ![999]⟩
abbrev S1 : Shape := ⟨1, ![1]⟩
abbrev S_ : Shape := ⟨0, ![]⟩

class Facts : Prop where
  slices_S999_S1_0 : S999.Slices ![0] S1
  shapeCasts_S1_S_ : S1.ShapeCasts S_
  slices_S999_S1_998 : S999.Slices ![998] S1
  bcast_S_S999 : S_.BroadcastsInDim S999 (![] : Fin 0 → Fin S999.rank)
  reducesTo_S999_S_d0 : S999.ReducesTo [0] S_
  h_S_ : 0 < S_.numel
  bcast_S_S8388608 : S_.BroadcastsInDim S8388608 (![] : Fin 0 → Fin S8388608.rank)
  reducesTo_S8388608_S_d0 : S8388608.ReducesTo [0] S_

variable [Facts]

def fn_part1 {F : FTy → Type} [FloatOps F] (main_v4 : FVec F S_ .f32) (main_v15 : IVec S_ 1) (main_v17 : FVec F S8388608 .f32) (main_v19 : FVec F S8388608 .f32) : IVec S_ 1 :=
  let main_v20 : IVec S8388608 1 := cmpf .ole main_v17 main_v19
  let main_c_2 : IVec S_ 1 := constantI S_ 1 1#1
  let main_v21 : IVec S_ 1 := (fun x v => Host.reduce IntOp.andi x v reducesTo_S8388608_S_d0 h_S_) main_v20 main_c_2
  let main_v22 : IVec S_ 1 := andi main_v15 main_v21
  let main_cst_3 : FVec F S_ .f32 := constant S_ .f32 0x00000000#32
  let main_v23 : IVec S_ 1 := cmpf .ogt main_v4 main_cst_3
  let main_v24 : IVec S_ 1 := andi main_v22 main_v23
  let main_cst_4 : FVec F S_ .f32 := constant S_ .f32 0x7F800000#32
  let main_v25 : IVec S_ 1 := cmpf .olt main_v4 main_cst_4
  let main_v26 : IVec S_ 1 := andi main_v24 main_v25
  main_v26

def fn {F : FTy → Type} [FloatOps F] (main_arg0 : FVec F S8388608 .f32) (main_arg1 : FVec F S1024 .f32) (main_arg2 : FVec F S999 .f32) : IVec S_ 1 :=
  let main_v0 : FVec F S1 .f32 := (extractStridedSlice S1 ![0] · slices_S999_S1_0) main_arg2
  let main_v1 : FVec F S_ .f32 := shapeCast S_ main_v0 shapeCasts_S1_S_
  let main_v2 : FVec F S1 .f32 := (extractStridedSlice S1 ![998] · slices_S999_S1_998) main_arg2
  let main_v3 : FVec F S_ .f32 := shapeCast S_ main_v2 shapeCasts_S1_S_
  let main_v4 : FVec F S_ .f32 := subf main_v3 main_v1
  let main_v5 : IVec S999 32 := iotaInDim S999 32 0
  let main_v6 : FVec F S999 .f32 := sitofp .f32 main_v5
  let main_cst : FVec F S_ .f32 := constant S_ .f32 0x44798000#32
  let main_v7 : FVec F S999 .f32 := broadcastInDim S999 ![] bcast_S_S999 main_cst
  let main_v8 : FVec F S999 .f32 := mulf main_arg2 main_v7
  let main_cst_0 : FVec F S_ .f32 := constant S_ .f32 0x44798000#32
  let main_v9 : FVec F S_ .f32 := mulf main_v1 main_cst_0
  let main_v10 : FVec F S999 .f32 := broadcastInDim S999 ![] bcast_S_S999 main_v4
  let main_v11 : FVec F S999 .f32 := mulf main_v6 main_v10
  let main_v12 : FVec F S999 .f32 := broadcastInDim S999 ![] bcast_S_S999 main_v9
  let main_v13 : FVec F S999 .f32 := addf main_v12 main_v11
  let main_v14 : IVec S999 1 := cmpf .oeq main_v8 main_v13
  let main_c : IVec S_ 1 := constantI S_ 1 1#1
  let main_v15 : IVec S_ 1 := (fun x v => Host.reduce IntOp.andi x v reducesTo_S999_S_d0 h_S_) main_v14 main_c
  let main_v16 : FVec F S8388608 .f32 := broadcastInDim S8388608 ![] bcast_S_S8388608 main_v1
  let main_v17 : FVec F S8388608 .f32 := subf main_arg0 main_v16
  let main_cst_1 : FVec F S_ .f32 := constant S_ .f32 0x49F42400#32
  let main_v18 : FVec F S_ .f32 := mulf main_cst_1 main_v4
  let main_v19 : FVec F S8388608 .f32 := broadcastInDim S8388608 ![] bcast_S_S8388608 main_v18
  fn_part1 (F := F) main_v4 main_v15 main_v17 main_v19
-- ==== Pre_even_grid_hist.lean ====
abbrev S8388608 : Shape := ⟨1, ![8388608]⟩
abbrev S999 : Shape := ⟨1, ![999]⟩
abbrev S1 : Shape := ⟨1, ![1]⟩
abbrev S_ : Shape := ⟨0, ![]⟩

class Facts : Prop where
  slices_S999_S1_0 : S999.Slices ![0] S1
  shapeCasts_S1_S_ : S1.ShapeCasts S_
  slices_S999_S1_998 : S999.Slices ![998] S1
  bcast_S_S999 : S_.BroadcastsInDim S999 (![] : Fin 0 → Fin S999.rank)
  reducesTo_S999_S_d0 : S999.ReducesTo [0] S_
  h_S_ : 0 < S_.numel
  bcast_S_S8388608 : S_.BroadcastsInDim S8388608 (![] : Fin 0 → Fin S8388608.rank)
  reducesTo_S8388608_S_d0 : S8388608.ReducesTo [0] S_

variable [Facts]

def fn_part1 {F : FTy → Type} [FloatOps F] (main_v4 : FVec F S_ .f32) (main_v15 : IVec S_ 1) (main_v17 : FVec F S8388608 .f32) (main_v19 : FVec F S8388608 .f32) : IVec S_ 1 :=
  let main_v20 : IVec S8388608 1 := cmpf .ole main_v17 main_v19
  let main_c_2 : IVec S_ 1 := constantI S_ 1 1#1
  let main_v21 : IVec S_ 1 := (fun x v => Host.reduce IntOp.andi x v reducesTo_S8388608_S_d0 h_S_) main_v20 main_c_2
  let main_v22 : IVec S_ 1 := andi main_v15 main_v21
  let main_cst_3 : FVec F S_ .f32 := constant S_ .f32 0x00000000#32
  let main_v23 : IVec S_ 1 := cmpf .ogt main_v4 main_cst_3
  let main_v24 : IVec S_ 1 := andi main_v22 main_v23
  let main_cst_4 : FVec F S_ .f32 := constant S_ .f32 0x7F800000#32
  let main_v25 : IVec S_ 1 := cmpf .olt main_v4 main_cst_4
  let main_v26 : IVec S_ 1 := andi main_v24 main_v25
  main_v26

def fn {F : FTy → Type} [FloatOps F] (main_arg0 : FVec F S8388608 .f32) (main_arg1 : FVec F S999 .f32) : IVec S_ 1 :=
  let main_v0 : FVec F S1 .f32 := (extractStridedSlice S1 ![0] · slices_S999_S1_0) main_arg1
  let main_v1 : FVec F S_ .f32 := shapeCast S_ main_v0 shapeCasts_S1_S_
  let main_v2 : FVec F S1 .f32 := (extractStridedSlice S1 ![998] · slices_S999_S1_998) main_arg1
  let main_v3 : FVec F S_ .f32 := shapeCast S_ main_v2 shapeCasts_S1_S_
  let main_v4 : FVec F S_ .f32 := subf main_v3 main_v1
  let main_v5 : IVec S999 32 := iotaInDim S999 32 0
  let main_v6 : FVec F S999 .f32 := sitofp .f32 main_v5
  let main_cst : FVec F S_ .f32 := constant S_ .f32 0x44798000#32
  let main_v7 : FVec F S999 .f32 := broadcastInDim S999 ![] bcast_S_S999 main_cst
  let main_v8 : FVec F S999 .f32 := mulf main_arg1 main_v7
  let main_cst_0 : FVec F S_ .f32 := constant S_ .f32 0x44798000#32
  let main_v9 : FVec F S_ .f32 := mulf main_v1 main_cst_0
  let main_v10 : FVec F S999 .f32 := broadcastInDim S999 ![] bcast_S_S999 main_v4
  let main_v11 : FVec F S999 .f32 := mulf main_v6 main_v10
  let main_v12 : FVec F S999 .f32 := broadcastInDim S999 ![] bcast_S_S999 main_v9
  let main_v13 : FVec F S999 .f32 := addf main_v12 main_v11
  let main_v14 : IVec S999 1 := cmpf .oeq main_v8 main_v13
  let main_c : IVec S_ 1 := constantI S_ 1 1#1
  let main_v15 : IVec S_ 1 := (fun x v => Host.reduce IntOp.andi x v reducesTo_S999_S_d0 h_S_) main_v14 main_c
  let main_v16 : FVec F S8388608 .f32 := broadcastInDim S8388608 ![] bcast_S_S8388608 main_v1
  let main_v17 : FVec F S8388608 .f32 := subf main_arg0 main_v16
  let main_cst_1 : FVec F S_ .f32 := constant S_ .f32 0x49F42400#32
  let main_v18 : FVec F S_ .f32 := mulf main_cst_1 main_v4
  let main_v19 : FVec F S8388608 .f32 := broadcastInDim S8388608 ![] bcast_S_S8388608 main_v18
  fn_part1 (F := F) main_v4 main_v15 main_v17 main_v19
-- ==== Pre_finite.lean ====
abbrev S1x128 : Shape := ⟨2, ![1, 128]⟩
abbrev S8388608 : Shape := ⟨1, ![8388608]⟩
abbrev S1x4 : Shape := ⟨2, ![1, 4]⟩
abbrev S4 : Shape := ⟨1, ![4]⟩
abbrev S_ : Shape := ⟨0, ![]⟩

class Facts : Prop where
  slices_S1x128_S1x4_0_3 : S1x128.Slices ![0, 3] S1x4
  shapeCasts_S1x4_S4 : S1x4.ShapeCasts S4
  bcast_S_S4 : S_.BroadcastsInDim S4 (![] : Fin 0 → Fin S4.rank)
  reducesTo_S4_S_d0 : S4.ReducesTo [0] S_
  h_S_ : 0 < S_.numel
  bcast_S_S8388608 : S_.BroadcastsInDim S8388608 (![] : Fin 0 → Fin S8388608.rank)
  reducesTo_S8388608_S_d0 : S8388608.ReducesTo [0] S_

variable [Facts]

def fn {F : FTy → Type} [FloatOps F] (main_arg0 : FVec F S1x128 .f32) (main_arg1 : FVec F S8388608 .f32) (main_arg2 : FVec F S8388608 .f32) : IVec S_ 1 :=
  let main_v0 : FVec F S1x4 .f32 := (extractStridedSlice S1x4 ![0, 3] · slices_S1x128_S1x4_0_3) main_arg0
  let main_v1 : FVec F S4 .f32 := shapeCast S4 main_v0 shapeCasts_S1x4_S4
  let main_v2 : FVec F S4 .f32 := Host.absf main_v1
  let main_cst : FVec F S_ .f32 := constant S_ .f32 0x7F800000#32
  let main_v3 : FVec F S4 .f32 := broadcastInDim S4 ![] bcast_S_S4 main_cst
  let main_v4 : IVec S4 1 := cmpf .olt main_v2 main_v3
  let main_c : IVec S_ 1 := constantI S_ 1 1#1
  let main_v5 : IVec S_ 1 := (fun x v => Host.reduce IntOp.andi x v reducesTo_S4_S_d0 h_S_) main_v4 main_c
  let main_v6 : FVec F S8388608 .f32 := Host.absf main_arg1
  let main_cst_0 : FVec F S_ .f32 := constant S_ .f32 0x7F800000#32
  let main_v7 : FVec F S8388608 .f32 := broadcastInDim S8388608 ![] bcast_S_S8388608 main_cst_0
  let main_v8 : IVec S8388608 1 := cmpf .olt main_v6 main_v7
  let main_c_1 : IVec S_ 1 := constantI S_ 1 1#1
  let main_v9 : IVec S_ 1 := (fun x v => Host.reduce IntOp.andi x v reducesTo_S8388608_S_d0 h_S_) main_v8 main_c_1
  let main_v10 : IVec S_ 1 := andi main_v5 main_v9
  let main_v11 : FVec F S8388608 .f32 := Host.absf main_arg2
  let main_cst_2 : FVec F S_ .f32 := constant S_ .f32 0x7F800000#32
  let main_v12 : FVec F S8388608 .f32 := broadcastInDim S8388608 ![] bcast_S_S8388608 main_cst_2
  let main_v13 : IVec S8388608 1 := cmpf .olt main_v11 main_v12
  let main_c_3 : IVec S_ 1 := constantI S_ 1 1#1
  let main_v14 : IVec S_ 1 := (fun x v => Host.reduce IntOp.andi x v reducesTo_S8388608_S_d0 h_S_) main_v13 main_c_3
  let main_v15 : IVec S_ 1 := andi main_v10 main_v14
  main_v15
-- ==== Kernel.lean ====
abbrev S8388608 : Shape := ⟨1, ![8388608]⟩
abbrev S1024 : Shape := ⟨1, ![1024]⟩
abbrev S999 : Shape := ⟨1, ![999]⟩
abbrev S4096x2048 : Shape := ⟨2, ![4096, 2048]⟩
abbrev S1 : Shape := ⟨1, ![1]⟩
abbrev S_ : Shape := ⟨0, ![]⟩
abbrev S16 : Shape := ⟨1, ![16]⟩
abbrev S1x16 : Shape := ⟨2, ![1, 16]⟩
abbrev S2x16 : Shape := ⟨2, ![2, 16]⟩
abbrev S2x1x2048 : Shape := ⟨3, ![2, 1, 2048]⟩
abbrev S2 : Shape := ⟨1, ![2]⟩
abbrev S1x1x2048 : Shape := ⟨3, ![1, 1, 2048]⟩
abbrev S1x2048 : Shape := ⟨2, ![1, 2048]⟩

abbrev nBuf : Table → Nat
  | .hbm => 20
  | .local .scVector .vmem => 4
  | _ => 0

abbrev bufTy : (tb : Table) → Fin (nBuf tb) → BufTy
  | .hbm, ⟨0, _⟩ => ⟨S8388608, .f32⟩
  | .hbm, ⟨1, _⟩ => ⟨S1024, .f32⟩
  | .hbm, ⟨2, _⟩ => ⟨S999, .f32⟩
  | .hbm, ⟨3, _⟩ => ⟨S4096x2048, .f32⟩
  | .hbm, ⟨4, _⟩ => ⟨S1, .f32⟩
  | .hbm, ⟨5, _⟩ => ⟨S_, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S1x16, .f32⟩
  | .hbm, ⟨16, _⟩ => ⟨S1x16, .f32⟩
  | .hbm, ⟨17, _⟩ => ⟨S2x16, .f32⟩
  | .hbm, ⟨18, _⟩ => ⟨S4096x2048, .f32⟩
  | .hbm, ⟨19, _⟩ => ⟨S8388608, .f32⟩
  | .local .scVector .vmem, ⟨0, _⟩ => ⟨S1024, .f32⟩
  | .local .scVector .vmem, ⟨1, _⟩ => ⟨S2x16, .f32⟩
  | .local .scVector .vmem, ⟨2, _⟩ => ⟨S2x1x2048, .f32⟩
  | .local .scVector .vmem, ⟨3, _⟩ => ⟨S2x1x2048, .f32⟩
  | _, _ => ⟨S8388608, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v0_scv : Ref sig .scVector := ⟨.hbm, 3, rfl⟩
abbrev main_arg1_scv : Ref sig .scVector := ⟨.hbm, 1, rfl⟩
abbrev main_v13_scv : Ref sig .scVector := ⟨.hbm, 17, rfl⟩
abbrev main_v14_scv : Ref sig .scVector := ⟨.hbm, 18, rfl⟩
abbrev cc0_scratch0 : Ref sig .scVector := ⟨.vmem, 0, rfl⟩
abbrev cc0_scratch1 : Ref sig .scVector := ⟨.vmem, 1, rfl⟩
abbrev cc0_scoped2 : Ref sig .scVector := ⟨.vmem, 2, rfl⟩
abbrev cc0_scoped4 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r2 : BitVec 32 := 0#32
  let c2_i32_r2 : BitVec 32 := 2#32
  let v21_r2 : BitVec 32 := Scalar.remui c0_i32_13_r2 c2_i32_r2
  let c0_i32_15_r2 : BitVec 32 := 0#32
  let c0_i32_16_r2 : BitVec 32 := 0#32
  ![v21_r2.toNat, 0, 0]
def k0_off2 (i : grid0.Coords) : Fin 2 → Nat :=
  let c1_i32_14_r2 : BitVec 32 := 1#32
  let c0_i32_1_r2 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v7_r2 : BitVec 32 := Scalar.addi c0_i32_1_r2 v4
  let v22_r2 : BitVec 32 := Scalar.muli c1_i32_14_r2 v7_r2
  let c0_i32_17_r2 : BitVec 32 := 0#32
  ![v22_r2.toNat, 0]
def k0_off3 : Fin 1 → Nat :=
  let c0_i32_13_r2 : BitVec 32 := 0#32
  let c2_i32_r2 : BitVec 32 := 2#32
  let v21_r2 : BitVec 32 := Scalar.remui c0_i32_13_r2 c2_i32_r2
  ![v21_r2.toNat]
@[reducible] def k0_t1_loop : Scf.Loop 32 :=
  let c0_i32_27_r2 : BitVec 32 := 0#32
  let c128_i32_28_r2 : BitVec 32 := 128#32
  let v32_r2 : BitVec 32 := Scalar.addi c0_i32_27_r2 c128_i32_28_r2
  let c1_i32_29_r2 : BitVec 32 := 1#32
  ⟨c0_i32_27_r2, v32_r2, c1_i32_29_r2⟩
def k0_off4 (arg9_r2 : BitVec 32) : Fin 3 → Nat :=
  let c2_i32_106_r2 : BitVec 32 := 2#32
  let v149_r2 : BitVec 32 := Scalar.remui arg9_r2 c2_i32_106_r2
  let c0_i32_108_r2 : BitVec 32 := 0#32
  let c0_i32_109_r2 : BitVec 32 := 0#32
  ![v149_r2.toNat, 0, 0]
def k0_cond1 (i : grid0.Coords) (k0_t1 : Fin k0_t1_loop.trips) (arg13_r2 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r2 : BitVec 32 := Scalar.addi arg13_r2 v4
  let true_62_r2 : BitVec 1 := 1#1
  let c1_i32_61_r2 : BitVec 32 := 1#32
  let v72_r2 : BitVec 32 := Scalar.addi arg13_r2 c1_i32_61_r2
  let v73_r2 : BitVec 32 := Scalar.select true_62_r2 v72_r2 arg13_r2
  let c128_i32_63_r2 : BitVec 32 := 128#32
  let v74_r2 : BitVec 1 := Scalar.cmpi .eq v73_r2 c128_i32_63_r2
  let c0_i32_64_r2 : BitVec 32 := 0#32
  let v75_r2 : BitVec 32 := Scalar.select v74_r2 c0_i32_64_r2 v73_r2
  let v76_r2 : BitVec 32 := Scalar.addi v75_r2 v4
  let v82_r2 : BitVec 1 := Scalar.cmpi .ne v66_r2 v76_r2
  let c0_i32_27_r2 : BitVec 32 := 0#32
  let c1_i32_29_r2 : BitVec 32 := 1#32
  let arg8_r2 : BitVec 32 := Scf.iv c0_i32_27_r2 c1_i32_29_r2 k0_t1
  let c127_i32_69_r2 : BitVec 32 := 127#32
  let v83_r2 : BitVec 1 := Scalar.cmpi .sge arg8_r2 c127_i32_69_r2
  let true_70_r2 : BitVec 1 := 1#1
  let v84_r2 : BitVec 1 := Scalar.xori v83_r2 true_70_r2
  let v85_r2 : BitVec 1 := Scalar.andi v82_r2 v84_r2
  let true_71_r2 : BitVec 1 := 1#1
  let v86_r2 : BitVec 1 := Scalar.andi v85_r2 true_71_r2
  let v87_r2 : BitVec 32 := Scalar.extui v86_r2
  let c0_i32_72_r2 : BitVec 32 := 0#32
  let v88_r2 : BitVec 1 := Scalar.cmpi .ne v87_r2 c0_i32_72_r2
  v88_r2

def k0_off5 (i : grid0.Coords) (arg13_r2 : BitVec 32) : Fin 2 → Nat :=
  let c1_i32_107_r2 : BitVec 32 := 1#32
  let true_62_r2 : BitVec 1 := 1#1
  let c1_i32_61_r2 : BitVec 32 := 1#32
  let v72_r2 : BitVec 32 := Scalar.addi arg13_r2 c1_i32_61_r2
  let v73_r2 : BitVec 32 := Scalar.select true_62_r2 v72_r2 arg13_r2
  let c128_i32_63_r2 : BitVec 32 := 128#32
  let v74_r2 : BitVec 1 := Scalar.cmpi .eq v73_r2 c128_i32_63_r2
  let c0_i32_64_r2 : BitVec 32 := 0#32
  let v75_r2 : BitVec 32 := Scalar.select v74_r2 c0_i32_64_r2 v73_r2
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v76_r2 : BitVec 32 := Scalar.addi v75_r2 v4
  let v150_r2 : BitVec 32 := Scalar.muli c1_i32_107_r2 v76_r2
  let c0_i32_110_r2 : BitVec 32 := 0#32
  ![v150_r2.toNat, 0]
def k0_off6 (arg9_r2 : BitVec 32) : Fin 1 → Nat :=
  let c2_i32_106_r2 : BitVec 32 := 2#32
  let v149_r2 : BitVec 32 := Scalar.remui arg9_r2 c2_i32_106_r2
  ![v149_r2.toNat]
def k0_off7 (arg10_r2 : BitVec 32) : Fin 3 → Nat :=
  let c2_i32_107_r2 : BitVec 32 := 2#32
  let v150_r2 : BitVec 32 := Scalar.remui arg10_r2 c2_i32_107_r2
  let c0_i32_108_r2 : BitVec 32 := 0#32
  let c0_i32_109_r2 : BitVec 32 := 0#32
  ![v150_r2.toNat, 0, 0]
def k0_cond2 (i : grid0.Coords) (k0_t1 : Fin k0_t1_loop.trips) (arg13_r2 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r2 : BitVec 32 := Scalar.addi arg13_r2 v4
  let true_58_r2 : BitVec 1 := 1#1
  let c1_i32_57_r2 : BitVec 32 := 1#32
  let v67_r2 : BitVec 32 := Scalar.subi arg13_r2 c1_i32_57_r2
  let v68_r2 : BitVec 32 := Scalar.select true_58_r2 v67_r2 arg13_r2
  let c_m1_i32_59_r2 : BitVec 32 := 4294967295#32
  let v69_r2 : BitVec 1 := Scalar.cmpi .eq v68_r2 c_m1_i32_59_r2
  let c127_i32_60_r2 : BitVec 32 := 127#32
  let v70_r2 : BitVec 32 := Scalar.select v69_r2 c127_i32_60_r2 v68_r2
  let v71_r2 : BitVec 32 := Scalar.addi v70_r2 v4
  let v96_r2 : BitVec 1 := Scalar.cmpi .ne v66_r2 v71_r2
  let c0_i32_27_r2 : BitVec 32 := 0#32
  let c1_i32_29_r2 : BitVec 32 := 1#32
  let arg8_r2 : BitVec 32 := Scf.iv c0_i32_27_r2 c1_i32_29_r2 k0_t1
  let c0_i32_55_r2 : BitVec 32 := 0#32
  let v64_r2 : BitVec 1 := Scalar.cmpi .eq arg8_r2 c0_i32_55_r2
  let v97_r2 : BitVec 1 := Scalar.ori v96_r2 v64_r2
  let c0_i32_77_r2 : BitVec 32 := 0#32
  let v98_r2 : BitVec 1 := Scalar.cmpi .sge arg8_r2 c0_i32_77_r2
  let v99_r2 : BitVec 1 := Scalar.andi v97_r2 v98_r2
  let v100_r2 : BitVec 32 := Scalar.extui v99_r2
  let c0_i32_78_r2 : BitVec 32 := 0#32
  let v101_r2 : BitVec 1 := Scalar.cmpi .ne v100_r2 c0_i32_78_r2
  v101_r2

def k0_off8 (i : grid0.Coords) (arg13_r2 : BitVec 32) : Fin 2 → Nat :=
  let c1_i32_106_r2 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r2 : BitVec 32 := Scalar.addi arg13_r2 v4
  let v149_r2 : BitVec 32 := Scalar.muli c1_i32_106_r2 v66_r2
  let c0_i32_110_r2 : BitVec 32 := 0#32
  ![v149_r2.toNat, 0]
def k0_off9 (arg10_r2 : BitVec 32) : Fin 1 → Nat :=
  let c2_i32_107_r2 : BitVec 32 := 2#32
  let v150_r2 : BitVec 32 := Scalar.remui arg10_r2 c2_i32_107_r2
  ![v150_r2.toNat]
@[reducible] def k0_t2_loop : Scf.Loop 32 :=
  let c0_i32_86_r2 : BitVec 32 := 0#32
  let c128_i32_87_r2 : BitVec 32 := 128#32
  let v114_r2 : BitVec 32 := Scalar.addi c0_i32_86_r2 c128_i32_87_r2
  let c1_i32_88_r2 : BitVec 32 := 1#32
  ⟨c0_i32_86_r2, v114_r2, c1_i32_88_r2⟩
def k0_off10 (arg10_r2 : BitVec 32) : Fin 3 → Nat :=
  let c2_i32_81_r2 : BitVec 32 := 2#32
  let v108_r2 : BitVec 32 := Scalar.remui arg10_r2 c2_i32_81_r2
  let c0_i32_109_r2 : BitVec 32 := 0#32
  let c0_i32_110_r2 : BitVec 32 := 0#32
  ![v108_r2.toNat, 0, 0]

def k0_chk2 (arg10_r2 : BitVec 32) : Prop :=
  (∀ a, (k0_off10 arg10_r2) a + S1x1x2048.size a ≤ S2x1x2048.size a)
theorem k0_off10_inb : ∀ (arg10_r2 : BitVec 32) (k0_hw2 : k0_chk2 arg10_r2), ∀ a, (k0_off10 arg10_r2) a + S1x1x2048.size a ≤ S2x1x2048.size a := fun arg10_r2 k0_hw2 => k0_hw2

def k0_off11 (k0_t2 : Fin k0_t2_loop.trips) : Fin 2 → Nat :=
  let c0_i32_108_r2 : BitVec 32 := 0#32
  let v153_r2 : Index := Scalar.indexCast c0_i32_108_r2
  let c0_i32_107_r2 : BitVec 32 := 0#32
  let c0_i32_86_r2 : BitVec 32 := 0#32
  let c1_i32_88_r2 : BitVec 32 := 1#32
  let arg14_r2 : BitVec 32 := Scf.iv c0_i32_86_r2 c1_i32_88_r2 k0_t2
  let c16_i32_106_r2 : BitVec 32 := 16#32
  let v149_r2 : BitVec 32 := Scalar.muli arg14_r2 c16_i32_106_r2
  let v150_r2 : BitVec 32 := Scalar.addi c0_i32_107_r2 v149_r2
  let v154_r2 : Index := Scalar.indexCast v150_r2
  ![0, v154_r2.toNat]

def k0_chk3 (v168_r2 : IVec S16 32) : Prop :=
  (∀ a x, ((![v168_r2] : Fin 1 → IVec S16 32) a x).toNat < S1024.size a)
theorem k0_idx1_inb : ∀ (v168_r2 : IVec S16 32) (k0_hw3 : k0_chk3 v168_r2), ∀ a x, ((![v168_r2] : Fin 1 → IVec S16 32) a x).toNat < S1024.size a := fun v168_r2 k0_hw3 => k0_hw3
def k0_off12 (arg11_r2 : BitVec 32) : Fin 3 → Nat :=
  let c2_i32_82_r2 : BitVec 32 := 2#32
  let v109_r2 : BitVec 32 := Scalar.remui arg11_r2 c2_i32_82_r2
  let c0_i32_115_r2 : BitVec 32 := 0#32
  let c0_i32_116_r2 : BitVec 32 := 0#32
  ![v109_r2.toNat, 0, 0]

def k0_chk4 (arg11_r2 : BitVec 32) : Prop :=
  (∀ a, (k0_off12 arg11_r2) a + S1x1x2048.size a ≤ S2x1x2048.size a)
theorem k0_off12_inb : ∀ (arg11_r2 : BitVec 32) (k0_hw4 : k0_chk4 arg11_r2), ∀ a, (k0_off12 arg11_r2) a + S1x1x2048.size a ≤ S2x1x2048.size a := fun arg11_r2 k0_hw4 => k0_hw4

def k0_off13 (k0_t2 : Fin k0_t2_loop.trips) : Fin 2 → Nat :=
  let c0_i32_114_r2 : BitVec 32 := 0#32
  let v172_r2 : Index := Scalar.indexCast c0_i32_114_r2
  let c0_i32_107_r2 : BitVec 32 := 0#32
  let c0_i32_86_r2 : BitVec 32 := 0#32
  let c1_i32_88_r2 : BitVec 32 := 1#32
  let arg14_r2 : BitVec 32 := Scf.iv c0_i32_86_r2 c1_i32_88_r2 k0_t2
  let c16_i32_106_r2 : BitVec 32 := 16#32
  let v149_r2 : BitVec 32 := Scalar.muli arg14_r2 c16_i32_106_r2
  let v150_r2 : BitVec 32 := Scalar.addi c0_i32_107_r2 v149_r2
  let v173_r2 : Index := Scalar.indexCast v150_r2
  ![0, v173_r2.toNat]
def k0_off14 (arg11_r2 : BitVec 32) : Fin 3 → Nat :=
  let c2_i32_106_r2 : BitVec 32 := 2#32
  let v149_r2 : BitVec 32 := Scalar.remui arg11_r2 c2_i32_106_r2
  let c0_i32_108_r2 : BitVec 32 := 0#32
  let c0_i32_109_r2 : BitVec 32 := 0#32
  ![v149_r2.toNat, 0, 0]
def k0_cond5 (i : grid0.Coords) (k0_t1 : Fin k0_t1_loop.trips) (arg13_r2 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r2 : BitVec 32 := Scalar.addi arg13_r2 v4
  let true_62_r2 : BitVec 1 := 1#1
  let c1_i32_61_r2 : BitVec 32 := 1#32
  let v72_r2 : BitVec 32 := Scalar.addi arg13_r2 c1_i32_61_r2
  let v73_r2 : BitVec 32 := Scalar.select true_62_r2 v72_r2 arg13_r2
  let c128_i32_63_r2 : BitVec 32 := 128#32
  let v74_r2 : BitVec 1 := Scalar.cmpi .eq v73_r2 c128_i32_63_r2
  let c0_i32_64_r2 : BitVec 32 := 0#32
  let v75_r2 : BitVec 32 := Scalar.select v74_r2 c0_i32_64_r2 v73_r2
  let v76_r2 : BitVec 32 := Scalar.addi v75_r2 v4
  let v120_r2 : BitVec 1 := Scalar.cmpi .ne v66_r2 v76_r2
  let c0_i32_27_r2 : BitVec 32 := 0#32
  let c1_i32_29_r2 : BitVec 32 := 1#32
  let arg8_r2 : BitVec 32 := Scf.iv c0_i32_27_r2 c1_i32_29_r2 k0_t1
  let c127_i32_56_r2 : BitVec 32 := 127#32
  let v65_r2 : BitVec 1 := Scalar.cmpi .eq arg8_r2 c127_i32_56_r2
  let v121_r2 : BitVec 1 := Scalar.ori v120_r2 v65_r2
  let v122_r2 : BitVec 32 := Scalar.extui v121_r2
  let c0_i32_91_r2 : BitVec 32 := 0#32
  let v123_r2 : BitVec 1 := Scalar.cmpi .ne v122_r2 c0_i32_91_r2
  v123_r2

def k0_off15 (i : grid0.Coords) (arg13_r2 : BitVec 32) : Fin 2 → Nat :=
  let c1_i32_107_r2 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r2 : BitVec 32 := Scalar.addi arg13_r2 v4
  let v150_r2 : BitVec 32 := Scalar.muli c1_i32_107_r2 v66_r2
  let c0_i32_110_r2 : BitVec 32 := 0#32
  ![v150_r2.toNat, 0]
def k0_off16 (arg11_r2 : BitVec 32) : Fin 1 → Nat :=
  let c2_i32_106_r2 : BitVec 32 := 2#32
  let v149_r2 : BitVec 32 := Scalar.remui arg11_r2 c2_i32_106_r2
  ![v149_r2.toNat]
def k0_off17 (arg12_r2 : BitVec 32) : Fin 3 → Nat :=
  let c2_i32_106_r2 : BitVec 32 := 2#32
  let v149_r2 : BitVec 32 := Scalar.remui arg12_r2 c2_i32_106_r2
  let c0_i32_108_r2 : BitVec 32 := 0#32
  let c0_i32_109_r2 : BitVec 32 := 0#32
  ![v149_r2.toNat, 0, 0]
def k0_cond7 (i : grid0.Coords) (k0_t1 : Fin k0_t1_loop.trips) (arg13_r2 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r2 : BitVec 32 := Scalar.addi arg13_r2 v4
  let true_58_r2 : BitVec 1 := 1#1
  let c1_i32_57_r2 : BitVec 32 := 1#32
  let v67_r2 : BitVec 32 := Scalar.subi arg13_r2 c1_i32_57_r2
  let v68_r2 : BitVec 32 := Scalar.select true_58_r2 v67_r2 arg13_r2
  let c_m1_i32_59_r2 : BitVec 32 := 4294967295#32
  let v69_r2 : BitVec 1 := Scalar.cmpi .eq v68_r2 c_m1_i32_59_r2
  let c127_i32_60_r2 : BitVec 32 := 127#32
  let v70_r2 : BitVec 32 := Scalar.select v69_r2 c127_i32_60_r2 v68_r2
  let v71_r2 : BitVec 32 := Scalar.addi v70_r2 v4
  let v133_r2 : BitVec 1 := Scalar.cmpi .ne v66_r2 v71_r2
  let c0_i32_27_r2 : BitVec 32 := 0#32
  let c1_i32_29_r2 : BitVec 32 := 1#32
  let arg8_r2 : BitVec 32 := Scf.iv c0_i32_27_r2 c1_i32_29_r2 k0_t1
  let c0_i32_55_r2 : BitVec 32 := 0#32
  let v64_r2 : BitVec 1 := Scalar.cmpi .eq arg8_r2 c0_i32_55_r2
  let true_97_r2 : BitVec 1 := 1#1
  let v134_r2 : BitVec 1 := Scalar.xori v64_r2 true_97_r2
  let v135_r2 : BitVec 1 := Scalar.andi v133_r2 v134_r2
  let v136_r2 : BitVec 32 := Scalar.extui v135_r2
  let c0_i32_98_r2 : BitVec 32 := 0#32
  let v137_r2 : BitVec 1 := Scalar.cmpi .ne v136_r2 c0_i32_98_r2
  v137_r2

def k0_off18 (i : grid0.Coords) (arg13_r2 : BitVec 32) : Fin 2 → Nat :=
  let c1_i32_107_r2 : BitVec 32 := 1#32
  let true_58_r2 : BitVec 1 := 1#1
  let c1_i32_57_r2 : BitVec 32 := 1#32
  let v67_r2 : BitVec 32 := Scalar.subi arg13_r2 c1_i32_57_r2
  let v68_r2 : BitVec 32 := Scalar.select true_58_r2 v67_r2 arg13_r2
  let c_m1_i32_59_r2 : BitVec 32 := 4294967295#32
  let v69_r2 : BitVec 1 := Scalar.cmpi .eq v68_r2 c_m1_i32_59_r2
  let c127_i32_60_r2 : BitVec 32 := 127#32
  let v70_r2 : BitVec 32 := Scalar.select v69_r2 c127_i32_60_r2 v68_r2
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v71_r2 : BitVec 32 := Scalar.addi v70_r2 v4
  let v150_r2 : BitVec 32 := Scalar.muli c1_i32_107_r2 v71_r2
  let c0_i32_110_r2 : BitVec 32 := 0#32
  ![v150_r2.toNat, 0]
def k0_off19 (arg12_r2 : BitVec 32) : Fin 1 → Nat :=
  let c2_i32_106_r2 : BitVec 32 := 2#32
  let v149_r2 : BitVec 32 := Scalar.remui arg12_r2 c2_i32_106_r2
  ![v149_r2.toNat]

def k0_chk1 (i : grid0.Coords) (k0_t1 : Fin k0_t1_loop.trips) (arg9_r2 : BitVec 32) (arg10_r2 : BitVec 32) (arg11_r2 : BitVec 32) (arg12_r2 : BitVec 32) (arg13_r2 : BitVec 32) : Prop :=
  (∀ (k0_h1 : k0_cond1 i k0_t1 arg13_r2 = 1#1), ∀ a, (k0_off4 arg9_r2) a + S1x1x2048.size a ≤ S2x1x2048.size a) ∧
  (∀ (k0_h1 : k0_cond1 i k0_t1 arg13_r2 = 1#1), ∀ a, (k0_off5 i arg13_r2) a + S1x2048.size a ≤ S4096x2048.size a) ∧
  (∀ (k0_h1 : k0_cond1 i k0_t1 arg13_r2 = 1#1), ∀ a, (k0_off6 arg9_r2) a + S1.size a ≤ S2.size a) ∧
  (∀ (k0_h2 : k0_cond2 i k0_t1 arg13_r2 = 1#1), ∀ a, (k0_off7 arg10_r2) a + S1x1x2048.size a ≤ S2x1x2048.size a) ∧
  (∀ (k0_h2 : k0_cond2 i k0_t1 arg13_r2 = 1#1), ∀ a, (k0_off8 i arg13_r2) a + S1x2048.size a ≤ S4096x2048.size a) ∧
  (∀ (k0_h2 : k0_cond2 i k0_t1 arg13_r2 = 1#1), ∀ a, (k0_off9 arg10_r2) a + S1.size a ≤ S2.size a) ∧
  (∀ (k0_h5 : k0_cond5 i k0_t1 arg13_r2 = 1#1), ∀ a, (k0_off14 arg11_r2) a + S1x1x2048.size a ≤ S2x1x2048.size a) ∧
  (∀ (k0_h5 : k0_cond5 i k0_t1 arg13_r2 = 1#1), ∀ a, (k0_off15 i arg13_r2) a + S1x2048.size a ≤ S4096x2048.size a) ∧
  (∀ (k0_h5 : k0_cond5 i k0_t1 arg13_r2 = 1#1), ∀ a, (k0_off16 arg11_r2) a + S1.size a ≤ S2.size a) ∧
  (∀ (k0_h7 : k0_cond7 i k0_t1 arg13_r2 = 1#1), ∀ a, (k0_off17 arg12_r2) a + S1x1x2048.size a ≤ S2x1x2048.size a) ∧
  (∀ (k0_h7 : k0_cond7 i k0_t1 arg13_r2 = 1#1), ∀ a, (k0_off18 i arg13_r2) a + S1x2048.size a ≤ S4096x2048.size a) ∧
  (∀ (k0_h7 : k0_cond7 i k0_t1 arg13_r2 = 1#1), ∀ a, (k0_off19 arg12_r2) a + S1.size a ≤ S2.size a)
theorem k0_off4_inb : ∀ (i : grid0.Coords) (k0_t1 : Fin k0_t1_loop.trips) (arg9_r2 : BitVec 32) (arg10_r2 : BitVec 32) (arg11_r2 : BitVec 32) (arg12_r2 : BitVec 32) (arg13_r2 : BitVec 32) (k0_hw1 : k0_chk1 i k0_t1 arg9_r2 arg10_r2 arg11_r2 arg12_r2 arg13_r2), ∀ (k0_h1 : k0_cond1 i k0_t1 arg13_r2 = 1#1), ∀ a, (k0_off4 arg9_r2) a + S1x1x2048.size a ≤ S2x1x2048.size a := fun i k0_t1 arg9_r2 arg10_r2 arg11_r2 arg12_r2 arg13_r2 k0_hw1 k0_h1 => k0_hw1.1 k0_h1
theorem k0_off5_inb : ∀ (i : grid0.Coords) (k0_t1 : Fin k0_t1_loop.trips) (arg9_r2 : BitVec 32) (arg10_r2 : BitVec 32) (arg11_r2 : BitVec 32) (arg12_r2 : BitVec 32) (arg13_r2 : BitVec 32) (k0_hw1 : k0_chk1 i k0_t1 arg9_r2 arg10_r2 arg11_r2 arg12_r2 arg13_r2), ∀ (k0_h1 : k0_cond1 i k0_t1 arg13_r2 = 1#1), ∀ a, (k0_off5 i arg13_r2) a + S1x2048.size a ≤ S4096x2048.size a := fun i k0_t1 arg9_r2 arg10_r2 arg11_r2 arg12_r2 arg13_r2 k0_hw1 k0_h1 => k0_hw1.2.1 k0_h1
theorem k0_off6_inb : ∀ (i : grid0.Coords) (k0_t1 : Fin k0_t1_loop.trips) (arg9_r2 : BitVec 32) (arg10_r2 : BitVec 32) (arg11_r2 : BitVec 32) (arg12_r2 : BitVec 32) (arg13_r2 : BitVec 32) (k0_hw1 : k0_chk1 i k0_t1 arg9_r2 arg10_r2 arg11_r2 arg12_r2 arg13_r2), ∀ (k0_h1 : k0_cond1 i k0_t1 arg13_r2 = 1#1), ∀ a, (k0_off6 arg9_r2) a + S1.size a ≤ S2.size a := fun i k0_t1 arg9_r2 arg10_r2 arg11_r2 arg12_r2 arg13_r2 k0_hw1 k0_h1 => k0_hw1.2.2.1 k0_h1
theorem k0_off7_inb : ∀ (i : grid0.Coords) (k0_t1 : Fin k0_t1_loop.trips) (arg9_r2 : BitVec 32) (arg10_r2 : BitVec 32) (arg11_r2 : BitVec 32) (arg12_r2 : BitVec 32) (arg13_r2 : BitVec 32) (k0_hw1 : k0_chk1 i k0_t1 arg9_r2 arg10_r2 arg11_r2 arg12_r2 arg13_r2), ∀ (k0_h2 : k0_cond2 i k0_t1 arg13_r2 = 1#1), ∀ a, (k0_off7 arg10_r2) a + S1x1x2048.size a ≤ S2x1x2048.size a := fun i k0_t1 arg9_r2 arg10_r2 arg11_r2 arg12_r2 arg13_r2 k0_hw1 k0_h2 => k0_hw1.2.2.2.1 k0_h2
theorem k0_off8_inb : ∀ (i : grid0.Coords) (k0_t1 : Fin k0_t1_loop.trips) (arg9_r2 : BitVec 32) (arg10_r2 : BitVec 32) (arg11_r2 : BitVec 32) (arg12_r2 : BitVec 32) (arg13_r2 : BitVec 32) (k0_hw1 : k0_chk1 i k0_t1 arg9_r2 arg10_r2 arg11_r2 arg12_r2 arg13_r2), ∀ (k0_h2 : k0_cond2 i k0_t1 arg13_r2 = 1#1), ∀ a, (k0_off8 i arg13_r2) a + S1x2048.size a ≤ S4096x2048.size a := fun i k0_t1 arg9_r2 arg10_r2 arg11_r2 arg12_r2 arg13_r2 k0_hw1 k0_h2 => k0_hw1.2.2.2.2.1 k0_h2
theorem k0_off9_inb : ∀ (i : grid0.Coords) (k0_t1 : Fin k0_t1_loop.trips) (arg9_r2 : BitVec 32) (arg10_r2 : BitVec 32) (arg11_r2 : BitVec 32) (arg12_r2 : BitVec 32) (arg13_r2 : BitVec 32) (k0_hw1 : k0_chk1 i k0_t1 arg9_r2 arg10_r2 arg11_r2 arg12_r2 arg13_r2), ∀ (k0_h2 : k0_cond2 i k0_t1 arg13_r2 = 1#1), ∀ a, (k0_off9 arg10_r2) a + S1.size a ≤ S2.size a := fun i k0_t1 arg9_r2 arg10_r2 arg11_r2 arg12_r2 arg13_r2 k0_hw1 k0_h2 => k0_hw1.2.2.2.2.2.1 k0_h2
theorem k0_off14_inb : ∀ (i : grid0.Coords) (k0_t1 : Fin k0_t1_loop.trips) (arg9_r2 : BitVec 32) (arg10_r2 : BitVec 32) (arg11_r2 : BitVec 32) (arg12_r2 : BitVec 32) (arg13_r2 : BitVec 32) (k0_hw1 : k0_chk1 i k0_t1 arg9_r2 arg10_r2 arg11_r2 arg12_r2 arg13_r2), ∀ (k0_h5 : k0_cond5 i k0_t1 arg13_r2 = 1#1), ∀ a, (k0_off14 arg11_r2) a + S1x1x2048.size a ≤ S2x1x2048.size a := fun i k0_t1 arg9_r2 arg10_r2 arg11_r2 arg12_r2 arg13_r2 k0_hw1 k0_h5 => k0_hw1.2.2.2.2.2.2.1 k0_h5
theorem k0_off15_inb : ∀ (i : grid0.Coords) (k0_t1 : Fin k0_t1_loop.trips) (arg9_r2 : BitVec 32) (arg10_r2 : BitVec 32) (arg11_r2 : BitVec 32) (arg12_r2 : BitVec 32) (arg13_r2 : BitVec 32) (k0_hw1 : k0_chk1 i k0_t1 arg9_r2 arg10_r2 arg11_r2 arg12_r2 arg13_r2), ∀ (k0_h5 : k0_cond5 i k0_t1 arg13_r2 = 1#1), ∀ a, (k0_off15 i arg13_r2) a + S1x2048.size a ≤ S4096x2048.size a := fun i k0_t1 arg9_r2 arg10_r2 arg11_r2 arg12_r2 arg13_r2 k0_hw1 k0_h5 => k0_hw1.2.2.2.2.2.2.2.1 k0_h5
theorem k0_off16_inb : ∀ (i : grid0.Coords) (k0_t1 : Fin k0_t1_loop.trips) (arg9_r2 : BitVec 32) (arg10_r2 : BitVec 32) (arg11_r2 : BitVec 32) (arg12_r2 : BitVec 32) (arg13_r2 : BitVec 32) (k0_hw1 : k0_chk1 i k0_t1 arg9_r2 arg10_r2 arg11_r2 arg12_r2 arg13_r2), ∀ (k0_h5 : k0_cond5 i k0_t1 arg13_r2 = 1#1), ∀ a, (k0_off16 arg11_r2) a + S1.size a ≤ S2.size a := fun i k0_t1 arg9_r2 arg10_r2 arg11_r2 arg12_r2 arg13_r2 k0_hw1 k0_h5 => k0_hw1.2.2.2.2.2.2.2.2.1 k0_h5
theorem k0_off17_inb : ∀ (i : grid0.Coords) (k0_t1 : Fin k0_t1_loop.trips) (arg9_r2 : BitVec 32) (arg10_r2 : BitVec 32) (arg11_r2 : BitVec 32) (arg12_r2 : BitVec 32) (arg13_r2 : BitVec 32) (k0_hw1 : k0_chk1 i k0_t1 arg9_r2 arg10_r2 arg11_r2 arg12_r2 arg13_r2), ∀ (k0_h7 : k0_cond7 i k0_t1 arg13_r2 = 1#1), ∀ a, (k0_off17 arg12_r2) a + S1x1x2048.size a ≤ S2x1x2048.size a := fun i k0_t1 arg9_r2 arg10_r2 arg11_r2 arg12_r2 arg13_r2 k0_hw1 k0_h7 => k0_hw1.2.2.2.2.2.2.2.2.2.1 k0_h7
theorem k0_off18_inb : ∀ (i : grid0.Coords) (k0_t1 : Fin k0_t1_loop.trips) (arg9_r2 : BitVec 32) (arg10_r2 : BitVec 32) (arg11_r2 : BitVec 32) (arg12_r2 : BitVec 32) (arg13_r2 : BitVec 32) (k0_hw1 : k0_chk1 i k0_t1 arg9_r2 arg10_r2 arg11_r2 arg12_r2 arg13_r2), ∀ (k0_h7 : k0_cond7 i k0_t1 arg13_r2 = 1#1), ∀ a, (k0_off18 i arg13_r2) a + S1x2048.size a ≤ S4096x2048.size a := fun i k0_t1 arg9_r2 arg10_r2 arg11_r2 arg12_r2 arg13_r2 k0_hw1 k0_h7 => k0_hw1.2.2.2.2.2.2.2.2.2.2.1 k0_h7
theorem k0_off19_inb : ∀ (i : grid0.Coords) (k0_t1 : Fin k0_t1_loop.trips) (arg9_r2 : BitVec 32) (arg10_r2 : BitVec 32) (arg11_r2 : BitVec 32) (arg12_r2 : BitVec 32) (arg13_r2 : BitVec 32) (k0_hw1 : k0_chk1 i k0_t1 arg9_r2 arg10_r2 arg11_r2 arg12_r2 arg13_r2), ∀ (k0_h7 : k0_cond7 i k0_t1 arg13_r2 = 1#1), ∀ a, (k0_off19 arg12_r2) a + S1.size a ≤ S2.size a := fun i k0_t1 arg9_r2 arg10_r2 arg11_r2 arg12_r2 arg13_r2 k0_hw1 k0_h7 => k0_hw1.2.2.2.2.2.2.2.2.2.2.2 k0_h7

def k0_off20 (v33_3_r2 : BitVec 32) : Fin 3 → Nat :=
  let c2_i32_47_r2 : BitVec 32 := 2#32
  let v54_r2 : BitVec 32 := Scalar.remui v33_3_r2 c2_i32_47_r2
  let c0_i32_49_r2 : BitVec 32 := 0#32
  let c0_i32_50_r2 : BitVec 32 := 0#32
  ![v54_r2.toNat, 0, 0]

def k0_off21 (i : grid0.Coords) (v33_4_r2 : BitVec 32) : Fin 2 → Nat :=
  let c1_i32_48_r2 : BitVec 32 := 1#32
  let true_32_r2 : BitVec 1 := 1#1
  let c1_i32_31_r2 : BitVec 32 := 1#32
  let v34_r2 : BitVec 32 := Scalar.subi v33_4_r2 c1_i32_31_r2
  let v35_r2 : BitVec 32 := Scalar.select true_32_r2 v34_r2 v33_4_r2
  let c_m1_i32_33_r2 : BitVec 32 := 4294967295#32
  let v36_r2 : BitVec 1 := Scalar.cmpi .eq v35_r2 c_m1_i32_33_r2
  let c127_i32_34_r2 : BitVec 32 := 127#32
  let v37_r2 : BitVec 32 := Scalar.select v36_r2 c127_i32_34_r2 v35_r2
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v38_r2 : BitVec 32 := Scalar.addi v37_r2 v4
  let v55_r2 : BitVec 32 := Scalar.muli c1_i32_48_r2 v38_r2
  let c0_i32_51_r2 : BitVec 32 := 0#32
  ![v55_r2.toNat, 0]

def k0_chk6 (i : grid0.Coords) (v33_4_r2 : BitVec 32) : Prop :=
  (∀ a, (k0_off21 i v33_4_r2) a + S1x2048.size a ≤ S4096x2048.size a)
theorem k0_off21_inb : ∀ (i : grid0.Coords) (v33_4_r2 : BitVec 32) (k0_hw6 : k0_chk6 i v33_4_r2), ∀ a, (k0_off21 i v33_4_r2) a + S1x2048.size a ≤ S4096x2048.size a := fun i v33_4_r2 k0_hw6 => k0_hw6

def k0_off22 (v33_3_r2 : BitVec 32) : Fin 1 → Nat :=
  let c2_i32_47_r2 : BitVec 32 := 2#32
  let v54_r2 : BitVec 32 := Scalar.remui v33_3_r2 c2_i32_47_r2
  ![v54_r2.toNat]
def k0_off23 (v33_3_r2 : BitVec 32) : Fin 3 → Nat :=
  let c2_i32_47_r2 : BitVec 32 := 2#32
  let v54_r2 : BitVec 32 := Scalar.remui v33_3_r2 c2_i32_47_r2
  let c0_i32_53_r2 : BitVec 32 := 0#32
  let c0_i32_54_r2 : BitVec 32 := 0#32
  ![v54_r2.toNat, 0, 0]

def k0_chk5 (v33_3_r2 : BitVec 32) : Prop :=
  (∀ a, (k0_off20 v33_3_r2) a + S1x1x2048.size a ≤ S2x1x2048.size a) ∧
  (∀ a, (k0_off22 v33_3_r2) a + S1.size a ≤ S2.size a) ∧
  (∀ a, (k0_off23 v33_3_r2) a + S1x1x2048.size a ≤ S2x1x2048.size a)
theorem k0_off20_inb : ∀ (v33_3_r2 : BitVec 32) (k0_hw5 : k0_chk5 v33_3_r2), ∀ a, (k0_off20 v33_3_r2) a + S1x1x2048.size a ≤ S2x1x2048.size a := fun v33_3_r2 k0_hw5 => k0_hw5.1
theorem k0_off22_inb : ∀ (v33_3_r2 : BitVec 32) (k0_hw5 : k0_chk5 v33_3_r2), ∀ a, (k0_off22 v33_3_r2) a + S1.size a ≤ S2.size a := fun v33_3_r2 k0_hw5 => k0_hw5.2.1
theorem k0_off23_inb : ∀ (v33_3_r2 : BitVec 32) (k0_hw5 : k0_chk5 v33_3_r2), ∀ a, (k0_off23 v33_3_r2) a + S1x1x2048.size a ≤ S2x1x2048.size a := fun v33_3_r2 k0_hw5 => k0_hw5.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8388608 : Shape := ⟨1, ![8388608]⟩
abbrev S1024 : Shape := ⟨1, ![1024]⟩
abbrev S999 : Shape := ⟨1, ![999]⟩
abbrev S1x999 : Shape := ⟨2, ![1, 999]⟩
abbrev S8388608x1 : Shape := ⟨2, ![8388608, 1]⟩
abbrev S8388608x999 : Shape := ⟨2, ![8388608, 999]⟩
abbrev S_ : Shape := ⟨0, ![]⟩
abbrev S1 : Shape := ⟨1, ![1]⟩
abbrev S1x1 : Shape := ⟨2, ![1, 1]⟩

abbrev nBuf : Space → Nat
  | .hbm => 33
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S1024, .f32⟩
  | .hbm, ⟨2, _⟩ => ⟨S999, .f32⟩
  | .hbm, ⟨3, _⟩ => ⟨S1x999, .f32⟩
  | .hbm, ⟨4, _⟩ => ⟨S8388608x1, .f32⟩
  | .hbm, ⟨5, _⟩ => ⟨S8388608x999, .f32⟩
  | .hbm, ⟨6, _⟩ => ⟨S8388608x999, .f32⟩
  | .hbm, ⟨7, _⟩ => ⟨S8388608x999, .i1⟩
  | .hbm, ⟨8, _⟩ => ⟨S8388608x999, .i32⟩
  | .hbm, ⟨9, _⟩ => ⟨S_, .i32⟩
  | .hbm, ⟨10, _⟩ => ⟨S8388608, .i32⟩
  | .hbm, ⟨11, _⟩ => ⟨S_, .i32⟩
  | .hbm, ⟨12, _⟩ => ⟨S8388608, .i32⟩
  | .hbm, ⟨13, _⟩ => ⟨S8388608, .i1⟩
  | .hbm, ⟨14, _⟩ => ⟨S_, .i32⟩
  | .hbm, ⟨15, _⟩ => ⟨S8388608, .i32⟩
  | .hbm, ⟨16, _⟩ => ⟨S8388608, .i32⟩
  | .hbm, ⟨17, _⟩ => ⟨S8388608, .i32⟩
  | .hbm, ⟨18, _⟩ => ⟨S8388608x1, .i32⟩
  | .hbm, ⟨19, _⟩ => ⟨S1, .i32⟩
  | .hbm, ⟨20, _⟩ => ⟨S_, .i32⟩
  | .hbm, ⟨21, _⟩ => ⟨S8388608x1, .i32⟩
  | .hbm, ⟨22, _⟩ => ⟨S8388608x1, .i1⟩
  | .hbm, ⟨23, _⟩ => ⟨S1x1, .i32⟩
  | .hbm, ⟨24, _⟩ => ⟨S8388608x1, .i32⟩
  | .hbm, ⟨25, _⟩ => ⟨S8388608x1, .i1⟩
  | .hbm, ⟨26, _⟩ => ⟨S8388608x1, .i1⟩
  | .hbm, ⟨27, _⟩ => ⟨S_, .i1⟩
  | .hbm, ⟨28, _⟩ => ⟨S8388608, .i1⟩
  | .hbm, ⟨29, _⟩ => ⟨S8388608, .f32⟩
  | .hbm, ⟨30, _⟩ => ⟨S_, .f32⟩
  | .hbm, ⟨31, _⟩ => ⟨S8388608, .f32⟩
  | .hbm, ⟨32, _⟩ => ⟨S8388608, .f32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v7 : Ref sig .tc := ⟨.hbm, 32, rfl⟩

abbrev nD : Nat := 1
abbrev τ : Topo := Topo.v7x

variable {F : FTy → Type} [FloatOps F]
-- ==== Hist.lean ====
abbrev S8388608 : Shape := ⟨1, ![8388608]⟩
abbrev S999 : Shape := ⟨1, ![999]⟩
abbrev S4096x2048 : Shape := ⟨2, ![4096, 2048]⟩
abbrev S1 : Shape := ⟨1, ![1]⟩
abbrev S_ : Shape := ⟨0, ![]⟩
abbrev S16 : Shape := ⟨1, ![16]⟩
abbrev S1x16 : Shape := ⟨2, ![1, 16]⟩
abbrev S2x16 : Shape := ⟨2, ![2, 16]⟩
abbrev S32x1024 : Shape := ⟨2, ![32, 1024]⟩
abbrev S1024 : Shape := ⟨1, ![1024]⟩
abbrev S2x1x2048 : Shape := ⟨3, ![2, 1, 2048]⟩
abbrev S2 : Shape := ⟨1, ![2]⟩
abbrev S1x1x2048 : Shape := ⟨3, ![1, 1, 2048]⟩
abbrev S1x2048 : Shape := ⟨2, ![1, 2048]⟩
abbrev S1x1024 : Shape := ⟨2, ![1, 1024]⟩

abbrev nBuf : Table → Nat
  | .hbm => 18
  | .local .scVector .vmem => 3
  | _ => 0

abbrev bufTy : (tb : Table) → Fin (nBuf tb) → BufTy
  | .hbm, ⟨0, _⟩ => ⟨S8388608, .f32⟩
  | .hbm, ⟨1, _⟩ => ⟨S999, .f32⟩
  | .hbm, ⟨2, _⟩ => ⟨S4096x2048, .f32⟩
  | .hbm, ⟨3, _⟩ => ⟨S1, .f32⟩
  | .hbm, ⟨4, _⟩ => ⟨S_, .f32⟩
  | .hbm, ⟨5, _⟩ => ⟨S1, .f32⟩
  | .hbm, ⟨6, _⟩ => ⟨S_, .f32⟩
  | .hbm, ⟨7, _⟩ => ⟨S1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S1x16, .f32⟩
  | .hbm, ⟨15, _⟩ => ⟨S1x16, .f32⟩
  | .hbm, ⟨16, _⟩ => ⟨S2x16, .f32⟩
  | .hbm, ⟨17, _⟩ => ⟨S32x1024, .f32⟩
  | .local .scVector .vmem, ⟨0, _⟩ => ⟨S1024, .f32⟩
  | .local .scVector .vmem, ⟨1, _⟩ => ⟨S2x16, .f32⟩
  | .local .scVector .vmem, ⟨2, _⟩ => ⟨S2x1x2048, .f32⟩
  | _, _ => ⟨S8388608, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v0_scv : Ref sig .scVector := ⟨.hbm, 2, rfl⟩
abbrev main_v13_scv : Ref sig .scVector := ⟨.hbm, 16, rfl⟩
abbrev main_v14_scv : Ref sig .scVector := ⟨.hbm, 17, rfl⟩
abbrev cc0_scratch0 : Ref sig .scVector := ⟨.vmem, 0, rfl⟩
abbrev cc0_scratch1 : Ref sig .scVector := ⟨.vmem, 1, rfl⟩
abbrev cc0_scoped1 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_off1 (k0_t1 : Fin k0_t1_loop.trips) : Fin 1 → Nat :=
  let c0_i32_4 : BitVec 32 := 0#32
  let c0_i32 : BitVec 32 := 0#32
  let c1_i32 : BitVec 32 := 1#32
  let arg7 : BitVec 32 := Scf.iv c0_i32 c1_i32 k0_t1
  let c16_i32_3 : BitVec 32 := 16#32
  let v9 : BitVec 32 := Scalar.muli arg7 c16_i32_3
  let v10 : BitVec 32 := Scalar.addi c0_i32_4 v9
  let v12 : Index := Scalar.indexCast v10
  ![v12.toNat]
def k0_off2 : Fin 3 → Nat :=
  let c0_i32_15_r1 : BitVec 32 := 0#32
  let c2_i32_16_r1 : BitVec 32 := 2#32
  let v24_r1 : BitVec 32 := Scalar.remui c0_i32_15_r1 c2_i32_16_r1
  let c0_i32_18_r1 : BitVec 32 := 0#32
  let c0_i32_19_r1 : BitVec 32 := 0#32
  ![v24_r1.toNat, 0, 0]
def k0_off3 (i : grid0.Coords) : Fin 2 → Nat :=
  let c1_i32_17_r1 : BitVec 32 := 1#32
  let c0_i32_3_r1 : BitVec 32 := 0#32
  let c0_i32_2 : BitVec 32 := 0#32
  let arg1 : BitVec 32 := BitVec.ofNat 32 (i 1).val
  let c1_i32_1 : BitVec 32 := 1#32
  let v2 : BitVec 32 := Scalar.muli arg1 c1_i32_1
  let v3 : BitVec 32 := Scalar.addi c0_i32_2 v2
  let arg0 : BitVec 32 := BitVec.ofNat 32 (i 0).val
  let c16_i32 : BitVec 32 := 16#32
  let v4 : BitVec 32 := Scalar.muli arg0 c16_i32
  let v5 : BitVec 32 := Scalar.addi v3 v4
  let c128_i32 : BitVec 32 := 128#32
  let v6 : BitVec 32 := Scalar.muli v5 c128_i32
  let v10_r1 : BitVec 32 := Scalar.addi c0_i32_3_r1 v6
  let v25_r1 : BitVec 32 := Scalar.muli c1_i32_17_r1 v10_r1
  let c0_i32_20_r1 : BitVec 32 := 0#32
  ![v25_r1.toNat, 0]
def k0_off4 : Fin 1 → Nat :=
  let c0_i32_15_r1 : BitVec 32 := 0#32
  let c2_i32_16_r1 : BitVec 32 := 2#32
  let v24_r1 : BitVec 32 := Scalar.remui c0_i32_15_r1 c2_i32_16_r1
  ![v24_r1.toNat]
@[reducible] def k0_t2_loop : Scf.Loop 32 :=
  let c0_i32_28_r1 : BitVec 32 := 0#32
  let c128_i32_29_r1 : BitVec 32 := 128#32
  let v35_r1 : BitVec 32 := Scalar.addi c0_i32_28_r1 c128_i32_29_r1
  let c1_i32_30_r1 : BitVec 32 := 1#32
  ⟨c0_i32_28_r1, v35_r1, c1_i32_30_r1⟩
def k0_off5 (arg8_r1 : BitVec 32) : Fin 3 → Nat :=
  let c2_i32_87_r1 : BitVec 32 := 2#32
  let v116_r1 : BitVec 32 := Scalar.remui arg8_r1 c2_i32_87_r1
  let c0_i32_89_r1 : BitVec 32 := 0#32
  let c0_i32_90_r1 : BitVec 32 := 0#32
  ![v116_r1.toNat, 0, 0]
def k0_cond1 (i : grid0.Coords) (k0_t2 : Fin k0_t2_loop.trips) (arg10_r1 : BitVec 32) : BitVec 1 :=
  let c0_i32_2 : BitVec 32 := 0#32
  let arg1 : BitVec 32 := BitVec.ofNat 32 (i 1).val
  let c1_i32_1 : BitVec 32 := 1#32
  let v2 : BitVec 32 := Scalar.muli arg1 c1_i32_1
  let v3 : BitVec 32 := Scalar.addi c0_i32_2 v2
  let arg0 : BitVec 32 := BitVec.ofNat 32 (i 0).val
  let c16_i32 : BitVec 32 := 16#32
  let v4 : BitVec 32 := Scalar.muli arg0 c16_i32
  let v5 : BitVec 32 := Scalar.addi v3 v4
  let c128_i32 : BitVec 32 := 128#32
  let v6 : BitVec 32 := Scalar.muli v5 c128_i32
  let v59_r1 : BitVec 32 := Scalar.addi arg10_r1 v6
  let true_55_r1 : BitVec 1 := 1#1
  let c1_i32_54_r1 : BitVec 32 := 1#32
  let v65_r1 : BitVec 32 := Scalar.addi arg10_r1 c1_i32_54_r1
  let v66_r1 : BitVec 32 := Scalar.select true_55_r1 v65_r1 arg10_r1
  let c128_i32_56_r1 : BitVec 32 := 128#32
  let v67_r1 : BitVec 1 := Scalar.cmpi .eq v66_r1 c128_i32_56_r1
  let c0_i32_57_r1 : BitVec 32 := 0#32
  let v68_r1 : BitVec 32 := Scalar.select v67_r1 c0_i32_57_r1 v66_r1
  let v69_r1 : BitVec 32 := Scalar.addi v68_r1 v6
  let v75_r1 : BitVec 1 := Scalar.cmpi .ne v59_r1 v69_r1
  let c0_i32_28_r1 : BitVec 32 := 0#32
  let c1_i32_30_r1 : BitVec 32 := 1#32
  let arg7_r1 : BitVec 32 := Scf.iv c0_i32_28_r1 c1_i32_30_r1 k0_t2
  let c127_i32_62_r1 : BitVec 32 := 127#32
  let v76_r1 : BitVec 1 := Scalar.cmpi .sge arg7_r1 c127_i32_62_r1
  let true_63_r1 : BitVec 1 := 1#1
  let v77_r1 : BitVec 1 := Scalar.xori v76_r1 true_63_r1
  let v78_r1 : BitVec 1 := Scalar.andi v75_r1 v77_r1
  let true_64_r1 : BitVec 1 := 1#1
  let v79_r1 : BitVec 1 := Scalar.andi v78_r1 true_64_r1
  let v80_r1 : BitVec 32 := Scalar.extui v79_r1
  let c0_i32_65_r1 : BitVec 32 := 0#32
  let v81_r1 : BitVec 1 := Scalar.cmpi .ne v80_r1 c0_i32_65_r1
  v81_r1

def k0_off6 (i : grid0.Coords) (arg10_r1 : BitVec 32) : Fin 2 → Nat :=
  let c1_i32_88_r1 : BitVec 32 := 1#32
  let true_55_r1 : BitVec 1 := 1#1
  let c1_i32_54_r1 : BitVec 32 := 1#32
  let v65_r1 : BitVec 32 := Scalar.addi arg10_r1 c1_i32_54_r1
  let v66_r1 : BitVec 32 := Scalar.select true_55_r1 v65_r1 arg10_r1
  let c128_i32_56_r1 : BitVec 32 := 128#32
  let v67_r1 : BitVec 1 := Scalar.cmpi .eq v66_r1 c128_i32_56_r1
  let c0_i32_57_r1 : BitVec 32 := 0#32
  let v68_r1 : BitVec 32 := Scalar.select v67_r1 c0_i32_57_r1 v66_r1
  let c0_i32_2 : BitVec 32 := 0#32
  let arg1 : BitVec 32 := BitVec.ofNat 32 (i 1).val
  let c1_i32_1 : BitVec 32 := 1#32
  let v2 : BitVec 32 := Scalar.muli arg1 c1_i32_1
  let v3 : BitVec 32 := Scalar.addi c0_i32_2 v2
  let arg0 : BitVec 32 := BitVec.ofNat 32 (i 0).val
  let c16_i32 : BitVec 32 := 16#32
  let v4 : BitVec 32 := Scalar.muli arg0 c16_i32
  let v5 : BitVec 32 := Scalar.addi v3 v4
  let c128_i32 : BitVec 32 := 128#32
  let v6 : BitVec 32 := Scalar.muli v5 c128_i32
  let v69_r1 : BitVec 32 := Scalar.addi v68_r1 v6
  let v117_r1 : BitVec 32 := Scalar.muli c1_i32_88_r1 v69_r1
  let c0_i32_91_r1 : BitVec 32 := 0#32
  ![v117_r1.toNat, 0]
def k0_off7 (arg8_r1 : BitVec 32) : Fin 1 → Nat :=
  let c2_i32_87_r1 : BitVec 32 := 2#32
  let v116_r1 : BitVec 32 := Scalar.remui arg8_r1 c2_i32_87_r1
  ![v116_r1.toNat]
def k0_off8 (arg9_r1 : BitVec 32) : Fin 3 → Nat :=
  let c2_i32_88_r1 : BitVec 32 := 2#32
  let v117_r1 : BitVec 32 := Scalar.remui arg9_r1 c2_i32_88_r1
  let c0_i32_89_r1 : BitVec 32 := 0#32
  let c0_i32_90_r1 : BitVec 32 := 0#32
  ![v117_r1.toNat, 0, 0]
def k0_cond2 (i : grid0.Coords) (k0_t2 : Fin k0_t2_loop.trips) (arg10_r1 : BitVec 32) : BitVec 1 :=
  let c0_i32_2 : BitVec 32 := 0#32
  let arg1 : BitVec 32 := BitVec.ofNat 32 (i 1).val
  let c1_i32_1 : BitVec 32 := 1#32
  let v2 : BitVec 32 := Scalar.muli arg1 c1_i32_1
  let v3 : BitVec 32 := Scalar.addi c0_i32_2 v2
  let arg0 : BitVec 32 := BitVec.ofNat 32 (i 0).val
  let c16_i32 : BitVec 32 := 16#32
  let v4 : BitVec 32 := Scalar.muli arg0 c16_i32
  let v5 : BitVec 32 := Scalar.addi v3 v4
  let c128_i32 : BitVec 32 := 128#32
  let v6 : BitVec 32 := Scalar.muli v5 c128_i32
  let v59_r1 : BitVec 32 := Scalar.addi arg10_r1 v6
  let true_51_r1 : BitVec 1 := 1#1
  let c1_i32_50_r1 : BitVec 32 := 1#32
  let v60_r1 : BitVec 32 := Scalar.subi arg10_r1 c1_i32_50_r1
  let v61_r1 : BitVec 32 := Scalar.select true_51_r1 v60_r1 arg10_r1
  let c_m1_i32_52_r1 : BitVec 32 := 4294967295#32
  let v62_r1 : BitVec 1 := Scalar.cmpi .eq v61_r1 c_m1_i32_52_r1
  let c127_i32_53_r1 : BitVec 32 := 127#32
  let v63_r1 : BitVec 32 := Scalar.select v62_r1 c127_i32_53_r1 v61_r1
  let v64_r1 : BitVec 32 := Scalar.addi v63_r1 v6
  let v85_r1 : BitVec 1 := Scalar.cmpi .ne v59_r1 v64_r1
  let c0_i32_28_r1 : BitVec 32 := 0#32
  let c1_i32_30_r1 : BitVec 32 := 1#32
  let arg7_r1 : BitVec 32 := Scf.iv c0_i32_28_r1 c1_i32_30_r1 k0_t2
  let c0_i32_48_r1 : BitVec 32 := 0#32
  let v57_r1 : BitVec 1 := Scalar.cmpi .eq arg7_r1 c0_i32_48_r1
  let v86_r1 : BitVec 1 := Scalar.ori v85_r1 v57_r1
  let c0_i32_68_r1 : BitVec 32 := 0#32
  let v87_r1 : BitVec 1 := Scalar.cmpi .sge arg7_r1 c0_i32_68_r1
  let v88_r1 : BitVec 1 := Scalar.andi v86_r1 v87_r1
  let v89_r1 : BitVec 32 := Scalar.extui v88_r1
  let c0_i32_69_r1 : BitVec 32 := 0#32
  let v90_r1 : BitVec 1 := Scalar.cmpi .ne v89_r1 c0_i32_69_r1
  v90_r1

def k0_off9 (i : grid0.Coords) (arg10_r1 : BitVec 32) : Fin 2 → Nat :=
  let c1_i32_87_r1 : BitVec 32 := 1#32
  let c0_i32_2 : BitVec 32 := 0#32
  let arg1 : BitVec 32 := BitVec.ofNat 32 (i 1).val
  let c1_i32_1 : BitVec 32 := 1#32
  let v2 : BitVec 32 := Scalar.muli arg1 c1_i32_1
  let v3 : BitVec 32 := Scalar.addi c0_i32_2 v2
  let arg0 : BitVec 32 := BitVec.ofNat 32 (i 0).val
  let c16_i32 : BitVec 32 := 16#32
  let v4 : BitVec 32 := Scalar.muli arg0 c16_i32
  let v5 : BitVec 32 := Scalar.addi v3 v4
  let c128_i32 : BitVec 32 := 128#32
  let v6 : BitVec 32 := Scalar.muli v5 c128_i32
  let v59_r1 : BitVec 32 := Scalar.addi arg10_r1 v6
  let v116_r1 : BitVec 32 := Scalar.muli c1_i32_87_r1 v59_r1
  let c0_i32_91_r1 : BitVec 32 := 0#32
  ![v116_r1.toNat, 0]
def k0_off10 (arg9_r1 : BitVec 32) : Fin 1 → Nat :=
  let c2_i32_88_r1 : BitVec 32 := 2#32
  let v117_r1 : BitVec 32 := Scalar.remui arg9_r1 c2_i32_88_r1
  ![v117_r1.toNat]

def k0_chk1 (i : grid0.Coords) (k0_t2 : Fin k0_t2_loop.trips) (arg8_r1 : BitVec 32) (arg9_r1 : BitVec 32) (arg10_r1 : BitVec 32) : Prop :=
  (∀ (k0_h1 : k0_cond1 i k0_t2 arg10_r1 = 1#1), ∀ a, (k0_off5 arg8_r1) a + S1x1x2048.size a ≤ S2x1x2048.size a) ∧
  (∀ (k0_h1 : k0_cond1 i k0_t2 arg10_r1 = 1#1), ∀ a, (k0_off6 i arg10_r1) a + S1x2048.size a ≤ S4096x2048.size a) ∧
  (∀ (k0_h1 : k0_cond1 i k0_t2 arg10_r1 = 1#1), ∀ a, (k0_off7 arg8_r1) a + S1.size a ≤ S2.size a) ∧
  (∀ (k0_h2 : k0_cond2 i k0_t2 arg10_r1 = 1#1), ∀ a, (k0_off8 arg9_r1) a + S1x1x2048.size a ≤ S2x1x2048.size a) ∧
  (∀ (k0_h2 : k0_cond2 i k0_t2 arg10_r1 = 1#1), ∀ a, (k0_off9 i arg10_r1) a + S1x2048.size a ≤ S4096x2048.size a) ∧
  (∀ (k0_h2 : k0_cond2 i k0_t2 arg10_r1 = 1#1), ∀ a, (k0_off10 arg9_r1) a + S1.size a ≤ S2.size a)
theorem k0_off5_inb : ∀ (i : grid0.Coords) (k0_t2 : Fin k0_t2_loop.trips) (arg8_r1 : BitVec 32) (arg9_r1 : BitVec 32) (arg10_r1 : BitVec 32) (k0_hw1 : k0_chk1 i k0_t2 arg8_r1 arg9_r1 arg10_r1), ∀ (k0_h1 : k0_cond1 i k0_t2 arg10_r1 = 1#1), ∀ a, (k0_off5 arg8_r1) a + S1x1x2048.size a ≤ S2x1x2048.size a := fun i k0_t2 arg8_r1 arg9_r1 arg10_r1 k0_hw1 k0_h1 => k0_hw1.1 k0_h1
theorem k0_off6_inb : ∀ (i : grid0.Coords) (k0_t2 : Fin k0_t2_loop.trips) (arg8_r1 : BitVec 32) (arg9_r1 : BitVec 32) (arg10_r1 : BitVec 32) (k0_hw1 : k0_chk1 i k0_t2 arg8_r1 arg9_r1 arg10_r1), ∀ (k0_h1 : k0_cond1 i k0_t2 arg10_r1 = 1#1), ∀ a, (k0_off6 i arg10_r1) a + S1x2048.size a ≤ S4096x2048.size a := fun i k0_t2 arg8_r1 arg9_r1 arg10_r1 k0_hw1 k0_h1 => k0_hw1.2.1 k0_h1
theorem k0_off7_inb : ∀ (i : grid0.Coords) (k0_t2 : Fin k0_t2_loop.trips) (arg8_r1 : BitVec 32) (arg9_r1 : BitVec 32) (arg10_r1 : BitVec 32) (k0_hw1 : k0_chk1 i k0_t2 arg8_r1 arg9_r1 arg10_r1), ∀ (k0_h1 : k0_cond1 i k0_t2 arg10_r1 = 1#1), ∀ a, (k0_off7 arg8_r1) a + S1.size a ≤ S2.size a := fun i k0_t2 arg8_r1 arg9_r1 arg10_r1 k0_hw1 k0_h1 => k0_hw1.2.2.1 k0_h1
theorem k0_off8_inb : ∀ (i : grid0.Coords) (k0_t2 : Fin k0_t2_loop.trips) (arg8_r1 : BitVec 32) (arg9_r1 : BitVec 32) (arg10_r1 : BitVec 32) (k0_hw1 : k0_chk1 i k0_t2 arg8_r1 arg9_r1 arg10_r1), ∀ (k0_h2 : k0_cond2 i k0_t2 arg10_r1 = 1#1), ∀ a, (k0_off8 arg9_r1) a + S1x1x2048.size a ≤ S2x1x2048.size a := fun i k0_t2 arg8_r1 arg9_r1 arg10_r1 k0_hw1 k0_h2 => k0_hw1.2.2.2.1 k0_h2
theorem k0_off9_inb : ∀ (i : grid0.Coords) (k0_t2 : Fin k0_t2_loop.trips) (arg8_r1 : BitVec 32) (arg9_r1 : BitVec 32) (arg10_r1 : BitVec 32) (k0_hw1 : k0_chk1 i k0_t2 arg8_r1 arg9_r1 arg10_r1), ∀ (k0_h2 : k0_cond2 i k0_t2 arg10_r1 = 1#1), ∀ a, (k0_off9 i arg10_r1) a + S1x2048.size a ≤ S4096x2048.size a := fun i k0_t2 arg8_r1 arg9_r1 arg10_r1 k0_hw1 k0_h2 => k0_hw1.2.2.2.2.1 k0_h2
theorem k0_off10_inb : ∀ (i : grid0.Coords) (k0_t2 : Fin k0_t2_loop.trips) (arg8_r1 : BitVec 32) (arg9_r1 : BitVec 32) (arg10_r1 : BitVec 32) (k0_hw1 : k0_chk1 i k0_t2 arg8_r1 arg9_r1 arg10_r1), ∀ (k0_h2 : k0_cond2 i k0_t2 arg10_r1 = 1#1), ∀ a, (k0_off10 arg9_r1) a + S1.size a ≤ S2.size a := fun i k0_t2 arg8_r1 arg9_r1 arg10_r1 k0_hw1 k0_h2 => k0_hw1.2.2.2.2.2 k0_h2

@[reducible] def k0_t3_loop : Scf.Loop 32 :=
  let c0_i32_74_r1 : BitVec 32 := 0#32
  let c128_i32_75_r1 : BitVec 32 := 128#32
  let v96_r1 : BitVec 32 := Scalar.addi c0_i32_74_r1 c128_i32_75_r1
  let c1_i32_76_r1 : BitVec 32 := 1#32
  ⟨c0_i32_74_r1, v96_r1, c1_i32_76_r1⟩
def k0_off11 (arg9_r1 : BitVec 32) : Fin 3 → Nat :=
  let c2_i32_70_r1 : BitVec 32 := 2#32
  let v91_r1 : BitVec 32 := Scalar.remui arg9_r1 c2_i32_70_r1
  let c0_i32_90_r1 : BitVec 32 := 0#32
  let c0_i32_91_r1 : BitVec 32 := 0#32
  ![v91_r1.toNat, 0, 0]

def k0_chk2 (arg9_r1 : BitVec 32) : Prop :=
  (∀ a, (k0_off11 arg9_r1) a + S1x1x2048.size a ≤ S2x1x2048.size a)
theorem k0_off11_inb : ∀ (arg9_r1 : BitVec 32) (k0_hw2 : k0_chk2 arg9_r1), ∀ a, (k0_off11 arg9_r1) a + S1x1x2048.size a ≤ S2x1x2048.size a := fun arg9_r1 k0_hw2 => k0_hw2

def k0_off12 (k0_t3 : Fin k0_t3_loop.trips) : Fin 2 → Nat :=
  let c0_i32_89_r1 : BitVec 32 := 0#32
  let v120_r1 : Index := Scalar.indexCast c0_i32_89_r1
  let c0_i32_88_r1 : BitVec 32 := 0#32
  let c0_i32_74_r1 : BitVec 32 := 0#32
  let c1_i32_76_r1 : BitVec 32 := 1#32
  let arg11_r1 : BitVec 32 := Scf.iv c0_i32_74_r1 c1_i32_76_r1 k0_t3
  let c16_i32_87_r1 : BitVec 32 := 16#32
  let v116_r1 : BitVec 32 := Scalar.muli arg11_r1 c16_i32_87_r1
  let v117_r1 : BitVec 32 := Scalar.addi c0_i32_88_r1 v116_r1
  let v121_r1 : Index := Scalar.indexCast v117_r1
  ![0, v121_r1.toNat]

def k0_chk3 (v135_r1 : IVec S16 32) : Prop :=
  (∀ a x, ((![v135_r1] : Fin 1 → IVec S16 32) a x).toNat < S1024.size a)
theorem k0_idx1_inb : ∀ (v135_r1 : IVec S16 32) (k0_hw3 : k0_chk3 v135_r1), ∀ a x, ((![v135_r1] : Fin 1 → IVec S16 32) a x).toNat < S1024.size a := fun v135_r1 k0_hw3 => k0_hw3
def k0_off13 (i : grid0.Coords) : Fin 2 → Nat :=
  let arg1 : BitVec 32 := BitVec.ofNat 32 (i 1).val
  let c2_i32 : BitVec 32 := 2#32
  let v7 : BitVec 32 := Scalar.muli arg1 c2_i32
  let arg0 : BitVec 32 := BitVec.ofNat 32 (i 0).val
  let v8 : BitVec 32 := Scalar.addi v7 arg0
  let c0_i32_3_r2 : BitVec 32 := 0#32
  ![v8.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== HistReferenceIdeal.lean ====
abbrev S8388608 : Shape := ⟨1, ![8388608]⟩
abbrev S999 : Shape := ⟨1, ![999]⟩
abbrev S1x999 : Shape := ⟨2, ![1, 999]⟩
abbrev S8388608x1 : Shape := ⟨2, ![8388608, 1]⟩
abbrev S8388608x999 : Shape := ⟨2, ![8388608, 999]⟩
abbrev S_ : Shape := ⟨0, ![]⟩
abbrev S2x16x262144 : Shape := ⟨3, ![2, 16, 262144]⟩
abbrev S16x2x262144 : Shape := ⟨3, ![16, 2, 262144]⟩
abbrev S32x262144 : Shape := ⟨2, ![32, 262144]⟩
abbrev S32x262144x1 : Shape := ⟨3, ![32, 262144, 1]⟩
abbrev S1024 : Shape := ⟨1, ![1024]⟩
abbrev S1x1x1024 : Shape := ⟨3, ![1, 1, 1024]⟩
abbrev S32x262144x1024 : Shape := ⟨3, ![32, 262144, 1024]⟩
abbrev S32x1024 : Shape := ⟨2, ![32, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S999, .f32⟩
  | .hbm, ⟨2, _⟩ => ⟨S1x999, .f32⟩
  | .hbm, ⟨3, _⟩ => ⟨S8388608x1, .f32⟩
  | .hbm, ⟨4, _⟩ => ⟨S8388608x999, .f32⟩
  | .hbm, ⟨5, _⟩ => ⟨S8388608x999, .f32⟩
  | .hbm, ⟨6, _⟩ => ⟨S8388608x999, .i1⟩
  | .hbm, ⟨7, _⟩ => ⟨S8388608x999, .i32⟩
  | .hbm, ⟨8, _⟩ => ⟨S_, .i32⟩
  | .hbm, ⟨9, _⟩ => ⟨S8388608, .i32⟩
  | .hbm, ⟨10, _⟩ => ⟨S2x16x262144, .i32⟩
  | .hbm, ⟨11, _⟩ => ⟨S16x2x262144, .i32⟩
  | .hbm, ⟨12, _⟩ => ⟨S32x262144, .i32⟩
  | .hbm, ⟨13, _⟩ => ⟨S32x262144x1, .i32⟩
  | .hbm, ⟨14, _⟩ => ⟨S1024, .i32⟩
  | .hbm, ⟨15, _⟩ => ⟨S1x1x1024, .i32⟩
  | .hbm, ⟨16, _⟩ => ⟨S32x262144x1024, .i32⟩
  | .hbm, ⟨17, _⟩ => ⟨S32x262144x1024, .i32⟩
  | .hbm, ⟨18, _⟩ => ⟨S32x262144x1024, .i1⟩
  | .hbm, ⟨19, _⟩ => ⟨S32x262144x1024, .f32⟩
  | .hbm, ⟨20, _⟩ => ⟨S_, .f32⟩
  | .hbm, ⟨21, _⟩ => ⟨S32x1024, .f32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Stats.lean ====
abbrev S8388608 : Shape := ⟨1, ![8388608]⟩
abbrev S65536x128 : Shape := ⟨2, ![65536, 128]⟩
abbrev S8x128 : Shape := ⟨2, ![8, 128]⟩
abbrev S1024x128 : Shape := ⟨2, ![1024, 128]⟩
abbrev S128 : Shape := ⟨1, ![128]⟩
abbrev S1x128 : Shape := ⟨2, ![1, 128]⟩
abbrev S5x128 : Shape := ⟨2, ![5, 128]⟩

abbrev nBuf : Space → Nat
  | .hbm => 3
  | .vmem => 3
  | .smem => 0
  | _ => 0

abbrev bufTy : (tb : Table) → Fin (tcTables nBuf tb) → BufTy
  | .hbm, ⟨0, _⟩ => ⟨S8388608, .f32⟩
  | .hbm, ⟨1, _⟩ => ⟨S65536x128, .f32⟩
  | .hbm, ⟨2, _⟩ => ⟨S8x128, .f32⟩
  | .local _ .vmem, ⟨0, _⟩ => ⟨S1024x128, .f32⟩
  | .local _ .vmem, ⟨1, _⟩ => ⟨S1024x128, .f32⟩
  | .local _ .vmem, ⟨2, _⟩ => ⟨S8x128, .f32⟩
  | _, _ => ⟨S8388608, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== StatsReferenceIdeal.lean ====
abbrev S8388608 : Shape := ⟨1, ![8388608]⟩
abbrev S65536x128 : Shape := ⟨2, ![65536, 128]⟩
abbrev S_ : Shape := ⟨0, ![]⟩
abbrev S128 : Shape := ⟨1, ![128]⟩
abbrev S1x128 : Shape := ⟨2, ![1, 128]⟩
abbrev S3x128 : Shape := ⟨2, ![3, 128]⟩
abbrev S5x128 : Shape := ⟨2, ![5, 128]⟩
abbrev S8x128 : Shape := ⟨2, ![8, 128]⟩

abbrev nBuf : Space → Nat
  | .hbm => 21
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S65536x128, .f32⟩
  | .hbm, ⟨2, _⟩ => ⟨S65536x128, .f32⟩
  | .hbm, ⟨3, _⟩ => ⟨S_, .f32⟩
  | .hbm, ⟨4, _⟩ => ⟨S65536x128, .f32⟩
  | .hbm, ⟨5, _⟩ => ⟨S65536x128, .i1⟩
  | .hbm, ⟨6, _⟩ => ⟨S65536x128, .f32⟩
  | .hbm, ⟨7, _⟩ => ⟨S_, .f32⟩
  | .hbm, ⟨8, _⟩ => ⟨S128, .f32⟩
  | .hbm, ⟨9, _⟩ => ⟨S65536x128, .f32⟩
  | .hbm, ⟨10, _⟩ => ⟨S_, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S3x128, .f32⟩
  | .hbm, ⟨18, _⟩ => ⟨S_, .f32⟩
  | .hbm, ⟨19, _⟩ => ⟨S5x128, .f32⟩
  | .hbm, ⟨20, _⟩ => ⟨S8x128, .f32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Finalize.lean ====
abbrev S32x1024 : Shape := ⟨2, ![32, 1024]⟩
abbrev S8x128 : Shape := ⟨2, ![8, 128]⟩
abbrev S1x128 : Shape := ⟨2, ![1, 128]⟩
abbrev S1x1024 : Shape := ⟨2, ![1, 1024]⟩
abbrev S1024 : Shape := ⟨1, ![1024]⟩
abbrev S1x1 : Shape := ⟨2, ![1, 1]⟩
abbrev S1x1023 : Shape := ⟨2, ![1, 1023]⟩
abbrev S1x2 : Shape := ⟨2, ![1, 2]⟩
abbrev S1x1022 : Shape := ⟨2, ![1, 1022]⟩
abbrev S1x4 : Shape := ⟨2, ![1, 4]⟩
abbrev S1x1020 : Shape := ⟨2, ![1, 1020]⟩
abbrev S1x8 : Shape := ⟨2, ![1, 8]⟩
abbrev S1x1016 : Shape := ⟨2, ![1, 1016]⟩
abbrev S1x16 : Shape := ⟨2, ![1, 16]⟩
abbrev S1x1008 : Shape := ⟨2, ![1, 1008]⟩
abbrev S1x32 : Shape := ⟨2, ![1, 32]⟩
abbrev S1x992 : Shape := ⟨2, ![1, 992]⟩
abbrev S1x64 : Shape := ⟨2, ![1, 64]⟩
abbrev S1x960 : Shape := ⟨2, ![1, 960]⟩
abbrev S1x896 : Shape := ⟨2, ![1, 896]⟩
abbrev S1x256 : Shape := ⟨2, ![1, 256]⟩
abbrev S1x768 : Shape := ⟨2, ![1, 768]⟩
abbrev S1x512 : Shape := ⟨2, ![1, 512]⟩
abbrev S1x1x128 : Shape := ⟨3, ![1, 1, 128]⟩
abbrev S1 : Shape := ⟨1, ![1]⟩
abbrev S1x1x1 : Shape := ⟨3, ![1, 1, 1]⟩

abbrev nBuf : Space → Nat
  | .hbm => 6
  | .vmem => 6
  | .smem => 0
  | _ => 0

abbrev bufTy : (tb : Table) → Fin (tcTables nBuf tb) → BufTy
  | .hbm, ⟨0, _⟩ => ⟨S32x1024, .f32⟩
  | .hbm, ⟨1, _⟩ => ⟨S8x128, .f32⟩
  | .hbm, ⟨2, _⟩ => ⟨S1x128, .f32⟩
  | .hbm, ⟨3, _⟩ => ⟨S1x128, .f32⟩
  | .hbm, ⟨4, _⟩ => ⟨S1x1024, .f32⟩
  | .hbm, ⟨5, _⟩ => ⟨S1x128, .f32⟩
  | .local _ .vmem, ⟨0, _⟩ => ⟨S32x1024, .f32⟩
  | .local _ .vmem, ⟨1, _⟩ => ⟨S8x128, .f32⟩
  | .local _ .vmem, ⟨2, _⟩ => ⟨S1x128, .f32⟩
  | .local _ .vmem, ⟨3, _⟩ => ⟨S1x128, .f32⟩
  | .local _ .vmem, ⟨4, _⟩ => ⟨S1x1024, .f32⟩
  | .local _ .vmem, ⟨5, _⟩ => ⟨S1x128, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FinalizeIdeal.lean ====
variable {F : FTy → Type} [FloatOps F] [Named F]
def κ : String → Option EReal := fun
  | "inv_sqrt2" => some (((Real.sqrt 2)⁻¹ : ℝ) : EReal)
  | _ => none
-- ==== FinalizeReferenceIdeal.lean ====
abbrev S32x1024 : Shape := ⟨2, ![32, 1024]⟩
abbrev S8x128 : Shape := ⟨2, ![8, 128]⟩
abbrev S1x128 : Shape := ⟨2, ![1, 128]⟩
abbrev S_ : Shape := ⟨0, ![]⟩
abbrev S1024 : Shape := ⟨1, ![1024]⟩
abbrev S128 : Shape := ⟨1, ![128]⟩
abbrev S1 : Shape := ⟨1, ![1]⟩
abbrev S1x1 : Shape := ⟨2, ![1, 1]⟩
abbrev S7 : Shape := ⟨1, ![7]⟩
abbrev S1x1024 : Shape := ⟨2, ![1, 1024]⟩
abbrev S121 : Shape := ⟨1, ![121]⟩

abbrev nBuf : Space → Nat
  | .hbm => 86
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S8x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1x128, .f32⟩
  | .hbm, ⟨13, _⟩ => ⟨S128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x128, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x128, .f32⟩
  | .hbm, ⟨27, _⟩ => ⟨S128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S128, .f32⟩
  | .hbm, ⟨45, _⟩ => ⟨S128, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S1, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S1, .f32⟩
  | .hbm, ⟨58, _⟩ => ⟨S_, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1x1, .f32⟩
  | .hbm, ⟨65, _⟩ => ⟨S_, .f32⟩
  | .hbm, ⟨66, _⟩ => ⟨S1x1, .f32⟩
  | .hbm, ⟨67, _⟩ => ⟨S_, .f32⟩
  | .hbm, ⟨68, _⟩ => ⟨S_, .f32⟩
  | .hbm, ⟨69, _⟩ => ⟨S1, .f32⟩
  | .hbm, ⟨70, _⟩ => ⟨S1, .f32⟩
  | .hbm, ⟨71, _⟩ => ⟨S1, .f32⟩
  | .hbm, ⟨72, _⟩ => ⟨S1, .f32⟩
  | .hbm, ⟨73, _⟩ => ⟨S1, .f32⟩
  | .hbm, ⟨74, _⟩ => ⟨S1, .f32⟩
  | .hbm, ⟨75, _⟩ => ⟨S1, .f32⟩
  | .hbm, ⟨76, _⟩ => ⟨S7, .f32⟩
  | .hbm, ⟨77, _⟩ => ⟨S1, .f32⟩
  | .hbm, ⟨78, _⟩ => ⟨S_, .f32⟩
  | .hbm, ⟨79, _⟩ => ⟨S1024, .f32⟩
  | .hbm, ⟨80, _⟩ => ⟨S1024, .f32⟩
  | .hbm, ⟨81, _⟩ => ⟨S1x1024, .f32⟩
  | .hbm, ⟨82, _⟩ => ⟨S_, .f32⟩
  | .hbm, ⟨83, _⟩ => ⟨S121, .f32⟩
  | .hbm, ⟨84, _⟩ => ⟨S128, .f32⟩
  | .hbm, ⟨85, _⟩ => ⟨S1x128, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_cst_8 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_9 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_10 : Ref sig .tc := ⟨.hbm, 46, rfl⟩
abbrev main_v29 : Ref sig .tc := ⟨.hbm, 47, rfl⟩
abbrev main_v30 : Ref sig .tc := ⟨.hbm, 48, rfl⟩
abbrev main_cst_11 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_12 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_13 : Ref sig .tc := ⟨.hbm, 59, rfl⟩
abbrev main_v39 : Ref sig .tc := ⟨.hbm, 60, rfl⟩
abbrev main_cst_14 : Ref sig .tc := ⟨.hbm, 61, rfl⟩
abbrev main_cst_15 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_16 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== Combine.lean ====
abbrev S1x128 : Shape := ⟨2, ![1, 128]⟩
abbrev S8388608 : Shape := ⟨1, ![8388608]⟩
abbrev S65536x128 : Shape := ⟨2, ![65536, 128]⟩
abbrev S1024x128 : Shape := ⟨2, ![1024, 128]⟩
abbrev S1x1 : Shape := ⟨2, ![1, 1]⟩

abbrev nBuf : Space → Nat
  | .hbm => 6
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S8388608, .f32⟩
  | .hbm, ⟨2, _⟩ => ⟨S8388608, .f32⟩
  | .hbm, ⟨3, _⟩ => ⟨S65536x128, .f32⟩
  | .hbm, ⟨4, _⟩ => ⟨S65536x128, .f32⟩
  | .hbm, ⟨5, _⟩ => ⟨S65536x128, .f32⟩
  | .local _ .vmem, ⟨0, _⟩ => ⟨S1x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CombineIdeal.lean ====
variable {F : FTy → Type} [FloatOps F]
-- ==== Proof.Sc.Geometry.lean ====
/-
  The windows the SparseCore kernels move: one row of the 4096 by 2048 array, and one of the two slots of a
  staging buffer. Each is stated by the elements of its buffer it covers and by what is read through it.
-/
module

public import proofs.«01_k».proof.KernelIdeal
public import Idealize.ShloMosaic.Lib.ValueLayout
public import Idealize.ShloMosaic.Lib.Transfers
public import Idealize.ShloMosaic.Lib.Exec
public import Idealize.ShloMosaic.Lib.ViewIndex

@[expose] public section

noncomputable section

namespace Cert.Proof.Sc

open Cert.KernelIdeal
open Idealize.ShloMosaic Idealize.ShloMosaic.ValueIdx

section Geometry

variable {sg : RefSig} {κ : Kind} {sp : Space} {e : EltTy} {Val : EltTy → Type}

/-- Row-and-column index of the large array. -/
abbrev at2 (r : ℕ) (hr : r < 4096) (c : Fin 2048) : S4096x2048.Idx := ix2 (⟨r, hr⟩ : Fin 4096) c
/-- Slot-and-column index of a staging buffer. -/
abbrev at3 (b : ℕ) (hb : b < 2) (c : Fin 2048) : S2x1x2048.Idx := ix3 (⟨b, hb⟩ : Fin 2) (0 : Fin 1) c

/-- The elements in rows `lo` up to `hi`. -/
def rows (m : Memref sg κ sp S4096x2048 e) (lo hi : ℕ) : Finset m.view.ty.Idx :=
  m.view.setOn (Finset.univ.filter fun y : S4096x2048.Idx => lo ≤ (y 0).val ∧ (y 0).val < hi)

/-- The elements of slot `b`. -/
def slot (a : Memref sg κ sp S2x1x2048 e) (b : ℕ) : Finset a.view.ty.Idx :=
  a.view.setOn (Finset.univ.filter fun y : S2x1x2048.Idx => (y 0).val = b)

abbrev rowM (m : Memref sg κ sp S4096x2048 e) (o : Fin 2 → ℕ) (h : ∀ a, o a + S1x2048.size a ≤ S4096x2048.size a) :
    Memref sg κ sp S1x2048 e := m.slice (Rect.unit (s := S4096x2048) o S1x2048.size h) (fun _ => rfl)

abbrev slotM (a : Memref sg κ sp S2x1x2048 e) (o : Fin 3 → ℕ) (h : ∀ i, o i + S1x1x2048.size i ≤ S2x1x2048.size i)
    (hq : S1x1x2048.Squeezes S1x2048) : Memref sg κ sp S1x2048 e :=
  (a.slice (Rect.unit (s := S2x1x2048) o S1x1x2048.size h) (fun _ => rfl)).squeeze S1x2048 hq

theorem row_emb {r : ℕ} (hr : r < 4096) {o : Fin 2 → ℕ} (h : ∀ a, o a + S1x2048.size a ≤ S4096x2048.size a) (ho : o = ![r, 0])
    (y : S1x2048.Idx) : (Rect.unit (s := S4096x2048) o S1x2048.size h).emb y = at2 r hr (y 1) := by
  subst ho
  funext a
  apply Fin.ext
  match a with
  | 0 =>
    show r + 1 * (y 0).val = r
    have h0 : (y 0).val < 1 := (y 0).isLt
    omega
  | 1 => show 0 + 1 * (y 1).val = (y 1).val; omega

theorem slot_emb {b : ℕ} (hb : b < 2) {o : Fin 3 → ℕ} (h : ∀ i, o i + S1x1x2048.size i ≤ S2x1x2048.size i)
    (hq : S1x1x2048.Squeezes S1x2048) (ho : o = ![b, 0, 0]) (y : S1x2048.Idx) :
    (Rect.unit (s := S2x1x2048) o S1x1x2048.size h).emb (Shape.reshapeEquiv hq.numel_eq y) = at3 b hb (y 1) := by
  subst ho
  have hy : y = ix2 (y 0 : Fin 1) (y 1 : Fin 2048) := by funext a; match a with | 0 => rfl | 1 => rfl
  rw [hy]
  have e := reshapeEquiv_ix2_1ab (a := 1) (b := 2048) hq.numel_eq (y 0) (y 1)
  funext a
  apply Fin.ext
  have e' := congrFun e a
  match a with
  | 0 =>
    show b + 1 * (Shape.reshapeEquiv hq.numel_eq (ix2 (y 0 : Fin 1) (y 1 : Fin 2048)) 0).val = b
    have h0 : (Shape.reshapeEquiv hq.numel_eq (ix2 (y 0 : Fin 1) (y 1 : Fin 2048)) 0).val < 1 := Fin.isLt _
    omega
  | 1 =>
    show 0 + 1 * (Shape.reshapeEquiv hq.numel_eq (ix2 (y 0 : Fin 1) (y 1 : Fin 2048)) 1).val = 0
    have h0 : (Shape.reshapeEquiv hq.numel_eq (ix2 (y 0 : Fin 1) (y 1 : Fin 2048)) 1).val < 1 := Fin.isLt _
    omega
  | 2 =>
    show 0 + 1 * (Shape.reshapeEquiv hq.numel_eq (ix2 (y 0 : Fin 1) (y 1 : Fin 2048)) 2).val = (y 1).val
    have h2 : (Shape.reshapeEquiv hq.numel_eq (ix2 (y 0 : Fin 1) (y 1 : Fin 2048)) 2).val = (y 1).val := congrArg Fin.val e'
    omega

theorem rowM_set (m : Memref sg κ sp S4096x2048 e) {r : ℕ} {o : Fin 2 → ℕ}
    (h : ∀ a, o a + S1x2048.size a ≤ S4096x2048.size a) (ho : o = ![r, 0]) : (rowM m o h).view.set = rows m r (r + 1) := by
  have hr : r < 4096 := by
    have := h 0; subst ho
    have h' : r + 1 ≤ 4096 := this
    omega
  show (m.view.slice (Rect.unit (s := S4096x2048) o S1x2048.size h)).set = _
  ext i
  simp only [View.set, rows, View.setOn, Finset.mem_map, Finset.mem_univ, true_and, Finset.mem_filter, View.emb_slice, Function.Embedding.trans_apply]
  constructor
  · rintro ⟨y, rfl⟩
    refine ⟨_, ?_, rfl⟩
    rw [row_emb hr h ho]
    exact ⟨le_refl r, Nat.lt_succ_self r⟩
  · rintro ⟨y, ⟨h1, h2⟩, rfl⟩
    refine ⟨ix2 (0 : Fin 1) (y 1 : Fin 2048), ?_⟩
    rw [row_emb hr h ho]
    congr 1
    funext a
    match a with
    | 0 => exact Fin.ext (show r = (y 0).val by omega)
    | 1 => rfl

theorem slotM_set (m : Memref sg κ sp S2x1x2048 e) {b : ℕ} {o : Fin 3 → ℕ}
    (h : ∀ i, o i + S1x1x2048.size i ≤ S2x1x2048.size i) (hq : S1x1x2048.Squeezes S1x2048) (ho : o = ![b, 0, 0]) :
    (slotM m o h hq).view.set = slot m b := by
  have hb : b < 2 := by
    have := h 0; subst ho
    have h' : b + 1 ≤ 2 := this
    omega
  show ((m.view.slice (Rect.unit (s := S2x1x2048) o S1x1x2048.size h)).reshape S1x2048 hq.numel_eq).set = _
  ext i
  simp only [View.set, slot, View.setOn, Finset.mem_map, Finset.mem_univ, true_and, Finset.mem_filter, View.emb_slice, View.emb_reshape,
    Function.Embedding.trans_apply, Equiv.coe_toEmbedding]
  constructor
  · rintro ⟨y, rfl⟩
    refine ⟨_, ?_, rfl⟩
    rw [slot_emb hb h hq ho]
  · rintro ⟨y, h1, rfl⟩
    refine ⟨ix2 (0 : Fin 1) (y 2 : Fin 2048), ?_⟩
    rw [slot_emb hb h hq ho]
    congr 1
    funext a
    match a with
    | 0 => exact Fin.ext h1.symm
    | 1 => exact Subsingleton.elim (α := Fin 1) _ _
    | 2 => rfl

theorem rowM_read (m : Memref sg κ sp S4096x2048 e) {r : ℕ} (hr : r < 4096) {o : Fin 2 → ℕ}
    (h : ∀ a, o a + S1x2048.size a ≤ S4096x2048.size a) (ho : o = ![r, 0]) (f : m.view.ty.Contents Val) (y : S1x2048.Idx) :
    (rowM m o h).view.read Val f y = m.view.read Val f (at2 r hr (y 1)) := by
  rw [← row_emb hr h ho y]; rfl

theorem slotM_read (m : Memref sg κ sp S2x1x2048 e) {b : ℕ} (hb : b < 2) {o : Fin 3 → ℕ}
    (h : ∀ i, o i + S1x1x2048.size i ≤ S2x1x2048.size i) (hq : S1x1x2048.Squeezes S1x2048) (ho : o = ![b, 0, 0])
    (f : m.view.ty.Contents Val) (y : S1x2048.Idx) :
    (slotM m o h hq).view.read Val f y = m.view.read Val f (at3 b hb (y 1)) := by
  rw [← slot_emb hb h hq ho y]; rfl

/-! ## How rows and slots make up their buffers -/

theorem rows_split (m : Memref sg κ sp S4096x2048 e) {a b c : ℕ} (h1 : a ≤ b) (h2 : b ≤ c) : rows m a c = rows m a b ∪ rows m b c := by
  unfold rows View.setOn
  rw [← Finset.map_union]
  congr 1
  ext y
  simp only [Finset.mem_filter, Finset.mem_univ, true_and, Finset.mem_union]
  omega

theorem rows_disjoint (m : Memref sg κ sp S4096x2048 e) {a b c d : ℕ} (h : b ≤ c) : Disjoint (rows m a b) (rows m c d) := by
  unfold rows View.setOn
  rw [Finset.disjoint_map]
  refine Finset.disjoint_left.mpr fun y h1 h2 => ?_
  simp only [Finset.mem_filter, Finset.mem_univ, true_and] at h1 h2
  omega

theorem rows_empty (m : Memref sg κ sp S4096x2048 e) {a b : ℕ} (h : b ≤ a) : rows m a b = ∅ := by
  unfold rows View.setOn
  rw [Finset.map_eq_empty]
  refine Finset.filter_eq_empty_iff.mpr fun y _ => ?_
  omega

theorem rows_all (m : Memref sg κ sp S4096x2048 e) : rows m 0 4096 = m.view.set := by
  refine congrArg (Finset.map m.view.emb) (Finset.filter_true_of_mem fun y _ => ⟨Nat.zero_le _, ?_⟩)
  exact (y 0).isLt

theorem slot_all (m : Memref sg κ sp S2x1x2048 e) : m.view.set = slot m 0 ∪ slot m 1 := by
  refine Eq.trans (congrArg (Finset.map m.view.emb) ?_) (Finset.map_union _ _)
  refine Finset.Subset.antisymm (fun y _ => ?_) (Finset.subset_univ _)
  have h : (y 0).val < 2 := (y 0).isLt
  rw [Finset.mem_union, Finset.mem_filter, Finset.mem_filter]
  rcases (show (y 0).val = 0 ∨ (y 0).val = 1 by omega) with h | h
  · exact .inl ⟨Finset.mem_univ _, h⟩
  · exact .inr ⟨Finset.mem_univ _, h⟩

theorem slot_disjoint (m : Memref sg κ sp S2x1x2048 e) : Disjoint (slot m 0) (slot m 1) := by
  unfold slot View.setOn
  rw [Finset.disjoint_map]
  refine Finset.disjoint_left.mpr fun y h1 h2 => ?_
  simp only [Finset.mem_filter, Finset.mem_univ, true_and] at h1 h2
  omega

/-- Contents agree on a row when they read alike there. -/
theorem agree_of_read (m : Memref sg κ sp S4096x2048 e) {r : ℕ} (hr : r < 4096) {f g : m.view.ty.Contents Val}
    (h : ∀ c, m.view.read Val f (at2 r hr c) = m.view.read Val g (at2 r hr c)) : ∀ i ∈ rows m r (r + 1), f i = g i := by
  intro i hi
  obtain ⟨y, hy, rfl⟩ := Finset.mem_map.mp hi
  simp only [Finset.mem_filter, Finset.mem_univ, true_and] at hy
  have e : y = at2 r hr (y 1) := by
    funext a
    match a with
    | 0 => exact Fin.ext (show (y 0).val = r by omega)
    | 1 => rfl
  rw [e]
  exact View.eq_of_read_eq (h (y 1))

end Geometry

end Cert.Proof.Sc

end

end
-- ==== Proof.Sc.Rules.lean ====
/-
  The launch's set-up, and the steps of a staged row transfer as rules over the ROWS and SLOTS they move: a row of the
  large array fetched into a slot, a slot written out to a row, the waits for them, and the loads and stores of sixteen
  lanes of a slot. Each takes the kernel's own windows at whatever offsets it computed, with what those offsets come to.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Sc.Geometry

@[expose] public section

set_option synthInstance.maxSize 4096

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Cells of the arrays at natural coordinates -/

abbrev cell2 (r : ℕ) (c : Fin 2048) : S4096x2048.Idx := ix2 (Fin.ofNat 4096 r) c
abbrev cell3 (b : ℕ) (c : Fin 2048) : S2x1x2048.Idx := ix3 (Fin.ofNat 2 b) (0 : Fin 1) c

theorem at2_eq {r : ℕ} (hr : r < 4096) (c : Fin 2048) : at2 r hr c = cell2 r c := by
  funext a
  match a with
  | 0 => exact Fin.ext (Nat.mod_eq_of_lt hr).symm
  | 1 => rfl
theorem at3_eq {b : ℕ} (hb : b < 2) (c : Fin 2048) : at3 b hb c = cell3 b c := by
  funext a
  match a with
  | 0 => exact Fin.ext (Nat.mod_eq_of_lt hb).symm
  | 1 => rfl
  | 2 => rfl

/-- The semaphore a one-cell window of a pair of them names. -/
abbrev semAt (sv : DmaSems sig S2) (o : Fin 1 → ℕ) (h : ∀ i, o i + S1.size i ≤ S2.size i) : DmaSem sig :=
  ((sv.slice (Rect.unit (s := S2) o S1.size h)).squeeze S_ squeezes_S1_S_).sem

def semB (sv : DmaSems sig S2) (b : ℕ) : DmaSem sig :=
  semAt sv ![b % 2] (fun i => by match i with | 0 => exact show b % 2 + 1 ≤ 2 by omega)

theorem semAt_eq (sv : DmaSems sig S2) {b : ℕ} (hb : b < 2) {o : Fin 1 → ℕ} (h : ∀ i, o i + S1.size i ≤ S2.size i) (ho : o = ![b]) :
    semAt sv o h = semB sv b := by
  subst ho
  unfold semB
  have e : (![b] : Fin 1 → ℕ) = ![b % 2] := by rw [Nat.mod_eq_of_lt hb]
  unfold semAt
  rw [SemArray.slice_unit_congr sv e]

section Steps

variable [FloatOps F] (d : Dev nD) (cc : Fin τ.nSC) (jj : Fin τ.nSub)

/-- What a slot and a row come to, at some contents and at given ones. -/
def slotPts (aM : Memref sig .scVector .vmem S2x1x2048 .f32) (b : ℕ) : sProp 𝕄 :=
  iprop(∃ f, aM.view.loc (V d cc jj) ↦[slot aM b]{fullShare} f)
def rowPts (xM : Memref sig .scVector .hbm S4096x2048 .f32) (lo hi : ℕ) (f : Buf (Elt F) (xM.view.loc (V d cc jj))) : sProp 𝕄 :=
  iprop(xM.view.loc (V d cc jj) ↦[rows xM lo hi]{fullShare} f)

/-- What a fetched row is waited for: the slot reading as the row does, and the row back. -/
def inD (xM : Memref sig .scVector .hbm S4096x2048 .f32) (aM : Memref sig .scVector .vmem S2x1x2048 .f32)
    (X : Buf (Elt F) (xM.view.loc (V d cc jj))) (b r : ℕ) : sProp 𝕄 :=
  iprop((∃ f, ⌜∀ j, aM.view.read (Elt F) f (cell3 b j) = xM.view.read (Elt F) X (cell2 r j)⌝ ∗ aM.view.loc (V d cc jj) ↦[slot aM b]{fullShare} f)
    ∗ rowPts d cc jj xM r (r + 1) X)

/-- What a written-out row is waited for: the slot free again, and the row at its new contents. -/
def outD (yM : Memref sig .scVector .hbm S4096x2048 .f32) (aM : Memref sig .scVector .vmem S2x1x2048 .f32)
    (G : Buf (Elt F) (yM.view.loc (V d cc jj))) (b r : ℕ) : sProp 𝕄 :=
  iprop(slotPts d cc jj aM b ∗ rowPts d cc jj yM r (r + 1) G)

abbrev NN (aM : Memref sig .scVector .vmem S2x1x2048 .f32) : ℕ := sig.dmaCredit .scVector (Kind.table .scVector .vmem) aM.view.buf S1x2048 .f32
abbrev NY (yM : Memref sig .scVector .hbm S4096x2048 .f32) : ℕ := sig.dmaCredit .scVector (Kind.table .scVector .hbm) yM.view.buf S1x2048 .f32

theorem wp_rowIn {xM : Memref sig .scVector .hbm S4096x2048 .f32} {aM : Memref sig .scVector .vmem S2x1x2048 .f32} {sv : DmaSems sig S2}
    {r b : ℕ} (hr : r < 4096) (hb : b < 2) {o : Fin 2 → ℕ} {o' : Fin 3 → ℕ} {o'' : Fin 1 → ℕ}
    {h : ∀ a, o a + S1x2048.size a ≤ S4096x2048.size a} {h' : ∀ i, o' i + S1x1x2048.size i ≤ S2x1x2048.size i}
    {h'' : ∀ i, o'' i + S1.size i ≤ S2.size i} {hq : S1x1x2048.Squeezes S1x2048}
    (ho : o = ![r, 0]) (ho' : o' = ![b, 0, 0]) (ho'' : o'' = ![b])
    {X : Buf (Elt F) (xM.view.loc (V d cc jj))}
    {p1 : (rowM xM o h).view.WordExact} {p2 : (slotM aM o' h' hq).view.WordExact}
    {p3 : DmaTarget.Typed (nD := nD) (p := .scVector cc jj) .hbm (.dma (semAt sv o'' h'')) (.here (slotM aM o' h' hq))}
    {α : Type} {k : PUnit → Prog (TpuEff nD τ sig (Elt F) Λ₀ (.scVector cc jj)) α} {Q : α → sProp 𝕄} :
    iprop(rowPts d cc jj xM r (r + 1) X ∗ slotPts d cc jj aM b ∗ semVal (V d cc jj, .dma (semB sv b)) 0)
      ⊢ iprop((Flight countersEmb (V d cc jj) (.dma (semB sv b)) (none : HIx 1) (NN aM) (inD d cc jj xM aM X b r)
            -∗ wp frame (wpE (defs₀ (F := F)) 𝒱₀ (V d cc jj) none) Set.univ (k ⟨⟩) Q)
          -∗ wp frame (wpE (defs₀ (F := F)) 𝒱₀ (V d cc jj) none) Set.univ
              (.op (.enqueueDma (rowM xM o h) (.here (slotM aM o' h' hq)) (.dma (semAt sv o'' h'')) p1 p2 p3) k) Q) := by
  have hs := semAt_eq sv hb h'' ho''
  rw [← hs]
  unfold rowPts slotPts
  iintro ⟨Hx, ⟨%fd, Ha⟩, Hs⟩ Hk
  iapply (Transfers.wp_dmaLocal countersEmb 𝒱₀ (V d cc jj) none (src := rowM xM o h) (dst := slotM aM o' h' hq) (via := .same)
    (q := fullShare) (fs := X) (Sd := slot aM b) (fd := fd) (none : HIx 1) (NN aM) rfl
    (View.dmaCredit_pos (slotM aM o' h' hq).view (by decide)) (slotM_set aM h' hq ho').subset) $$ [Hx Ha Hs]
  · isplitl [Hx]
    · rw [rowM_set xM h ho]; iexact Hx
    isplitl [Ha]; · iexact Ha
    iexact Hs
  iintro Hf
  iapply Hk
  iapply (Transfers.Flight_mono countersEmb (V d cc jj) (?_)) $$ Hf
  unfold inD rowPts
  iintro ⟨Ha, Hx⟩
  isplitl [Ha]
  · iexists _; isplitr
    swap; · iexact Ha
    ipureintro
    intro j
    have e1 := slotM_read (Val := Elt F) aM hb h' hq ho'
      ((slotM aM o' h' hq).view.write (Elt F) fd (ReadAs.same.apply ((rowM xM o h).view.read (Elt F) X)) Finset.univ) (ix2 (0 : Fin 1) j)
    rw [View.read_write_univ] at e1
    have e2 := rowM_read (Val := Elt F) xM hr h ho X (ix2 (0 : Fin 1) j)
    rw [at3_eq hb] at e1
    rw [at2_eq hr] at e2
    exact e1.symm.trans e2
  · rw [← rowM_set xM h ho]; iexact Hx

theorem wp_rowOut {yM : Memref sig .scVector .hbm S4096x2048 .f32} {aM : Memref sig .scVector .vmem S2x1x2048 .f32} {sv : DmaSems sig S2}
    {r b : ℕ} (hr : r < 4096) (hb : b < 2) {o : Fin 2 → ℕ} {o' : Fin 3 → ℕ} {o'' : Fin 1 → ℕ}
    {h : ∀ a, o a + S1x2048.size a ≤ S4096x2048.size a} {h' : ∀ i, o' i + S1x1x2048.size i ≤ S2x1x2048.size i}
    {h'' : ∀ i, o'' i + S1.size i ≤ S2.size i} {hq : S1x1x2048.Squeezes S1x2048}
    (ho : o = ![r, 0]) (ho' : o' = ![b, 0, 0]) (ho'' : o'' = ![b])
    {g G : Buf (Elt F) (yM.view.loc (V d cc jj))} {f : Buf (Elt F) (aM.view.loc (V d cc jj))}
    (hf : ∀ j, aM.view.read (Elt F) f (cell3 b j) = yM.view.read (Elt F) G (cell2 r j))
    {p1 : (slotM aM o' h' hq).view.WordExact} {p2 : (rowM yM o h).view.WordExact}
    {p3 : DmaTarget.Typed (nD := nD) (p := .scVector cc jj) .vmem (.dma (semAt sv o'' h'')) (.here (rowM yM o h))}
    {α : Type} {k : PUnit → Prog (TpuEff nD τ sig (Elt F) Λ₀ (.scVector cc jj)) α} {Q : α → sProp 𝕄} :
    iprop((aM.view.loc (V d cc jj) ↦[slot aM b]{fullShare} f) ∗ rowPts d cc jj yM r (r + 1) g ∗ semVal (V d cc jj, .dma (semB sv b)) 0)
      ⊢ iprop((Flight countersEmb (V d cc jj) (.dma (semB sv b)) (none : HIx 1) (NY yM) (outD d cc jj yM aM G b r)
            -∗ wp frame (wpE (defs₀ (F := F)) 𝒱₀ (V d cc jj) none) Set.univ (k ⟨⟩) Q)
          -∗ wp frame (wpE (defs₀ (F := F)) 𝒱₀ (V d cc jj) none) Set.univ
              (.op (.enqueueDma (slotM aM o' h' hq) (.here (rowM yM o h)) (.dma (semAt sv o'' h'')) p1 p2 p3) k) Q) := by
  have hs := semAt_eq sv hb h'' ho''
  rw [← hs]
  unfold rowPts
  iintro ⟨Ha, Hy, Hs⟩ Hk
  iapply (Transfers.wp_dmaLocal countersEmb 𝒱₀ (V d cc jj) none (src := slotM aM o' h' hq) (dst := rowM yM o h) (via := .same)
    (q := fullShare) (fs := f) (Sd := rows yM r (r + 1)) (fd := g) (none : HIx 1) (NY yM) rfl
    (View.dmaCredit_pos (rowM yM o h).view (by decide)) (rowM_set yM h ho).subset) $$ [Hy Ha Hs]
  · isplitl [Ha]
    · rw [slotM_set aM h' hq ho']; iexact Ha
    isplitl [Hy]; · iexact Hy
    iexact Hs
  iintro Hf
  iapply Hk
  iapply (Transfers.Flight_mono countersEmb (V d cc jj) (?_)) $$ Hf
  unfold outD rowPts slotPts
  iintro ⟨Hy, Ha⟩
  isplitl [Ha]
  · iexists f; rw [← slotM_set aM h' hq ho']; iexact Ha
  · iapply (Entails.of_eq (pointsTo_congr (?_))) $$ Hy
    refine agree_of_read (Val := Elt F) yM hr fun j => ?_
    have e1 := rowM_read (Val := Elt F) yM hr h ho
      ((rowM yM o h).view.write (Elt F) g (ReadAs.same.apply ((slotM aM o' h' hq).view.read (Elt F) f)) Finset.univ) (ix2 (0 : Fin 1) j)
    rw [View.read_write_univ] at e1
    have e2 := slotM_read (Val := Elt F) aM hb h' hq ho' f (ix2 (0 : Fin 1) j)
    rw [at3_eq hb] at e2
    exact e1.symm.trans (e2.trans ((hf j).trans (by rw [at2_eq hr])))

/-- What the core owes, over some recording of its waits that adds only its own transfers' to `W`. -/
def owesW (O : CellTallies nD τ sig (HIx 1)) (W : Waits sig (HIx 1)) : sProp 𝕄 :=
  iprop(∃ W', ⌜∀ p ∈ W', p ∈ W ∨ p.2 = none⌝ ∗ owes (V d cc jj) O W')

theorem wp_rowWait {sem sem' : DmaSem sig} (hs : sem = sem') {O : CellTallies nD τ sig (HIx 1)} {W : Waits sig (HIx 1)} (hO : ∀ g, O g none = 0)
    {sp sp' : Space} {s s' : Shape} {e e' : EltTy} {srcw : Memref sig .scVector sp' s' e'} {dstw : Memref sig .scVector sp s e}
    {hsrc : srcw.view.WordExact} {hdst : dstw.view.WordExact} {N : ℕ} (hN : dstw.view.dmaCredit = N) {R : sProp 𝕄}
    {α : Type} {k : PUnit → Prog (TpuEff nD τ sig (Elt F) Λ₀ (.scVector cc jj)) α} {Q : α → sProp 𝕄} :
    iprop(levAts (K (F := F)).L (K (F := F)).lev ∗ Flight countersEmb (V d cc jj) (.dma sem') (none : HIx 1) N R ∗ owesW d cc jj O W)
      ⊢ iprop((iprop(R ∗ semVal (V d cc jj, .dma sem') 0 ∗ owesW d cc jj O W)
            -∗ wp frame (wpE (defs₀ (F := F)) 𝒱₀ (V d cc jj) none) Set.univ (k ⟨⟩) Q)
          -∗ wp frame (wpE (defs₀ (F := F)) 𝒱₀ (V d cc jj) none) Set.univ (.op (.waitDma2 sem srcw dstw hsrc hdst) k) Q) := by
  subst hs
  unfold owesW
  iintro ⟨Hlv, Hf, ⟨%W', %hW', HO⟩⟩ Hk
  iapply (Transfers.wp_waitLocalO countersEmb 𝒱₀ (V d cc jj) none (none : HIx 1) hN) $$ [Hf HO Hlv]
  · isplitl [Hf]; · iexact Hf
    isplitl [HO]; · iexact HO
    iapply ((K (F := F)).mayWait_none (thr := V d cc jj) (SemLoc.dma sem) hO) $$ Hlv
  iintro ⟨HR, Hs, HO⟩
  iapply Hk
  isplitl [HR]; · iexact HR
  isplitl [Hs]; · iexact Hs
  iexists _; isplitr
  swap; · iexact HO
  ipureintro; intro p hp
  rcases Finset.mem_insert.mp hp with hp | hp
  · exact .inr (hp ▸ rfl)
  · exact hW' p hp

/-! ## Sixteen lanes of a slot -/

/-- Column `c` of a slot. -/
abbrev col (c : ℕ) : Fin 2048 := Fin.ofNat 2048 c

theorem lane_emb {c : ℕ} (hc : c + 16 ≤ 2048) {o : Fin 2 → ℕ} (h : ∀ a, o a + S1x16.size a ≤ S1x2048.size a) (ho : o = ![0, c]) (y : S1x16.Idx) :
    (Rect.unit (s := S1x2048) o S1x16.size h).emb y = ix2 (0 : Fin 1) (col (c + (y 1).val)) := by
  subst ho
  funext a
  apply Fin.ext
  match a with
  | 0 =>
    show 0 + 1 * (y 0).val = 0
    have h0 : (y 0).val < 1 := (y 0).isLt
    omega
  | 1 =>
    show c + 1 * (y 1).val = (c + (y 1).val) % 2048
    have h1 : (y 1).val < 16 := (y 1).isLt
    rw [Nat.mod_eq_of_lt (by omega)]; omega

theorem wp_lanes {aM : Memref sig .scVector .vmem S2x1x2048 .f32} {b c : ℕ} (hb : b < 2) (hc : c + 16 ≤ 2048)
    {o' : Fin 3 → ℕ} {o : Fin 2 → ℕ} {h' : ∀ i, o' i + S1x1x2048.size i ≤ S2x1x2048.size i} {hq : S1x1x2048.Squeezes S1x2048}
    {h : ∀ a, o a + S1x16.size a ≤ S1x2048.size a} (ho' : o' = ![b, 0, 0]) (ho : o = ![0, c])
    {f : Buf (Elt F) (aM.view.loc (V d cc jj))}
    {hl : (slotM aM o' h' hq).view.LoadsAt (Rect.unit (s := S1x2048) o S1x16.size h).toLoadRect}
    {α : Type} {k : (S1x16.Idx → Elt F .f32) → Prog (TpuEff nD τ sig (Elt F) Λ₀ (.scVector cc jj)) α} {Q : α → sProp 𝕄} :
    iprop(aM.view.loc (V d cc jj) ↦[slot aM b]{fullShare} f)
      ⊢ iprop(((aM.view.loc (V d cc jj) ↦[slot aM b]{fullShare} f)
            -∗ wp frame (wpE (defs₀ (F := F)) 𝒱₀ (V d cc jj) none) Set.univ (k fun y => aM.view.read (Elt F) f (cell3 b (col (c + (y 1).val)))) Q)
          -∗ wp frame (wpE (defs₀ (F := F)) 𝒱₀ (V d cc jj) none) Set.univ
              (.op (.load (slotM aM o' h' hq) (Rect.unit (s := S1x2048) o S1x16.size h).toLoadRect hl) k) Q) := by
  have e : (fun y : S1x16.Idx => aM.view.read (Elt F) f (cell3 b (col (c + (y 1).val))))
      = (slotM aM o' h' hq).view.readAt (Elt F) (Rect.unit (s := S1x2048) o S1x16.size h).toLoadRect f := by
    funext y
    show _ = (slotM aM o' h' hq).view.read (Elt F) f ((Rect.unit (s := S1x2048) o S1x16.size h).emb y)
    rw [lane_emb hc h ho, slotM_read aM hb h' hq ho' f, at3_eq hb]
  rw [e]
  exact wp_load 𝒱₀ (V d cc jj) none Set.univ (m := slotM aM o' h' hq) (S := slot aM b)
    (((slotM aM o' h' hq).view.setOn_subset_set _).trans (slotM_set aM h' hq ho').subset)

theorem wp_putLanes {aM : Memref sig .scVector .vmem S2x1x2048 .f32} {b c : ℕ} (hb : b < 2) (hc : c + 16 ≤ 2048)
    {o' : Fin 3 → ℕ} {o : Fin 2 → ℕ} {h' : ∀ i, o' i + S1x1x2048.size i ≤ S2x1x2048.size i} {hq : S1x1x2048.Squeezes S1x2048}
    {h : ∀ a, o a + S1x16.size a ≤ S1x2048.size a} (ho' : o' = ![b, 0, 0]) (ho : o = ![0, c])
    {f : Buf (Elt F) (aM.view.loc (V d cc jj))} {w : S1x16.Idx → Elt F .f32}
    {hx : ((slotM aM o' h' hq).access (Rect.unit (s := S1x2048) o S1x16.size h)).Stores Finset.univ} {hm}
    {α : Type} {k : PUnit → Prog (TpuEff nD τ sig (Elt F) Λ₀ (.scVector cc jj)) α} {Q : α → sProp 𝕄} :
    iprop(aM.view.loc (V d cc jj) ↦[slot aM b]{fullShare} f)
      ⊢ iprop((iprop(∃ f' : Buf (Elt F) (aM.view.loc (V d cc jj)), ⌜(∀ j : Fin 2048, (j.val < c ∨ c + 16 ≤ j.val) →
                    aM.view.read (Elt F) f' (cell3 b j) = aM.view.read (Elt F) f (cell3 b j))
                  ∧ ∀ y : S1x16.Idx, aM.view.read (Elt F) f' (cell3 b (col (c + (y 1).val))) = w y⌝
                ∗ aM.view.loc (V d cc jj) ↦[slot aM b]{fullShare} f')
            -∗ wp frame (wpE (defs₀ (F := F)) 𝒱₀ (V d cc jj) none) Set.univ (k ⟨⟩) Q)
          -∗ wp frame (wpE (defs₀ (F := F)) 𝒱₀ (V d cc jj) none) Set.univ
              (.op (.store (slotM aM o' h' hq) (Rect.unit (s := S1x2048) o S1x16.size h) w Finset.univ hx hm) k) Q) := by
  iintro Ha Hk
  iapply (wp_store 𝒱₀ (V d cc jj) none Set.univ (m := slotM aM o' h' hq) (r := Rect.unit (s := S1x2048) o S1x16.size h) (w := w) (Mk := Finset.univ)
    (S := slot aM b) (f := f)
    ((((slotM aM o' h' hq).access (Rect.unit (s := S1x2048) o S1x16.size h)).setOn_subset_set _).trans
      (((slotM aM o' h' hq).view.set_slice_subset _).trans (slotM_set aM h' hq ho').subset))) $$ Ha
  iintro Ha
  iapply Hk
  iexists _; isplitr
  swap; · iexact Ha
  ipureintro
  have rd : ∀ (g : Buf (Elt F) (aM.view.loc (V d cc jj))) (j : Fin 2048),
      aM.view.read (Elt F) g (cell3 b j) = (slotM aM o' h' hq).view.read (Elt F) g (ix2 (0 : Fin 1) j) := by
    intro g j
    rw [slotM_read aM hb h' hq ho' g, at3_eq hb]
  constructor
  · intro j hj
    rw [rd, rd]
    refine View.read_slice_write_of_not_mem (v := (slotM aM o' h' hq).view) (Rect.unit (s := S1x2048) o S1x16.size h) f w Finset.univ ?_
    intro hm
    obtain ⟨y, -, hy⟩ := Finset.mem_map.mp hm
    rw [lane_emb hc h ho] at hy
    have h1 := congrArg Fin.val (congrFun hy 1)
    have h2 : (c + (y 1).val) % 2048 = j.val := h1
    have h3 : (y 1).val < 16 := (y 1).isLt
    rw [Nat.mod_eq_of_lt (by omega)] at h2
    omega
  · intro y
    rw [rd, ← lane_emb hc h ho]
    exact View.read_slice_write_emb (v := (slotM aM o' h' hq).view) (Rect.unit (s := S1x2048) o S1x16.size h) f w (Finset.mem_univ y)

end Steps

end Cert.Proof.Sc

end

end
-- ==== Proof.Sc.Bin.lean ====
/-
  The bin index of one element, as the encode kernel computes it lane by lane: the truncation of the scaled distance to
  the first boundary, one more where that was below it, held to `0 … 999`.
-/
module

public import proofs.«01_k».proof.KernelIdeal
public import proofs.«01_k».proof.Proof.Gen.KernelIdeal
public import proofs.«01_k».proof.Proof.Gen.KernelIdeal.Skeleton
public import Idealize.ShloMosaic.Lib.ValueLayout

@[expose] public section

noncomputable section

namespace Cert.Proof.Sc

open Cert.KernelIdeal Cert.KernelIdeal.Gen
open Idealize.ShloMosaic Idealize.ShloMosaic.ValueIdx

variable {F : FTy → Type} [FloatOps F]

/-- The scaled distance of `x` to the first boundary. -/
def scaledOf (b0 st x : F .f32) : F .f32 := FloatOps.mulf (FloatOps.subf x b0) st

/-- The bin index of `x` for the first boundary `b0` and the reciprocal spacing `st`. -/
def binOf (b0 st x : F .f32) : BitVec 32 :=
  IntOp.minsi 999#32 (IntOp.maxsi 0#32 (IntOp.addi (FloatOps.fptosi 32 (scaledOf b0 st x))
    (Scalar.select (FloatOps.cmpf .ogt (scaledOf b0 st x) (FloatOps.sitofp .f32 (FloatOps.fptosi 32 (scaledOf b0 st x)))) 1#32 0#32)))

theorem clip_lt (v : BitVec 32) : (IntOp.minsi 999#32 (IntOp.maxsi 0#32 v)).toNat < 1000 := by
  simp only [IntOp.minsi, IntOp.maxsi, BitVec.slt_eq_decide, decide_eq_true_eq, BitVec.toInt_eq_toNat_cond]
  have h0 : (0#32 : BitVec 32).toNat = 0 := rfl
  have h9 : (999#32 : BitVec 32).toNat = 999 := rfl
  have hv := v.isLt
  split_ifs <;> simp only [h0, h9] at * <;> omega

theorem binOf_lt (b0 st x : F .f32) : (binOf b0 st x).toNat < 1000 := clip_lt _

theorem pay1_apply (p0 p1 v : Vec F S1x16 .f32) (y : S16.Idx) :
    k0_pay1 p0 p1 v y = binOf (p0 (ix2 (0 : Fin 1) (y 0 : Fin 16))) (p1 (ix2 (0 : Fin 1) (y 0 : Fin 16))) (v (ix2 (0 : Fin 1) (y 0 : Fin 16))) := by
  obtain ⟨l, rfl⟩ : ∃ l : Fin 16, y = ix1 l := ⟨y 0, by funext a; match a with | 0 => rfl⟩
  show k0_pay1 p0 p1 v (ix1 l) = binOf (p0 (ix2 (0 : Fin 1) l)) (p1 (ix2 (0 : Fin 1) l)) (v (ix2 (0 : Fin 1) l))
  rw [← shapeCast_1a_a_apply p0 shapeCasts_S1x16_S16 l, ← shapeCast_1a_a_apply p1 shapeCasts_S1x16_S16 l,
    ← shapeCast_1a_a_apply v shapeCasts_S1x16_S16 l]
  rfl

theorem pay1_chk (p0 p1 v : Vec F S1x16 .f32) : k0_chk3 (k0_pay1 p0 p1 v) := by
  intro a x
  match a with
  | 0 =>
    show (k0_pay1 p0 p1 v x).toNat < 1024
    rw [pay1_apply]
    exact lt_trans (binOf_lt _ _ _) (by decide)

/-- The element at column `c`: the table `T` at the bin index, with the parameters' lane of that column. -/
def encAt (T : S1024.Idx → F .f32) (P : S2x16.Idx → F .f32) (x : F .f32) (c : ℕ) : F .f32 :=
  T (ix1 (Fin.ofNat 1024 (binOf (P (ix2 (0 : Fin 2) (Fin.ofNat 16 c))) (P (ix2 (1 : Fin 2) (Fin.ofNat 16 c))) x).toNat))

end Cert.Proof.Sc

end

end
-- ==== Proof.Sc.Words.lean ====
/-
  What the encode kernel's integer chains come to: which row and which slot each transfer of trip `k` names, and
  which of its conditions hold, at the words the loop carries there.
-/
module

public import proofs.«01_k».proof.KernelIdeal
public import proofs.«01_k».proof.Proof.Gen.KernelIdeal

@[expose] public section

set_option synthInstance.maxSize 4096
set_option Elab.async false

namespace Cert.Proof.Sc

open Cert.KernelIdeal Cert.KernelIdeal.Gen
open Idealize.ShloMosaic

/-- The first row of the task at core `i 0`, subcore `i 1`. -/
abbrev base (i : grid0.Coords) : ℕ := ((i 1).val + (i 0).val * 16) * 128

abbrev w (k : ℕ) : BitVec 32 := BitVec.ofNat 32 k

theorem trips1 : k0_t1_loop.trips = 128 := by decide +kernel
theorem trips2 : k0_t2_loop.trips = 128 := by decide +kernel

theorem base_le : ∀ i : grid0.Coords, base i + 128 ≤ 4096 := by decide +kernel

theorem e_off1 : k0_off1 = ![0, 0, 0] := by decide +kernel
theorem e_off2 : ∀ i : grid0.Coords, k0_off2 i = ![base i, 0] := by decide +kernel
theorem e_off3 : k0_off3 = ![0] := by decide +kernel
theorem e_chk4 : ∀ k : Fin 128, k0_chk4 (w k) := by decide +kernel
theorem e_chk2 : ∀ k : Fin 128, k0_chk2 (w k) := by decide +kernel
theorem e_cond1 : ∀ (i : grid0.Coords) (k : Fin k0_t1_loop.trips), k0_cond1 i k (w k) = 1#1 ↔ k.val < 127 := by decide +kernel
theorem e_cond2 : ∀ (i : grid0.Coords) (k : Fin k0_t1_loop.trips), k0_cond2 i k (w k) = 1#1 := by decide +kernel
theorem e_cond5 : ∀ (i : grid0.Coords) (k : Fin k0_t1_loop.trips), k0_cond5 i k (w k) = 1#1 := by decide +kernel
theorem e_cond7 : ∀ (i : grid0.Coords) (k : Fin k0_t1_loop.trips), k0_cond7 i k (w k) = 1#1 ↔ k.val ≠ 0 := by decide +kernel
theorem e_chk1 : ∀ (i : grid0.Coords) (k : Fin k0_t1_loop.trips), k0_chk1 i k (w (k + 1)) (w k) (w k) (w (k - 1)) (w k) := by decide +kernel
theorem e_off4 : ∀ k : Fin 128, k0_off4 (w (k + 1)) = ![(k.val + 1) % 2, 0, 0] := by decide +kernel
theorem e_off5 : ∀ (i : grid0.Coords) (k : Fin 127), k0_off5 i (w k) = ![base i + k.val + 1, 0] := by decide +kernel
theorem e_off6 : ∀ k : Fin 128, k0_off6 (w (k + 1)) = ![(k.val + 1) % 2] := by decide +kernel
theorem e_off7 : ∀ k : Fin 128, k0_off7 (w k) = ![k.val % 2, 0, 0] := by decide +kernel
theorem e_off8 : ∀ (i : grid0.Coords) (k : Fin 128), k0_off8 i (w k) = ![base i + k.val, 0] := by decide +kernel
theorem e_off9 : ∀ k : Fin 128, k0_off9 (w k) = ![k.val % 2] := by decide +kernel
theorem e_off10 : ∀ k : Fin 128, k0_off10 (w k) = ![k.val % 2, 0, 0] := by decide +kernel
theorem e_off11 : ∀ k : Fin k0_t2_loop.trips, k0_off11 k = ![0, 16 * k.val] := by decide +kernel
theorem e_off12 : ∀ k : Fin 128, k0_off12 (w k) = ![k.val % 2, 0, 0] := by decide +kernel
theorem e_off13 : ∀ k : Fin k0_t2_loop.trips, k0_off13 k = ![0, 16 * k.val] := by decide +kernel
theorem e_off14 : ∀ k : Fin 128, k0_off14 (w k) = ![k.val % 2, 0, 0] := by decide +kernel
theorem e_off15 : ∀ (i : grid0.Coords) (k : Fin 128), k0_off15 i (w k) = ![base i + k.val, 0] := by decide +kernel
theorem e_off16 : ∀ k : Fin 128, k0_off16 (w k) = ![k.val % 2] := by decide +kernel
theorem e_off17 : ∀ k : Fin 128, k0_off17 (w k) = ![k.val % 2, 0, 0] := by decide +kernel
theorem e_off18 : ∀ (i : grid0.Coords) (k : Fin 127), k0_off18 i (w (k + 1)) = ![base i + k.val, 0] := by decide +kernel
theorem e_off19 : ∀ k : Fin 128, k0_off19 (w k) = ![k.val % 2] := by decide +kernel
theorem e_chk6 : ∀ i : grid0.Coords, k0_chk6 i (w 0) := by decide +kernel
theorem e_chk5 : k0_chk5 (w 127) := by decide +kernel
theorem e_off21 : ∀ i : grid0.Coords, k0_off21 i (w 0) = ![base i + 127, 0] := by decide +kernel
theorem e_off22 : k0_off22 (w 127) = ![1] := by decide +kernel
theorem e_off23 : k0_off23 (w 127) = ![1, 0, 0] := by decide +kernel

end Cert.Proof.Sc

end
-- ==== Proof.Sc.Inner.lean ====
/-
  One row's encoding: the inner loop over its 128 groups of sixteen lanes, with what each slot reads along the way.
-/
module

public import proofs.«01_k».proof.Proof.Sc.Rules
public import proofs.«01_k».proof.Proof.Sc.Bin
public import proofs.«01_k».proof.Proof.Sc.Words

@[expose] public section

set_option synthInstance.maxSize 4096

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight)

variable {F : FTy → Type} [FloatOps F]

local notation "𝕄" => MT nD τ sig (HIx 1) (Elt F) ℕ UU ℕ

section Tile

variable (d : Dev nD) (i : grid0.Coords)

abbrev cV (i : grid0.Coords) : Fin τ.nSC := (i 0).castLE hcore0
abbrev jV (i : grid0.Coords) : Fin τ.nSub := (i 1).castLE hsub0

variable (arg2 : Memref sig .scVector .hbm S4096x2048 .f32) (harg2 : arg2.IsWhole) (arg3 : Memref sig .scVector .hbm S1024 .f32) (harg3 : arg3.IsWhole)
  (arg4 : Memref sig .scVector .hbm S2x16 .f32) (harg4 : arg4.IsWhole) (arg5 : Memref sig .scVector .hbm S4096x2048 .f32) (harg5 : arg5.IsWhole)
  (arg6 : Memref sig .scVector .vmem S1024 .f32) (harg6 : arg6.IsWhole) (arg7 : Memref sig .scVector .vmem S2x16 .f32) (harg7 : arg7.IsWhole)
  (v5_r0 : DmaSems sig S_) (v5_r1 : DmaSems sig S_) (aI : Memref sig .scVector .vmem S2x1x2048 .f32) (haI : aI.IsWhole) (sI : DmaSems sig S2)
  (aO : Memref sig .scVector .vmem S2x1x2048 .f32) (haO : aO.IsWhole) (sO : DmaSems sig S2)

/-- What the encode kernel's table holds, as its gathers read it. -/
abbrev tab (f6 : Buf (Elt F) ((arg6.access (.whole S1024)).loc (V d (cV i) (jV i)))) : S1024.Idx → F .f32 :=
  (arg6.access (.whole S1024)).read (Elt F) f6

/-- Along the inner loop: the table, the row in its slot, and the out slot encoded on its columns below `16 * j`. -/
def innerI (T : S1024.Idx → F .f32) (P : S2x16.Idx → F .f32) (f6 : Buf (Elt F) ((arg6.access (.whole S1024)).loc (V d (cV i) (jV i))))
    (f : Buf (Elt F) (aI.view.loc (V d (cV i) (jV i)))) (b j : ℕ) : sProp 𝕄 :=
  iprop(((arg6.access (.whole S1024)).loc (V d (cV i) (jV i)) ↦{fullShare} f6)
    ∗ (aI.view.loc (V d (cV i) (jV i)) ↦[slot aI b]{fullShare} f)
    ∗ ∃ f', ⌜∀ c : Fin 2048, c.val < 16 * j → aO.view.read (Elt F) f' (cell3 b c) = encAt T P (aI.view.read (Elt F) f (cell3 b c)) c.val⌝
      ∗ aO.view.loc (V d (cV i) (jV i)) ↦[slot aO b]{fullShare} f')

set_option maxHeartbeats 4000000 in
theorem inner_step (k : Fin k0_t1_loop.trips) (a9 a12 : BitVec 32) (kk : Fin 128)
    (h4 : k0_chk4 (w kk)) (h2 : k0_chk2 (w kk)) (h1 : k0_chk1 i k a9 (w kk) (w kk) a12 (w kk))
    (a8 : BitVec 32) (v64 v65 : BitVec 1) (v66 v71 v76 : BitVec 32) (v96 : BitVec 1) (p0 p1 : Vec F S1x16 .f32)
    (T : S1024.Idx → F .f32) (P : S2x16.Idx → F .f32) (hp0 : ∀ l : Fin 16, p0 (ix2 (0 : Fin 1) l) = P (ix2 (0 : Fin 2) l))
    (hp1 : ∀ l : Fin 16, p1 (ix2 (0 : Fin 1) l) = P (ix2 (1 : Fin 2) l))
    (f6 : Buf (Elt F) ((arg6.access (.whole S1024)).loc (V d (cV i) (jV i)))) (hT : tab d i arg6 f6 = T)
    (f : Buf (Elt F) (aI.view.loc (V d (cV i) (jV i)))) (j : Fin k0_t2_loop.trips) (acc : Unit) :
    innerI d i arg6 aI aO T P f6 f (kk.val % 2) j.val
      ⊢ wp frame (wpE (defs₀ (F := F)) 𝒱₀ (V d (cV i) (jV i)) none) Set.univ
          (k0_t2_body i arg2 harg2 arg3 harg3 arg4 harg4 arg5 harg5 arg6 harg6 arg7 harg7 v5_r0 v5_r1 aI haI sI aO haO sO k a9 (w kk) (w kk) a12 (w kk)
            h4 h2 h1 a8 v64 v65 v66 v71 v76 v96 p0 p1 j acc)
          fun _ => innerI d i arg6 aI aO T P f6 f (kk.val % 2) (j.val + 1) := by
  have hj : j.val < 128 := lt_of_lt_of_eq j.isLt trips2
  have hb : kk.val % 2 < 2 := Nat.mod_lt _ (by decide)
  have hc : 16 * j.val + 16 ≤ 2048 := by omega
  unfold k0_t2_body
  simp only [Prog.lift, Prog.bind_op, Prog.bind_ret, Prog.pure_eq_ret]
  unfold innerI
  iintro ⟨H6, HI, ⟨%f', %hf', HO⟩⟩
  iapply (wp_lanes d (cV i) (jV i) hb hc (e_off10 kk) (e_off11 j)) $$ HI
  iintro HI
  rw [wp_assume_of 𝒱₀ (V d (cV i) (jV i)) none Set.univ (pay1_chk p0 p1 _)]
  iapply (SparseCore.wp_vectorLoadIdx 𝒱₀ (V d (cV i) (jV i)) none Set.univ (base := arg6) (S := Finset.univ) (q := fullShare)
    (f := f6) (Finset.subset_univ _)) $$ H6
  iintro H6
  iapply (wp_lanes d (cV i) (jV i) hb hc (e_off12 kk) (e_off13 j)) $$ HO
  iintro HO
  iapply (wp_putLanes d (cV i) (jV i) hb hc (e_off12 kk) (e_off13 j)) $$ HO
  iintro ⟨%g, %hg, HO⟩
  rw [wp_ret]
  imodintro
  isplitl [H6]; · iexact H6
  isplitl [HI]; · iexact HI
  iexists g; isplitr
  swap; · iexact HO
  ipureintro
  obtain ⟨hg1, hg2⟩ := hg
  intro c hcj
  by_cases hlt : c.val < 16 * j.val
  · rw [hg1 c (.inl hlt)]; exact hf' c hlt
  · obtain ⟨l, hl⟩ : ∃ l : Fin 16, c.val = 16 * j.val + l.val := ⟨⟨c.val - 16 * j.val, by omega⟩, by show _ = _ + (c.val - _); omega⟩
    have hcol : col (16 * j.val + l.val) = c := Fin.ext (by show (16 * j.val + l.val) % 2048 = c.val; rw [← hl]; exact Nat.mod_eq_of_lt c.isLt)
    have e := hg2 (ix2 (0 : Fin 1) l)
    rw [show ((ix2 (0 : Fin 1) l : S1x16.Idx) 1).val = l.val from rfl, hcol] at e
    rw [e]
    refine (shapeCast_a_1a_apply (a := 16) _ shapeCasts_S16_S1x16 (0 : Fin 1) l).trans ?_
    unfold encAt
    have hlane : (Fin.ofNat 16 c.val : Fin 16) = l := Fin.ext (by show c.val % 16 = l.val; rw [hl]; omega)
    rw [hlane, ← hp0 l, ← hp1 l, ← hT]
    show (arg6.access (.whole S1024)).read (Elt F) f6 _ = (arg6.access (.whole S1024)).read (Elt F) f6 _
    congr 1
    funext a
    match a with
    | 0 =>
      apply Fin.ext
      have hp := pay1_apply p0 p1 (fun y => aI.view.read (Elt F) f (cell3 (kk.val % 2) (col (16 * j.val + (y 1).val)))) (ix1 l)
      show (k0_pay1 p0 p1 _ (ix1 l)).toNat = (binOf _ _ _).toNat % 1024
      rw [hp, Nat.mod_eq_of_lt (lt_trans (binOf_lt _ _ _) (by decide))]
      show (binOf _ _ (aI.view.read (Elt F) f (cell3 (kk.val % 2) (col (16 * j.val + l.val))))).toNat = _
      rw [hcol]

end Tile

end Cert.Proof.Sc

end

end
-- ==== Proof.Sc.Trip.lean ====
/-
  One trip of the encode kernel's pipeline, from the state before it to the state after: the next row's fetch issued, this
  row's awaited, the row encoded, its write-out issued, the previous row's awaited.
-/
module

public import proofs.«01_k».proof.Proof.Sc.Inner

@[expose] public section

set_option synthInstance.maxSize 4096

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight)

variable {F : FTy → Type} [FloatOps F]

local notation "𝕄" => MT nD τ sig (HIx 1) (Elt F) ℕ UU ℕ

section Tile

variable (d : Dev nD) (i : grid0.Coords)

variable (arg2 : Memref sig .scVector .hbm S4096x2048 .f32) (harg2 : arg2.IsWhole) (arg3 : Memref sig .scVector .hbm S1024 .f32) (harg3 : arg3.IsWhole)
  (arg4 : Memref sig .scVector .hbm S2x16 .f32) (harg4 : arg4.IsWhole) (arg5 : Memref sig .scVector .hbm S4096x2048 .f32) (harg5 : arg5.IsWhole)
  (arg6 : Memref sig .scVector .vmem S1024 .f32) (harg6 : arg6.IsWhole) (arg7 : Memref sig .scVector .vmem S2x16 .f32) (harg7 : arg7.IsWhole)
  (v5_r0 : DmaSems sig S_) (v5_r1 : DmaSems sig S_) (aI : Memref sig .scVector .vmem S2x1x2048 .f32) (haI : aI.IsWhole) (sI : DmaSems sig S2)
  (aO : Memref sig .scVector .vmem S2x1x2048 .f32) (haO : aO.IsWhole) (sO : DmaSems sig S2)

abbrev thr (d : Dev nD) (i : grid0.Coords) : Thread nD τ := V d (cV i) (jV i)

/-- A fetch slot with nothing in flight, and the slot of row `k`'s fetch: in flight up to the last row. -/
def inFree (b : ℕ) : sProp 𝕄 := iprop(slotPts d (cV i) (jV i) aI b ∗ semVal (thr d i, .dma (semB sI b)) 0)
def inSt (X : Buf (Elt F) (arg2.view.loc (thr d i))) (k : ℕ) : sProp 𝕄 :=
  if k < 128 then Flight countersEmb (thr d i) (.dma (semB sI (k % 2))) (none : HIx 1) (NN aI) (inD d (cV i) (jV i) arg2 aI X (k % 2) (base i + k))
  else inFree d i aI sI (k % 2)

/-- A write-out slot with nothing in flight, and the slot of the row before `k`: in flight but before the first. -/
def outFree (b : ℕ) : sProp 𝕄 := iprop(slotPts d (cV i) (jV i) aO b ∗ semVal (thr d i, .dma (semB sO b)) 0)
def outSt (G : Buf (Elt F) (arg5.view.loc (thr d i))) (k : ℕ) : sProp 𝕄 :=
  if k = 0 then outFree d i aO sO ((k + 1) % 2)
  else Flight countersEmb (thr d i) (.dma (semB sO ((k + 1) % 2))) (none : HIx 1) (NY arg5) (outD d (cV i) (jV i) arg5 aO G ((k + 1) % 2) (base i + k - 1))

/-- The words the loop carries at the start of trip `k`. -/
def car (k : ℕ) : BitVec 32 × BitVec 32 × BitVec 32 × BitVec 32 × BitVec 32 := (w (min (k + 1) 128), w k, w k, w (k - 1), w (k % 128))

def tripI (X : Buf (Elt F) (arg2.view.loc (thr d i))) (Q0 G : Buf (Elt F) (arg5.view.loc (thr d i)))
    (f6 : Buf (Elt F) ((arg6.access (.whole S1024)).loc (thr d i))) (f7 : Buf (Elt F) (arg7.view.loc (thr d i)))
    (O : CellTallies nD τ sig (HIx 1)) (W : Waits sig (HIx 1)) (k : ℕ) (acc : BitVec 32 × BitVec 32 × BitVec 32 × BitVec 32 × BitVec 32) : sProp 𝕄 :=
  iprop(⌜acc = car k⌝ ∗ levAts (K (F := F)).L (K (F := F)).lev
    ∗ rowPts d (cV i) (jV i) arg2 (base i) (base i + k) X ∗ rowPts d (cV i) (jV i) arg2 (base i + k + 1) (base i + 128) X
    ∗ inSt d i arg2 aI sI X k ∗ inFree d i aI sI ((k + 1) % 2)
    ∗ outSt d i arg5 aO sO G k ∗ outFree d i aO sO (k % 2)
    ∗ rowPts d (cV i) (jV i) arg5 (base i) (base i + k - 1) G ∗ rowPts d (cV i) (jV i) arg5 (base i + k) (base i + 128) Q0
    ∗ ((arg6.access (.whole S1024)).loc (thr d i) ↦{fullShare} f6) ∗ (arg7.view.loc (thr d i) ↦{fullShare} f7)
    ∗ owesW d (cV i) (jV i) O W)

/-- The first row of the kernel's task as the kernel's words compute it. -/
abbrev v4w (i : grid0.Coords) : BitVec 32 :=
  Scalar.muli (Scalar.addi (Scalar.addi 0#32 (Scalar.muli (BitVec.ofNat 32 (i 1).val) 1#32)) (Scalar.muli (BitVec.ofNat 32 (i 0).val) 16#32)) 128#32

/-- A conditional step at the head of a program that goes on the same way after it, by an assertion that holds there
    either way. -/
theorem wp_dite_step {cc : Fin τ.nSC} {jj : Fin τ.nSub} {c : Prop} [Decidable c] {α : Type}
    {A : c → Prog (TpuEff nD τ sig (Elt F) Λ₀ (.scVector cc jj)) α} {rest : Prog (TpuEff nD τ sig (Elt F) Λ₀ (.scVector cc jj)) α}
    {Q : α → sProp 𝕄} {R : sProp 𝕄} (M : sProp 𝕄)
    (hA : ∀ h : c, R ⊢ iprop((M -∗ wp frame (wpE (defs₀ (F := F)) 𝒱₀ (V d cc jj) none) Set.univ rest Q)
      -∗ wp frame (wpE (defs₀ (F := F)) 𝒱₀ (V d cc jj) none) Set.univ (A h) Q))
    (hB : ¬c → R ⊢ M) :
    R ⊢ iprop((M -∗ wp frame (wpE (defs₀ (F := F)) 𝒱₀ (V d cc jj) none) Set.univ rest Q)
        -∗ wp frame (wpE (defs₀ (F := F)) 𝒱₀ (V d cc jj) none) Set.univ (dite c A (fun _ => rest)) Q) := by
  by_cases h : c
  · rw [dif_pos h]; exact hA h
  · rw [dif_neg h]
    iintro HR Hk
    iapply Hk
    iapply (hB h) $$ HR

set_option maxHeartbeats 8000000 in
/-- The first part of trip `k`: the next row's fetch, where there is one; and of the words it hands on, what the rest
    of the trip needs. -/
theorem part1 (X : Buf (Elt F) (arg2.view.loc (thr d i))) (k : Fin k0_t1_loop.trips) (hk : k.val < 128) :
    iprop(rowPts d (cV i) (jV i) arg2 (base i + k.val + 1) (base i + 128) X ∗ inFree d i aI sI ((k.val + 1) % 2))
      ⊢ wp frame (wpE (defs₀ (F := F)) 𝒱₀ (V d (cV i) (jV i)) none) Set.univ
          (k0_part1 i arg2 harg2 arg3 harg3 arg4 harg4 arg5 harg5 arg6 harg6 arg7 harg7 v5_r0 v5_r1 aI haI sI aO haO sO (v4w i) 0#32 1#32 k
            (w (k.val + 1)) (w k.val) (w k.val) (w (k.val - 1)) (w k.val))
          fun r => iprop(⌜r.2.2.2.2.2.2.2.2.2.1 = w (min (k.val + 1 + 1) 128)
              ∧ Scalar.ori (Scalar.cmpi .ne r.2.2.2.2.2.2.1 r.2.2.2.2.2.2.2.2.1) r.2.2.2.2.2.1 = 1#1
              ∧ Scalar.select (Scalar.andi (Scalar.andi (Scalar.cmpi .ne r.2.2.2.2.2.2.1 r.2.2.2.2.2.2.2.1) (Scalar.xori r.2.2.2.2.1 1#1)) 1#1)
                  (Scalar.addi (w (k.val - 1)) 1#32) (w (k.val - 1)) = w k.val
              ∧ Scalar.select (Scalar.cmpi .eq (Scalar.select 1#1 (Scalar.addi (w k.val) 1#32) (w k.val)) 128#32) 0#32
                  (Scalar.select 1#1 (Scalar.addi (w k.val) 1#32) (w k.val)) = w ((k.val + 1) % 128)⌝
            ∗ rowPts d (cV i) (jV i) arg2 (base i + k.val + 1 + 1) (base i + 128) X ∗ inSt d i arg2 aI sI X (k.val + 1)) := by
  have hbl := base_le i
  have hc1 := e_cond1 i k
  rw [k0_part1_eq_skeleton]
  unfold k0_part1_skel
  simp only [Prog.lift, Prog.bind_op, Prog.bind_ret, Prog.pure_eq_ret, Prog.bind_assoc]
  rw [wp_assume_of 𝒱₀ (V d (cV i) (jV i)) none Set.univ (e_chk4 ⟨k.val, hk⟩)]
  rw [wp_assume_of 𝒱₀ (V d (cV i) (jV i)) none Set.univ (e_chk2 ⟨k.val, hk⟩)]
  rw [wp_assume_of 𝒱₀ (V d (cV i) (jV i)) none Set.univ (e_chk1 i k)]
  iintro Hnext
  iapply (wp_dite_step d iprop(rowPts d (cV i) (jV i) arg2 (base i + k.val + 1 + 1) (base i + 128) X ∗ inSt d i arg2 aI sI X (k.val + 1)) ?hA ?hB) $$ Hnext
  case hA =>
    intro h
    have h127 : k.val < 127 := hc1.mp h
    unfold rowPts inFree inSt
    rw [if_pos (show k.val + 1 < 128 by omega), rows_split arg2 (show base i + k.val + 1 ≤ base i + k.val + 1 + 1 by omega) (show base i + k.val + 1 + 1 ≤ base i + 128 by omega)]
    iintro ⟨Hx, Hs, Hv⟩ Hk
    icases (pointsTo_union (rows_disjoint arg2 (le_refl _))).1 $$ Hx with ⟨Hx1, Hx2⟩
    iapply (wp_rowIn d (cV i) (jV i) (X := X) (show base i + k.val + 1 < 4096 by omega) (Nat.mod_lt _ (by decide)) (e_off5 i ⟨k.val, h127⟩) (e_off4 ⟨k.val, hk⟩) (e_off6 ⟨k.val, hk⟩)) $$ [Hx1 Hs Hv]
    · isplitl [Hx1]; · (unfold rowPts; iexact Hx1)
      isplitl [Hs]; · iexact Hs
      iexact Hv
    iintro Hf
    iapply Hk
    isplitl [Hx2]; · iexact Hx2
    iexact Hf
  case hB =>
    intro h
    have h127 : k.val = 127 := by have := mt hc1.mpr h; omega
    unfold rowPts inSt
    rw [if_neg (show ¬ k.val + 1 < 128 by omega), rows_empty arg2 (show base i + 128 ≤ base i + k.val + 1 by omega),
      rows_empty arg2 (show base i + 128 ≤ base i + k.val + 1 + 1 by omega)]
  iintro H
  rw [wp_ret]
  imodintro
  isplitr
  swap; · iexact H
  ipureintro
  dsimp only
  clear hbl hc1 hk X
  revert k
  revert i
  intro i k
  refine ⟨?_, ?_, ?_, ?_⟩ <;> (revert k; revert i; decide +kernel)

theorem w_succ : ∀ k : Fin 128, Scalar.addi (w k.val) 1#32 = w (k.val + 1) := by decide +kernel

set_option maxHeartbeats 8000000 in
/-- The second part of trip `k`: the row's fetch awaited, the row encoded through the table, its write-out issued. -/
theorem part2 (X : Buf (Elt F) (arg2.view.loc (thr d i))) (Q0 G : Buf (Elt F) (arg5.view.loc (thr d i)))
    (f6 : Buf (Elt F) ((arg6.access (.whole S1024)).loc (thr d i))) (f7 : Buf (Elt F) (arg7.view.loc (thr d i)))
    {O : CellTallies nD τ sig (HIx 1)} {W : Waits sig (HIx 1)} (hO : ∀ g, O g none = 0)
    (k : Fin k0_t1_loop.trips) (hk : k.val < 128) (a9 a12 : BitVec 32)
    (hG : ∀ c : Fin 2048, arg5.view.read (Elt F) G (cell2 (base i + k.val) c)
      = encAt (tab d i arg6 f6) (arg7.view.read (Elt F) f7) (arg2.view.read (Elt F) X (cell2 (base i + k.val) c)) c.val)
    (h4 : k0_chk4 (w k.val)) (h2 : k0_chk2 (w k.val)) (h1 : k0_chk1 i k a9 (w k.val) (w k.val) a12 (w k.val))
    (a8 : BitVec 32) (v64 v65 : BitVec 1) (v66 v71 v76 : BitVec 32) (v96 : BitVec 1)
    (hv : Scalar.ori (Scalar.cmpi .ne v66 v76) v65 = 1#1) :
    iprop(levAts (K (F := F)).L (K (F := F)).lev ∗ inSt d i arg2 aI sI X k.val ∗ outFree d i aO sO (k.val % 2)
        ∗ rowPts d (cV i) (jV i) arg5 (base i + k.val) (base i + k.val + 1) Q0
        ∗ ((arg6.access (.whole S1024)).loc (thr d i) ↦{fullShare} f6) ∗ (arg7.view.loc (thr d i) ↦{fullShare} f7)
        ∗ owesW d (cV i) (jV i) O W)
      ⊢ wp frame (wpE (defs₀ (F := F)) 𝒱₀ (V d (cV i) (jV i)) none) Set.univ
          (k0_part2 i arg2 harg2 arg3 harg3 arg4 harg4 arg5 harg5 arg6 harg6 arg7 harg7 v5_r0 v5_r1 aI haI sI aO haO sO k a9 (w k.val) (w k.val) a12 (w k.val)
            h4 h2 h1 a8 v64 v65 v66 v71 v76 v96)
          fun r => iprop(⌜r.1 = w (k.val + 1)⌝
            ∗ inFree d i aI sI (k.val % 2) ∗ rowPts d (cV i) (jV i) arg2 (base i + k.val) (base i + k.val + 1) X
            ∗ Flight countersEmb (thr d i) (.dma (semB sO (k.val % 2))) (none : HIx 1) (NY arg5) (outD d (cV i) (jV i) arg5 aO G (k.val % 2) (base i + k.val))
            ∗ ((arg6.access (.whole S1024)).loc (thr d i) ↦{fullShare} f6) ∗ (arg7.view.loc (thr d i) ↦{fullShare} f7)
            ∗ owesW d (cV i) (jV i) O W) := by
  have hbl := base_le i
  have hb : k.val % 2 < 2 := Nat.mod_lt _ (by decide)
  rw [k0_part2_eq_skeleton]
  unfold k0_part2_skel
  simp only [Prog.lift, Prog.bind_op, Prog.bind_ret, Prog.pure_eq_ret, Prog.bind_assoc, ite_self]
  rw [dif_pos (e_cond2 i k)]
  unfold inSt
  rw [if_pos hk]
  iintro ⟨#Hlv, Hin, Hout, Hy, H6, H7, HW⟩
  iapply (wp_rowWait d (cV i) (jV i) (semAt_eq sI hb _ (e_off9 ⟨k.val, hk⟩)) hO (N := NN aI) rfl) $$ [Hin HW]
  · isplitr [Hin HW]; · iexact Hlv
    isplitl [Hin]; · iexact Hin
    iexact HW
  unfold inD outFree slotPts
  iintro ⟨⟨⟨%f, %hf, HI⟩, Hx⟩, Hv, HW⟩
  icases Hout with ⟨⟨%f', HO⟩, Hvo⟩
  iapply (wp_load 𝒱₀ (V d (cV i) (jV i)) none Set.univ (m := arg7) (S := Finset.univ) (q := fullShare) (f := f7) (Finset.subset_univ _)) $$ H7
  iintro H7
  iapply (wp_load 𝒱₀ (V d (cV i) (jV i)) none Set.univ (m := arg7) (S := Finset.univ) (q := fullShare) (f := f7) (Finset.subset_univ _)) $$ H7
  iintro H7
  rw [wp_bind]
  iapply (Scf.wp_for frame (wpE (defs₀ (F := F)) 𝒱₀ (V d (cV i) (jV i)) none) Set.univ _ _ _ k0_t2_ok _ _
    (fun j _ => innerI d i arg6 aI aO (tab d i arg6 f6) (arg7.view.read (Elt F) f7) f6 f (k.val % 2) j)
    (fun j acc => inner_step d i arg2 harg2 arg3 harg3 arg4 harg4 arg5 harg5 arg6 harg6 arg7 harg7 v5_r0 v5_r1 aI haI sI aO haO sO k a9 a12 ⟨k.val, hk⟩
      h4 h2 h1 a8 v64 v65 v66 v71 v76 v96 _ _ (tab d i arg6 f6) (arg7.view.read (Elt F) f7) (fun l => ?hp0) (fun l => ?hp1) f6 rfl f j acc))
  case hp0 =>
    show arg7.view.read (Elt F) f7 _ = _
    congr 1
    funext a
    match a with
    | 0 => rfl
    | 1 => exact Fin.ext (show 0 + 1 * l.val = l.val by omega)
  case hp1 =>
    show arg7.view.read (Elt F) f7 _ = _
    congr 1
    funext a
    match a with
    | 0 => rfl
    | 1 => exact Fin.ext (show 0 + 1 * l.val = l.val by omega)
  isplitl [H6 HI HO]
  · unfold innerI
    isplitl [H6]; · iexact H6
    isplitl [HI]; · iexact HI
    iexists f'; isplitr
    · ipureintro; intro c hc; omega
    iexact HO
  unfold innerI
  iintro %acc ⟨H6, HI, ⟨%g, %hg, HO⟩⟩
  rw [dif_pos (e_cond5 i k)]
  iapply (wp_rowOut d (cV i) (jV i) (G := G) (show base i + k.val < 4096 by omega) hb (e_off15 i k) (e_off14 ⟨k.val, hk⟩) (e_off16 ⟨k.val, hk⟩) ?hf) $$ [HO Hy Hvo]
  case hf =>
    intro c
    rw [hG c, ← hf c]
    exact hg c (by have := c.isLt; have e : Scf.trips k0_t2_loop.lb k0_t2_loop.ub k0_t2_loop.st = 128 := trips2; omega)
  · isplitl [HO]; · iexact HO
    isplitl [Hy]; · iexact Hy
    iexact Hvo
  iintro Hfl
  rw [wp_ret]
  imodintro
  isplitr
  · ipureintro
    show Scalar.select (Scalar.andi (Scalar.ori (Scalar.cmpi .ne v66 v76) v65) 1#1) (Scalar.addi (w k.val) 1#32) (w k.val) = _
    rw [hv, w_succ ⟨k.val, hk⟩]
    rfl
  unfold inFree slotPts
  isplitl [HI Hv]
  · isplitl [HI]
    · iexists f; iexact HI
    iexact Hv
  isplitl [Hx]; · iexact Hx
  isplitl [Hfl]; · iexact Hfl
  isplitl [H6]; · iexact H6
  isplitl [H7]; · iexact H7
  iexact HW

/-- The rows below and the next one together, and the rows from one on, the first apart. -/
theorem rowPts_snoc (xM : Memref sig .scVector .hbm S4096x2048 .f32) {lo hi : ℕ} (h : lo ≤ hi) (f : Buf (Elt F) (xM.view.loc (thr d i))) :
    iprop(rowPts d (cV i) (jV i) xM lo hi f ∗ rowPts d (cV i) (jV i) xM hi (hi + 1) f) ⊢ rowPts d (cV i) (jV i) xM lo (hi + 1) f := by
  unfold rowPts
  rw [rows_split xM h (Nat.le_succ hi)]
  exact (pointsTo_union (rows_disjoint xM (le_refl _))).2

theorem rowPts_cons (xM : Memref sig .scVector .hbm S4096x2048 .f32) {lo hi : ℕ} (h : lo < hi) (f : Buf (Elt F) (xM.view.loc (thr d i))) :
    rowPts d (cV i) (jV i) xM lo hi f ⊢ iprop(rowPts d (cV i) (jV i) xM lo (lo + 1) f ∗ rowPts d (cV i) (jV i) xM (lo + 1) hi f) := by
  unfold rowPts
  rw [rows_split xM (Nat.le_succ lo) h]
  exact (pointsTo_union (rows_disjoint xM (le_refl _))).1

theorem outSt_ne (G : Buf (Elt F) (arg5.view.loc (thr d i))) {k : ℕ} (h : k ≠ 0) : outSt d i arg5 aO sO G k
    = Flight countersEmb (thr d i) (.dma (semB sO ((k + 1) % 2))) (none : HIx 1) (NY arg5) (outD d (cV i) (jV i) arg5 aO G ((k + 1) % 2) (base i + k - 1)) :=
  if_neg h

theorem mod2_pred {k : ℕ} (h : k ≠ 0) : (k + 1) % 2 = (k - 1) % 2 := by omega

set_option maxHeartbeats 8000000 in
/-- One trip of the encode kernel's pipeline. -/
theorem trip (X : Buf (Elt F) (arg2.view.loc (thr d i))) (Q0 G : Buf (Elt F) (arg5.view.loc (thr d i)))
    (f6 : Buf (Elt F) ((arg6.access (.whole S1024)).loc (thr d i))) (f7 : Buf (Elt F) (arg7.view.loc (thr d i)))
    {O : CellTallies nD τ sig (HIx 1)} {W : Waits sig (HIx 1)} (hO : ∀ g, O g none = 0)
    (hG : ∀ (r : ℕ) (c : Fin 2048), base i ≤ r → r < base i + 128 → arg5.view.read (Elt F) G (cell2 r c)
      = encAt (tab d i arg6 f6) (arg7.view.read (Elt F) f7) (arg2.view.read (Elt F) X (cell2 r c)) c.val)
    (k : Fin k0_t1_loop.trips) (acc : BitVec 32 × BitVec 32 × BitVec 32 × BitVec 32 × BitVec 32) :
    tripI d i arg2 arg5 arg6 arg7 aI sI aO sO X Q0 G f6 f7 O W k.val acc
      ⊢ wp frame (wpE (defs₀ (F := F)) 𝒱₀ (V d (cV i) (jV i)) none) Set.univ
          (k0_t1_body i arg2 harg2 arg3 harg3 arg4 harg4 arg5 harg5 arg6 harg6 arg7 harg7 v5_r0 v5_r1 aI haI sI aO haO sO (v4w i) k acc)
          (tripI d i arg2 arg5 arg6 arg7 aI sI aO sO X Q0 G f6 f7 O W (k.val + 1)) := by
  have hk : k.val < 128 := lt_of_lt_of_eq k.isLt trips1
  have hbl := base_le i
  have hb : (k.val + 1) % 2 < 2 := Nat.mod_lt _ (by decide)
  unfold tripI
  iintro ⟨%hacc, #Hlv, Hxl, Hxr, Hin, Hinf, Hout, Houtf, Hyl, Hyr, H6, H7, HW⟩
  subst hacc
  unfold car k0_t1_body
  rw [Nat.min_eq_left (by omega : k.val + 1 ≤ 128), Nat.mod_eq_of_lt hk]
  simp only [Prog.lift, Prog.bind_op, Prog.bind_ret, Prog.pure_eq_ret, Prog.bind_assoc, ite_self]
  rw [wp_bind]
  iapply (wp_wand frame _ Set.univ) $$ [Hxr Hinf]
  · iapply (part1 d i arg2 harg2 arg3 harg3 arg4 harg4 arg5 harg5 arg6 harg6 arg7 harg7 v5_r0 v5_r1 aI haI sI aO haO sO X k hk) $$ [Hxr Hinf]
    isplitl [Hxr]; · iexact Hxr
    iexact Hinf
  iintro %r ⟨%hr, Hxr, Hin'⟩
  obtain ⟨h4, h2, h1, a8, v64, v65, v66, v71, v76, v91, v96⟩ := r
  dsimp only at hr ⊢
  obtain ⟨e91, hv, e140, e148⟩ := hr
  icases (rowPts_cons d i arg5 (show base i + k.val < base i + 128 by omega) Q0) $$ Hyr with ⟨Hy, Hyr⟩
  rw [wp_bind]
  iapply (wp_wand frame _ Set.univ) $$ [Hin Houtf Hy H6 H7 HW]
  · iapply (part2 d i arg2 harg2 arg3 harg3 arg4 harg4 arg5 harg5 arg6 harg6 arg7 harg7 v5_r0 v5_r1 aI haI sI aO haO sO X Q0 G f6 f7 hO k hk
      (w (k.val + 1)) (w (k.val - 1)) (fun c => hG _ c (by omega) (by omega)) h4 h2 h1 a8 v64 v65 v66 v71 v76 v96 hv) $$ [Hin Houtf Hy H6 H7 HW]
    isplitr [Hin Houtf Hy H6 H7 HW]; · iexact Hlv
    isplitl [Hin]; · iexact Hin
    isplitl [Houtf]; · iexact Houtf
    isplitl [Hy]; · iexact Hy
    isplitl [H6]; · iexact H6
    isplitl [H7]; · iexact H7
    iexact HW
  iintro %r ⟨%hr, Hinf, Hx, Hfl, H6, H7, HW⟩
  rw [hr, e140, e148, hv, e91]
  clear hr
  iapply (wp_dite_step d (R := iprop(levAts (K (F := F)).L (K (F := F)).lev ∗ outSt d i arg5 aO sO G k.val
    ∗ rowPts d (cV i) (jV i) arg5 (base i) (base i + k.val - 1) G ∗ owesW d (cV i) (jV i) O W))
    iprop(outFree d i aO sO ((k.val + 1) % 2) ∗ rowPts d (cV i) (jV i) arg5 (base i) (base i + k.val) G ∗ owesW d (cV i) (jV i) O W) ?hA ?hB) $$ [Hlv Hout Hyl HW]
  case hA =>
    intro h
    have h0 : k.val ≠ 0 := (e_cond7 i k).mp h
    rw [outSt_ne d i arg5 aO sO G h0]
    iintro ⟨Hlv, Hout, Hyl, HW⟩ Hnext
    iapply (wp_rowWait d (cV i) (jV i) (semAt_eq sO hb _ ((e_off19 ⟨k.val - 1, by omega⟩).trans (congrArg (fun b : ℕ => (![b] : Fin 1 → ℕ)) (mod2_pred h0).symm)))
      hO (N := NY arg5) rfl) $$ [Hlv Hout HW]
    · isplitl [Hlv]; · iexact Hlv
      isplitl [Hout]; · iexact Hout
      iexact HW
    unfold outD
    iintro ⟨⟨Hs, Hy⟩, Hv, HW⟩
    iapply Hnext
    unfold outFree
    isplitl [Hs Hv]
    · isplitl [Hs]; · iexact Hs
      iexact Hv
    isplitl [Hyl Hy]
    · have e : base i + k.val - 1 + 1 = base i + k.val := by omega
      rw [← e]
      iapply (rowPts_snoc d i arg5 (show base i ≤ base i + k.val - 1 by omega) G)
      isplitl [Hyl]
      · rw [e]; iexact Hyl
      iexact Hy
    iexact HW
  case hB =>
    intro h
    have h0 : k.val = 0 := by by_contra h'; exact h ((e_cond7 i k).mpr h')
    unfold outSt rowPts
    rw [if_pos h0, rows_empty arg5 (show base i + k.val - 1 ≤ base i by omega), rows_empty arg5 (show base i + k.val ≤ base i by omega)]
    iintro ⟨-, Hout, Hyl, HW⟩
    isplitl [Hout]; · iexact Hout
    isplitl [Hyl]
    · rw [pointsTo_empty]; iempintro
    iexact HW
  · isplitr [Hout Hyl HW]; · iexact Hlv
    isplitl [Hout]; · iexact Hout
    isplitl [Hyl]; · iexact Hyl
    iexact HW
  · iintro ⟨Hof, Hyl, HW⟩
    rw [wp_ret]
    imodintro
    isplitr
    · ipureintro
      rw [w_succ ⟨k.val, hk⟩]
      rfl
    isplitr; · iexact Hlv
    isplitl [Hxl Hx]
    · iapply (rowPts_snoc d i arg2 (show base i ≤ base i + k.val by omega) X)
      isplitl [Hxl]; · iexact Hxl
      iexact Hx
    isplitl [Hxr]; · iexact Hxr
    isplitl [Hin']; · iexact Hin'
    isplitl [Hinf]
    · rw [show (k.val + 1 + 1) % 2 = k.val % 2 by omega]; iexact Hinf
    isplitl [Hfl]
    · unfold outSt
      rw [if_neg (Nat.succ_ne_zero _), show (k.val + 1 + 1) % 2 = k.val % 2 by omega, show base i + (k.val + 1) - 1 = base i + k.val by omega]
      iexact Hfl
    isplitl [Hof]; · iexact Hof
    isplitl [Hyl]
    · rw [show base i + (k.val + 1) - 1 = base i + k.val by omega]; iexact Hyl
    isplitl [Hyr]; · iexact Hyr
    isplitl [H6]; · iexact H6
    isplitl [H7]; · iexact H7
    iexact HW

end Tile

end Cert.Proof.Sc

end

end
-- ==== Proof.Sc.Tile.lean ====
/-
  One subcore's task of the encode kernel: the table fetched, then its 128 rows in a pipeline of two slots each way.
-/
module

public import proofs.«01_k».proof.Proof.Sc.Trip

@[expose] public section

set_option synthInstance.maxSize 4096

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight)

variable {F : FTy → Type} [FloatOps F]

local notation "𝕄" => MT nD τ sig (HIx 1) (Elt F) ℕ UU ℕ

section Tile

variable (d : Dev nD) (i : grid0.Coords)

variable (arg2 : Memref sig .scVector .hbm S4096x2048 .f32) (harg2 : arg2.IsWhole) (arg3 : Memref sig .scVector .hbm S1024 .f32) (harg3 : arg3.IsWhole)
  (arg4 : Memref sig .scVector .hbm S2x16 .f32) (harg4 : arg4.IsWhole) (arg5 : Memref sig .scVector .hbm S4096x2048 .f32) (harg5 : arg5.IsWhole)
  (arg6 : Memref sig .scVector .vmem S1024 .f32) (harg6 : arg6.IsWhole) (arg7 : Memref sig .scVector .vmem S2x16 .f32) (harg7 : arg7.IsWhole)
  (v5_r0 : DmaSems sig S_) (v5_r1 : DmaSems sig S_) (aI : Memref sig .scVector .vmem S2x1x2048 .f32) (haI : aI.IsWhole) (sI : DmaSems sig S2)
  (aO : Memref sig .scVector .vmem S2x1x2048 .f32) (haO : aO.IsWhole) (sO : DmaSems sig S2)

/-- A whole array fetched into a whole scratch, issued and awaited. -/
theorem tab_eq (f6 : Buf (Elt F) ((arg6.access (.whole S1024)).loc (thr d i))) : tab d i arg6 f6 = arg6.view.read (Elt F) f6 := by
  funext j
  exact congrArg (arg6.view.read (Elt F) f6) (Rect.emb_whole_apply S1024 j)

/-- What a subcore holds of the arrays it fetches whole: a share of each. -/
def srcPts (q : PosShare TreeShare) (f3 : Buf (Elt F) (arg3.view.loc (thr d i))) (f4 : Buf (Elt F) (arg4.view.loc (thr d i))) : sProp 𝕄 :=
  iprop((arg3.view.loc (thr d i) ↦{q} f3) ∗ (arg4.view.loc (thr d i) ↦{q} f4))

set_option maxHeartbeats 8000000 in
/-- The fetches of the table and of the grid's two numbers. -/
theorem part3 (q : PosShare TreeShare) (f3 : Buf (Elt F) (arg3.view.loc (thr d i))) (f4 : Buf (Elt F) (arg4.view.loc (thr d i)))
    {O : CellTallies nD τ sig (HIx 1)} {W : Waits sig (HIx 1)} (hO : ∀ g, O g none = 0) :
    iprop(levAts (K (F := F)).L (K (F := F)).lev ∗ srcPts d i arg3 arg4 q f3 f4
        ∗ (∃ f, arg6.view.loc (thr d i) ↦{fullShare} f) ∗ (∃ f, arg7.view.loc (thr d i) ↦{fullShare} f)
        ∗ semVal (thr d i, .dma v5_r0.sem) 0 ∗ semVal (thr d i, .dma v5_r1.sem) 0 ∗ owesW d (cV i) (jV i) O W)
      ⊢ wp frame (wpE (defs₀ (F := F)) 𝒱₀ (V d (cV i) (jV i)) none) Set.univ
          (k0_part3 i arg2 harg2 arg3 harg3 arg4 harg4 arg5 harg5 arg6 harg6 arg7 harg7 v5_r0 v5_r1 aI haI sI aO haO sO)
          fun r => iprop(⌜r = v4w i⌝ ∗ srcPts d i arg3 arg4 q f3 f4
            ∗ (∃ f, ⌜arg6.view.read (Elt F) f = arg3.view.read (Elt F) f3⌝ ∗ arg6.view.loc (thr d i) ↦{fullShare} f)
            ∗ (∃ f, ⌜arg7.view.read (Elt F) f = arg4.view.read (Elt F) f4⌝ ∗ arg7.view.loc (thr d i) ↦{fullShare} f)
            ∗ semVal (thr d i, .dma v5_r0.sem) 0 ∗ semVal (thr d i, .dma v5_r1.sem) 0 ∗ owesW d (cV i) (jV i) O W) := by
  rw [k0_part3_eq_skeleton]
  unfold k0_part3_skel srcPts
  simp only [Prog.lift, Prog.bind_op, Prog.bind_ret, Prog.pure_eq_ret, Prog.bind_assoc]
  iintro ⟨#Hlv, ⟨H3, H4⟩, ⟨%f6, H6⟩, ⟨%f7, H7⟩, Hs0, Hs1, HW⟩
  iapply (Transfers.wp_dmaLocal countersEmb 𝒱₀ (V d (cV i) (jV i)) none (src := arg3) (dst := arg6) (via := .same)
    (q := q) (fs := f3) (Sd := Finset.univ) (fd := f6) (none : HIx 1) arg6.view.dmaCredit rfl
    (View.dmaCredit_pos arg6.view (by decide)) (Finset.subset_univ _)) $$ [H3 H6 Hs0]
  · isplitl [H3]
    · rw [harg3.set_eq_univ]; iexact H3
    isplitl [H6]; · iexact H6
    iexact Hs0
  iintro Hf
  iapply (wp_rowWait d (cV i) (jV i) (rfl : v5_r0.sem = v5_r0.sem) hO rfl) $$ [Hf HW]
  · isplitr [Hf HW]; · iexact Hlv
    isplitl [Hf]; · iexact Hf
    iexact HW
  iintro ⟨⟨H6, H3⟩, Hs0, HW⟩
  iapply (Transfers.wp_dmaLocal countersEmb 𝒱₀ (V d (cV i) (jV i)) none (src := arg4) (dst := arg7) (via := .same)
    (q := q) (fs := f4) (Sd := Finset.univ) (fd := f7) (none : HIx 1) arg7.view.dmaCredit rfl
    (View.dmaCredit_pos arg7.view (by decide)) (Finset.subset_univ _)) $$ [H4 H7 Hs1]
  · isplitl [H4]
    · rw [harg4.set_eq_univ]; iexact H4
    isplitl [H7]; · iexact H7
    iexact Hs1
  iintro Hf
  iapply (wp_rowWait d (cV i) (jV i) (rfl : v5_r1.sem = v5_r1.sem) hO rfl) $$ [Hf HW]
  · isplitr [Hf HW]; · iexact Hlv
    isplitl [Hf]; · iexact Hf
    iexact HW
  iintro ⟨⟨H7, H4⟩, Hs1, HW⟩
  rw [wp_ret]
  imodintro
  isplitr
  · ipureintro; rfl
  isplitl [H3 H4]
  · isplitl [H3]
    · rw [harg3.set_eq_univ]; iexact H3
    · rw [harg4.set_eq_univ]; iexact H4
  isplitl [H6]
  · iexists _; isplitr
    swap; · iexact H6
    ipureintro
    exact View.read_write_univ _ _
  isplitl [H7]
  · iexists _; isplitr
    swap; · iexact H7
    ipureintro
    exact View.read_write_univ _ _
  isplitl [Hs0]; · iexact Hs0
  isplitl [Hs1]; · iexact Hs1
  iexact HW

theorem tripI_acc (X : Buf (Elt F) (arg2.view.loc (thr d i))) (Q0 G : Buf (Elt F) (arg5.view.loc (thr d i)))
    (f6 : Buf (Elt F) ((arg6.access (.whole S1024)).loc (thr d i))) (f7 : Buf (Elt F) (arg7.view.loc (thr d i)))
    (O : CellTallies nD τ sig (HIx 1)) (W : Waits sig (HIx 1)) (k : ℕ) (acc : BitVec 32 × BitVec 32 × BitVec 32 × BitVec 32 × BitVec 32) :
    tripI d i arg2 arg5 arg6 arg7 aI sI aO sO X Q0 G f6 f7 O W k acc
      ⊢ iprop(⌜acc = car k⌝ ∗ tripI d i arg2 arg5 arg6 arg7 aI sI aO sO X Q0 G f6 f7 O W k (car k)) := by
  unfold tripI
  iintro ⟨%h, H⟩
  isplitr
  · ipureintro; exact h
  isplitr
  · ipureintro; rfl
  iexact H

set_option maxHeartbeats 8000000 in
/-- The first row's fetch and the whole loop. -/
theorem part4 (X : Buf (Elt F) (arg2.view.loc (thr d i))) (Q0 G : Buf (Elt F) (arg5.view.loc (thr d i)))
    (f6 : Buf (Elt F) ((arg6.access (.whole S1024)).loc (thr d i))) (f7 : Buf (Elt F) (arg7.view.loc (thr d i)))
    {O : CellTallies nD τ sig (HIx 1)} {W : Waits sig (HIx 1)} (hO : ∀ g, O g none = 0)
    (hG : ∀ (r : ℕ) (c : Fin 2048), base i ≤ r → r < base i + 128 → arg5.view.read (Elt F) G (cell2 r c)
      = encAt (tab d i arg6 f6) (arg7.view.read (Elt F) f7) (arg2.view.read (Elt F) X (cell2 r c)) c.val) :
    iprop(levAts (K (F := F)).L (K (F := F)).lev
        ∗ rowPts d (cV i) (jV i) arg2 (base i) (base i + 128) X ∗ rowPts d (cV i) (jV i) arg5 (base i) (base i + 128) Q0
        ∗ inFree d i aI sI 0 ∗ inFree d i aI sI 1 ∗ outFree d i aO sO 0 ∗ outFree d i aO sO 1
        ∗ ((arg6.access (.whole S1024)).loc (thr d i) ↦{fullShare} f6) ∗ (arg7.view.loc (thr d i) ↦{fullShare} f7) ∗ owesW d (cV i) (jV i) O W)
      ⊢ wp frame (wpE (defs₀ (F := F)) 𝒱₀ (V d (cV i) (jV i)) none) Set.univ
          (k0_part4 i arg2 harg2 arg3 harg3 arg4 harg4 arg5 harg5 arg6 harg6 arg7 harg7 v5_r0 v5_r1 aI haI sI aO haO sO (v4w i))
          fun r => iprop(⌜r.1 = w 127 ∧ r.2.1 = w 0⌝ ∗ tripI d i arg2 arg5 arg6 arg7 aI sI aO sO X Q0 G f6 f7 O W 128 (car 128)) := by
  have hbl := base_le i
  rw [k0_part4_eq_skeleton]
  unfold k0_part4_skel
  simp only [Prog.lift, Prog.bind_op, Prog.bind_ret, Prog.pure_eq_ret, Prog.bind_assoc]
  iintro ⟨#Hlv, Hx, Hy, Hi0, Hi1, Ho0, Ho1, H6, H7, HW⟩
  icases (rowPts_cons d i arg2 (show base i < base i + 128 by omega) X) $$ Hx with ⟨Hx, Hxr⟩
  unfold inFree
  icases Hi0 with ⟨Hs, Hv⟩
  iapply (wp_rowIn d (cV i) (jV i) (X := X) (show base i < 4096 by omega) (show 0 < 2 by decide) (e_off2 i) e_off1 e_off3) $$ [Hx Hs Hv]
  · isplitl [Hx]; · iexact Hx
    isplitl [Hs]; · iexact Hs
    iexact Hv
  iintro Hf
  rw [wp_bind]
  iapply (Scf.wp_for frame (wpE (defs₀ (F := F)) 𝒱₀ (V d (cV i) (jV i)) none) Set.univ _ _ _ k0_t1_ok _ _
    (fun k acc => tripI d i arg2 arg5 arg6 arg7 aI sI aO sO X Q0 G f6 f7 O W k acc)
    (fun k acc => trip d i arg2 harg2 arg3 harg3 arg4 harg4 arg5 harg5 arg6 harg6 arg7 harg7 v5_r0 v5_r1 aI haI sI aO haO sO X Q0 G f6 f7 hO hG k acc))
  isplitl [Hxr Hf Hi1 Ho1 Ho0 Hy H6 H7 HW]
  · unfold tripI inSt outSt outFree inFree rowPts
    rw [if_pos (show 0 < 128 by decide), if_pos rfl, rows_empty arg2 (show base i + 0 ≤ base i by omega), rows_empty arg5 (show base i + 0 - 1 ≤ base i by omega),
      pointsTo_empty, pointsTo_empty]
    isplitr
    · ipureintro; decide +kernel
    isplitr; · iexact Hlv
    isplitr; · iempintro
    isplitl [Hxr]; · iexact Hxr
    isplitl [Hf]; · iexact Hf
    isplitl [Hi1]; · iexact Hi1
    isplitl [Ho1]; · iexact Ho1
    isplitl [Ho0]; · iexact Ho0
    isplitr; · iempintro
    isplitl [Hy]; · iexact Hy
    isplitl [H6]; · iexact H6
    isplitl [H7]; · iexact H7
    iexact HW
  iintro %acc H
  rw [show Scf.trips k0_t1_loop.lb k0_t1_loop.ub k0_t1_loop.st = 128 from trips1]
  icases (tripI_acc d i arg2 arg5 arg6 arg7 aI sI aO sO X Q0 G f6 f7 O W 128 acc) $$ H with ⟨%hacc, H⟩
  subst hacc
  rw [wp_assume_of 𝒱₀ (V d (cV i) (jV i)) none Set.univ (show k0_chk6 i (car 128).2.2.2.2 from e_chk6 i)]
  rw [wp_assume_of 𝒱₀ (V d (cV i) (jV i)) none Set.univ (show k0_chk5 (car 128).2.2.2.1 from e_chk5)]
  rw [wp_ret]
  imodintro
  isplitr
  · ipureintro; exact ⟨rfl, rfl⟩
  iexact H

/-- What a subcore's task is given and gives back beside what it computes. -/
def tileRest (q : PosShare TreeShare) (X : Buf (Elt F) (arg2.view.loc (thr d i))) (f3 : Buf (Elt F) (arg3.view.loc (thr d i)))
    (f4 : Buf (Elt F) (arg4.view.loc (thr d i))) (O : CellTallies nD τ sig (HIx 1)) (W : Waits sig (HIx 1)) : sProp 𝕄 :=
  iprop(rowPts d (cV i) (jV i) arg2 (base i) (base i + 128) X ∗ srcPts d i arg3 arg4 q f3 f4
    ∗ (∃ f, arg6.view.loc (thr d i) ↦{fullShare} f) ∗ (∃ f, arg7.view.loc (thr d i) ↦{fullShare} f)
    ∗ inFree d i aI sI 0 ∗ inFree d i aI sI 1 ∗ outFree d i aO sO 0 ∗ outFree d i aO sO 1
    ∗ semVal (thr d i, .dma v5_r0.sem) 0 ∗ semVal (thr d i, .dma v5_r1.sem) 0 ∗ owesW d (cV i) (jV i) O W)

set_option maxHeartbeats 8000000 in
/-- One subcore's task: its rows of the result encoded. -/
theorem tile (q : PosShare TreeShare) (X : Buf (Elt F) (arg2.view.loc (thr d i))) (Q0 G : Buf (Elt F) (arg5.view.loc (thr d i)))
    (f3 : Buf (Elt F) (arg3.view.loc (thr d i))) (f4 : Buf (Elt F) (arg4.view.loc (thr d i)))
    {O : CellTallies nD τ sig (HIx 1)} {W : Waits sig (HIx 1)} (hO : ∀ g, O g none = 0)
    (hG : ∀ (r : ℕ) (c : Fin 2048), base i ≤ r → r < base i + 128 → arg5.view.read (Elt F) G (cell2 r c)
      = encAt (arg3.view.read (Elt F) f3) (arg4.view.read (Elt F) f4) (arg2.view.read (Elt F) X (cell2 r c)) c.val) :
    iprop(levAts (K (F := F)).L (K (F := F)).lev ∗ rowPts d (cV i) (jV i) arg5 (base i) (base i + 128) Q0
        ∗ tileRest d i arg2 arg3 arg4 arg6 arg7 v5_r0 v5_r1 aI sI aO sO q X f3 f4 O W)
      ⊢ wp frame (wpE (defs₀ (F := F)) 𝒱₀ (V d (cV i) (jV i)) none) Set.univ
          (cc0_k i arg2 harg2 arg3 harg3 arg4 harg4 arg5 harg5 arg6 harg6 arg7 harg7 v5_r0 v5_r1 aI haI sI aO haO sO)
          fun _ => iprop(rowPts d (cV i) (jV i) arg5 (base i) (base i + 128) G
            ∗ tileRest d i arg2 arg3 arg4 arg6 arg7 v5_r0 v5_r1 aI sI aO sO q X f3 f4 O W) := by
  have hbl := base_le i
  rw [cc0_k_eq_skeleton]
  unfold cc0_k_skel tileRest
  simp only [Prog.lift, Prog.bind_op, Prog.bind_ret, Prog.pure_eq_ret, Prog.bind_assoc]
  iintro ⟨#Hlv, Hy, Hx, Hsrc, H6, H7, Hi0, Hi1, Ho0, Ho1, Hs0, Hs1, HW⟩
  rw [wp_bind]
  iapply (wp_wand frame _ Set.univ) $$ [Hsrc H6 H7 Hs0 Hs1 HW]
  · iapply (part3 d i arg2 harg2 arg3 harg3 arg4 harg4 arg5 harg5 arg6 harg6 arg7 harg7 v5_r0 v5_r1 aI haI sI aO haO sO q f3 f4 hO) $$ [Hsrc H6 H7 Hs0 Hs1 HW]
    isplitr [Hsrc H6 H7 Hs0 Hs1 HW]; · iexact Hlv
    isplitl [Hsrc]; · iexact Hsrc
    isplitl [H6]; · iexact H6
    isplitl [H7]; · iexact H7
    isplitl [Hs0]; · iexact Hs0
    isplitl [Hs1]; · iexact Hs1
    iexact HW
  iintro %r ⟨%hr, Hsrc, ⟨%f6, %h6, H6⟩, ⟨%f7, %h7, H7⟩, Hs0, Hs1, HW⟩
  subst hr
  rw [wp_bind]
  iapply (wp_wand frame _ Set.univ) $$ [Hx Hy Hi0 Hi1 Ho0 Ho1 H6 H7 HW]
  · iapply (part4 d i arg2 harg2 arg3 harg3 arg4 harg4 arg5 harg5 arg6 harg6 arg7 harg7 v5_r0 v5_r1 aI haI sI aO haO sO X Q0 G f6 f7 hO
      (fun r c h1 h2 => by rw [tab_eq, h6, h7]; exact hG r c h1 h2)) $$ [Hx Hy Hi0 Hi1 Ho0 Ho1 H6 H7 HW]
    isplitr [Hx Hy Hi0 Hi1 Ho0 Ho1 H6 H7 HW]; · iexact Hlv
    isplitl [Hx]; · iexact Hx
    isplitl [Hy]; · iexact Hy
    isplitl [Hi0]; · iexact Hi0
    isplitl [Hi1]; · iexact Hi1
    isplitl [Ho0]; · iexact Ho0
    isplitl [Ho1]; · iexact Ho1
    isplitl [H6]; · iexact H6
    isplitl [H7]; · iexact H7
    iexact HW
  iintro %r ⟨%hr, H⟩
  obtain ⟨w3, w4, hw6, hw5⟩ := r
  obtain ⟨e3, e4⟩ := hr
  dsimp only at e3 e4 ⊢
  subst e3 e4
  unfold tripI inSt
  rw [outSt_ne d i arg5 aO sO G (show (128 : ℕ) ≠ 0 by decide), if_neg (show ¬ (128 : ℕ) < 128 by decide)]
  icases H with ⟨-, -, Hx, -, Hi0, Hi1, Hf, Ho0, Hyl, -, H6, H7, HW⟩
  iapply (wp_rowWait d (cV i) (jV i) (semAt_eq sO (show 1 < 2 by decide) _ e_off22) hO (N := NY arg5) rfl) $$ [Hf HW]
  · isplitr [Hf HW]; · iexact Hlv
    isplitl [Hf]; · iexact Hf
    iexact HW
  unfold outD
  iintro ⟨⟨Hs, Hy⟩, Hv, HW⟩
  rw [wp_ret]
  imodintro
  isplitl [Hyl Hy]
  · iapply (rowPts_snoc d i arg5 (show base i ≤ base i + 127 by omega) G)
    isplitl [Hyl]; · iexact Hyl
    iexact Hy
  isplitl [Hx]; · iexact Hx
  isplitl [Hsrc]; · iexact Hsrc
  isplitl [H6]; · iexists f6; iexact H6
  isplitl [H7]; · iexists f7; iexact H7
  isplitl [Hi0]; · iexact Hi0
  isplitl [Hi1]; · iexact Hi1
  isplitl [Ho0]; · iexact Ho0
  isplitl [Hs Hv]
  · unfold outFree
    isplitl [Hs]; · iexact Hs
    iexact Hv
  isplitl [Hs0]; · iexact Hs0
  isplitl [Hs1]; · iexact Hs1
  iexact HW

end Tile

end Cert.Proof.Sc

end

end
-- ==== Proof.Sc.Task.lean ====
/-
  The task on the launch's own buffers, what the launch hands each core and each subcore, and the launch obligation.
-/
module

public import proofs.«01_k».proof.Proof.Sc.Tile

@[expose] public section

set_option synthInstance.maxSize 4096

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight)

variable {F : FTy → Type} [FloatOps F]

local notation "𝕄" => MT nD τ sig (HIx 1) (Elt F) ℕ UU ℕ

/-! ## The launch's buffers -/

abbrev xM : Memref sig .scVector .hbm S4096x2048 .f32 := Memref.whole main_v0_scv
abbrev tM : Memref sig .scVector .hbm S1024 .f32 := Memref.whole main_arg1_scv
abbrev pM : Memref sig .scVector .hbm S2x16 .f32 := Memref.whole main_v13_scv
abbrev yM : Memref sig .scVector .hbm S4096x2048 .f32 := Memref.whole main_v14_scv
abbrev c6 : Memref sig .scVector .vmem S1024 .f32 := Memref.whole cc0_scratch0
abbrev c7 : Memref sig .scVector .vmem S2x16 .f32 := Memref.whole cc0_scratch1
abbrev aI : Memref sig .scVector .vmem S2x1x2048 .f32 := Memref.whole cc0_scoped2
abbrev aO : Memref sig .scVector .vmem S2x1x2048 .f32 := Memref.whole cc0_scoped4

abbrev xLoc (d : Dev nD) : Loc nD τ sig := (SparseCore.T d).loc main_v0
abbrev tLoc (d : Dev nD) : Loc nD τ sig := (SparseCore.T d).loc main_arg1
abbrev pLoc (d : Dev nD) : Loc nD τ sig := (SparseCore.T d).loc main_v13
abbrev yLoc (d : Dev nD) : Loc nD τ sig := (SparseCore.T d).loc main_v14

/-- The four arrays' contents as the call begins. -/
structure Vals (F : FTy → Type) where
  x : (d : Dev nD) → Buf (Elt F) (xLoc d)
  t : (d : Dev nD) → Buf (Elt F) (tLoc d)
  p : (d : Dev nD) → Buf (Elt F) (pLoc d)
  y : (d : Dev nD) → Buf (Elt F) (yLoc d)

variable (v : Vals F)

/-- The result's contents as the call ends: every entry encoded. -/
def Vals.g (d : Dev nD) : Buf (Elt F) (yLoc d) := fun j : S4096x2048.Idx => encAt (v.t d) (v.p d) (v.x d j) (j 1).val

/-! ## Shares -/

def qc (c : Fin 2) : PosShare TreeShare := Transfers.dealOf fullShare Finset.univ c
def qt (c : Fin 2) (i : Fin 16) : PosShare TreeShare := Transfers.dealOf (qc c) Finset.univ i

/-- What core `c` is handed, the result's rows at `f`. -/
def coreP (d : Dev nD) (c : Fin 2) (f : Buf (Elt F) (yLoc d)) : sProp 𝕄 :=
  iprop((xLoc d ↦[rows xM (c.val * 2048) (c.val * 2048 + 16 * 128)]{fullShare} v.x d) ∗ (tLoc d ↦{qc c} v.t d) ∗ (pLoc d ↦{qc c} v.p d)
    ∗ yLoc d ↦[rows yM (c.val * 2048) (c.val * 2048 + 16 * 128)]{fullShare} f)

/-- What subcore `i` of core `c` is handed. -/
def taskP (d : Dev nD) (c : Fin 2) (i : Fin 16) (f : Buf (Elt F) (yLoc d)) : sProp 𝕄 :=
  iprop((xLoc d ↦[rows xM (c.val * 2048 + i.val * 128) (c.val * 2048 + i.val * 128 + 128)]{fullShare} v.x d) ∗ (tLoc d ↦{qt c i} v.t d) ∗ (pLoc d ↦{qt c i} v.p d)
    ∗ yLoc d ↦[rows yM (c.val * 2048 + i.val * 128) (c.val * 2048 + i.val * 128 + 128)]{fullShare} f)

instance coreP_storable (d : Dev nD) (c : Fin 2) (f : Buf (Elt F) (yLoc d)) : BI.Storable (upEmb : UEmb _ 𝕄) (coreP v d c f) := by
  unfold coreP; infer_instance
instance taskP_storable (d : Dev nD) (c : Fin 2) (i : Fin 16) (f : Buf (Elt F) (yLoc d)) : BI.Storable (upEmb : UEmb _ 𝕄) (taskP v d c i f) := by
  unfold taskP; infer_instance

/-- What the launch's handshakes carry. -/
def P : (K (F := F)).Pay (nD := nD) (Val := Elt F) (Name := ℕ) (U := UU) where
  st := fun q d c => match q with | 0 => coreP v d (Fin.cast nCore_zero c) (v.y d)
  dn := fun q d c => match q with | 0 => coreP v d (Fin.cast nCore_zero c) (v.g d)
  go := fun q d c i => match q with | 0 => taskP v d (Fin.cast nCore_zero c) (Fin.cast nSub_zero i) (v.y d)
  td := fun q d c i => match q with | 0 => taskP v d (Fin.cast nCore_zero c) (Fin.cast nSub_zero i) (v.g d)
  x := fun _ _ => iprop(emp)

instance P_storable : (P v).IsStorable where
  st q d c := match q with | 0 => coreP_storable v d (Fin.cast nCore_zero c) (v.y d)
  dn q d c := match q with | 0 => coreP_storable v d (Fin.cast nCore_zero c) (v.g d)
  go q d c i := match q with | 0 => taskP_storable v d (Fin.cast nCore_zero c) (Fin.cast nSub_zero i) (v.y d)
  td q d c i := match q with | 0 => taskP_storable v d (Fin.cast nCore_zero c) (Fin.cast nSub_zero i) (v.g d)

/-! ## Rows dealt -/

section Rows

variable {sg : RefSig} {κ : Kind} {sp : Space} {e : EltTy}

theorem rows_deal (m : Memref sg κ sp S4096x2048 e) (a n k : ℕ) :
    (Finset.univ : Finset (Fin n)).biUnion (fun i => rows m (a + i.val * k) (a + i.val * k + k)) = rows m a (a + n * k) := by
  ext z
  simp only [Finset.mem_biUnion, Finset.mem_univ, true_and]
  unfold rows View.setOn
  simp only [Finset.mem_map, Finset.mem_filter, Finset.mem_univ, true_and]
  constructor
  · rintro ⟨i, y, ⟨h1, h2⟩, rfl⟩
    refine ⟨y, ⟨by omega, ?_⟩, rfl⟩
    have hi := Nat.mul_le_mul_right k (show i.val + 1 ≤ n from i.isLt)
    rw [Nat.add_mul, Nat.one_mul] at hi
    omega
  · rintro ⟨y, ⟨h1, h2⟩, rfl⟩
    have hk : 0 < k := Nat.pos_of_ne_zero fun h => by subst h; omega
    have hlt : ((y 0).val - a) / k < n := (Nat.div_lt_iff_lt_mul hk).mpr (by omega)
    refine ⟨⟨_, hlt⟩, y, ⟨?_, ?_⟩, rfl⟩
    · have := Nat.div_mul_le_self ((y 0).val - a) k
      show a + ((y 0).val - a) / k * k ≤ _
      omega
    · have := Nat.lt_div_mul_add hk (a := (y 0).val - a)
      show _ < a + ((y 0).val - a) / k * k + k
      omega

theorem rows_deal_disjoint (m : Memref sg κ sp S4096x2048 e) (a n k : ℕ) :
    ∀ i ∈ (Finset.univ : Finset (Fin n)), ∀ j ∈ (Finset.univ : Finset (Fin n)), i ≠ j
      → Disjoint (rows m (a + i.val * k) (a + i.val * k + k)) (rows m (a + j.val * k) (a + j.val * k + k)) := by
  intro i _ j _ h
  rcases Nat.lt_or_gt_of_ne (fun e => h (Fin.ext e)) with h | h
  · refine rows_disjoint m ?_
    have := Nat.mul_le_mul_right k (show i.val + 1 ≤ j.val from h)
    rw [Nat.add_mul, Nat.one_mul] at this
    omega
  · refine (rows_disjoint m ?_).symm
    have := Nat.mul_le_mul_right k (show j.val + 1 ≤ i.val from h)
    rw [Nat.add_mul, Nat.one_mul] at this
    omega

end Rows

theorem x_deal (d : Dev nD) (a n k : ℕ) (f : Buf (Elt F) (xLoc d)) :
    (xLoc d ↦[rows xM a (a + n * k)]{fullShare} f : sProp 𝕄)
      = bigSep Finset.univ fun i : Fin n => xLoc d ↦[rows xM (a + i.val * k) (a + i.val * k + k)]{fullShare} f := by
  rw [← pointsTo_biUnion Finset.univ (ℓ := xLoc d) (fun i : Fin n => rows xM (a + i.val * k) (a + i.val * k + k)) (rows_deal_disjoint xM a n k), rows_deal]
theorem y_deal (d : Dev nD) (a n k : ℕ) (f : Buf (Elt F) (yLoc d)) :
    (yLoc d ↦[rows yM a (a + n * k)]{fullShare} f : sProp 𝕄)
      = bigSep Finset.univ fun i : Fin n => yLoc d ↦[rows yM (a + i.val * k) (a + i.val * k + k)]{fullShare} f := by
  rw [← pointsTo_biUnion Finset.univ (ℓ := yLoc d) (fun i : Fin n => rows yM (a + i.val * k) (a + i.val * k + k)) (rows_deal_disjoint yM a n k), rows_deal]

theorem coreP_tasks (d : Dev nD) (c : Fin 2) (f : Buf (Elt F) (yLoc d)) :
    coreP v d c f = bigSep Finset.univ fun i : Fin 16 => taskP v d c i f := by
  unfold coreP taskP qt
  rw [bigSep_sep', bigSep_sep', bigSep_sep', ← x_deal d _ 16 128, ← y_deal d _ 16 128,
    ← Transfers.pointsTo_deal Finset.univ ⟨0, Finset.mem_univ _⟩ (qc c), ← Transfers.pointsTo_deal Finset.univ ⟨0, Finset.mem_univ _⟩ (qc c)]

/-- The four arrays whole, the result at `f`. -/
def wholeP (d : Dev nD) (f : Buf (Elt F) (yLoc d)) : sProp 𝕄 :=
  iprop((xLoc d ↦{fullShare} v.x d) ∗ (tLoc d ↦{fullShare} v.t d) ∗ (pLoc d ↦{fullShare} v.p d) ∗ yLoc d ↦{fullShare} f)

theorem wholeP_cores (d : Dev nD) (f : Buf (Elt F) (yLoc d)) :
    wholeP v d f = bigSep Finset.univ fun c : Fin 2 => coreP v d c f := by
  have hx := x_deal (F := F) d 0 2 2048 (v.x d)
  have hy := y_deal (F := F) d 0 2 2048 f
  simp only [Nat.zero_add] at hx hy
  rw [show (2 * 2048 : ℕ) = 4096 from rfl, rows_all, View.set_whole] at hx hy
  unfold wholeP coreP qc
  rw [bigSep_sep', bigSep_sep', bigSep_sep', ← Transfers.pointsTo_deal Finset.univ ⟨0, Finset.mem_univ _⟩ fullShare,
    ← Transfers.pointsTo_deal Finset.univ ⟨0, Finset.mem_univ _⟩ fullShare, hx, hy]

theorem vecSplit : (K (F := F)).VecSplit' (P v) 0 := by
  intro d c
  show coreP v d (Fin.cast nCore_zero c) (v.y d) ⊢ |={Set.univ}=> iprop(
      (bigSep Finset.univ fun i : Fin 16 => taskP v d (Fin.cast nCore_zero c) i (v.y d))
      ∗ ((bigSep Finset.univ fun i : Fin 16 => taskP v d (Fin.cast nCore_zero c) i (v.g d)) -∗ coreP v d (Fin.cast nCore_zero c) (v.g d)))
  rw [coreP_tasks, coreP_tasks]
  iintro H; imodintro
  isplitl [H]; · iexact H
  iintro H; iexact H

/-! ## A subcore's own cells and buffers -/

/-- The members an injective list names, and the others. -/
theorem bigSep_named {I J : Type} [DecidableEq I] [DecidableEq J] {s : Finset I} {t : Finset J} {f : J → I} (inj : Set.InjOn f t)
    (sub : ∀ j ∈ t, f j ∈ s) {Φ : I → sProp 𝕄} :
    bigSep s Φ = iprop(bigSep t (fun j => Φ (f j)) ∗ bigSep (s \ t.image f) Φ) := by
  have h : t.image f ⊆ s := fun x mem => by obtain ⟨j, among, rfl⟩ := Finset.mem_image.mp mem; exact sub j among
  conv_lhs => rw [← Finset.union_sdiff_of_subset h]
  rw [bigSep_union Finset.disjoint_sdiff, SparseCore.bigSep_image_of_injOn inj]
  rfl

section Task

variable (d : Dev nD) (i : grid0.Coords)

def ownL : Finset (SemLoc sig) :=
  {.dma cc0_scoped0.sem, .dma cc0_scoped1.sem, .dma (semB cc0_scoped3 0), .dma (semB cc0_scoped3 1), .dma (semB cc0_scoped5 0), .dma (semB cc0_scoped5 1)}
def ownB : Finset (Ref sig .scVector) := {cc0_scratch0, cc0_scratch1, cc0_scoped2, cc0_scoped4}

def semsRest (d : Dev nD) (i : grid0.Coords) : sProp 𝕄 :=
  bigSep (ownCells (thr d i) \ ownL.image fun s => ((thr d i, s) : GSem nD τ sig)) fun g => semVal g 0

theorem ownSems0_V : (ownSems0 (thr d i) : sProp 𝕄)
    = iprop((semVal (thr d i, .dma cc0_scoped0.sem) 0 ∗ semVal (thr d i, .dma cc0_scoped1.sem) 0
        ∗ semVal (thr d i, .dma (semB cc0_scoped3 0)) 0 ∗ semVal (thr d i, .dma (semB cc0_scoped3 1)) 0
        ∗ semVal (thr d i, .dma (semB cc0_scoped5 0)) 0 ∗ semVal (thr d i, .dma (semB cc0_scoped5 1)) 0) ∗ semsRest d i) := by
  unfold SparseCore.Cfg.ownSems0 semsRest
  rw [bigSep_named (t := ownL) (f := fun s => ((thr d i, s) : GSem nD τ sig)) (fun a _ b _ h => (Prod.mk.inj h).2)
    (fun s hs => (mem_ownCells (g := (thr d i, s))).mpr ⟨rfl, by
      have h : ∀ s ∈ ownL, (s : SemLoc sig).isScoped .scVector = true := by decide +kernel
      exact h s hs⟩)]
  congr 1
  unfold ownL
  rw [SparseCore.bigSep_insert' (by decide +kernel), SparseCore.bigSep_insert' (by decide +kernel), SparseCore.bigSep_insert' (by decide +kernel),
    SparseCore.bigSep_insert' (by decide +kernel), SparseCore.bigSep_insert' (by decide +kernel), bigSep_singleton]

def bufsRest (d : Dev nD) (i : grid0.Coords) : sProp 𝕄 :=
  bigSep (ownRefs (τ := τ) (.scVector (cV i) (jV i)) \ ownB.image fun b => (Proc.scVector (cV i) (jV i)).devRef b)
    fun b => iprop(∃ f, ((d, b) : Loc nD τ sig) ↦{fullShare} f)

theorem ownBufs_V : (ownBufs (thr d i) : sProp 𝕄)
    = iprop(((∃ f, c6.view.loc (thr d i) ↦{fullShare} f) ∗ (∃ f, c7.view.loc (thr d i) ↦{fullShare} f)
        ∗ (∃ f, aI.view.loc (thr d i) ↦{fullShare} f) ∗ ∃ f, aO.view.loc (thr d i) ↦{fullShare} f) ∗ bufsRest d i) := by
  unfold SparseCore.Cfg.ownBufs bufsRest
  rw [bigSep_named (t := ownB) (f := fun b => (Proc.scVector (cV i) (jV i)).devRef b) (fun a _ b _ h => Proc.devRef_injective _ h)
    (fun b hb => mem_ownRefs_of_owner (p := Proc.scVector (cV i) (jV i)) (by
      unfold ownB at hb
      simp only [Finset.mem_insert, Finset.mem_singleton] at hb
      rcases hb with rfl | rfl | rfl | rfl <;> rfl))]
  congr 1
  unfold ownB
  rw [SparseCore.bigSep_insert' (by decide +kernel), SparseCore.bigSep_insert' (by decide +kernel), SparseCore.bigSep_insert' (by decide +kernel), bigSep_singleton]

/-- A staging buffer is its two slots. -/
theorem slots_of_buf (aM : Memref sig .scVector .vmem S2x1x2048 .f32) (h : aM.IsWhole) :
    iprop(∃ f, aM.view.loc (thr d i) ↦{fullShare} f) ⊢ (iprop(slotPts d (cV i) (jV i) aM 0 ∗ slotPts d (cV i) (jV i) aM 1) : sProp 𝕄) := by
  unfold slotPts
  iintro ⟨%f, H⟩
  rw [← h.set_eq_univ, slot_all]
  ihave H := (pointsTo_union (slot_disjoint aM)).1 $$ H
  icases H with ⟨H0, H1⟩
  isplitl [H0]
  · iexists f; iexact H0
  · iexists f; iexact H1

theorem buf_of_slots (aM : Memref sig .scVector .vmem S2x1x2048 .f32) (h : aM.IsWhole) :
    (iprop(slotPts d (cV i) (jV i) aM 0 ∗ slotPts d (cV i) (jV i) aM 1) : sProp 𝕄) ⊢ iprop(∃ f, aM.view.loc (thr d i) ↦{fullShare} f) := by
  unfold slotPts
  iintro ⟨⟨%f, H0⟩, ⟨%g, H1⟩⟩
  ihave H := (pointsTo_join (ℓ := aM.view.loc (thr d i)) (I := slot aM 0) (J := slot aM 1) (slot_disjoint aM)) $$ [H0 H1]
  · isplitl [H0] <;> iassumption
  iexists _
  rw [← h.set_eq_univ, slot_all]
  iexact H

theorem base_eq : base i = (i 0).val * 2048 + (i 1).val * 128 := by unfold base; omega

/-- The task from the core's own cells and buffers and its part of the arrays, and back. -/
theorem tile_body (O : CellTallies nD τ sig (HIx 1)) (W : Waits sig (HIx 1)) (hO : ∀ g, O g none = 0) :
    iprop(levAts (K (F := F)).L (K (F := F)).lev ∗ emp ∗ taskP v d (i 0) (i 1) (v.y d)
        ∗ scopedBufs (thr d i) ∗ scopedSems0 (thr d i) ∗ owes (thr d i) O W)
      ⊢ wp frame (wpE (defs₀ (F := F)) 𝒱₀ (thr d i) none) Set.univ
          (cc0_k i xM (Memref.isWhole_whole _) tM (Memref.isWhole_whole _) pM (Memref.isWhole_whole _) yM (Memref.isWhole_whole _)
            c6 (Memref.isWhole_whole _) c7 (Memref.isWhole_whole _) cc0_scoped0 cc0_scoped1 aI (Memref.isWhole_whole _) cc0_scoped3
            aO (Memref.isWhole_whole _) cc0_scoped5)
          fun _ => iprop(taskP v d (i 0) (i 1) (v.g d) ∗ scopedBufs (thr d i) ∗ scopedSems0 (thr d i)
            ∗ ∃ W', ⌜∀ p ∈ W', p ∈ W ∨ p.2 = none⌝ ∗ owes (thr d i) O W') := by
  have ht := tile d i xM (Memref.isWhole_whole _) tM (Memref.isWhole_whole _) pM (Memref.isWhole_whole _) yM (Memref.isWhole_whole _)
            c6 (Memref.isWhole_whole _) c7 (Memref.isWhole_whole _) cc0_scoped0 cc0_scoped1 aI (Memref.isWhole_whole _) cc0_scoped3
            aO (Memref.isWhole_whole _) cc0_scoped5 (qt (i 0) (i 1)) (v.x d) (v.y d) (v.g d) (v.t d) (v.p d) (W := W) hO (fun r c _ _ => rfl)
  rw [(K (F := F)).scopedBufs_V facts d (cV i) (jV i), SparseCore.Cfg.scopedSems0_V (Val := Elt F) d (cV i) (jV i), ownSems0_V, ownBufs_V]
  unfold tileRest srcPts rowPts inFree outFree owesW at ht
  rw [base_eq] at ht
  unfold taskP
  iintro ⟨#Hlv, -, ⟨Hx, Ht, Hp, Hy⟩, ⟨⟨H6, H7, HaI, HaO⟩, Hbufs⟩, ⟨⟨Hs0, Hs1, Hi0, Hi1, Ho0, Ho1⟩, Hsems⟩, HO⟩
  ihave HaI := (slots_of_buf d i aI (Memref.isWhole_whole _)) $$ HaI
  ihave HaO := (slots_of_buf d i aO (Memref.isWhole_whole _)) $$ HaO
  icases HaI with ⟨HI0, HI1⟩
  icases HaO with ⟨HO0, HO1⟩
  iapply (wp_wand frame _ Set.univ) $$ [Hx Ht Hp Hy H6 H7 HI0 HI1 HO0 HO1 Hs0 Hs1 Hi0 Hi1 Ho0 Ho1 HO]
  · iapply ht
    isplitr [Hx Ht Hp Hy H6 H7 HI0 HI1 HO0 HO1 Hs0 Hs1 Hi0 Hi1 Ho0 Ho1 HO]; · iexact Hlv
    isplitl [Hy]; · iexact Hy
    isplitl [Hx]; · iexact Hx
    isplitl [Ht Hp]
    · isplitl [Ht]; · iexact Ht
      iexact Hp
    isplitl [H6]; · iexact H6
    isplitl [H7]; · iexact H7
    isplitl [HI0 Hi0]
    · isplitl [HI0]; · iexact HI0
      iexact Hi0
    isplitl [HI1 Hi1]
    · isplitl [HI1]; · iexact HI1
      iexact Hi1
    isplitl [HO0 Ho0]
    · isplitl [HO0]; · iexact HO0
      iexact Ho0
    isplitl [HO1 Ho1]
    · isplitl [HO1]; · iexact HO1
      iexact Ho1
    isplitl [Hs0]; · iexact Hs0
    isplitl [Hs1]; · iexact Hs1
    iexists W; isplitr
    · ipureintro; exact fun p hp => .inl hp
    · iexact HO
  iintro %r ⟨Hy, Hx, ⟨Ht, Hp⟩, H6, H7, ⟨HI0, Hi0⟩, ⟨HI1, Hi1⟩, ⟨HO0, Ho0⟩, ⟨HO1, Ho1⟩, Hs0, Hs1, HO⟩
  isplitl [Hx Ht Hp Hy]
  · isplitl [Hx]; · iexact Hx
    isplitl [Ht]; · iexact Ht
    isplitl [Hp]; · iexact Hp
    iexact Hy
  isplitl [H6 H7 HI0 HI1 HO0 HO1 Hbufs]
  · isplitr [Hbufs]
    · isplitl [H6]; · iexact H6
      isplitl [H7]; · iexact H7
      isplitl [HI0 HI1]
      · iapply (buf_of_slots d i aI (Memref.isWhole_whole _))
        isplitl [HI0] <;> iassumption
      · iapply (buf_of_slots d i aO (Memref.isWhole_whole _))
        isplitl [HO0] <;> iassumption
    iexact Hbufs
  isplitl [Hs0 Hs1 Hi0 Hi1 Ho0 Ho1 Hsems]
  · isplitr [Hsems]
    · isplitl [Hs0]; · iexact Hs0
      isplitl [Hs1]; · iexact Hs1
      isplitl [Hi0]; · iexact Hi0
      isplitl [Hi1]; · iexact Hi1
      isplitl [Ho0]; · iexact Ho0
      iexact Ho1
    iexact Hsems
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) xM (Memref.isWhole_whole _) tM (Memref.isWhole_whole _) pM (Memref.isWhole_whole _)
          yM (Memref.isWhole_whole _) c6 (Memref.isWhole_whole _) c7 (Memref.isWhole_whole _) cc0_scoped0 cc0_scoped1 aI (Memref.isWhole_whole _) cc0_scoped3
          aO (Memref.isWhole_whole _) cc0_scoped5) ⟨⟩ c s := rfl

theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P v) v₀ 0 := by
  intro d c i O W hO _ _
  simp only [show (P v).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body v d (coordsV ⟨_, hci.1⟩ ⟨_, hci.2⟩) O W hO).trans (wp_mono frame _ _ fun _ => obl_post)

end Task

end Cert.Proof.Sc

end
-- ==== Proof.Sc.Launch.lean ====
/-
  The whole program's run: the host's operations, the call, the host's last operation; what it leaves in memory.
-/
module

public import proofs.«01_k».proof.Proof.Sc.Task
public import Idealize.ShloMosaic.Lib.Pipeline.Frame
public import Idealize.ShloMosaic.Lib.StableHlo.RunRead

@[expose] public section

set_option synthInstance.maxSize 4096

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight)

variable {F : FTy → Type} [FloatOps F]

local notation "𝕄" => MT nD τ sig (HIx 1) (Elt F) ℕ UU ℕ

open Idealize.ShloMosaic.StableHlo (held held_sub_split held_congr after seqK seq seq_bind_seqK wp_seq)

variable (m : (ℓ : Loc nD τ sig) → Buf (Elt F) ℓ) (ρ : Dev nD → PrngReg)

/-! ## The host's operations -/

/-- Before the call. -/
abbrev ops0 : List (HloOp τ sig (Elt F)) :=
  [StableHlo.reshape main_arg0 main_v0 (rfl : (.f32 : EltTy) = .f32) shapeCasts_S8388608_S4096x2048,
   StableHlo.unary main_arg2 main_v1 ((extractStridedSlice S1 ![0] · slices_S999_S1_0) : (⟨S999, .f32⟩ : BufTy).Contents (Elt F) → (⟨S1, .f32⟩ : BufTy).Contents (Elt F)),
   StableHlo.reshape main_v1 main_v2 (rfl : (.f32 : EltTy) = .f32) shapeCasts_S1_S_,
   StableHlo.unary main_arg2 main_v3 ((extractStridedSlice S1 ![998] · slices_S999_S1_998) : (⟨S999, .f32⟩ : BufTy).Contents (Elt F) → (⟨S1, .f32⟩ : BufTy).Contents (Elt F)),
   StableHlo.reshape main_v3 main_v4 (rfl : (.f32 : EltTy) = .f32) shapeCasts_S1_S_,
   StableHlo.unary main_arg2 main_v5 ((extractStridedSlice S1 ![0] · slices_S999_S1_0) : (⟨S999, .f32⟩ : BufTy).Contents (Elt F) → (⟨S1, .f32⟩ : BufTy).Contents (Elt F)),
   StableHlo.reshape main_v5 main_v6 (rfl : (.f32 : EltTy) = .f32) shapeCasts_S1_S_,
   StableHlo.binary main_v4 main_v6 main_v7 (subf : (⟨S_, .f32⟩ : BufTy).Contents (Elt F) → (⟨S_, .f32⟩ : BufTy).Contents (Elt F) → (⟨S_, .f32⟩ : BufTy).Contents (Elt F)),
   StableHlo.nullary main_cst (constant S_ .f32 0x44798000#32),
   StableHlo.binary main_cst main_v7 main_v8 (Host.divf : (⟨S_, .f32⟩ : BufTy).Contents (Elt F) → (⟨S_, .f32⟩ : BufTy).Contents (Elt F) → (⟨S_, .f32⟩ : BufTy).Contents (Elt F)),
   StableHlo.unary main_v2 main_v9 (broadcastInDim S16 ![] bcast_S_S16 : (⟨S_, .f32⟩ : BufTy).Contents (Elt F) → (⟨S16, .f32⟩ : BufTy).Contents (Elt F)),
   StableHlo.unary main_v8 main_v10 (broadcastInDim S16 ![] bcast_S_S16 : (⟨S_, .f32⟩ : BufTy).Contents (Elt F) → (⟨S16, .f32⟩ : BufTy).Contents (Elt F)),
   StableHlo.unary main_v9 main_v11 (broadcastInDim S1x16 ![1] bcast_S16_S1x16_1 : (⟨S16, .f32⟩ : BufTy).Contents (Elt F) → (⟨S1x16, .f32⟩ : BufTy).Contents (Elt F)),
   StableHlo.unary main_v10 main_v12 (broadcastInDim S1x16 ![1] bcast_S16_S1x16_1 : (⟨S16, .f32⟩ : BufTy).Contents (Elt F) → (⟨S1x16, .f32⟩ : BufTy).Contents (Elt F)),
   StableHlo.binary main_v11 main_v12 main_v13 ((fun a b => concatenate S2x16 0 [⟨S1x16, a⟩, ⟨S1x16, b⟩] concatenates_S1x16_S1x16_S2x16_d0) : (⟨S1x16, .f32⟩ : BufTy).Contents (Elt F) → (⟨S1x16, .f32⟩ : BufTy).Contents (Elt F) → (⟨S2x16, .f32⟩ : BufTy).Contents (Elt F))]
/-- After it. -/
abbrev ops1 : List (HloOp τ sig (Elt F)) :=
  [StableHlo.reshape main_v14 main_v15 (rfl : (.f32 : EltTy) = .f32) shapeCasts_S4096x2048_S8388608]

theorem main_eq (d : Dev nD) : (main d : Prog (TpuEff nD τ sig (Elt F) (SparseCore.Sig (Pipeline.Sig Λ₀ (Fin 0) fun p => (pcfgs (F := F) p).Adm) 1) .tc) PUnit)
    = (seq ops0 >>= fun _ => (K (F := F)).run d 0 >>= fun _ => (seq ops1 >>= fun _ => pure ⟨⟩)) := by
  rw [seq_bind_seqK, seq_bind_seqK]; rfl

theorem ops0_sub : ∀ op ∈ (ops0 : List (HloOp τ sig (Elt F))), op.bufs ⊆ Pipeline.ucRefs τ sig := by
  intro op hop
  refine Pipeline.sub_ucRefs op ?_
  revert op hop
  simp only [List.forall_mem_cons, List.not_mem_nil, false_imp_iff, implies_true, and_true, StableHlo.nullary_bufs, StableHlo.unary_bufs, StableHlo.binary_bufs, StableHlo.reshape_bufs]
  refine ⟨?_, ?_, ?_, ?_, ?_, ?_, ?_, ?_, ?_, ?_, ?_, ?_, ?_, ?_, ?_⟩ <;> (intro b hb; simp only [Finset.mem_insert, Finset.mem_singleton] at hb) <;>
    first | (rcases hb with rfl | rfl | rfl <;> exact StableHlo.devRef_mem_tcRefs _) | (rcases hb with rfl | rfl <;> exact StableHlo.devRef_mem_tcRefs _) | (subst hb; exact StableHlo.devRef_mem_tcRefs _)
theorem ops1_sub : ∀ op ∈ (ops1 : List (HloOp τ sig (Elt F))), op.bufs ⊆ Pipeline.ucRefs τ sig := by
  intro op hop
  refine Pipeline.sub_ucRefs op ?_
  rw [List.mem_singleton.mp hop, StableHlo.reshape_bufs]
  intro b hb; simp only [Finset.mem_insert, Finset.mem_singleton] at hb
  rcases hb with rfl | rfl <;> exact StableHlo.devRef_mem_tcRefs _
theorem ops0_fresh : ∀ op ∈ (ops0 : List (HloOp τ sig (Elt F))), op.fresh = ∅ := by
  intro op h; repeat (cases h with | head => rfl | tail _ h => ?_)
  exact nomatch h
theorem ops1_fresh : ∀ op ∈ (ops1 : List (HloOp τ sig (Elt F))), op.fresh = ∅ := by
  intro op h; repeat (cases h with | head => rfl | tail _ h => ?_)
  exact nomatch h

/-! ## The contents along the way -/

abbrev x' : DevRef τ sig := Proc.devRef .tc (main_v0 : Ref sig .tc)
abbrev t' : DevRef τ sig := Proc.devRef .tc (main_arg1 : Ref sig .tc)
abbrev p' : DevRef τ sig := Proc.devRef .tc (main_v13 : Ref sig .tc)
abbrev y' : DevRef τ sig := Proc.devRef .tc (main_v14 : Ref sig .tc)
abbrev S4 : Finset (DevRef τ sig) := {x', t', p', y'}

def V0 (d : Dev nD) : Valuation τ sig (Elt F) := fun b => m (d, b)
def Vb (d : Dev nD) : Valuation τ sig (Elt F) := after ops0 (V0 m d)
def vals : Vals F := ⟨fun d => Vb m d x', fun d => Vb m d t', fun d => Vb m d p', fun d => Vb m d y'⟩
def Ve (d : Dev nD) : Valuation τ sig (Elt F) := Function.update (Vb m d) y' ((vals m).g d)
def Vf (d : Dev nD) : Valuation τ sig (Elt F) := after ops1 (Ve m d)

theorem S4_sub : S4 ⊆ Pipeline.ucRefs τ sig := by
  intro b hb
  simp only [Finset.mem_insert, Finset.mem_singleton] at hb
  rcases hb with rfl | rfl | rfl | rfl <;> exact Finset.mem_filter.mpr ⟨StableHlo.devRef_mem_tcRefs _, by decide⟩

theorem held_S4 (d : Dev nD) (V : Valuation τ sig (Elt F)) :
    (held (T d) S4 V : sProp 𝕄) = iprop((xLoc d ↦{fullShare} V x') ∗ (tLoc d ↦{fullShare} V t') ∗ (pLoc d ↦{fullShare} V p') ∗ yLoc d ↦{fullShare} V y') := by
  unfold held S4
  rw [SparseCore.bigSep_insert' (by decide), SparseCore.bigSep_insert' (by decide), SparseCore.bigSep_insert' (by decide), bigSep_singleton]

theorem held_Vb (d : Dev nD) : (held (T d) S4 (Vb m d) : sProp 𝕄) = bigSep Finset.univ fun c : Fin ((K (F := F)).nCore 0) => (P (vals m)).st 0 d c := by
  rw [held_S4]; exact wholeP_cores (vals m) d _
theorem held_Ve (d : Dev nD) : (held (T d) S4 (Ve m d) : sProp 𝕄) = bigSep Finset.univ fun c : Fin ((K (F := F)).nCore 0) => (P (vals m)).dn 0 d c := by
  rw [held_S4, show Ve m d x' = Vb m d x' from Function.update_of_ne (by decide) _ _, show Ve m d t' = Vb m d t' from Function.update_of_ne (by decide) _ _,
    show Ve m d p' = Vb m d p' from Function.update_of_ne (by decide) _ _, show Ve m d y' = (vals m).g d from Function.update_self _ _ _]
  exact wholeP_cores (vals m) d _
theorem held_rest (d : Dev nD) : (held (T d) (Pipeline.ucRefs τ sig \ S4) (Vb m d) : sProp 𝕄) = held (T d) (Pipeline.ucRefs τ sig \ S4) (Ve m d) :=
  held_congr _ fun b hb => (Function.update_of_ne (fun e => (Finset.mem_sdiff.mp hb).2 (by rw [e]; simp)) _ _).symm

/-! ## The launch -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ (v : Vals F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P v).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P v).x q thr) = bigSep Finset.univ fun _ => iprop(emp) from
    bigSep_congr fun _ _ => bigSep_univ_of_subsingleton (0 : Fin 1), bigSep_emp']
  iempintro

abbrev FIN (d : Dev nD) : sProp 𝕄 := held (T d) (Pipeline.ucRefs τ sig) (Vf m d)

/-- The TensorCore's program. -/
theorem hmain (κ : GSem nD τ sig → ℕ) (d : Dev nD) :
    iprop((K (F := F)).ctx EH (P (vals m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  have hu : (unscopedBufs d (fun b => m ((SparseCore.T d).loc b)) : sProp 𝕄) = held (T d) (Pipeline.ucRefs τ sig) (V0 m d) :=
    Pipeline.unscopedBufs_held d (V0 m d)
  unfold SparseCore.Cfg.tcRes SparseCore.Cfg.tcEnd
  rw [hu, main_eq]
  iintro ⟨#Hctx, Hst, ⟨Hb, Hheld, Hts, -⟩, -⟩
  iapply (wp_seq 𝒱 none Set.univ d (Pipeline.ucRefs τ sig) _ ops0 ops0_sub ops0_fresh (V0 m d)) $$ [Hb Hheld]
  · isplitl [Hb] <;> iassumption
  iintro ⟨Hb, Hheld⟩
  ihave Hheld := (Entails.of_eq (show (held (T d) (Pipeline.ucRefs τ sig) (after ops0 (V0 m d)) : sProp 𝕄)
    = iprop((bigSep Finset.univ fun c : Fin ((K (F := F)).nCore 0) => (P (vals m)).st 0 d c) ∗ held (T d) (Pipeline.ucRefs τ sig \ S4) (Ve m d)) by
      rw [← held_Vb, ← held_rest]; exact held_sub_split _ S4_sub (Vb m d))) $$ Hheld
  icases Hheld with ⟨H4, Hrest⟩
  rw [wp_bind]
  iapply ((K (F := F)).wp_run (D (F := F)) 𝒱 (EH := EH) (P := P (vals m)) κ d 0) $$ [Hst H4 Hrest Hb Hts]
  isplitr; · iexact Hctx
  isplitl [Hst]; · iexact Hst
  isplitl [H4]; · iexact H4
  iintro ⟨Hst, Hdn⟩
  ihave Hheld := (Entails.of_eq (show iprop((bigSep Finset.univ fun c : Fin ((K (F := F)).nCore 0) => (P (vals m)).dn 0 d c) ∗ held (T d) (Pipeline.ucRefs τ sig \ S4) (Ve m d))
    = (held (T d) (Pipeline.ucRefs τ sig) (Ve m d) : sProp 𝕄) by
      rw [← held_Ve]; exact (held_sub_split _ S4_sub (Ve m d)).symm)) $$ [Hdn Hrest]
  · isplitl [Hdn] <;> iassumption
  iapply (wp_seq 𝒱 none Set.univ d (Pipeline.ucRefs τ sig) _ ops1 ops1_sub ops1_fresh (Ve m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop := ∀ b ∈ Pipeline.ucRefs τ sig, s'.mem.mem (d, b) = Vf m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- What every final state satisfies. -/
def QC : PUnit × MemSt nD τ sig (Elt F) → Prop := fun r => (∀ (c : Dev nD), ∀ b ∈ Pipeline.ucRefs τ sig, r.2.mem (c, b) = Vf m c b) ∧ r.2.sem = fun _ => 0

theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P (vals m)) (A := ∅) facts v₀
    (fun q hq => match q with | 0 => nomatch hq)
    (fun q _ => match q with | 0 => tileObl (vals m))
    (fun q _ => match q with | 0 => SparseCore.Cfg.VecSplit.of_plain (vecSplit (vals m)))
    m ρ main (fun _ => iprop(emp)) (FIN m) (u₀ (F := F)) (sep_elim_left.trans (hu₀ (vals m))) (hmain m ρ) (fq m) (hfin m) (QC m) (fun _ h hz => ⟨h, hz⟩)

/-! ## What the run leaves -/

theorem mem_uc (r : Ref sig .tc) (h : r.isScoped = false) : (Proc.devRef .tc r : DevRef τ sig) ∈ Pipeline.ucRefs τ sig :=
  Finset.mem_filter.mpr ⟨StableHlo.devRef_mem_tcRefs _, by rw [show (Proc.devRef .tc r : DevRef τ sig).isScoped = r.isScoped from rfl, h]; exact Bool.false_ne_true⟩

theorem Vf_arg0 (d : Dev nD) : Vf m d (Proc.devRef .tc main_arg0) = m (d, Proc.devRef .tc main_arg0) := by
  unfold Vf
  after_reads_simp
  rw [show Ve m d (Proc.devRef .tc main_arg0) = Vb m d (Proc.devRef .tc main_arg0) from Function.update_of_ne (by decide) _ _]
  unfold Vb
  after_reads_simp
  rfl
theorem Vf_arg1 (d : Dev nD) : Vf m d (Proc.devRef .tc main_arg1) = m (d, Proc.devRef .tc main_arg1) := by
  unfold Vf
  after_reads_simp
  rw [show Ve m d (Proc.devRef .tc main_arg1) = Vb m d (Proc.devRef .tc main_arg1) from Function.update_of_ne (by decide) _ _]
  unfold Vb
  after_reads_simp
  rfl
theorem Vf_arg2 (d : Dev nD) : Vf m d (Proc.devRef .tc main_arg2) = m (d, Proc.devRef .tc main_arg2) := by
  unfold Vf
  after_reads_simp
  rw [show Ve m d (Proc.devRef .tc main_arg2) = Vb m d (Proc.devRef .tc main_arg2) from Function.update_of_ne (by decide) _ _]
  unfold Vb
  after_reads_simp
  rfl

end Cert.Proof.Sc

end
-- ==== Proof.Sc.Count.lean ====
/-
  Over the extended reals the encode kernel's bin index is the number of boundaries below the element, when the boundaries
  are evenly spaced and the element lies no more than two million grid widths above the first.
-/
module

public import proofs.«01_k».proof.Proof.Sc.Bin
public import Idealize.ShloMosaic.PureOps.Ideal.Laws

@[expose] public section

noncomputable section

namespace Cert.Proof.Sc

open Idealize.ShloMosaic Idealize.ShloMosaic.ValueIdx

/-! ## The clip, as integers -/

theorem clip_toNat (v : BitVec 32) : (IntOp.minsi 999#32 (IntOp.maxsi 0#32 v)).toNat = (min 999 (max 0 v.toInt)).toNat := by
  simp only [IntOp.minsi, IntOp.maxsi, BitVec.slt_eq_decide, decide_eq_true_eq, BitVec.toInt_eq_toNat_cond]
  have h0 : (0#32 : BitVec 32).toNat = 0 := rfl
  have h9 : (999#32 : BitVec 32).toNat = 999 := rfl
  have hv := v.isLt
  split_ifs <;> simp only [h0, h9] at * <;> omega

theorem toInt_ofInt_of_mem (z : ℤ) (h0 : -2147483648 ≤ z) (h1 : z ≤ 2147483647) : (BitVec.ofInt 32 z).toInt = z := by
  rw [BitVec.toInt_ofInt]
  exact Int.bmod_eq_of_le (by omega) (by omega)

theorem toInt_addi_bit (z : ℤ) (c : BitVec 1) (h0 : -2147483648 ≤ z) (h1 : z ≤ 2000000000) :
    (IntOp.addi (BitVec.ofInt 32 z) (Scalar.select c 1#32 0#32)).toInt = z + if c = 1#1 then 1 else 0 := by
  show (BitVec.ofInt 32 z + Scalar.select c 1#32 0#32).toInt = _
  rw [BitVec.toInt_add, toInt_ofInt_of_mem z h0 (by omega)]
  rcases BitVec.eq_zero_or_eq_one c with rfl | rfl
  · show Int.bmod (z + 0) _ = z + 0
    exact Int.bmod_eq_of_le (by omega) (by omega)
  · show Int.bmod (z + 1) _ = z + 1
    exact Int.bmod_eq_of_le (by omega) (by omega)

theorem cmp_gt (x y : EReal) : Ideal.cmp .ogt x y = 1#1 ↔ y < x := by
  unfold Ideal.cmp
  by_cases h : y < x <;> simp [h]

/-! ## The index for a scaled distance -/

/-- The index that a scaled distance gets. -/
def idxOf (t : Ideal .f32) : BitVec 32 :=
  IntOp.minsi 999#32 (IntOp.maxsi 0#32 (IntOp.addi (FloatOps.fptosi 32 t)
    (Scalar.select (FloatOps.cmpf .ogt t (FloatOps.sitofp .f32 (FloatOps.fptosi 32 t))) 1#32 0#32)))

theorem idxOf_real (t : ℝ) (ht : t ≤ 1996000000) : (idxOf ((t : EReal) : Ideal .f32)).toNat = min 999 ⌈t⌉₊ := by
  have hf : FloatOps.fptosi (F := Ideal) (φ := .f32) 32 (t : EReal)
      = BitVec.ofInt 32 (max (-2147483648) (min 2147483647 (if 0 ≤ t then ⌊t⌋ else ⌈t⌉))) := rfl
  set z : ℤ := max (-2147483648) (min 2147483647 (if 0 ≤ t then ⌊t⌋ else ⌈t⌉)) with hz
  have hfl : ⌊t⌋ ≤ 1996000000 := by
    have h := (Int.floor_le t).trans ht
    exact_mod_cast h
  have hlo : -2147483648 ≤ z := le_max_left _ _
  have hhi : z ≤ 2000000000 := by
    refine max_le (by norm_num) ((min_le_right _ _).trans ?_)
    split_ifs with h
    · exact hfl.trans (by norm_num)
    · exact (Int.ceil_le.mpr (by push_cast; linarith [not_le.mp h])).trans (by norm_num : (0 : ℤ) ≤ 2000000000)
  have hs : FloatOps.sitofp (F := Ideal) .f32 (BitVec.ofInt 32 z) = (((z : ℝ)) : EReal) := by
    show ((((BitVec.ofInt 32 z).toInt : ℝ)) : EReal) = _
    rw [toInt_ofInt_of_mem z hlo (by omega)]
  have hc : (FloatOps.cmpf (F := Ideal) (φ := .f32) .ogt (t : EReal) (FloatOps.sitofp (F := Ideal) .f32 (BitVec.ofInt 32 z)) : BitVec 1) = 1#1 ↔ (z : ℝ) < t := by
    rw [hs]
    exact (cmp_gt _ _).trans EReal.coe_lt_coe_iff
  unfold idxOf
  rw [hf, clip_toNat, toInt_addi_bit z _ hlo hhi]
  by_cases h0 : 0 ≤ t
  · have hzt : z = ⌊t⌋ := by
      rw [hz, if_pos h0, min_eq_right (by omega), max_eq_right]
      have : (0 : ℤ) ≤ ⌊t⌋ := Int.floor_nonneg.mpr h0
      omega
    have hcl : (z + if (FloatOps.cmpf (F := Ideal) (φ := .f32) .ogt (t : EReal) (FloatOps.sitofp (F := Ideal) .f32 (BitVec.ofInt 32 z)) : BitVec 1) = 1#1 then 1 else 0) = ⌈t⌉ := by
      symm
      rw [Int.ceil_eq_iff]
      by_cases hlt : (z : ℝ) < t
      · rw [if_pos (hc.mpr hlt), hzt]
        push_cast
        rw [hzt] at hlt
        exact ⟨by linarith, by linarith [Int.lt_floor_add_one t]⟩
      · rw [if_neg (fun h => hlt (hc.mp h))]
        have h1 : (z : ℝ) = t := le_antisymm (by rw [hzt]; exact Int.floor_le t) (not_lt.mp hlt)
        push_cast
        exact ⟨by linarith, by linarith⟩
    rw [hcl, ← Int.natCast_ceil_eq_ceil h0]
    omega
  · have h0' : t < 0 := not_le.mp h0
    have hce : ⌈t⌉ ≤ 0 := Int.ceil_le.mpr (by push_cast; linarith)
    have hzle : z ≤ 0 := by
      rw [hz, if_neg h0]
      exact max_le (by norm_num) ((min_le_right _ _).trans hce)
    have htz : t ≤ (z : ℝ) := by
      have h1 : ⌈t⌉ ≤ z := by
        rw [hz, if_neg h0, min_eq_right (by omega)]
        exact le_max_right _ _
      exact (Int.le_ceil t).trans (by exact_mod_cast h1)
    rw [if_neg (fun h => absurd (hc.mp h) (not_lt.mpr htz)), Nat.ceil_eq_zero.mpr h0'.le]
    omega

theorem idxOf_bot : (idxOf ((⊥ : EReal) : Ideal .f32)).toNat = 0 := by
  have hf : FloatOps.fptosi (F := Ideal) (φ := .f32) 32 (⊥ : EReal) = BitVec.ofInt 32 (-2147483648) := rfl
  have hc : ¬ (FloatOps.cmpf (F := Ideal) (φ := .f32) .ogt (⊥ : EReal) (FloatOps.sitofp (F := Ideal) .f32 (BitVec.ofInt 32 (-2147483648))) : BitVec 1) = 1#1 := by
    intro h
    exact absurd ((cmp_gt _ _).mp h) not_lt_bot
  unfold idxOf
  rw [hf, clip_toNat, toInt_addi_bit _ _ le_rfl (by norm_num), if_neg hc]
  rfl

theorem card_lt_real (t : ℝ) : (Finset.univ.filter fun j : Fin 999 => ((j.val : ℕ) : ℝ) < t).card = min 999 ⌈t⌉₊ := by
  have h : (Finset.univ.filter fun j : Fin 999 => ((j.val : ℕ) : ℝ) < t) = Finset.univ.filter fun j : Fin 999 => j.val < ⌈t⌉₊ := by
    refine Finset.filter_congr fun j _ => ?_
    exact Nat.lt_ceil.symm
  rw [h, Fin.card_filter_val_lt]

/-! ## The number of boundaries below -/

theorem bin_count (b : Fin 999 → EReal) (x : EReal)
    (hb : ∀ j, b j * (998 : ℝ) = b 0 * (998 : ℝ) + ((j.val : ℝ) : EReal) * (b 998 - b 0))
    (hw0 : 0 < b 998 - b 0) (hw1 : b 998 - b 0 < ⊤)
    (hx : x - b 0 ≤ (2000000 : ℝ) * (b 998 - b 0)) :
    (binOf (F := Ideal) (b 0) (Ideal.div (998 : ℝ) (b 998 - b 0)) x).toNat = (Finset.univ.filter fun j => b j < x).card := by
  have hb0t : b 0 ≠ ⊤ := fun h => by rw [h, EReal.sub_top] at hw0; exact absurd hw0 not_lt_bot
  have hb0b : b 0 ≠ ⊥ := fun h => by
    rw [h] at hw0 hw1
    have hb9 : b 998 ≠ ⊥ := fun h9 => by rw [h9, EReal.bot_sub] at hw0; exact absurd hw0 not_lt_bot
    rw [EReal.sub_bot hb9] at hw1
    exact absurd hw1 (lt_irrefl _)
  generalize hw : b 998 - b 0 = w at *
  lift w to ℝ using ⟨hw1.ne, (bot_lt_iff_ne_bot.mp (lt_trans EReal.bot_lt_zero hw0))⟩
  generalize hr : b 0 = r at *
  lift r to ℝ using ⟨hb0t, hb0b⟩
  have hwp : 0 < w := by exact_mod_cast hw0
  have hbj : ∀ j, b j = ((r + (j.val : ℝ) * w / 998 : ℝ) : EReal) := by
    intro j
    have h := hb j
    generalize b j = y at h
    rw [← EReal.coe_mul, ← EReal.coe_mul, ← EReal.coe_add] at h
    induction y with
    | bot => rw [EReal.bot_mul_coe_of_pos (by norm_num)] at h; exact absurd h.symm (EReal.coe_ne_bot _)
    | top => rw [EReal.top_mul_coe_of_pos (by norm_num)] at h; exact absurd h.symm (EReal.coe_ne_top _)
    | coe y =>
      rw [← EReal.coe_mul, EReal.coe_eq_coe_iff] at h
      rw [EReal.coe_eq_coe_iff]
      linarith
  have hdiv : Ideal.div ((998 : ℝ) : EReal) (w : EReal) = ((998 / w : ℝ) : EReal) := by
    unfold Ideal.div
    rw [if_neg (by exact_mod_cast hwp.ne'), ← EReal.coe_inv, ← EReal.coe_mul, div_eq_mul_inv]
  have hpos : 0 < 998 / w := div_pos (by norm_num) hwp
  rw [hdiv]
  show (idxOf ((x - (r : EReal)) * ((998 / w : ℝ) : EReal))).toNat = _
  induction x with
  | bot =>
    rw [EReal.bot_sub, EReal.bot_mul_coe_of_pos hpos, idxOf_bot]
    symm
    rw [Finset.card_eq_zero, Finset.filter_eq_empty_iff]
    exact fun _ _ => not_lt_bot
  | top =>
    rw [EReal.top_sub_coe, ← EReal.coe_mul, top_le_iff] at hx
    exact absurd hx (EReal.coe_ne_top _)
  | coe x =>
    rw [← EReal.coe_sub, ← EReal.coe_mul]
    rw [← EReal.coe_sub, ← EReal.coe_mul, EReal.coe_le_coe_iff] at hx
    have ht : (x - r) * (998 / w) ≤ 1996000000 := by
      rw [mul_div_assoc', div_le_iff₀ hwp]
      linarith
    rw [idxOf_real _ ht, ← card_lt_real]
    congr 1
    refine Finset.filter_congr fun j _ => ?_
    rw [hbj j, EReal.coe_lt_coe_iff, mul_div_assoc', lt_div_iff₀ hwp]
    constructor <;> intro h <;> linarith

end Cert.Proof.Sc

end
-- ==== Proof.Sc.Ref.lean ====
/-
  What the reference computes at one element, and what the precondition says of the arguments, over the extended reals.
-/
module

public import proofs.«01_k».proof.ReferenceIdeal
public import proofs.«01_k».proof.Pre_even_grid
public import proofs.«01_k».proof.Proof.Gen.ReferenceIdeal
public import proofs.«01_k».proof.Proof.Gen.ReferenceIdeal.Run
public import proofs.«01_k».proof.Proof.Gen.Pre_even_grid
public import Idealize.ShloMosaic.Lib.StableHlo.Predicate
public import Idealize.ShloMosaic.Lib.ReduceAll
public import Idealize.ShloMosaic.PureOps.Ideal.Laws

@[expose] public section

noncomputable section

namespace Cert.Proof.Sc

open Idealize.ShloMosaic Idealize.ShloMosaic.StableHlo.Predicate

/-! ## The precondition -/

theorem andi_one {a b : BitVec 1} (h : IntOp.andi a b = 1#1) : a = 1#1 ∧ b = 1#1 := by
  rcases BitVec.eq_zero_or_eq_one a with rfl | rfl <;> rcases BitVec.eq_zero_or_eq_one b with rfl | rfl <;> revert h <;> decide

theorem select_one {α : Type} {c : BitVec 1} (h : c = 1#1) (a b : α) : Scalar.select c a b = a := by subst h; rfl
theorem select_ne {α : Type} {c : BitVec 1} (h : c ≠ 1#1) (a b : α) : Scalar.select c a b = b := if_neg h

theorem cmp_eq_iff (x y : EReal) : Ideal.cmp .oeq x y = 1#1 ↔ x = y := by
  unfold Ideal.cmp
  by_cases h : x = y <;> simp [h]
theorem cmp_le_iff (x y : EReal) : Ideal.cmp .ole x y = 1#1 ↔ x ≤ y := by
  unfold Ideal.cmp
  by_cases h : x ≤ y <;> simp [h]
theorem cmp_lt_iff (x y : EReal) : Ideal.cmp .olt x y = 1#1 ↔ x < y := by
  unfold Ideal.cmp
  by_cases h : x < y <;> simp [h]
theorem cmp_gt_iff (x y : EReal) : Ideal.cmp .ogt x y = 1#1 ↔ y < x := by
  unfold Ideal.cmp
  by_cases h : y < x <;> simp [h]

theorem lit_998 : Ideal.ofBits .f32 0x44798000#32 = ((998 : ℝ) : EReal) := by
  simp [Ideal.ofBits, Ideal.ieee]; norm_num; rw [← EReal.coe_mul, EReal.coe_eq_coe_iff]; norm_num
theorem lit_2e6 : Ideal.ofBits .f32 0x49F42400#32 = ((2000000 : ℝ) : EReal) := by
  simp [Ideal.ofBits, Ideal.ieee]; norm_num; rw [← EReal.coe_mul, EReal.coe_eq_coe_iff]; norm_num
theorem lit_inf : Ideal.ofBits .f32 0x7F800000#32 = (⊤ : EReal) := by
  simp [Ideal.ofBits, Ideal.ieee]

theorem idx1_eq {n : Nat} (j : (⟨1, ![n]⟩ : Shape).Idx) (k : Fin n) (h : (j 0).val = k.val) : j = Shape.Idx.ofFin k := by
  rw [Shape.Idx.eq_ofFin j]
  exact congrArg _ (Fin.ext h)

/-- The element at position `k` of a vector of boundaries, as the program takes it out. -/
theorem pick {α : Type} {o : Nat} (B : (⟨1, ![999]⟩ : Shape).Idx → α) (hs : (⟨1, ![999]⟩ : Shape).Slices ![o] ⟨1, ![1]⟩)
    (hc : (⟨1, ![1]⟩ : Shape).ShapeCasts ⟨0, ![]⟩) (j : (⟨0, ![]⟩ : Shape).Idx) (k : Fin 999) (hk : k.val = o) :
    shapeCast ⟨0, ![]⟩ (extractStridedSlice ⟨1, ![1]⟩ ![o] B hs) hc j = B (Shape.Idx.ofFin k) := by
  unfold shapeCast extractStridedSlice
  refine congrArg B (idx1_eq _ _ ?_)
  show o + _ = k.val
  have h1 := (Shape.reshapeEquiv hc j (0 : Fin 1)).isLt
  change _ < 1 at h1
  show o + (Shape.reshapeEquiv hc j (0 : Fin 1)).val = k.val
  omega

instance : Subsingleton Cert.Pre_even_grid.S_.Idx := ⟨fun a b => funext fun i => i.elim0⟩

open Cert.Pre_even_grid in
theorem pre_facts (x : FVec Ideal S8388608 .f32) (T : FVec Ideal S1024 .f32) (B : FVec Ideal S999 .f32)
    (h : Cert.Pre_even_grid.fn (F := Ideal) x T B = fun _ => 1#1) :
    let b : Fin 999 → EReal := fun j => B (Shape.Idx.ofFin j)
    (∀ j, b j * (998 : ℝ) = b 0 * (998 : ℝ) + ((j.val : ℝ) : EReal) * (b 998 - b 0))
      ∧ 0 < b 998 - b 0 ∧ b 998 - b 0 < ⊤
      ∧ ∀ n, x (Shape.Idx.ofFin n) - b 0 ≤ (2000000 : ℝ) * (b 998 - b 0) := by
  intro b
  have e0 : ∀ j, shapeCast S_ (extractStridedSlice S1 ![0] B Facts.slices_S999_S1_0) Facts.shapeCasts_S1_S_ j = b 0 := fun j => pick B _ _ j 0 rfl
  have e1 : ∀ j, shapeCast S_ (extractStridedSlice S1 ![998] B Facts.slices_S999_S1_998) Facts.shapeCasts_S1_S_ j = b 998 := fun j => pick B _ _ j 998 rfl
  have h' := congrFun h (Shape.Idx.first Facts.h_S_)
  unfold Cert.Pre_even_grid.fn Cert.Pre_even_grid.fn_part1 at h'
  obtain ⟨h', hinf⟩ := andi_one h'
  obtain ⟨h', hpos⟩ := andi_one h'
  obtain ⟨hev, hnear⟩ := andi_one h'
  have hev' := fun j : Fin 999 => Host.reduce_andi_all _ _ _ _ _ hev (Shape.Idx.ofFin j)
  have hnear' := fun n : Fin 8388608 => Host.reduce_andi_all _ _ _ _ _ hnear (Shape.Idx.ofFin n)
  clear hev hnear h' h
  refine ⟨fun j => ?_, ?_, ?_, fun n => ?_⟩
  · have := (cmp_eq_iff _ _).mp (hev' j)
    simp only [mulf, addf, subf, sitofp, bcast_scalar _ Facts.h_S_, e0, e1, constant] at this
    change b j * Ideal.ofBits .f32 0x44798000#32 = b 0 * Ideal.ofBits .f32 0x44798000#32
      + (((BitVec.ofNat 32 j.val).toInt : ℝ) : EReal) * (b 998 - b 0) at this
    rw [lit_998, toInt_ofNat_small _ (by omega)] at this
    exact_mod_cast this
  · have := (cmp_gt_iff _ _).mp hpos
    simp only [subf, e0, e1, constant] at this
    change Ideal.ofBits .f32 0x00000000#32 < b 998 - b 0 at this
    rwa [Ideal.ofBits_zero_f32] at this
  · have := (cmp_lt_iff _ _).mp hinf
    simp only [subf, e0, e1, constant] at this
    change b 998 - b 0 < Ideal.ofBits .f32 0x7F800000#32 at this
    rwa [lit_inf] at this
  · have := (cmp_le_iff _ _).mp (hnear' n)
    simp only [mulf, subf, bcast_scalar _ Facts.h_S_, e0, e1, constant] at this
    change x (Shape.Idx.ofFin n) - b 0 ≤ Ideal.ofBits .f32 0x49F42400#32 * (b 998 - b 0) at this
    rwa [lit_2e6] at this

/-! ## The reference -/

/-- The number of boundaries below an element. -/
def below (b : Fin 999 → EReal) (x : EReal) : ℕ := (Finset.univ.filter fun j => b j < x).card

theorem below_le (b : Fin 999 → EReal) (x : EReal) : below b x ≤ 999 := by
  unfold below
  exact (Finset.card_le_univ _).trans (by simp)

open Cert.ReferenceIdeal Cert.ReferenceIdeal.Gen in
/-- The reference's result as a function of the arguments. -/
def refTerm (x : FVec Ideal S8388608 .f32) (T : FVec Ideal S1024 .f32) (B : FVec Ideal S999 .f32) : FVec Ideal S8388608 .f32 :=
  select (Host.reduce IntOp.andi (andi (cmpi .sge (broadcastInDim S8388608x1 ![0] bcast_S8388608_S8388608x1_0 (select (cmpi .slt (Host.reduce IntOp.addi (extui 32 (cmpf .olt (broadcastInDim S8388608x999 ![0, 1] bcast_S1x999_S8388608x999_0_1 (broadcastInDim S1x999 ![1] bcast_S999_S1x999_1 B)) (broadcastInDim S8388608x999 ![0, 1] bcast_S8388608x1_S8388608x999_0_1 (broadcastInDim S8388608x1 ![0] bcast_S8388608_S8388608x1_0 x))) natLt_1_32) (constantI S_ 32 0#32) reducesTo_S8388608x999_S8388608_d1 h_S_) (broadcastInDim S8388608 ![] bcast_S_S8388608 (constantI S_ 32 0#32))) (addi (Host.reduce IntOp.addi (extui 32 (cmpf .olt (broadcastInDim S8388608x999 ![0, 1] bcast_S1x999_S8388608x999_0_1 (broadcastInDim S1x999 ![1] bcast_S999_S1x999_1 B)) (broadcastInDim S8388608x999 ![0, 1] bcast_S8388608x1_S8388608x999_0_1 (broadcastInDim S8388608x1 ![0] bcast_S8388608_S8388608x1_0 x))) natLt_1_32) (constantI S_ 32 0#32) reducesTo_S8388608x999_S8388608_d1 h_S_) (broadcastInDim S8388608 ![] bcast_S_S8388608 (constantI S_ 32 1024#32))) (Host.reduce IntOp.addi (extui 32 (cmpf .olt (broadcastInDim S8388608x999 ![0, 1] bcast_S1x999_S8388608x999_0_1 (broadcastInDim S1x999 ![1] bcast_S999_S1x999_1 B)) (broadcastInDim S8388608x999 ![0, 1] bcast_S8388608x1_S8388608x999_0_1 (broadcastInDim S8388608x1 ![0] bcast_S8388608_S8388608x1_0 x))) natLt_1_32) (constantI S_ 32 0#32) reducesTo_S8388608x999_S8388608_d1 h_S_))) (broadcastInDim S8388608x1 ![] bcast_S_S8388608x1 (constantI S_ 32 0#32))) (cmpi .sle (broadcastInDim S8388608x1 ![0] bcast_S8388608_S8388608x1_0 (select (cmpi .slt (Host.reduce IntOp.addi (extui 32 (cmpf .olt (broadcastInDim S8388608x999 ![0, 1] bcast_S1x999_S8388608x999_0_1 (broadcastInDim S1x999 ![1] bcast_S999_S1x999_1 B)) (broadcastInDim S8388608x999 ![0, 1] bcast_S8388608x1_S8388608x999_0_1 (broadcastInDim S8388608x1 ![0] bcast_S8388608_S8388608x1_0 x))) natLt_1_32) (constantI S_ 32 0#32) reducesTo_S8388608x999_S8388608_d1 h_S_) (broadcastInDim S8388608 ![] bcast_S_S8388608 (constantI S_ 32 0#32))) (addi (Host.reduce IntOp.addi (extui 32 (cmpf .olt (broadcastInDim S8388608x999 ![0, 1] bcast_S1x999_S8388608x999_0_1 (broadcastInDim S1x999 ![1] bcast_S999_S1x999_1 B)) (broadcastInDim S8388608x999 ![0, 1] bcast_S8388608x1_S8388608x999_0_1 (broadcastInDim S8388608x1 ![0] bcast_S8388608_S8388608x1_0 x))) natLt_1_32) (constantI S_ 32 0#32) reducesTo_S8388608x999_S8388608_d1 h_S_) (broadcastInDim S8388608 ![] bcast_S_S8388608 (constantI S_ 32 1024#32))) (Host.reduce IntOp.addi (extui 32 (cmpf .olt (broadcastInDim S8388608x999 ![0, 1] bcast_S1x999_S8388608x999_0_1 (broadcastInDim S1x999 ![1] bcast_S999_S1x999_1 B)) (broadcastInDim S8388608x999 ![0, 1] bcast_S8388608x1_S8388608x999_0_1 (broadcastInDim S8388608x1 ![0] bcast_S8388608_S8388608x1_0 x))) natLt_1_32) (constantI S_ 32 0#32) reducesTo_S8388608x999_S8388608_d1 h_S_))) (broadcastInDim S8388608x1 ![0, 1] bcast_S1x1_S8388608x1_0_1 (broadcastInDim S1x1 ![1] bcast_S1_S1x1_1 (constantI S1 32 1023#32))))) (constantI S_ 1 1#1) reducesTo_S8388608x1_S8388608_d1 h_S_) (Host.gather gather_S1024_S8388608x1_S8388608_n_0_n_n_0_1_1 T (broadcastInDim S8388608x1 ![0] bcast_S8388608_S8388608x1_0 (select (cmpi .slt (Host.reduce IntOp.addi (extui 32 (cmpf .olt (broadcastInDim S8388608x999 ![0, 1] bcast_S1x999_S8388608x999_0_1 (broadcastInDim S1x999 ![1] bcast_S999_S1x999_1 B)) (broadcastInDim S8388608x999 ![0, 1] bcast_S8388608x1_S8388608x999_0_1 (broadcastInDim S8388608x1 ![0] bcast_S8388608_S8388608x1_0 x))) natLt_1_32) (constantI S_ 32 0#32) reducesTo_S8388608x999_S8388608_d1 h_S_) (broadcastInDim S8388608 ![] bcast_S_S8388608 (constantI S_ 32 0#32))) (addi (Host.reduce IntOp.addi (extui 32 (cmpf .olt (broadcastInDim S8388608x999 ![0, 1] bcast_S1x999_S8388608x999_0_1 (broadcastInDim S1x999 ![1] bcast_S999_S1x999_1 B)) (broadcastInDim S8388608x999 ![0, 1] bcast_S8388608x1_S8388608x999_0_1 (broadcastInDim S8388608x1 ![0] bcast_S8388608_S8388608x1_0 x))) natLt_1_32) (constantI S_ 32 0#32) reducesTo_S8388608x999_S8388608_d1 h_S_) (broadcastInDim S8388608 ![] bcast_S_S8388608 (constantI S_ 32 1024#32))) (Host.reduce IntOp.addi (extui 32 (cmpf .olt (broadcastInDim S8388608x999 ![0, 1] bcast_S1x999_S8388608x999_0_1 (broadcastInDim S1x999 ![1] bcast_S999_S1x999_1 B)) (broadcastInDim S8388608x999 ![0, 1] bcast_S8388608x1_S8388608x999_0_1 (broadcastInDim S8388608x1 ![0] bcast_S8388608_S8388608x1_0 x))) natLt_1_32) (constantI S_ 32 0#32) reducesTo_S8388608x999_S8388608_d1 h_S_)))) (broadcastInDim S8388608 ![] bcast_S_S8388608 (constant S_ .f32 0x7FC00000#32))

open Cert.ReferenceIdeal Cert.ReferenceIdeal.Gen in
theorem refTerm_apply (x : FVec Ideal S8388608 .f32) (T : FVec Ideal S1024 .f32) (B : FVec Ideal S999 .f32) (n : Fin 8388608) :
    refTerm x T B (Shape.Idx.ofFin n)
      = T (Shape.Idx.ofFin (Fin.ofNat 1024 (below (fun j => B (Shape.Idx.ofFin j)) (x (Shape.Idx.ofFin n))))) := by
  unfold refTerm
  generalize hcnt : (Host.reduce IntOp.addi (extui 32 (cmpf .olt (broadcastInDim S8388608x999 ![0, 1] bcast_S1x999_S8388608x999_0_1 (broadcastInDim S1x999 ![1] bcast_S999_S1x999_1 B)) (broadcastInDim S8388608x999 ![0, 1] bcast_S8388608x1_S8388608x999_0_1 (broadcastInDim S8388608x1 ![0] bcast_S8388608_S8388608x1_0 x))) natLt_1_32) (constantI S_ 32 0#32) reducesTo_S8388608x999_S8388608_d1 h_S_ : IVec S8388608 32) = cnt
  have hN : ∀ p : Fin 8388608, (cnt (Shape.Idx.ofFin p)).toNat = below (fun j => B (Shape.Idx.ofFin j)) (x (Shape.Idx.ofFin p)) := by
    intro p
    rw [← hcnt, toNat_reduce_count_cols (by norm_num)]
    unfold below
    congr 1
    refine Finset.filter_congr fun q _ => ?_
    refine (cmp_lt_iff _ _).trans ?_
    rw [show (Shape.Idx.ofFin p : S8388608.Idx) 0 = p from Shape.Idx.ofFin_zero p, bcast_rows, bcast_cols]
  have hle : ∀ p : Fin 8388608, (cnt (Shape.Idx.ofFin p)).toNat ≤ 999 := fun p => by rw [hN]; exact below_le _ _
  have hsel : (select (cmpi .slt cnt (broadcastInDim S8388608 ![] bcast_S_S8388608 (constantI S_ 32 0#32))) (addi cnt (broadcastInDim S8388608 ![] bcast_S_S8388608 (constantI S_ 32 1024#32))) cnt : IVec S8388608 32) = cnt := by
    funext j
    rw [Shape.Idx.eq_ofFin j]
    generalize (j 0 : Fin 8388608) = p
    have h0 : cmpi .slt cnt (broadcastInDim S8388608 ![] bcast_S_S8388608 (constantI S_ 32 0#32)) (Shape.Idx.ofFin p) ≠ 1#1 := by
      intro h
      have h2 : IntOp.cmpi .slt (cnt (Shape.Idx.ofFin p)) 0#32 = 1#1 := h
      rw [slt_iff_toNat (by have := hle p; omega) (by decide)] at h2
      exact absurd h2 (Nat.not_lt_zero _)
    exact select_ne h0 _ _
  rw [hsel]
  have hok : Host.reduce IntOp.andi (andi (cmpi .sge (broadcastInDim S8388608x1 ![0] bcast_S8388608_S8388608x1_0 cnt) (broadcastInDim S8388608x1 ![] bcast_S_S8388608x1 (constantI S_ 32 0#32))) (cmpi .sle (broadcastInDim S8388608x1 ![0] bcast_S8388608_S8388608x1_0 cnt) (broadcastInDim S8388608x1 ![0, 1] bcast_S1x1_S8388608x1_0_1 (broadcastInDim S1x1 ![1] bcast_S1_S1x1_1 (constantI S1 32 1023#32))))) (constantI S_ 1 1#1) reducesTo_S8388608x1_S8388608_d1 h_S_ (Shape.Idx.ofFin n) = 1#1 := by
    refine Host.reduce_andi_one _ _ _ _ _ rfl fun i => ?_
    obtain ⟨p, rfl⟩ : ∃ p : Fin 8388608, i = ixP p := by
      refine ⟨i 0, ?_⟩
      funext a
      match a with
      | ⟨0, _⟩ => rfl
      | ⟨1, _⟩ => exact Subsingleton.elim (α := Fin 1) _ _
    show IntOp.andi (IntOp.cmpi .sge (broadcastInDim S8388608x1 ![0] bcast_S8388608_S8388608x1_0 cnt (ixP p)) 0#32) (IntOp.cmpi .sle (broadcastInDim S8388608x1 ![0] bcast_S8388608_S8388608x1_0 cnt (ixP p)) 1023#32) = 1#1
    rw [bcast_col1]
    have h := hle p
    rw [(sge_iff_toNat (by omega) (by decide)).mpr (Nat.zero_le _),
      (sle_iff_toNat (by omega) (by decide)).mpr (h.trans (by decide))]
    rfl
  refine (select_one hok _ _).trans ?_
  rw [gather_take _ rfl rfl rfl rfl _ _ _ (by norm_num)]
  refine congrArg T (congrArg Shape.Idx.ofFin (Fin.ext ?_))
  have h := hle n
  show min (broadcastInDim S8388608x1 ![0] bcast_S8388608_S8388608x1_0 cnt (ixP n)).toInt.toNat (1024 - 1) = _ % 1024
  rw [bcast_col1, toInt_eq_toNat_of_lt (by omega), ← hN n]
  omega

open Cert.ReferenceIdeal Cert.ReferenceIdeal.Gen in
theorem ref_eq (m : (ℓ : Loc nD τ sig) → Buf (Elt Ideal) ℓ) (c : Dev nD) :
    Cert.ReferenceIdeal.Value.res_out0 (F := Ideal) m c
      = refTerm (m ((c.tc : Thread nD τ).loc main_arg0)) (m ((c.tc : Thread nD τ).loc main_arg1)) (m ((c.tc : Thread nD τ).loc main_arg2)) := rfl

end Cert.Proof.Sc

end
-- ==== Proof.Sc.Value.lean ====
/-
  The result of the whole program, over the extended reals: at each element the table at the number of boundaries below.
-/
module

public import proofs.«01_k».proof.Proof.Sc.Launch
public import proofs.«01_k».proof.Proof.Sc.Count
public import proofs.«01_k».proof.Proof.Sc.Ref
public import Idealize.ShloMosaic.Lib.Pipeline.Value
public import Idealize.ShloMosaic.Lib.StableHlo.RunRead

@[expose] public section

set_option synthInstance.maxSize 4096

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight)

open Idealize.ShloMosaic.StableHlo (after)
open Idealize.ShloMosaic.StableHlo.Predicate (bcast_scalar bcast_row1 i1q)

section AnyF
variable {F : FTy → Type} [FloatOps F]
variable (m : (ℓ : Loc nD τ sig) → Buf (Elt F) ℓ)

theorem Vb_x (d : Dev nD) : (Vb m d x' : S4096x2048.Idx → F .f32) = shapeCast S4096x2048 (m (d, Proc.devRef .tc main_arg0) : S8388608.Idx → F .f32) shapeCasts_S8388608_S4096x2048 := by
  show after ops0 (V0 m d) (Proc.devRef .tc main_v0) = _
  after_reads_simp
  rfl
theorem Vb_t (d : Dev nD) : (Vb m d t' : S1024.Idx → F .f32) = (m (d, Proc.devRef .tc main_arg1) : S1024.Idx → F .f32) := by
  show after ops0 (V0 m d) (Proc.devRef .tc main_arg1) = _
  after_reads_simp
  rfl

/-- The first boundary and the reciprocal of the spacing, as the program has them. -/
def firstOf (B : S999.Idx → F .f32) : S_.Idx → F .f32 := shapeCast S_ (extractStridedSlice S1 ![0] B slices_S999_S1_0) shapeCasts_S1_S_
def lastOf (B : S999.Idx → F .f32) : S_.Idx → F .f32 := shapeCast S_ (extractStridedSlice S1 ![998] B slices_S999_S1_998) shapeCasts_S1_S_
def stepOf (B : S999.Idx → F .f32) : S_.Idx → F .f32 :=
  Host.divf (φ := .f32) (constant S_ .f32 0x44798000#32) (subf (φ := .f32) (lastOf B) (firstOf B))
def parsOf (B : S999.Idx → F .f32) : S2x16.Idx → F .f32 :=
  concatenate S2x16 0 [⟨S1x16, broadcastInDim S1x16 ![1] bcast_S16_S1x16_1 (broadcastInDim S16 ![] bcast_S_S16 (firstOf B))⟩,
    ⟨S1x16, broadcastInDim S1x16 ![1] bcast_S16_S1x16_1 (broadcastInDim S16 ![] bcast_S_S16 (stepOf B))⟩] concatenates_S1x16_S1x16_S2x16_d0

theorem Vb_p (d : Dev nD) : (Vb m d p' : S2x16.Idx → F .f32) = parsOf (m (d, Proc.devRef .tc main_arg2) : S999.Idx → F .f32) := by
  show after ops0 (V0 m d) (Proc.devRef .tc main_v13) = _
  after_reads_simp
  rfl

theorem Vf_y (d : Dev nD) : (Vf m d (Proc.devRef .tc main_v15) : S8388608.Idx → F .f32) = shapeCast S8388608 ((vals m).g d : S4096x2048.Idx → F .f32) shapeCasts_S4096x2048_S8388608 := by
  unfold Vf
  after_reads_simp
  rw [show Ve m d (Proc.devRef .tc main_v14) = (vals m).g d from Function.update_self _ _ _]
  rfl

theorem parsOf_row0 (B : S999.Idx → F .f32) (c : Fin 16) : parsOf B (ix2 (0 : Fin 2) c) = B (Shape.Idx.ofFin 0) := by
  unfold parsOf
  rw [concatenate_pair_apply_left (s₁ := S1x16) (s₂ := S1x16) (0 : Fin 2) _ _ concatenates_S1x16_S1x16_S2x16_d0 (ix2 (0 : Fin 2) c) rfl (i1q c)
    (by intro b; match b with | ⟨0, _⟩ => rfl | ⟨1, _⟩ => rfl)]
  rw [bcast_row1, bcast_scalar _ (by decide)]
  exact pick B _ _ _ 0 rfl

theorem stepOf_eq (B : S999.Idx → F .f32) (j : S_.Idx) :
    stepOf B j = FloatOps.hostDivf (FloatOps.ofBits .f32 0x44798000#32) (FloatOps.subf (B (Shape.Idx.ofFin 998)) (B (Shape.Idx.ofFin 0))) := by
  show FloatOps.hostDivf (FloatOps.ofBits .f32 0x44798000#32) (FloatOps.subf (lastOf B j) (firstOf B j)) = _
  rw [show lastOf B j = B (Shape.Idx.ofFin 998) from pick B _ _ _ 998 rfl, show firstOf B j = B (Shape.Idx.ofFin 0) from pick B _ _ _ 0 rfl]

theorem parsOf_row1 (B : S999.Idx → F .f32) (c : Fin 16) : parsOf B (ix2 (1 : Fin 2) c)
    = FloatOps.hostDivf (FloatOps.ofBits .f32 0x44798000#32) (FloatOps.subf (B (Shape.Idx.ofFin 998)) (B (Shape.Idx.ofFin 0))) := by
  unfold parsOf
  rw [concatenate_pair_apply_right (s₁ := S1x16) (s₂ := S1x16) (0 : Fin 2) _ _ concatenates_S1x16_S1x16_S2x16_d0 (ix2 (1 : Fin 2) c) rfl rfl (i1q c)
    (by intro b hb; match b with | ⟨0, _⟩ => exact absurd rfl hb | ⟨1, _⟩ => rfl) rfl]
  rw [bcast_row1, bcast_scalar _ (by decide), stepOf_eq]

/-- The result at element `n`. -/
theorem Vf_apply (d : Dev nD) (n : Fin 8388608) :
    (Vf m d (Proc.devRef .tc main_v15) : S8388608.Idx → F .f32) (Shape.Idx.ofFin n)
      = (m (d, Proc.devRef .tc main_arg1) : S1024.Idx → F .f32) (Shape.Idx.ofFin (Fin.ofNat 1024
          (binOf ((m (d, Proc.devRef .tc main_arg2) : S999.Idx → F .f32) (Shape.Idx.ofFin 0))
            (FloatOps.hostDivf (FloatOps.ofBits .f32 0x44798000#32) (FloatOps.subf ((m (d, Proc.devRef .tc main_arg2) : S999.Idx → F .f32) (Shape.Idx.ofFin 998)) ((m (d, Proc.devRef .tc main_arg2) : S999.Idx → F .f32) (Shape.Idx.ofFin 0))))
            ((m (d, Proc.devRef .tc main_arg0) : S8388608.Idx → F .f32) (Shape.Idx.ofFin n))).toNat)) := by
  rw [Vf_y]
  unfold shapeCast
  set j := Shape.reshapeEquiv shapeCasts_S4096x2048_S8388608 (Shape.Idx.ofFin n) with hj
  show encAt (Vb m d t') (Vb m d p') (Vb m d x' j) (j 1).val = _
  rw [Vb_t, Vb_p, Vb_x]
  unfold encAt
  rw [parsOf_row0, parsOf_row1]
  have hx : shapeCast S4096x2048 (m (d, Proc.devRef .tc main_arg0) : S8388608.Idx → F .f32) shapeCasts_S8388608_S4096x2048 j
      = (m (d, Proc.devRef .tc main_arg0) : S8388608.Idx → F .f32) (Shape.Idx.ofFin n) := by
    unfold shapeCast
    rw [hj, Shape.reshapeEquiv_reshapeEquiv, Shape.reshapeEquiv_self]
  rw [hx]
  exact congrArg _ (idx1_eq _ _ rfl)

end AnyF

theorem hostDiv_998 (w : EReal) :
    FloatOps.hostDivf (F := Ideal) (φ := .f32) (FloatOps.ofBits (F := Ideal) .f32 0x44798000#32) w = Ideal.div ((998 : ℝ) : EReal) w := by
  show Ideal.div (Ideal.ofBits .f32 0x44798000#32) w = _
  rw [lit_998]

/-- Under the precondition the bin index of an element is the number of boundaries below it. -/
theorem bin_eq_below (x : FVec Ideal S8388608 .f32) (T : FVec Ideal S1024 .f32) (B : FVec Ideal S999 .f32)
    (h : Cert.Pre_even_grid.fn (F := Ideal) x T B = fun _ => 1#1) (n : Fin 8388608) :
    (binOf (F := Ideal) (B (Shape.Idx.ofFin 0))
        (FloatOps.hostDivf (FloatOps.ofBits .f32 0x44798000#32) (FloatOps.subf (B (Shape.Idx.ofFin 998)) (B (Shape.Idx.ofFin 0))))
        (x (Shape.Idx.ofFin n))).toNat
      = below (fun j => B (Shape.Idx.ofFin j)) (x (Shape.Idx.ofFin n)) := by
  obtain ⟨hb, hw0, hw1, hx⟩ := pre_facts _ _ _ h
  have h' := bin_count (fun j => B (Shape.Idx.ofFin j)) (x (Shape.Idx.ofFin n)) hb hw0 hw1 (hx n)
  rw [← hostDiv_998] at h'
  exact h'

/-- Over the extended reals, under the precondition, the program's result is the reference's. -/
theorem Vf_ideal (m : (ℓ : Loc nD τ sig) → Buf (Elt Ideal) ℓ) (d : Dev nD) (x : FVec Ideal S8388608 .f32) (T : FVec Ideal S1024 .f32) (B : FVec Ideal S999 .f32)
    (ex : (m (d, Proc.devRef .tc main_arg0) : S8388608.Idx → EReal) = x) (eT : (m (d, Proc.devRef .tc main_arg1) : S1024.Idx → EReal) = T)
    (eB : (m (d, Proc.devRef .tc main_arg2) : S999.Idx → EReal) = B)
    (h : Cert.Pre_even_grid.fn (F := Ideal) x T B = fun _ => 1#1) :
    (Vf m d (Proc.devRef .tc main_v15) : S8388608.Idx → EReal) = refTerm x T B := by
  refine funext fun j : S8388608.Idx => ?_
  obtain ⟨n, rfl⟩ : ∃ n : Fin 8388608, j = Shape.Idx.ofFin n := ⟨j 0, Shape.Idx.eq_ofFin j⟩
  have h1 := Vf_apply m d n
  have h2 := refTerm_apply x T B n
  rw [← bin_eq_below x T B h n] at h2
  subst ex; subst eT; subst eB
  exact h1.trans h2.symm

end Cert.Proof.Sc

end
-- ==== Proof.Hist.Rules.lean ====
/-
  The launch's set-up for the histogram kernel, and the steps it takes on rows and slots: a row of the large array
  fetched into a slot, the wait for it, and the load of sixteen lanes of a slot.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.HistIdeal
public import proofs.«01_k».proof.Proof.Gen.HistIdeal.Skeleton
public import proofs.«01_k».proof.Proof.Sc.Rules

@[expose] public section

set_option synthInstance.maxSize 4096

noncomputable section

namespace Cert.Proof.Hist

open Cert.HistIdeal Cert.HistIdeal.Gen
open Cert.Proof.Sc (at2 at3 rows slot rowM slotM rowM_set slotM_set rowM_read slotM_read cell2 cell3 at2_eq at3_eq col lane_emb)
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The semaphore a one-cell window of a pair of them names. -/
abbrev semAt (sv : DmaSems sig S2) (o : Fin 1 → ℕ) (h : ∀ i, o i + S1.size i ≤ S2.size i) : DmaSem sig :=
  ((sv.slice (Rect.unit (s := S2) o S1.size h)).squeeze S_ squeezes_S1_S_).sem

def semB (sv : DmaSems sig S2) (b : ℕ) : DmaSem sig :=
  semAt sv ![b % 2] (fun i => by match i with | 0 => exact show b % 2 + 1 ≤ 2 by omega)

theorem semAt_eq (sv : DmaSems sig S2) {b : ℕ} (hb : b < 2) {o : Fin 1 → ℕ} (h : ∀ i, o i + S1.size i ≤ S2.size i) (ho : o = ![b]) :
    semAt sv o h = semB sv b := by
  subst ho
  unfold semB
  have e : (![b] : Fin 1 → ℕ) = ![b % 2] := by rw [Nat.mod_eq_of_lt hb]
  unfold semAt
  rw [SemArray.slice_unit_congr sv e]

section Steps

variable [FloatOps F] (d : Dev nD) (cc : Fin τ.nSC) (jj : Fin τ.nSub)

/-- A slot at some contents, and a row at given ones. -/
def slotPts (aM : Memref sig .scVector .vmem S2x1x2048 .f32) (b : ℕ) : sProp 𝕄 :=
  iprop(∃ f, aM.view.loc (V d cc jj) ↦[slot aM b]{fullShare} f)
def rowPts (xM : Memref sig .scVector .hbm S4096x2048 .f32) (lo hi : ℕ) (f : Buf (Elt F) (xM.view.loc (V d cc jj))) : sProp 𝕄 :=
  iprop(xM.view.loc (V d cc jj) ↦[rows xM lo hi]{fullShare} f)

/-- What a fetched row is waited for: the slot reading as the row does, and the row back. -/
def inD (xM : Memref sig .scVector .hbm S4096x2048 .f32) (aM : Memref sig .scVector .vmem S2x1x2048 .f32)
    (X : Buf (Elt F) (xM.view.loc (V d cc jj))) (b r : ℕ) : sProp 𝕄 :=
  iprop((∃ f, ⌜∀ j, aM.view.read (Elt F) f (cell3 b j) = xM.view.read (Elt F) X (cell2 r j)⌝ ∗ aM.view.loc (V d cc jj) ↦[slot aM b]{fullShare} f)
    ∗ rowPts d cc jj xM r (r + 1) X)

abbrev NN (aM : Memref sig .scVector .vmem S2x1x2048 .f32) : ℕ := sig.dmaCredit .scVector (Kind.table .scVector .vmem) aM.view.buf S1x2048 .f32

theorem wp_rowIn {xM : Memref sig .scVector .hbm S4096x2048 .f32} {aM : Memref sig .scVector .vmem S2x1x2048 .f32} {sv : DmaSems sig S2}
    {r b : ℕ} (hr : r < 4096) (hb : b < 2) {o : Fin 2 → ℕ} {o' : Fin 3 → ℕ} {o'' : Fin 1 → ℕ}
    {h : ∀ a, o a + S1x2048.size a ≤ S4096x2048.size a} {h' : ∀ i, o' i + S1x1x2048.size i ≤ S2x1x2048.size i}
    {h'' : ∀ i, o'' i + S1.size i ≤ S2.size i} {hq : S1x1x2048.Squeezes S1x2048}
    (ho : o = ![r, 0]) (ho' : o' = ![b, 0, 0]) (ho'' : o'' = ![b])
    {X : Buf (Elt F) (xM.view.loc (V d cc jj))}
    {p1 : (rowM xM o h).view.WordExact} {p2 : (slotM aM o' h' hq).view.WordExact}
    {p3 : DmaTarget.Typed (nD := nD) (p := .scVector cc jj) .hbm (.dma (semAt sv o'' h'')) (.here (slotM aM o' h' hq))}
    {α : Type} {k : PUnit → Prog (TpuEff nD τ sig (Elt F) Λ₀ (.scVector cc jj)) α} {Q : α → sProp 𝕄} :
    iprop(rowPts d cc jj xM r (r + 1) X ∗ slotPts d cc jj aM b ∗ semVal (V d cc jj, .dma (semB sv b)) 0)
      ⊢ iprop((Flight countersEmb (V d cc jj) (.dma (semB sv b)) (none : HIx 1) (NN aM) (inD d cc jj xM aM X b r)
            -∗ wp frame (wpE (defs₀ (F := F)) 𝒱₀ (V d cc jj) none) Set.univ (k ⟨⟩) Q)
          -∗ wp frame (wpE (defs₀ (F := F)) 𝒱₀ (V d cc jj) none) Set.univ
              (.op (.enqueueDma (rowM xM o h) (.here (slotM aM o' h' hq)) (.dma (semAt sv o'' h'')) p1 p2 p3) k) Q) := by
  have hs := semAt_eq sv hb h'' ho''
  rw [← hs]
  unfold rowPts slotPts
  iintro ⟨Hx, ⟨%fd, Ha⟩, Hs⟩ Hk
  iapply (Transfers.wp_dmaLocal countersEmb 𝒱₀ (V d cc jj) none (src := rowM xM o h) (dst := slotM aM o' h' hq) (via := .same)
    (q := fullShare) (fs := X) (Sd := slot aM b) (fd := fd) (none : HIx 1) (NN aM) rfl
    (View.dmaCredit_pos (slotM aM o' h' hq).view (by decide)) (slotM_set aM h' hq ho').subset) $$ [Hx Ha Hs]
  · isplitl [Hx]
    · rw [rowM_set xM h ho]; iexact Hx
    isplitl [Ha]; · iexact Ha
    iexact Hs
  iintro Hf
  iapply Hk
  iapply (Transfers.Flight_mono countersEmb (V d cc jj) (?_)) $$ Hf
  unfold inD rowPts
  iintro ⟨Ha, Hx⟩
  isplitl [Ha]
  · iexists _; isplitr
    swap; · iexact Ha
    ipureintro
    intro j
    have e1 := slotM_read (Val := Elt F) aM hb h' hq ho'
      ((slotM aM o' h' hq).view.write (Elt F) fd (ReadAs.same.apply ((rowM xM o h).view.read (Elt F) X)) Finset.univ) (ix2 (0 : Fin 1) j)
    rw [View.read_write_univ] at e1
    have e2 := rowM_read (Val := Elt F) xM hr h ho X (ix2 (0 : Fin 1) j)
    rw [at3_eq hb] at e1
    rw [at2_eq hr] at e2
    exact e1.symm.trans e2
  · rw [← rowM_set xM h ho]; iexact Hx

/-- What the core owes, over some recording of its waits that adds only its own transfers' to `W`. -/
def owesW (O : CellTallies nD τ sig (HIx 1)) (W : Waits sig (HIx 1)) : sProp 𝕄 :=
  iprop(∃ W', ⌜∀ p ∈ W', p ∈ W ∨ p.2 = none⌝ ∗ owes (V d cc jj) O W')

theorem wp_rowWait {sem sem' : DmaSem sig} (hs : sem = sem') {O : CellTallies nD τ sig (HIx 1)} {W : Waits sig (HIx 1)} (hO : ∀ g, O g none = 0)
    {sp sp' : Space} {s s' : Shape} {e e' : EltTy} {srcw : Memref sig .scVector sp' s' e'} {dstw : Memref sig .scVector sp s e}
    {hsrc : srcw.view.WordExact} {hdst : dstw.view.WordExact} {N : ℕ} (hN : dstw.view.dmaCredit = N) {R : sProp 𝕄}
    {α : Type} {k : PUnit → Prog (TpuEff nD τ sig (Elt F) Λ₀ (.scVector cc jj)) α} {Q : α → sProp 𝕄} :
    iprop(levAts (K (F := F)).L (K (F := F)).lev ∗ Flight countersEmb (V d cc jj) (.dma sem') (none : HIx 1) N R ∗ owesW d cc jj O W)
      ⊢ iprop((iprop(R ∗ semVal (V d cc jj, .dma sem') 0 ∗ owesW d cc jj O W)
            -∗ wp frame (wpE (defs₀ (F := F)) 𝒱₀ (V d cc jj) none) Set.univ (k ⟨⟩) Q)
          -∗ wp frame (wpE (defs₀ (F := F)) 𝒱₀ (V d cc jj) none) Set.univ (.op (.waitDma2 sem srcw dstw hsrc hdst) k) Q) := by
  subst hs
  unfold owesW
  iintro ⟨Hlv, Hf, ⟨%W', %hW', HO⟩⟩ Hk
  iapply (Transfers.wp_waitLocalO countersEmb 𝒱₀ (V d cc jj) none (none : HIx 1) hN) $$ [Hf HO Hlv]
  · isplitl [Hf]; · iexact Hf
    isplitl [HO]; · iexact HO
    iapply ((K (F := F)).mayWait_none (thr := V d cc jj) (SemLoc.dma sem) hO) $$ Hlv
  iintro ⟨HR, Hs, HO⟩
  iapply Hk
  isplitl [HR]; · iexact HR
  isplitl [Hs]; · iexact Hs
  iexists _; isplitr
  swap; · iexact HO
  ipureintro; intro p hp
  rcases Finset.mem_insert.mp hp with hp | hp
  · exact .inr (hp ▸ rfl)
  · exact hW' p hp

theorem wp_lanes {aM : Memref sig .scVector .vmem S2x1x2048 .f32} {b c : ℕ} (hb : b < 2) (hc : c + 16 ≤ 2048)
    {o' : Fin 3 → ℕ} {o : Fin 2 → ℕ} {h' : ∀ i, o' i + S1x1x2048.size i ≤ S2x1x2048.size i} {hq : S1x1x2048.Squeezes S1x2048}
    {h : ∀ a, o a + S1x16.size a ≤ S1x2048.size a} (ho' : o' = ![b, 0, 0]) (ho : o = ![0, c])
    {f : Buf (Elt F) (aM.view.loc (V d cc jj))}
    {hl : (slotM aM o' h' hq).view.LoadsAt (Rect.unit (s := S1x2048) o S1x16.size h).toLoadRect}
    {α : Type} {k : (S1x16.Idx → Elt F .f32) → Prog (TpuEff nD τ sig (Elt F) Λ₀ (.scVector cc jj)) α} {Q : α → sProp 𝕄} :
    iprop(aM.view.loc (V d cc jj) ↦[slot aM b]{fullShare} f)
      ⊢ iprop(((aM.view.loc (V d cc jj) ↦[slot aM b]{fullShare} f)
            -∗ wp frame (wpE (defs₀ (F := F)) 𝒱₀ (V d cc jj) none) Set.univ (k fun y => aM.view.read (Elt F) f (cell3 b (col (c + (y 1).val)))) Q)
          -∗ wp frame (wpE (defs₀ (F := F)) 𝒱₀ (V d cc jj) none) Set.univ
              (.op (.load (slotM aM o' h' hq) (Rect.unit (s := S1x2048) o S1x16.size h).toLoadRect hl) k) Q) := by
  have e : (fun y : S1x16.Idx => aM.view.read (Elt F) f (cell3 b (col (c + (y 1).val))))
      = (slotM aM o' h' hq).view.readAt (Elt F) (Rect.unit (s := S1x2048) o S1x16.size h).toLoadRect f := by
    funext y
    show _ = (slotM aM o' h' hq).view.read (Elt F) f ((Rect.unit (s := S1x2048) o S1x16.size h).emb y)
    rw [lane_emb hc h ho, slotM_read aM hb h' hq ho' f, at3_eq hb]
  rw [e]
  exact wp_load 𝒱₀ (V d cc jj) none Set.univ (m := slotM aM o' h' hq) (S := slot aM b)
    (((slotM aM o' h' hq).view.setOn_subset_set _).trans (slotM_set aM h' hq ho').subset)

end Steps

end Cert.Proof.Hist

end

end
-- ==== Proof.Hist.Model.lean ====
/-
  What the histogram kernel counts, for any carrier of the floats: the table after its tile's rows, sixteen lanes at a
  time, each lane's one added at its bin.
-/
module

public import proofs.«01_k».proof.HistIdeal
public import proofs.«01_k».proof.Proof.Gen.HistIdeal
public import proofs.«01_k».proof.Proof.Gen.HistIdeal.Skeleton
public import proofs.«01_k».proof.Proof.Sc.Rules
public import proofs.«01_k».proof.Proof.Sc.Bin

@[expose] public section

noncomputable section

namespace Cert.Proof.Hist

open Cert.HistIdeal Cert.HistIdeal.Gen
open Cert.Proof.Sc (cell2 col binOf binOf_lt)
open Idealize.ShloMosaic Idealize.ShloMosaic.ValueIdx

variable {F : FTy → Type} [FloatOps F]

/-- The bins of the sixteen elements of row `r` from column `16 * j` on, for the parameters `P`. -/
def binsAt (P : S2x16.Idx → F .f32) (X : S4096x2048.Idx → F .f32) (r j : ℕ) : IVec S16 32 := fun y =>
  binOf (P (ix2 (0 : Fin 2) (y 0 : Fin 16))) (P (ix2 (1 : Fin 2) (y 0 : Fin 16))) (X (cell2 r (col (16 * j + (y 0).val))))

theorem binsAt_inb (P : S2x16.Idx → F .f32) (X : S4096x2048.Idx → F .f32) (r j : ℕ) :
    ∀ a x, ((![binsAt P X r j] : Fin 1 → IVec S16 32) a x).toNat < S1024.size a := by
  intro a x
  match a with
  | 0 => exact lt_trans (binOf_lt _ _ _) (by decide)

/-- The table with those sixteen counted. -/
def count16 (P : S2x16.Idx → F .f32) (X : S4096x2048.Idx → F .f32) (r j : ℕ) (h : S1024.Idx → F .f32) : S1024.Idx → F .f32 :=
  storeIdx (F := F) (s := S1024) (e := .f32) h ![binsAt P X r j] (k0_pay2 (F := F)) (fun _ => 1#1) true (binsAt_inb P X r j)

/-- The table with the first `16 * j` elements of row `r` counted. -/
def countRow (P : S2x16.Idx → F .f32) (X : S4096x2048.Idx → F .f32) (r : ℕ) (h : S1024.Idx → F .f32) : ℕ → S1024.Idx → F .f32
  | 0 => h
  | j + 1 => count16 P X r j (countRow P X r h j)

/-- The table, empty at first, with the `k` rows from row `b` on counted. -/
def countRows (P : S2x16.Idx → F .f32) (X : S4096x2048.Idx → F .f32) (b : ℕ) : ℕ → S1024.Idx → F .f32
  | 0 => fun _ => Scalar.ofBits .f32 0x00000000#32
  | k + 1 => countRow P X (b + k) (countRows P X b k) 128

theorem pay3_apply (p0 p1 v : Vec F S1x16 .f32) (y : S16.Idx) :
    k0_pay3 p0 p1 v y = binOf (p0 (ix2 (0 : Fin 1) (y 0 : Fin 16))) (p1 (ix2 (0 : Fin 1) (y 0 : Fin 16))) (v (ix2 (0 : Fin 1) (y 0 : Fin 16))) := by
  obtain ⟨l, rfl⟩ : ∃ l : Fin 16, y = ix1 l := ⟨y 0, by funext a; match a with | 0 => rfl⟩
  show k0_pay3 p0 p1 v (ix1 l) = binOf (p0 (ix2 (0 : Fin 1) l)) (p1 (ix2 (0 : Fin 1) l)) (v (ix2 (0 : Fin 1) l))
  rw [← shapeCast_1a_a_apply p0 shapeCasts_S1x16_S16 l, ← shapeCast_1a_a_apply p1 shapeCasts_S1x16_S16 l,
    ← shapeCast_1a_a_apply v shapeCasts_S1x16_S16 l]
  rfl

/-- The sixteen bins the kernel computes from the lanes it loads are the row's. -/
theorem pay3_eq (p0 p1 v : Vec F S1x16 .f32) (P : S2x16.Idx → F .f32) (X : S4096x2048.Idx → F .f32) (r j : ℕ)
    (h0 : ∀ l : Fin 16, p0 (ix2 (0 : Fin 1) l) = P (ix2 (0 : Fin 2) l)) (h1 : ∀ l : Fin 16, p1 (ix2 (0 : Fin 1) l) = P (ix2 (1 : Fin 2) l))
    (hv : ∀ l : Fin 16, v (ix2 (0 : Fin 1) l) = X (cell2 r (col (16 * j + l.val)))) : k0_pay3 p0 p1 v = binsAt P X r j := by
  funext y
  refine (pay3_apply p0 p1 v y).trans ?_
  exact congr (congrArg₂ binOf (h0 (y 0)) (h1 (y 0))) (hv (y 0))

theorem pay3_chk (p0 p1 v : Vec F S1x16 .f32) : k0_chk3 (k0_pay3 p0 p1 v) := by
  intro a x
  match a with
  | 0 =>
    show (k0_pay3 p0 p1 v x).toNat < 1024
    rw [pay3_apply]
    exact lt_trans (binOf_lt _ _ _) (by decide)

end Cert.Proof.Hist

end

end
-- ==== Proof.Hist.Words.lean ====
/-
  What the histogram kernel's integer chains come to: which row and which slot each transfer of trip `k` names, and
  which of its conditions hold, at the words the loop carries there.
-/
module

public import proofs.«01_k».proof.HistIdeal
public import proofs.«01_k».proof.Proof.Gen.HistIdeal

@[expose] public section

set_option synthInstance.maxSize 4096
set_option Elab.async false

namespace Cert.Proof.Hist

open Cert.HistIdeal Cert.HistIdeal.Gen
open Idealize.ShloMosaic

/-- The first row of the task at core `i 0`, subcore `i 1`. -/
abbrev base (i : grid0.Coords) : ℕ := ((i 1).val + (i 0).val * 16) * 128

abbrev w (k : ℕ) : BitVec 32 := BitVec.ofNat 32 k

theorem trips1 : k0_t1_loop.trips = 64 := by decide +kernel
theorem trips2 : k0_t2_loop.trips = 128 := by decide +kernel
theorem trips3 : k0_t3_loop.trips = 128 := by decide +kernel

theorem base_le : ∀ i : grid0.Coords, base i + 128 ≤ 4096 := by decide +kernel

theorem e_off1 : ∀ k : Fin k0_t1_loop.trips, k0_off1 k = ![16 * k.val] := k0_off1_eq
theorem e_off2 : k0_off2 = ![0, 0, 0] := k0_off2_eq
theorem e_off3 : ∀ i : grid0.Coords, k0_off3 i = ![base i, 0] := by decide +kernel
theorem e_off4 : k0_off4 = ![0] := k0_off4_eq
theorem e_chk2 : ∀ k : Fin 128, k0_chk2 (w k) := by decide +kernel
theorem e_cond1 : ∀ (i : grid0.Coords) (k : Fin k0_t2_loop.trips), k0_cond1 i k (w k) = 1#1 ↔ k.val < 127 := by decide +kernel
theorem e_cond2 : ∀ (i : grid0.Coords) (k : Fin k0_t2_loop.trips), k0_cond2 i k (w k) = 1#1 := by decide +kernel
theorem e_chk1 : ∀ (i : grid0.Coords) (k : Fin k0_t2_loop.trips), k0_chk1 i k (w (k + 1)) (w k) (w k) := by decide +kernel
theorem e_off5 : ∀ k : Fin 128, k0_off5 (w (k + 1)) = ![(k.val + 1) % 2, 0, 0] := by decide +kernel
theorem e_off6 : ∀ (i : grid0.Coords) (k : Fin 127), k0_off6 i (w k) = ![base i + k.val + 1, 0] := by decide +kernel
theorem e_off7 : ∀ k : Fin 128, k0_off7 (w (k + 1)) = ![(k.val + 1) % 2] := by decide +kernel
theorem e_off10 : ∀ k : Fin 128, k0_off10 (w k) = ![k.val % 2] := by decide +kernel
theorem e_off11 : ∀ k : Fin 128, k0_off11 (w k) = ![k.val % 2, 0, 0] := by decide +kernel
theorem e_off12 : ∀ k : Fin k0_t3_loop.trips, k0_off12 k = ![0, 16 * k.val] := k0_off12_eq
theorem e_off13 : ∀ i : grid0.Coords, k0_off13 i = ![2 * (i 1).val + (i 0).val, 0] := k0_off13_eq

theorem w_succ : ∀ k : Fin 128, Scalar.addi (w k.val) 1#32 = w (k.val + 1) := by decide +kernel

end Cert.Proof.Hist

end
-- ==== Proof.Hist.Inner.lean ====
/-
  One row counted: the inner loop over its 128 groups of sixteen lanes.
-/
module

public import proofs.«01_k».proof.Proof.Hist.Rules
public import proofs.«01_k».proof.Proof.Hist.Model
public import proofs.«01_k».proof.Proof.Hist.Words

@[expose] public section

set_option synthInstance.maxSize 4096

noncomputable section

namespace Cert.Proof.Hist

open Cert.HistIdeal Cert.HistIdeal.Gen
open Cert.Proof.Sc (rows slot rows_split rows_disjoint rows_empty rowM slotM cell2 cell3 col)
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight)

variable {F : FTy → Type} [FloatOps F]

local notation "𝕄" => MT nD τ sig (HIx 1) (Elt F) ℕ UU ℕ

section Tile

variable (d : Dev nD) (i : grid0.Coords)

abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

variable (arg2 : Memref sig .scVector .hbm S4096x2048 .f32) (harg2 : arg2.IsWhole) (arg3 : Memref sig .scVector .hbm S2x16 .f32) (harg3 : arg3.IsWhole)
  (arg4 : Memref sig .scVector .hbm S32x1024 .f32) (harg4 : arg4.IsWhole) (arg5 : Memref sig .scVector .vmem S1024 .f32) (harg5 : arg5.IsWhole)
  (arg6 : Memref sig .scVector .vmem S2x16 .f32) (harg6 : arg6.IsWhole) (v9_r0 : DmaSems sig S_)
  (aI : Memref sig .scVector .vmem S2x1x2048 .f32) (haI : aI.IsWhole) (sI : DmaSems sig S2) (v9_r2 : DmaSems sig S_)

include harg5 in
theorem access_set : (arg5.access (.whole S1024)).set = Finset.univ := by
  refine Finset.eq_univ_of_forall fun x => ?_
  have hx : x ∈ arg5.view.set := by rw [harg5.set_eq_univ]; exact Finset.mem_univ x
  obtain ⟨y, hy, rfl⟩ := Finset.mem_map.mp hx
  refine Finset.mem_map.mpr ⟨y, Finset.mem_univ y, ?_⟩
  exact congrArg arg5.view.emb (Rect.emb_whole_apply S1024 y)

theorem access_read (f : Buf (Elt F) (arg5.view.loc (thr d i))) : (arg5.access (.whole S1024)).read (Elt F) f = arg5.view.read (Elt F) f := by
  funext j
  exact congrArg (arg5.view.read (Elt F) f) (Rect.emb_whole_apply S1024 j)

/-- Along the inner loop: the row in its slot, and the table with the row's first `16 * j` elements counted. -/
def innerI (P : S2x16.Idx → F .f32) (X : S4096x2048.Idx → F .f32) (r : ℕ) (h : S1024.Idx → F .f32)
    (f : Buf (Elt F) (aI.view.loc (thr d i))) (b j : ℕ) : sProp 𝕄 :=
  iprop((aI.view.loc (thr d i) ↦[slot aI b]{fullShare} f)
    ∗ ∃ f5, ⌜arg5.view.read (Elt F) f5 = countRow P X r h j⌝ ∗ arg5.view.loc (thr d i) ↦{fullShare} f5)

set_option maxHeartbeats 4000000 in
theorem inner_step (arg0 arg1 v6 : BitVec 32) (kk : Fin 128) (h2 : k0_chk2 (w kk)) (p0 p1 : Vec F S1x16 .f32)
    (P : S2x16.Idx → F .f32) (X : S4096x2048.Idx → F .f32) (r : ℕ) (h : S1024.Idx → F .f32)
    (hp0 : ∀ l : Fin 16, p0 (ix2 (0 : Fin 1) l) = P (ix2 (0 : Fin 2) l))
    (hp1 : ∀ l : Fin 16, p1 (ix2 (0 : Fin 1) l) = P (ix2 (1 : Fin 2) l))
    (f : Buf (Elt F) (aI.view.loc (thr d i))) (hf : ∀ c : Fin 2048, aI.view.read (Elt F) f (cell3 (kk.val % 2) c) = X (cell2 r c))
    (j : Fin k0_t3_loop.trips) (acc : Unit) :
    innerI d i arg5 aI P X r h f (kk.val % 2) j.val
      ⊢ wp frame (wpE (defs₀ (F := F)) 𝒱₀ (V d (cV i) (jV i)) none) Set.univ
          (k0_t3_body i arg2 harg2 arg3 harg3 arg4 harg4 arg5 harg5 arg6 harg6 v9_r0 aI haI sI v9_r2 arg0 arg1 k0_pay2 v6 (w kk) h2 p0 p1 j acc)
          fun _ => innerI d i arg5 aI P X r h f (kk.val % 2) (j.val + 1) := by
  have hj : j.val < 128 := lt_of_lt_of_eq j.isLt trips3
  have hb : kk.val % 2 < 2 := Nat.mod_lt _ (by decide)
  have hc : 16 * j.val + 16 ≤ 2048 := by omega
  unfold k0_t3_body
  simp only [Prog.lift, Prog.bind_op, Prog.bind_ret, Prog.pure_eq_ret]
  unfold innerI
  iintro ⟨HI, ⟨%f5, %h5, H5⟩⟩
  iapply (wp_lanes d (cV i) (jV i) hb hc (e_off11 kk) (e_off12 j)) $$ HI
  iintro HI
  rw [wp_assume_of 𝒱₀ (V d (cV i) (jV i)) none Set.univ (pay3_chk p0 p1 _)]
  ihave H5 := (Entails.of_eq (show ((arg5.view.loc (thr d i) ↦{fullShare} f5 : sProp 𝕄))
    = ((arg5.access (.whole S1024)).loc (thr d i) ↦[(arg5.access (.whole S1024)).set]{fullShare} f5) by rw [access_set arg5 harg5])) $$ H5
  iapply (SparseCore.wp_vectorStoreIdx 𝒱₀ (V d (cV i) (jV i)) none Set.univ (base := arg5)) $$ H5
  iintro H5
  rw [wp_ret]
  imodintro
  isplitl [HI]; · iexact HI
  iexists _; isplitr
  swap
  · rw [access_set arg5 harg5]; iexact H5
  ipureintro
  rw [← access_read d i arg5, View.read_write_univ, access_read d i arg5, h5]
  show _ = count16 P X r j.val (countRow P X r h j.val)
  unfold count16
  congr 1
  refine congrArg (fun q : IVec S16 32 => (![q] : Fin 1 → IVec S16 32)) (pay3_eq p0 p1 _ P X r j.val hp0 hp1 fun l => ?_)
  exact hf _

end Tile

end Cert.Proof.Hist

end

end
-- ==== Proof.Hist.Trip.lean ====
/-
  One trip of the histogram kernel: the next row's fetch issued, this row's awaited, and the row counted.
-/
module

public import proofs.«01_k».proof.Proof.Hist.Inner

@[expose] public section

set_option synthInstance.maxSize 4096

noncomputable section

namespace Cert.Proof.Hist

open Cert.HistIdeal Cert.HistIdeal.Gen
open Cert.Proof.Sc (rows slot rows_split rows_disjoint rows_empty rowM slotM cell2 cell3 col)
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight)

variable {F : FTy → Type} [FloatOps F]

local notation "𝕄" => MT nD τ sig (HIx 1) (Elt F) ℕ UU ℕ

section Tile

variable (d : Dev nD) (i : grid0.Coords)

variable (arg2 : Memref sig .scVector .hbm S4096x2048 .f32) (harg2 : arg2.IsWhole) (arg3 : Memref sig .scVector .hbm S2x16 .f32) (harg3 : arg3.IsWhole)
  (arg4 : Memref sig .scVector .hbm S32x1024 .f32) (harg4 : arg4.IsWhole) (arg5 : Memref sig .scVector .vmem S1024 .f32) (harg5 : arg5.IsWhole)
  (arg6 : Memref sig .scVector .vmem S2x16 .f32) (harg6 : arg6.IsWhole) (v9_r0 : DmaSems sig S_)
  (aI : Memref sig .scVector .vmem S2x1x2048 .f32) (haI : aI.IsWhole) (sI : DmaSems sig S2) (v9_r2 : DmaSems sig S_)

/-- A fetch slot with nothing in flight, and the slot of row `k`'s fetch: in flight up to the last row. -/
def inFree (b : ℕ) : sProp 𝕄 := iprop(slotPts d (cV i) (jV i) aI b ∗ semVal (thr d i, .dma (semB sI b)) 0)
def inSt (X : Buf (Elt F) (arg2.view.loc (thr d i))) (k : ℕ) : sProp 𝕄 :=
  if k < 128 then Flight countersEmb (thr d i) (.dma (semB sI (k % 2))) (none : HIx 1) (NN aI) (inD d (cV i) (jV i) arg2 aI X (k % 2) (base i + k))
  else inFree d i aI sI (k % 2)

theorem inSt_lt (X : Buf (Elt F) (arg2.view.loc (thr d i))) {k : ℕ} (h : k < 128) : inSt d i arg2 aI sI X k
    = Flight countersEmb (thr d i) (.dma (semB sI (k % 2))) (none : HIx 1) (NN aI) (inD d (cV i) (jV i) arg2 aI X (k % 2) (base i + k)) :=
  if_pos h

/-- The table in its scratch, at what is counted so far. -/
def histPts (h : S1024.Idx → F .f32) : sProp 𝕄 :=
  iprop(∃ f5, ⌜arg5.view.read (Elt F) f5 = h⌝ ∗ arg5.view.loc (thr d i) ↦{fullShare} f5)

/-- The words the loop carries at the start of trip `k`. -/
def car (k : ℕ) : BitVec 32 × BitVec 32 × BitVec 32 := (w (min (k + 1) 128), w k, w (k % 128))

def tripI (X : Buf (Elt F) (arg2.view.loc (thr d i))) (f6 : Buf (Elt F) (arg6.view.loc (thr d i)))
    (O : CellTallies nD τ sig (HIx 1)) (W : Waits sig (HIx 1)) (k : ℕ) (acc : BitVec 32 × BitVec 32 × BitVec 32) : sProp 𝕄 :=
  iprop(⌜acc = car k⌝ ∗ levAts (K (F := F)).L (K (F := F)).lev
    ∗ rowPts d (cV i) (jV i) arg2 (base i) (base i + k) X ∗ rowPts d (cV i) (jV i) arg2 (base i + k + 1) (base i + 128) X
    ∗ inSt d i arg2 aI sI X k ∗ inFree d i aI sI ((k + 1) % 2)
    ∗ histPts d i arg5 (countRows (arg6.view.read (Elt F) f6) (arg2.view.read (Elt F) X) (base i) k)
    ∗ (arg6.view.loc (thr d i) ↦{fullShare} f6) ∗ owesW d (cV i) (jV i) O W)

/-- The first row of the kernel's task as the kernel's words compute it. -/
abbrev v6w (i : grid0.Coords) : BitVec 32 :=
  Scalar.muli (Scalar.addi (Scalar.addi 0#32 (Scalar.muli (BitVec.ofNat 32 (i 1).val) 1#32)) (Scalar.muli (BitVec.ofNat 32 (i 0).val) 16#32)) 128#32

/-- A conditional step at the head of a program that goes on the same way after it, by an assertion that holds there
    either way. -/
theorem wp_dite_step {cc : Fin τ.nSC} {jj : Fin τ.nSub} {c : Prop} [Decidable c] {α : Type}
    {A : c → Prog (TpuEff nD τ sig (Elt F) Λ₀ (.scVector cc jj)) α} {rest : Prog (TpuEff nD τ sig (Elt F) Λ₀ (.scVector cc jj)) α}
    {Q : α → sProp 𝕄} {R : sProp 𝕄} (M : sProp 𝕄)
    (hA : ∀ h : c, R ⊢ iprop((M -∗ wp frame (wpE (defs₀ (F := F)) 𝒱₀ (V d cc jj) none) Set.univ rest Q)
      -∗ wp frame (wpE (defs₀ (F := F)) 𝒱₀ (V d cc jj) none) Set.univ (A h) Q))
    (hB : ¬c → R ⊢ M) :
    R ⊢ iprop((M -∗ wp frame (wpE (defs₀ (F := F)) 𝒱₀ (V d cc jj) none) Set.univ rest Q)
        -∗ wp frame (wpE (defs₀ (F := F)) 𝒱₀ (V d cc jj) none) Set.univ (dite c A (fun _ => rest)) Q) := by
  by_cases h : c
  · rw [dif_pos h]; exact hA h
  · rw [dif_neg h]
    iintro HR Hk
    iapply Hk
    iapply (hB h) $$ HR

set_option maxHeartbeats 8000000 in
/-- The first part of trip `k`: the next row's fetch, where there is one; and of the words it hands on, what the rest
    of the trip needs. -/
theorem part1 (X : Buf (Elt F) (arg2.view.loc (thr d i))) (k : Fin k0_t2_loop.trips) (hk : k.val < 128) :
    iprop(rowPts d (cV i) (jV i) arg2 (base i + k.val + 1) (base i + 128) X ∗ inFree d i aI sI ((k.val + 1) % 2))
      ⊢ wp frame (wpE (defs₀ (F := F)) 𝒱₀ (V d (cV i) (jV i)) none) Set.univ
          (k0_part1 i arg2 harg2 arg3 harg3 arg4 harg4 arg5 harg5 arg6 harg6 v9_r0 aI haI sI v9_r2 (v6w i) 0#32 1#32 k (w (k.val + 1)) (w k.val) (w k.val))
          fun r => iprop(⌜r.2.2.2.2.2.2.2 = w (min (k.val + 1 + 1) 128)
              ∧ Scalar.ori (Scalar.cmpi .ne r.2.2.2.2.1 r.2.2.2.2.2.2.1) r.2.2.2.1 = 1#1
              ∧ Scalar.select (Scalar.cmpi .eq (Scalar.select 1#1 (Scalar.addi (w k.val) 1#32) (w k.val)) 128#32) 0#32
                  (Scalar.select 1#1 (Scalar.addi (w k.val) 1#32) (w k.val)) = w ((k.val + 1) % 128)⌝
            ∗ rowPts d (cV i) (jV i) arg2 (base i + k.val + 1 + 1) (base i + 128) X ∗ inSt d i arg2 aI sI X (k.val + 1)) := by
  have hbl := base_le i
  have hc1 := e_cond1 i k
  rw [k0_part1_eq_skeleton]
  unfold k0_part1_skel
  simp only [Prog.lift, Prog.bind_op, Prog.bind_ret, Prog.pure_eq_ret, Prog.bind_assoc]
  rw [wp_assume_of 𝒱₀ (V d (cV i) (jV i)) none Set.univ (e_chk2 ⟨k.val, hk⟩)]
  rw [wp_assume_of 𝒱₀ (V d (cV i) (jV i)) none Set.univ (e_chk1 i k)]
  iintro Hnext
  iapply (wp_dite_step d iprop(rowPts d (cV i) (jV i) arg2 (base i + k.val + 1 + 1) (base i + 128) X ∗ inSt d i arg2 aI sI X (k.val + 1)) ?hA ?hB) $$ Hnext
  case hA =>
    intro h
    have h127 : k.val < 127 := hc1.mp h
    unfold rowPts inFree inSt
    rw [if_pos (show k.val + 1 < 128 by omega), rows_split arg2 (show base i + k.val + 1 ≤ base i + k.val + 1 + 1 by omega) (show base i + k.val + 1 + 1 ≤ base i + 128 by omega)]
    iintro ⟨Hx, Hs, Hv⟩ Hk
    icases (pointsTo_union (rows_disjoint arg2 (le_refl _))).1 $$ Hx with ⟨Hx1, Hx2⟩
    iapply (wp_rowIn d (cV i) (jV i) (X := X) (show base i + k.val + 1 < 4096 by omega) (Nat.mod_lt _ (by decide)) (e_off6 i ⟨k.val, h127⟩) (e_off5 ⟨k.val, hk⟩) (e_off7 ⟨k.val, hk⟩)) $$ [Hx1 Hs Hv]
    · isplitl [Hx1]; · (unfold rowPts; iexact Hx1)
      isplitl [Hs]; · iexact Hs
      iexact Hv
    iintro Hf
    iapply Hk
    isplitl [Hx2]; · iexact Hx2
    iexact Hf
  case hB =>
    intro h
    have h127 : k.val = 127 := by have := mt hc1.mpr h; omega
    unfold rowPts inSt
    rw [if_neg (show ¬ k.val + 1 < 128 by omega), rows_empty arg2 (show base i + 128 ≤ base i + k.val + 1 by omega),
      rows_empty arg2 (show base i + 128 ≤ base i + k.val + 1 + 1 by omega)]
  iintro H
  rw [wp_ret]
  imodintro
  isplitr
  swap; · iexact H
  ipureintro
  dsimp only
  clear hbl hc1 hk X
  revert k
  revert i
  intro i k
  refine ⟨?_, ?_, ?_⟩ <;> (revert k; revert i; decide +kernel)

/-- The rows below and the next one together, and the rows from one on, the first apart. -/
theorem rowPts_snoc (xM : Memref sig .scVector .hbm S4096x2048 .f32) {lo hi : ℕ} (h : lo ≤ hi) (f : Buf (Elt F) (xM.view.loc (thr d i))) :
    iprop(rowPts d (cV i) (jV i) xM lo hi f ∗ rowPts d (cV i) (jV i) xM hi (hi + 1) f) ⊢ rowPts d (cV i) (jV i) xM lo (hi + 1) f := by
  unfold rowPts
  rw [rows_split xM h (Nat.le_succ hi)]
  exact (pointsTo_union (rows_disjoint xM (le_refl _))).2

theorem rowPts_cons (xM : Memref sig .scVector .hbm S4096x2048 .f32) {lo hi : ℕ} (h : lo < hi) (f : Buf (Elt F) (xM.view.loc (thr d i))) :
    rowPts d (cV i) (jV i) xM lo hi f ⊢ iprop(rowPts d (cV i) (jV i) xM lo (lo + 1) f ∗ rowPts d (cV i) (jV i) xM (lo + 1) hi f) := by
  unfold rowPts
  rw [rows_split xM (Nat.le_succ lo) h]
  exact (pointsTo_union (rows_disjoint xM (le_refl _))).1

set_option maxHeartbeats 8000000 in
/-- One trip of the histogram kernel's pipeline. -/
theorem trip (arg0 arg1 : BitVec 32) (X : Buf (Elt F) (arg2.view.loc (thr d i))) (f6 : Buf (Elt F) (arg6.view.loc (thr d i)))
    {O : CellTallies nD τ sig (HIx 1)} {W : Waits sig (HIx 1)} (hO : ∀ g, O g none = 0)
    (k : Fin k0_t2_loop.trips) (acc : BitVec 32 × BitVec 32 × BitVec 32) :
    tripI d i arg2 arg5 arg6 aI sI X f6 O W k.val acc
      ⊢ wp frame (wpE (defs₀ (F := F)) 𝒱₀ (V d (cV i) (jV i)) none) Set.univ
          (k0_t2_body i arg2 harg2 arg3 harg3 arg4 harg4 arg5 harg5 arg6 harg6 v9_r0 aI haI sI v9_r2 arg0 arg1 k0_pay2 (v6w i) k acc)
          (tripI d i arg2 arg5 arg6 aI sI X f6 O W (k.val + 1)) := by
  have hk : k.val < 128 := lt_of_lt_of_eq k.isLt trips2
  have hbl := base_le i
  have hb : k.val % 2 < 2 := Nat.mod_lt _ (by decide)
  unfold tripI
  iintro ⟨%hacc, #Hlv, Hxl, Hxr, Hin, Hinf, H5, H6, HW⟩
  subst hacc
  unfold car k0_t2_body
  rw [Nat.min_eq_left (by omega : k.val + 1 ≤ 128), Nat.mod_eq_of_lt hk]
  simp only [Prog.lift, Prog.bind_op, Prog.bind_ret, Prog.pure_eq_ret, Prog.bind_assoc, ite_self]
  rw [wp_bind]
  iapply (wp_wand frame _ Set.univ) $$ [Hxr Hinf]
  · iapply (part1 d i arg2 harg2 arg3 harg3 arg4 harg4 arg5 harg5 arg6 harg6 v9_r0 aI haI sI v9_r2 X k hk) $$ [Hxr Hinf]
    isplitl [Hxr]; · iexact Hxr
    iexact Hinf
  iintro %r ⟨%hr, Hxr, Hin'⟩
  obtain ⟨h2, h1, v57, v58, v59, v64, v69, v84⟩ := r
  dsimp only at hr ⊢
  obtain ⟨e84, hv, e10⟩ := hr
  rw [dif_pos (e_cond2 i k)]
  ihave Hin := (Entails.of_eq (inSt_lt d i arg2 aI sI X hk)) $$ Hin
  iapply (wp_rowWait d (cV i) (jV i) (semAt_eq sI hb _ (e_off10 ⟨k.val, hk⟩)) hO (N := NN aI) rfl) $$ [Hin HW]
  · isplitr [Hin HW]; · iexact Hlv
    isplitl [Hin]; · iexact Hin
    iexact HW
  unfold inD
  iintro ⟨⟨⟨%f, %hf, HI⟩, Hx⟩, Hv, HW⟩
  iapply (wp_load 𝒱₀ (V d (cV i) (jV i)) none Set.univ (m := arg6) (S := Finset.univ) (q := fullShare) (f := f6) (Finset.subset_univ _)) $$ H6
  iintro H6
  iapply (wp_load 𝒱₀ (V d (cV i) (jV i)) none Set.univ (m := arg6) (S := Finset.univ) (q := fullShare) (f := f6) (Finset.subset_univ _)) $$ H6
  iintro H6
  rw [wp_bind]
  iapply (Scf.wp_for frame (wpE (defs₀ (F := F)) 𝒱₀ (V d (cV i) (jV i)) none) Set.univ _ _ _ k0_t3_ok _ _
    (fun j _ => innerI d i arg5 aI (arg6.view.read (Elt F) f6) (arg2.view.read (Elt F) X) (base i + k.val)
      (countRows (arg6.view.read (Elt F) f6) (arg2.view.read (Elt F) X) (base i) k.val) f (k.val % 2) j)
    (fun j acc => inner_step d i arg2 harg2 arg3 harg3 arg4 harg4 arg5 harg5 arg6 harg6 v9_r0 aI haI sI v9_r2 arg0 arg1 (v6w i) ⟨k.val, hk⟩ h2 _ _ (arg6.view.read (Elt F) f6) (arg2.view.read (Elt F) X) (base i + k.val)
      (countRows (arg6.view.read (Elt F) f6) (arg2.view.read (Elt F) X) (base i) k.val) (fun l => ?hp0) (fun l => ?hp1) f hf j acc))
  case hp0 =>
    show arg6.view.read (Elt F) f6 _ = _
    congr 1
    funext a
    match a with
    | 0 => rfl
    | 1 => exact Fin.ext (show 0 + 1 * l.val = l.val by omega)
  case hp1 =>
    show arg6.view.read (Elt F) f6 _ = _
    congr 1
    funext a
    match a with
    | 0 => rfl
    | 1 => exact Fin.ext (show 0 + 1 * l.val = l.val by omega)
  isplitl [HI H5]
  · unfold innerI
    isplitl [HI]; · iexact HI
    unfold histPts
    iexact H5
  unfold innerI
  rw [show Scf.trips k0_t3_loop.lb k0_t3_loop.ub k0_t3_loop.st = 128 from trips3]
  iintro %acc ⟨HI, H5⟩
  rw [wp_ret]
  imodintro
  isplitr
  · ipureintro
    rw [e84, hv, e10]
    show (w (min (k.val + 1 + 1) 128), Scalar.addi (w k.val) 1#32, w ((k.val + 1) % 128)) = _
    rw [w_succ ⟨k.val, hk⟩]
  isplitr; · iexact Hlv
  isplitl [Hxl Hx]
  · iapply (rowPts_snoc d i arg2 (show base i ≤ base i + k.val by omega) X)
    isplitl [Hxl]; · iexact Hxl
    iexact Hx
  isplitl [Hxr]; · iexact Hxr
  isplitl [Hin']; · iexact Hin'
  isplitl [HI Hv]
  · rw [show (k.val + 1 + 1) % 2 = k.val % 2 by omega]
    unfold inFree slotPts
    isplitl [HI]
    · iexists f; iexact HI
    iexact Hv
  isplitl [H5]
  · unfold histPts; iexact H5
  isplitl [H6]; · iexact H6
  iexact HW

end Tile

end Cert.Proof.Hist

end

end
-- ==== Proof.Hist.Out.lean ====
/-
  The rows of the histogram kernel's result: the one a subcore writes, and how the rows make up the array.
-/
module

public import proofs.«01_k».proof.HistIdeal
public import proofs.«01_k».proof.Proof.Gen.HistIdeal
public import Idealize.ShloMosaic.Lib.ValueLayout
public import Idealize.ShloMosaic.Lib.ViewIndex

@[expose] public section

noncomputable section

namespace Cert.Proof.Hist

open Cert.HistIdeal
open Idealize.ShloMosaic Idealize.ShloMosaic.ValueIdx

section Geometry

variable {sg : RefSig} {κ : Kind} {sp : Space} {e : EltTy} {Val : EltTy → Type}

/-- The elements in the rows that `p` holds of. -/
def outRows (m : Memref sg κ sp S32x1024 e) (p : ℕ → Prop) [DecidablePred p] : Finset m.view.ty.Idx :=
  m.view.setOn (Finset.univ.filter fun y : S32x1024.Idx => p (y 0).val)

abbrev outM (m : Memref sg κ sp S32x1024 e) (o : Fin 2 → ℕ) (h : ∀ a, o a + S1x1024.size a ≤ S32x1024.size a)
    (hq : S1x1024.Squeezes S1024) : Memref sg κ sp S1024 e :=
  (m.slice (Rect.unit (s := S32x1024) o S1x1024.size h) (fun _ => rfl)).squeeze S1024 hq

theorem reshape_1a {a : ℕ} (h : (⟨1, ![a]⟩ : Shape).numel = (⟨2, ![1, a]⟩ : Shape).numel) (i : Fin a) :
    Shape.reshapeEquiv h (ix1 i) = ix2 (0 : Fin 1) i :=
  shapeCast_1a_a_apply (fun j => j) h i

theorem out_emb {r : ℕ} (hr : r < 32) {o : Fin 2 → ℕ} (h : ∀ a, o a + S1x1024.size a ≤ S32x1024.size a)
    (hq : S1x1024.Squeezes S1024) (ho : o = ![r, 0]) (j : Fin 1024) :
    (Rect.unit (s := S32x1024) o S1x1024.size h).emb (Shape.reshapeEquiv hq.numel_eq (ix1 j)) = ix2 (⟨r, hr⟩ : Fin 32) j := by
  subst ho
  have e := reshape_1a (a := 1024) hq.numel_eq j
  rw [show Shape.reshapeEquiv hq.numel_eq (ix1 j) = (ix2 (0 : Fin 1) j : S1x1024.Idx) from e]
  funext a
  apply Fin.ext
  match a with
  | 0 => show r + 1 * 0 = r; omega
  | 1 => show 0 + 1 * j.val = j.val; omega

theorem ix1_eta (y : S1024.Idx) : y = ix1 (y 0 : Fin 1024) := by funext a; match a with | 0 => rfl

theorem outM_set (m : Memref sg κ sp S32x1024 e) {r : ℕ} (hr : r < 32) {o : Fin 2 → ℕ}
    (h : ∀ a, o a + S1x1024.size a ≤ S32x1024.size a) (hq : S1x1024.Squeezes S1024) (ho : o = ![r, 0]) :
    (outM m o h hq).view.set = outRows m (· = r) := by
  show ((m.view.slice (Rect.unit (s := S32x1024) o S1x1024.size h)).reshape S1024 hq.numel_eq).set = _
  ext i
  simp only [View.set, outRows, View.setOn, Finset.mem_map, Finset.mem_univ, true_and, Finset.mem_filter, View.emb_slice, View.emb_reshape,
    Function.Embedding.trans_apply, Equiv.coe_toEmbedding]
  constructor
  · rintro ⟨y, rfl⟩
    refine ⟨_, ?_, rfl⟩
    obtain ⟨j, rfl⟩ : ∃ j : Fin 1024, y = ix1 j := ⟨_, ix1_eta y⟩
    exact congrArg (fun z : S32x1024.Idx => (z 0).val) (out_emb hr h hq ho j)
  · rintro ⟨y, h1, rfl⟩
    refine ⟨ix1 (y 1 : Fin 1024), ?_⟩
    refine congrArg m.view.emb ((out_emb hr h hq ho (y 1 : Fin 1024)).trans ?_)
    funext a
    match a with
    | 0 => exact Fin.ext h1.symm
    | 1 => rfl

theorem outM_read (m : Memref sg κ sp S32x1024 e) {r : ℕ} (hr : r < 32) {o : Fin 2 → ℕ}
    (h : ∀ a, o a + S1x1024.size a ≤ S32x1024.size a) (hq : S1x1024.Squeezes S1024) (ho : o = ![r, 0])
    (f : m.view.ty.Contents Val) (j : Fin 1024) :
    (outM m o h hq).view.read Val f (ix1 j) = m.view.read Val f (ix2 (⟨r, hr⟩ : Fin 32) j) := by
  rw [← out_emb hr h hq ho j]; rfl

/-- Contents agree on a row when they read alike there. -/
theorem agree_of_out (m : Memref sg κ sp S32x1024 e) {r : ℕ} (hr : r < 32) {f g : m.view.ty.Contents Val}
    (h : ∀ j : Fin 1024, m.view.read Val f (ix2 (⟨r, hr⟩ : Fin 32) j) = m.view.read Val g (ix2 (⟨r, hr⟩ : Fin 32) j)) :
    ∀ i ∈ outRows m (· = r), f i = g i := by
  intro i hi
  obtain ⟨y, hy, rfl⟩ := Finset.mem_map.mp hi
  simp only [Finset.mem_filter, Finset.mem_univ, true_and] at hy
  have e : y = ix2 (⟨r, hr⟩ : Fin 32) (y 1 : Fin 1024) := by
    funext a
    match a with
    | 0 => exact Fin.ext hy
    | 1 => rfl
  rw [e]
  exact View.eq_of_read_eq (h (y 1))

theorem outRows_disjoint (m : Memref sg κ sp S32x1024 e) (p q : ℕ → Prop) [DecidablePred p] [DecidablePred q] (h : ∀ r, p r → ¬ q r) :
    Disjoint (outRows m p) (outRows m q) := by
  unfold outRows View.setOn
  rw [Finset.disjoint_map]
  refine Finset.disjoint_left.mpr fun y h1 h2 => ?_
  simp only [Finset.mem_filter, Finset.mem_univ, true_and] at h1 h2
  exact h _ h1 h2

theorem outRows_deal (m : Memref sg κ sp S32x1024 e) {n : ℕ} (p : ℕ → Prop) [DecidablePred p] (q : Fin n → ℕ → Prop) [∀ i, DecidablePred (q i)]
    (h : ∀ r < 32, p r ↔ ∃ i, q i r) : (Finset.univ : Finset (Fin n)).biUnion (fun i => outRows m (q i)) = outRows m p := by
  ext z
  simp only [Finset.mem_biUnion, Finset.mem_univ, true_and]
  unfold outRows View.setOn
  simp only [Finset.mem_map, Finset.mem_filter, Finset.mem_univ, true_and]
  constructor
  · rintro ⟨i, y, h1, rfl⟩
    exact ⟨y, (h _ (y 0).isLt).mpr ⟨i, h1⟩, rfl⟩
  · rintro ⟨y, h1, rfl⟩
    obtain ⟨i, hi⟩ := (h _ (y 0).isLt).mp h1
    exact ⟨i, y, hi, rfl⟩

theorem outRows_all (m : Memref sg κ sp S32x1024 e) : outRows m (fun _ => True) = m.view.set :=
  congrArg (Finset.map m.view.emb) (Finset.filter_true_of_mem fun _ _ => trivial)

end Geometry

end Cert.Proof.Hist

end

end
-- ==== Proof.Hist.Tile.lean ====
/-
  One subcore's task of the histogram kernel: the grid's two numbers fetched, the table cleared, its rows counted, the table written out.
-/
module

public import proofs.«01_k».proof.Proof.Hist.Trip
public import proofs.«01_k».proof.Proof.Hist.Out

@[expose] public section

set_option synthInstance.maxSize 4096

noncomputable section

namespace Cert.Proof.Hist

open Cert.HistIdeal Cert.HistIdeal.Gen
open Cert.Proof.Sc (rows slot rows_split rows_disjoint rows_empty rowM slotM cell2 cell3 col)
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight)

variable {F : FTy → Type} [FloatOps F]

local notation "𝕄" => MT nD τ sig (HIx 1) (Elt F) ℕ UU ℕ

section Tile

variable (d : Dev nD) (i : grid0.Coords)

variable (arg2 : Memref sig .scVector .hbm S4096x2048 .f32) (harg2 : arg2.IsWhole) (arg3 : Memref sig .scVector .hbm S2x16 .f32) (harg3 : arg3.IsWhole)
  (arg4 : Memref sig .scVector .hbm S32x1024 .f32) (harg4 : arg4.IsWhole) (arg5 : Memref sig .scVector .vmem S1024 .f32) (harg5 : arg5.IsWhole)
  (arg6 : Memref sig .scVector .vmem S2x16 .f32) (harg6 : arg6.IsWhole) (v9_r0 : DmaSems sig S_)
  (aI : Memref sig .scVector .vmem S2x1x2048 .f32) (haI : aI.IsWhole) (sI : DmaSems sig S2) (v9_r2 : DmaSems sig S_)

/-- The table cleared on its entries below `16 * k`. -/
def zeroI (k : ℕ) : sProp 𝕄 :=
  iprop(∃ f5, ⌜∀ c : Fin 1024, c.val < 16 * k → arg5.view.read (Elt F) f5 (ix1 c) = Scalar.ofBits .f32 0x00000000#32⌝
    ∗ arg5.view.loc (thr d i) ↦{fullShare} f5)

theorem zero_emb {c : ℕ} (hc : c + 16 ≤ 1024) {o : Fin 1 → ℕ} (h : ∀ a, o a + S16.size a ≤ S1024.size a) (ho : o = ![c]) (l : Fin 16) :
    (Rect.unit (s := S1024) o S16.size h).emb (ix1 l) = ix1 (⟨c + l.val, by omega⟩ : Fin 1024) := by
  subst ho
  funext a
  apply Fin.ext
  match a with
  | 0 => show c + 1 * l.val = c + l.val; omega

theorem zero_step (k : Fin k0_t1_loop.trips) (acc : Unit) :
    zeroI d i arg5 k.val
      ⊢ wp frame (wpE (defs₀ (F := F)) 𝒱₀ (V d (cV i) (jV i)) none) Set.univ (k0_t1_body i arg2 harg2 arg3 harg3 arg4 harg4 arg5 harg5 arg6 harg6 v9_r0 aI haI sI v9_r2 k acc)
          fun _ => zeroI d i arg5 (k.val + 1) := by
  have hk : k.val < 64 := lt_of_lt_of_eq k.isLt trips1
  have hc : 16 * k.val + 16 ≤ 1024 := by omega
  unfold k0_t1_body
  simp only [Prog.lift, Prog.bind_op, Prog.bind_ret, Prog.pure_eq_ret]
  unfold zeroI
  iintro ⟨%f5, %h5, H5⟩
  iapply (wp_load 𝒱₀ (V d (cV i) (jV i)) none Set.univ (m := arg5) (S := Finset.univ) (q := fullShare) (f := f5) (Finset.subset_univ _)) $$ H5
  iintro H5
  iapply (wp_store 𝒱₀ (V d (cV i) (jV i)) none Set.univ (m := arg5) (r := Rect.unit (s := S1024) (k0_off1 k) S16.size (k0_off1_inb k)) (Mk := Finset.univ) (S := Finset.univ) (f := f5) (Finset.subset_univ _)) $$ H5
  iintro H5
  rw [wp_ret]
  imodintro
  iexists _; isplitr
  swap; · iexact H5
  ipureintro
  intro c hcj
  by_cases hlt : c.val < 16 * k.val
  · refine (View.read_slice_write_of_not_mem (v := arg5.view) (Rect.unit (s := S1024) (k0_off1 k) S16.size (k0_off1_inb k)) f5 _ Finset.univ ?_).trans (h5 c hlt)
    intro hm
    obtain ⟨y, -, hy⟩ := Finset.mem_map.mp hm
    obtain ⟨l, rfl⟩ : ∃ l : Fin 16, y = ix1 l := ⟨y 0, by funext a; match a with | 0 => rfl⟩
    have h1 := congrArg Fin.val (congrFun ((zero_emb hc (k0_off1_inb k) (e_off1 k) l).symm.trans hy) 0)
    have h2 : 16 * k.val + l.val = c.val := h1
    omega
  · obtain ⟨l, hl⟩ : ∃ l : Fin 16, c.val = 16 * k.val + l.val := ⟨⟨c.val - 16 * k.val, by omega⟩, by show _ = _ + (c.val - _); omega⟩
    have e : (ix1 c : S1024.Idx) = (Rect.unit (s := S1024) (k0_off1 k) S16.size (k0_off1_inb k)).emb (ix1 l) := by
      rw [zero_emb hc _ (e_off1 k)]
      exact congrArg ix1 (Fin.ext hl)
    rw [e]
    exact View.read_slice_write_emb (v := arg5.view) (Rect.unit (s := S1024) (k0_off1 k) S16.size (k0_off1_inb k)) f5 _ (Finset.mem_univ _)

set_option maxHeartbeats 8000000 in
/-- The fetch of the grid's two numbers, and the table cleared. -/
theorem part2 (q : PosShare TreeShare) (f3 : Buf (Elt F) (arg3.view.loc (thr d i)))
    {O : CellTallies nD τ sig (HIx 1)} {W : Waits sig (HIx 1)} (hO : ∀ g, O g none = 0) :
    iprop(levAts (K (F := F)).L (K (F := F)).lev ∗ (arg3.view.loc (thr d i) ↦{q} f3)
        ∗ (∃ f, arg5.view.loc (thr d i) ↦{fullShare} f) ∗ (∃ f, arg6.view.loc (thr d i) ↦{fullShare} f)
        ∗ semVal (thr d i, .dma v9_r0.sem) 0 ∗ owesW d (cV i) (jV i) O W)
      ⊢ wp frame (wpE (defs₀ (F := F)) 𝒱₀ (V d (cV i) (jV i)) none) Set.univ
          (k0_part2 i arg2 harg2 arg3 harg3 arg4 harg4 arg5 harg5 arg6 harg6 v9_r0 aI haI sI v9_r2)
          fun r => iprop(⌜r.2.2.1 = k0_pay2 (F := F) ∧ r.2.2.2 = v6w i⌝ ∗ (arg3.view.loc (thr d i) ↦{q} f3)
            ∗ histPts d i arg5 (fun _ => Scalar.ofBits (F := F) .f32 0x00000000#32)
            ∗ (∃ f, ⌜arg6.view.read (Elt F) f = arg3.view.read (Elt F) f3⌝ ∗ arg6.view.loc (thr d i) ↦{fullShare} f)
            ∗ semVal (thr d i, .dma v9_r0.sem) 0 ∗ owesW d (cV i) (jV i) O W) := by
  rw [k0_part2_eq_skeleton]
  unfold k0_part2_skel
  simp only [Prog.lift, Prog.bind_op, Prog.bind_ret, Prog.pure_eq_ret, Prog.bind_assoc]
  iintro ⟨#Hlv, H3, ⟨%f5, H5⟩, ⟨%f6, H6⟩, Hs0, HW⟩
  iapply (Transfers.wp_dmaLocal countersEmb 𝒱₀ (V d (cV i) (jV i)) none (src := arg3) (dst := arg6) (via := .same)
    (q := q) (fs := f3) (Sd := Finset.univ) (fd := f6) (none : HIx 1) arg6.view.dmaCredit rfl
    (View.dmaCredit_pos arg6.view (by decide)) (Finset.subset_univ _)) $$ [H3 H6 Hs0]
  · isplitl [H3]
    · rw [harg3.set_eq_univ]; iexact H3
    isplitl [H6]; · iexact H6
    iexact Hs0
  iintro Hf
  iapply (wp_rowWait d (cV i) (jV i) (rfl : v9_r0.sem = v9_r0.sem) hO rfl) $$ [Hf HW]
  · isplitr [Hf HW]; · iexact Hlv
    isplitl [Hf]; · iexact Hf
    iexact HW
  iintro ⟨⟨H6, H3⟩, Hs0, HW⟩
  rw [wp_bind]
  iapply (Scf.wp_for frame (wpE (defs₀ (F := F)) 𝒱₀ (V d (cV i) (jV i)) none) Set.univ _ _ _ k0_t1_ok _ _
    (fun k _ => zeroI d i arg5 k) (fun k acc => zero_step d i arg2 harg2 arg3 harg3 arg4 harg4 arg5 harg5 arg6 harg6 v9_r0 aI haI sI v9_r2 k acc))
  isplitl [H5]
  · unfold zeroI
    iexists f5; isplitr
    · ipureintro; intro c hc; omega
    iexact H5
  rw [show Scf.trips k0_t1_loop.lb k0_t1_loop.ub k0_t1_loop.st = 64 from trips1]
  unfold zeroI
  iintro %acc ⟨%g5, %h5, H5⟩
  rw [wp_ret]
  imodintro
  isplitr
  · ipureintro; exact ⟨rfl, rfl⟩
  isplitl [H3]
  · rw [harg3.set_eq_univ]; iexact H3
  isplitl [H5]
  · unfold histPts
    iexists g5; isplitr
    · ipureintro
      funext y
      rw [ix1_eta y]
      exact h5 _ (show (y 0).val < 1024 from (y 0).isLt)
    iexact H5
  isplitl [H6]
  · iexists _; isplitr
    swap; · iexact H6
    ipureintro
    exact View.read_write_univ _ _
  isplitl [Hs0]; · iexact Hs0
  iexact HW

set_option maxHeartbeats 8000000 in
/-- The first row's fetch and the whole loop. -/
theorem part3 (arg0 arg1 : BitVec 32) (X : Buf (Elt F) (arg2.view.loc (thr d i))) (f6 : Buf (Elt F) (arg6.view.loc (thr d i)))
    {O : CellTallies nD τ sig (HIx 1)} {W : Waits sig (HIx 1)} (hO : ∀ g, O g none = 0) :
    iprop(levAts (K (F := F)).L (K (F := F)).lev ∗ rowPts d (cV i) (jV i) arg2 (base i) (base i + 128) X
        ∗ inFree d i aI sI 0 ∗ inFree d i aI sI 1 ∗ histPts d i arg5 (fun _ => Scalar.ofBits (F := F) .f32 0x00000000#32)
        ∗ (arg6.view.loc (thr d i) ↦{fullShare} f6) ∗ owesW d (cV i) (jV i) O W)
      ⊢ wp frame (wpE (defs₀ (F := F)) 𝒱₀ (V d (cV i) (jV i)) none) Set.univ
          (k0_part3 i arg2 harg2 arg3 harg3 arg4 harg4 arg5 harg5 arg6 harg6 v9_r0 aI haI sI v9_r2 arg0 arg1 k0_pay2 (v6w i))
          fun _ => iprop(rowPts d (cV i) (jV i) arg2 (base i) (base i + 128) X
            ∗ inFree d i aI sI 0 ∗ inFree d i aI sI 1
            ∗ histPts d i arg5 (countRows (arg6.view.read (Elt F) f6) (arg2.view.read (Elt F) X) (base i) 128)
            ∗ (arg6.view.loc (thr d i) ↦{fullShare} f6) ∗ owesW d (cV i) (jV i) O W) := by
  have hbl := base_le i
  rw [k0_part3_eq_skeleton]
  unfold k0_part3_skel
  simp only [Prog.lift, Prog.bind_op, Prog.bind_ret, Prog.pure_eq_ret, Prog.bind_assoc]
  iintro ⟨#Hlv, Hx, Hi0, Hi1, H5, H6, HW⟩
  icases (rowPts_cons d i arg2 (show base i < base i + 128 by omega) X) $$ Hx with ⟨Hx, Hxr⟩
  unfold inFree
  icases Hi0 with ⟨Hs, Hv⟩
  iapply (wp_rowIn d (cV i) (jV i) (X := X) (show base i < 4096 by omega) (show 0 < 2 by decide) (e_off3 i) e_off2 e_off4) $$ [Hx Hs Hv]
  · isplitl [Hx]; · iexact Hx
    isplitl [Hs]; · iexact Hs
    iexact Hv
  iintro Hf
  rw [wp_bind]
  iapply (Scf.wp_for frame (wpE (defs₀ (F := F)) 𝒱₀ (V d (cV i) (jV i)) none) Set.univ _ _ _ k0_t2_ok _ _
    (fun k acc => tripI d i arg2 arg5 arg6 aI sI X f6 O W k acc)
    (fun k acc => trip d i arg2 harg2 arg3 harg3 arg4 harg4 arg5 harg5 arg6 harg6 v9_r0 aI haI sI v9_r2 arg0 arg1 X f6 hO k acc))
  isplitl [Hxr Hf Hi1 H5 H6 HW]
  · unfold tripI inSt inFree rowPts
    rw [if_pos (show 0 < 128 by decide), rows_empty arg2 (show base i + 0 ≤ base i by omega), pointsTo_empty]
    isplitr
    · ipureintro; decide +kernel
    isplitr; · iexact Hlv
    isplitr; · iempintro
    isplitl [Hxr]; · iexact Hxr
    isplitl [Hf]; · iexact Hf
    isplitl [Hi1]; · iexact Hi1
    isplitl [H5]; · iexact H5
    isplitl [H6]; · iexact H6
    iexact HW
  rw [show Scf.trips k0_t2_loop.lb k0_t2_loop.ub k0_t2_loop.st = 128 from trips2]
  iintro %acc H
  unfold tripI inSt inFree
  rw [if_neg (show ¬ (128 : ℕ) < 128 by decide)]
  icases H with ⟨-, -, Hx, -, Hi0, Hi1, H5, H6, HW⟩
  rw [wp_ret]
  imodintro
  isplitl [Hx]; · iexact Hx
  isplitl [Hi0]; · iexact Hi0
  isplitl [Hi1]; · iexact Hi1
  isplitl [H5]; · iexact H5
  isplitl [H6]; · iexact H6
  iexact HW

/-- What a subcore's task is given and gives back beside what it computes. -/
def tileRest (q : PosShare TreeShare) (X : Buf (Elt F) (arg2.view.loc (thr d i))) (f3 : Buf (Elt F) (arg3.view.loc (thr d i)))
    (O : CellTallies nD τ sig (HIx 1)) (W : Waits sig (HIx 1)) : sProp 𝕄 :=
  iprop(rowPts d (cV i) (jV i) arg2 (base i) (base i + 128) X ∗ (arg3.view.loc (thr d i) ↦{q} f3)
    ∗ (∃ f, arg5.view.loc (thr d i) ↦{fullShare} f) ∗ (∃ f, arg6.view.loc (thr d i) ↦{fullShare} f)
    ∗ inFree d i aI sI 0 ∗ inFree d i aI sI 1
    ∗ semVal (thr d i, .dma v9_r0.sem) 0 ∗ semVal (thr d i, .dma v9_r2.sem) 0 ∗ owesW d (cV i) (jV i) O W)

set_option maxHeartbeats 8000000 in
/-- One subcore's task: its rows counted into its row of the result. -/
theorem tile (q : PosShare TreeShare) (X : Buf (Elt F) (arg2.view.loc (thr d i))) (Q0 G : Buf (Elt F) (arg4.view.loc (thr d i)))
    (f3 : Buf (Elt F) (arg3.view.loc (thr d i)))
    {O : CellTallies nD τ sig (HIx 1)} {W : Waits sig (HIx 1)} (hO : ∀ g, O g none = 0)
    (hr : 2 * (i 1).val + (i 0).val < 32)
    (hG : ∀ j : Fin 1024, arg4.view.read (Elt F) G (ix2 (⟨2 * (i 1).val + (i 0).val, hr⟩ : Fin 32) j)
      = countRows (arg3.view.read (Elt F) f3) (arg2.view.read (Elt F) X) (base i) 128 (ix1 j)) :
    iprop(levAts (K (F := F)).L (K (F := F)).lev
        ∗ (arg4.view.loc (thr d i) ↦[outRows arg4 (· = 2 * (i 1).val + (i 0).val)]{fullShare} Q0)
        ∗ tileRest d i arg2 arg3 arg5 arg6 v9_r0 aI sI v9_r2 q X f3 O W)
      ⊢ wp frame (wpE (defs₀ (F := F)) 𝒱₀ (V d (cV i) (jV i)) none) Set.univ
          (cc0_k i arg2 harg2 arg3 harg3 arg4 harg4 arg5 harg5 arg6 harg6 v9_r0 aI haI sI v9_r2)
          fun _ => iprop((arg4.view.loc (thr d i) ↦[outRows arg4 (· = 2 * (i 1).val + (i 0).val)]{fullShare} G)
            ∗ tileRest d i arg2 arg3 arg5 arg6 v9_r0 aI sI v9_r2 q X f3 O W) := by
  rw [cc0_k_eq_skeleton]
  unfold cc0_k_skel tileRest
  simp only [Prog.lift, Prog.bind_op, Prog.bind_ret, Prog.pure_eq_ret, Prog.bind_assoc]
  iintro ⟨#Hlv, Hy, Hx, H3, H5, H6, Hi0, Hi1, Hs0, Hs1, HW⟩
  rw [wp_bind]
  iapply (wp_wand frame _ Set.univ) $$ [H3 H5 H6 Hs0 HW]
  · iapply (part2 d i arg2 harg2 arg3 harg3 arg4 harg4 arg5 harg5 arg6 harg6 v9_r0 aI haI sI v9_r2 q f3 hO) $$ [H3 H5 H6 Hs0 HW]
    isplitr [H3 H5 H6 Hs0 HW]; · iexact Hlv
    isplitl [H3]; · iexact H3
    isplitl [H5]; · iexact H5
    isplitl [H6]; · iexact H6
    isplitl [Hs0]; · iexact Hs0
    iexact HW
  iintro %r ⟨%hr', H3, H5, ⟨%f6, %h6, H6⟩, Hs0, HW⟩
  obtain ⟨arg0, arg1, v1, v6⟩ := r
  obtain ⟨e1, e6⟩ := hr'
  dsimp only at e1 e6 ⊢
  subst e1 e6
  rw [wp_bind]
  iapply (wp_wand frame _ Set.univ) $$ [Hx Hi0 Hi1 H5 H6 HW]
  · iapply (part3 d i arg2 harg2 arg3 harg3 arg4 harg4 arg5 harg5 arg6 harg6 v9_r0 aI haI sI v9_r2 arg0 arg1 X f6 hO) $$ [Hx Hi0 Hi1 H5 H6 HW]
    isplitr [Hx Hi0 Hi1 H5 H6 HW]; · iexact Hlv
    isplitl [Hx]; · iexact Hx
    isplitl [Hi0]; · iexact Hi0
    isplitl [Hi1]; · iexact Hi1
    isplitl [H5]; · iexact H5
    isplitl [H6]; · iexact H6
    iexact HW
  unfold histPts
  iintro %r' ⟨Hx, Hi0, Hi1, ⟨%f5, %h5, H5⟩, H6, HW⟩
  iapply (Transfers.wp_dmaLocal countersEmb 𝒱₀ (V d (cV i) (jV i)) none (src := arg5)
    (dst := outM arg4 (k0_off13 i) (k0_off13_inb i) squeezes_S1x1024_S1024) (via := .same)
    (q := fullShare) (fs := f5) (Sd := outRows arg4 (· = 2 * (i 1).val + (i 0).val)) (fd := Q0) (none : HIx 1)
    (outM arg4 (k0_off13 i) (k0_off13_inb i) squeezes_S1x1024_S1024).view.dmaCredit rfl
    (View.dmaCredit_pos (outM arg4 (k0_off13 i) (k0_off13_inb i) squeezes_S1x1024_S1024).view (by decide))
    (outM_set arg4 hr (k0_off13_inb i) squeezes_S1x1024_S1024 (e_off13 i)).subset) $$ [H5 Hy Hs1]
  · isplitl [H5]
    · rw [harg5.set_eq_univ]; iexact H5
    isplitl [Hy]; · iexact Hy
    iexact Hs1
  iintro Hf
  iapply (wp_rowWait d (cV i) (jV i) (rfl : v9_r2.sem = v9_r2.sem) hO rfl) $$ [Hf HW]
  · isplitr [Hf HW]; · iexact Hlv
    isplitl [Hf]; · iexact Hf
    iexact HW
  iintro ⟨⟨Hy, H5⟩, Hs1, HW⟩
  rw [wp_ret]
  imodintro
  isplitl [Hy]
  · iapply (Entails.of_eq (pointsTo_congr (?_))) $$ Hy
    refine agree_of_out (Val := Elt F) arg4 hr fun j => ?_
    have e1 := outM_read (Val := Elt F) arg4 hr (k0_off13_inb i) squeezes_S1x1024_S1024 (e_off13 i)
      ((outM arg4 (k0_off13 i) (k0_off13_inb i) squeezes_S1x1024_S1024).view.write (Elt F) Q0 (ReadAs.same.apply (arg5.view.read (Elt F) f5)) Finset.univ) j
    rw [View.read_write_univ] at e1
    rw [hG j, ← h6, ← congrFun h5 (ix1 j)]
    exact e1.symm
  isplitl [Hx]; · iexact Hx
  isplitl [H3]; · iexact H3
  isplitl [H5]
  · iexists f5; rw [harg5.set_eq_univ]; iexact H5
  isplitl [H6]; · iexists f6; iexact H6
  isplitl [Hi0]; · iexact Hi0
  isplitl [Hi1]; · iexact Hi1
  isplitl [Hs0]; · iexact Hs0
  isplitl [Hs1]; · iexact Hs1
  iexact HW

end Tile

end Cert.Proof.Hist

end

end
-- ==== Proof.Hist.Task.lean ====
/-
  The histogram kernel's task on the launch's own buffers, what the launch hands each core and each subcore, and the launch obligation.
-/
module

public import proofs.«01_k».proof.Proof.Hist.Tile
public import proofs.«01_k».proof.Proof.Sc.Task

@[expose] public section

set_option synthInstance.maxSize 4096

noncomputable section

namespace Cert.Proof.Hist

open Cert.HistIdeal Cert.HistIdeal.Gen
open Cert.Proof.Sc (rows slot rows_all slot_all slot_disjoint rows_deal rows_deal_disjoint coordsV qc qt)
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight)

variable {F : FTy → Type} [FloatOps F]

local notation "𝕄" => MT nD τ sig (HIx 1) (Elt F) ℕ UU ℕ

/-! ## The launch's buffers -/

abbrev xM : Memref sig .scVector .hbm S4096x2048 .f32 := Memref.whole main_v0_scv
abbrev pM : Memref sig .scVector .hbm S2x16 .f32 := Memref.whole main_v13_scv
abbrev yM : Memref sig .scVector .hbm S32x1024 .f32 := Memref.whole main_v14_scv
abbrev c5 : Memref sig .scVector .vmem S1024 .f32 := Memref.whole cc0_scratch0
abbrev c6 : Memref sig .scVector .vmem S2x16 .f32 := Memref.whole cc0_scratch1
abbrev aI : Memref sig .scVector .vmem S2x1x2048 .f32 := Memref.whole cc0_scoped1

abbrev xLoc (d : Dev nD) : Loc nD τ sig := (SparseCore.T d).loc main_v0
abbrev pLoc (d : Dev nD) : Loc nD τ sig := (SparseCore.T d).loc main_v13
abbrev yLoc (d : Dev nD) : Loc nD τ sig := (SparseCore.T d).loc main_v14

/-- The three arrays' contents as the call begins. -/
structure Vals (F : FTy → Type) where
  x : (d : Dev nD) → Buf (Elt F) (xLoc d)
  p : (d : Dev nD) → Buf (Elt F) (pLoc d)
  y : (d : Dev nD) → Buf (Elt F) (yLoc d)

variable (v : Vals F)

/-- The first of the rows counted into row `r` of the result. -/
def firstRow (r : ℕ) : ℕ := (r / 2 + r % 2 * 16) * 128

/-- The result's contents as the call ends: row `r` counts 128 rows from `firstRow r` on. -/
def Vals.g (d : Dev nD) : Buf (Elt F) (yLoc d) :=
  fun j : S32x1024.Idx => countRows (v.p d) (v.x d) (firstRow (j 0).val) 128 (ix1 (j 1 : Fin 1024))

/-! ## What each core and each subcore is handed -/

/-- What core `c` is handed, the result's rows at `f`. -/
def coreP (d : Dev nD) (c : Fin 2) (f : Buf (Elt F) (yLoc d)) : sProp 𝕄 :=
  iprop((xLoc d ↦[rows xM (c.val * 2048) (c.val * 2048 + 16 * 128)]{fullShare} v.x d) ∗ (pLoc d ↦{qc c} v.p d)
    ∗ yLoc d ↦[outRows yM (· % 2 = c.val)]{fullShare} f)

/-- What subcore `i` of core `c` is handed. -/
def taskP (d : Dev nD) (c : Fin 2) (i : Fin 16) (f : Buf (Elt F) (yLoc d)) : sProp 𝕄 :=
  iprop((xLoc d ↦[rows xM (c.val * 2048 + i.val * 128) (c.val * 2048 + i.val * 128 + 128)]{fullShare} v.x d) ∗ (pLoc d ↦{qt c i} v.p d)
    ∗ yLoc d ↦[outRows yM (· = 2 * i.val + c.val)]{fullShare} f)

instance coreP_storable (d : Dev nD) (c : Fin 2) (f : Buf (Elt F) (yLoc d)) : BI.Storable (upEmb : UEmb _ 𝕄) (coreP v d c f) := by
  unfold coreP; infer_instance
instance taskP_storable (d : Dev nD) (c : Fin 2) (i : Fin 16) (f : Buf (Elt F) (yLoc d)) : BI.Storable (upEmb : UEmb _ 𝕄) (taskP v d c i f) := by
  unfold taskP; infer_instance

/-- What the launch's handshakes carry. -/
def P : (K (F := F)).Pay (nD := nD) (Val := Elt F) (Name := ℕ) (U := UU) where
  st := fun q d c => match q with | 0 => coreP v d (Fin.cast nCore_zero c) (v.y d)
  dn := fun q d c => match q with | 0 => coreP v d (Fin.cast nCore_zero c) (v.g d)
  go := fun q d c i => match q with | 0 => taskP v d (Fin.cast nCore_zero c) (Fin.cast nSub_zero i) (v.y d)
  td := fun q d c i => match q with | 0 => taskP v d (Fin.cast nCore_zero c) (Fin.cast nSub_zero i) (v.g d)
  x := fun _ _ => iprop(emp)

instance P_storable : (P v).IsStorable where
  st q d c := match q with | 0 => coreP_storable v d (Fin.cast nCore_zero c) (v.y d)
  dn q d c := match q with | 0 => coreP_storable v d (Fin.cast nCore_zero c) (v.g d)
  go q d c i := match q with | 0 => taskP_storable v d (Fin.cast nCore_zero c) (Fin.cast nSub_zero i) (v.y d)
  td q d c i := match q with | 0 => taskP_storable v d (Fin.cast nCore_zero c) (Fin.cast nSub_zero i) (v.g d)

theorem x_deal (d : Dev nD) (a n k : ℕ) (f : Buf (Elt F) (xLoc d)) :
    (xLoc d ↦[rows xM a (a + n * k)]{fullShare} f : sProp 𝕄)
      = bigSep Finset.univ fun i : Fin n => xLoc d ↦[rows xM (a + i.val * k) (a + i.val * k + k)]{fullShare} f := by
  rw [← pointsTo_biUnion Finset.univ (ℓ := xLoc d) (fun i : Fin n => rows xM (a + i.val * k) (a + i.val * k + k)) (rows_deal_disjoint xM a n k), rows_deal]

theorem y_deal (d : Dev nD) {n : ℕ} (p : ℕ → Prop) [DecidablePred p] (q : Fin n → ℕ → Prop) [∀ i, DecidablePred (q i)]
    (h : ∀ r < 32, p r ↔ ∃ i, q i r) (hd : ∀ i j, i ≠ j → ∀ r, q i r → ¬ q j r) (f : Buf (Elt F) (yLoc d)) :
    (yLoc d ↦[outRows yM p]{fullShare} f : sProp 𝕄) = bigSep Finset.univ fun i : Fin n => yLoc d ↦[outRows yM (q i)]{fullShare} f := by
  rw [← pointsTo_biUnion Finset.univ (ℓ := yLoc d) (fun i : Fin n => outRows yM (q i)) (fun i _ j _ hij => outRows_disjoint yM _ _ (hd i j hij)),
    outRows_deal yM p q h]

theorem coreP_tasks (d : Dev nD) (c : Fin 2) (f : Buf (Elt F) (yLoc d)) :
    coreP v d c f = bigSep Finset.univ fun i : Fin 16 => taskP v d c i f := by
  have hc := c.isLt
  have hy := y_deal (F := F) d (fun r => r % 2 = c.val) (fun (i : Fin 16) r => r = 2 * i.val + c.val)
    (fun r hr => ⟨fun h => ⟨⟨r / 2, by omega⟩, by show r = 2 * (r / 2) + c.val; omega⟩, fun ⟨i, h⟩ => by omega⟩)
    (fun i j hij r h1 h2 => hij (Fin.ext (by omega))) f
  unfold coreP taskP qt
  rw [bigSep_sep', bigSep_sep', ← x_deal d _ 16 128, hy, ← Transfers.pointsTo_deal Finset.univ ⟨0, Finset.mem_univ _⟩ (qc c)]

/-- The three arrays whole, the result at `f`. -/
def wholeP (d : Dev nD) (f : Buf (Elt F) (yLoc d)) : sProp 𝕄 :=
  iprop((xLoc d ↦{fullShare} v.x d) ∗ (pLoc d ↦{fullShare} v.p d) ∗ yLoc d ↦{fullShare} f)

theorem wholeP_cores (d : Dev nD) (f : Buf (Elt F) (yLoc d)) :
    wholeP v d f = bigSep Finset.univ fun c : Fin 2 => coreP v d c f := by
  have hx := x_deal (F := F) d 0 2 2048 (v.x d)
  have hy := y_deal (F := F) d (fun _ => True) (fun (c : Fin 2) r => r % 2 = c.val)
    (fun r _ => ⟨fun _ => ⟨⟨r % 2, by omega⟩, rfl⟩, fun _ => trivial⟩)
    (fun i j hij r h1 h2 => hij (Fin.ext (by omega))) f
  simp only [Nat.zero_add] at hx
  rw [show (2 * 2048 : ℕ) = 4096 from rfl, rows_all, View.set_whole] at hx
  rw [outRows_all, View.set_whole] at hy
  unfold wholeP coreP qc
  rw [bigSep_sep', bigSep_sep', ← Transfers.pointsTo_deal Finset.univ ⟨0, Finset.mem_univ _⟩ fullShare, hx, hy]

theorem vecSplit : (K (F := F)).VecSplit' (P v) 0 := by
  intro d c
  show coreP v d (Fin.cast nCore_zero c) (v.y d) ⊢ |={Set.univ}=> iprop(
      (bigSep Finset.univ fun i : Fin 16 => taskP v d (Fin.cast nCore_zero c) i (v.y d))
      ∗ ((bigSep Finset.univ fun i : Fin 16 => taskP v d (Fin.cast nCore_zero c) i (v.g d)) -∗ coreP v d (Fin.cast nCore_zero c) (v.g d)))
  rw [coreP_tasks, coreP_tasks]
  iintro H; imodintro
  isplitl [H]; · iexact H
  iintro H; iexact H

/-! ## A subcore's own cells and buffers -/

/-- The members an injective list names, and the others. -/
theorem bigSep_named {I J : Type} [DecidableEq I] [DecidableEq J] {s : Finset I} {t : Finset J} {f : J → I} (inj : Set.InjOn f t)
    (sub : ∀ j ∈ t, f j ∈ s) {Φ : I → sProp 𝕄} :
    bigSep s Φ = iprop(bigSep t (fun j => Φ (f j)) ∗ bigSep (s \ t.image f) Φ) := by
  have h : t.image f ⊆ s := fun x mem => by obtain ⟨j, among, rfl⟩ := Finset.mem_image.mp mem; exact sub j among
  conv_lhs => rw [← Finset.union_sdiff_of_subset h]
  rw [bigSep_union Finset.disjoint_sdiff, SparseCore.bigSep_image_of_injOn inj]
  rfl

section Task

variable (d : Dev nD) (i : grid0.Coords)

def ownL : Finset (SemLoc sig) :=
  {.dma cc0_scoped0.sem, .dma cc0_scoped3.sem, .dma (semB cc0_scoped2 0), .dma (semB cc0_scoped2 1)}
def ownB : Finset (Ref sig .scVector) := {cc0_scratch0, cc0_scratch1, cc0_scoped1}

def semsRest (d : Dev nD) (i : grid0.Coords) : sProp 𝕄 :=
  bigSep (ownCells (thr d i) \ ownL.image fun s => ((thr d i, s) : GSem nD τ sig)) fun g => semVal g 0

theorem ownSems0_V : (ownSems0 (thr d i) : sProp 𝕄)
    = iprop((semVal (thr d i, .dma cc0_scoped0.sem) 0 ∗ semVal (thr d i, .dma cc0_scoped3.sem) 0
        ∗ semVal (thr d i, .dma (semB cc0_scoped2 0)) 0 ∗ semVal (thr d i, .dma (semB cc0_scoped2 1)) 0) ∗ semsRest d i) := by
  unfold SparseCore.Cfg.ownSems0 semsRest
  rw [bigSep_named (t := ownL) (f := fun s => ((thr d i, s) : GSem nD τ sig)) (fun a _ b _ h => (Prod.mk.inj h).2)
    (fun s hs => (mem_ownCells (g := (thr d i, s))).mpr ⟨rfl, by
      have h : ∀ s ∈ ownL, (s : SemLoc sig).isScoped .scVector = true := by decide +kernel
      exact h s hs⟩)]
  congr 1
  unfold ownL
  rw [SparseCore.bigSep_insert' (by decide +kernel), SparseCore.bigSep_insert' (by decide +kernel), SparseCore.bigSep_insert' (by decide +kernel), bigSep_singleton]

def bufsRest (d : Dev nD) (i : grid0.Coords) : sProp 𝕄 :=
  bigSep (ownRefs (τ := τ) (.scVector (cV i) (jV i)) \ ownB.image fun b => (Proc.scVector (cV i) (jV i)).devRef b)
    fun b => iprop(∃ f, ((d, b) : Loc nD τ sig) ↦{fullShare} f)

theorem ownBufs_V : (ownBufs (thr d i) : sProp 𝕄)
    = iprop(((∃ f, c5.view.loc (thr d i) ↦{fullShare} f) ∗ (∃ f, c6.view.loc (thr d i) ↦{fullShare} f)
        ∗ (∃ f, aI.view.loc (thr d i) ↦{fullShare} f)) ∗ bufsRest d i) := by
  unfold SparseCore.Cfg.ownBufs bufsRest
  rw [bigSep_named (t := ownB) (f := fun b => (Proc.scVector (cV i) (jV i)).devRef b) (fun a _ b _ h => Proc.devRef_injective _ h)
    (fun b hb => mem_ownRefs_of_owner (p := Proc.scVector (cV i) (jV i)) (by
      unfold ownB at hb
      simp only [Finset.mem_insert, Finset.mem_singleton] at hb
      rcases hb with rfl | rfl | rfl <;> rfl))]
  congr 1
  unfold ownB
  rw [SparseCore.bigSep_insert' (by decide +kernel), SparseCore.bigSep_insert' (by decide +kernel), bigSep_singleton]

/-- The staging buffer is its two slots. -/
theorem slots_of_buf (aM : Memref sig .scVector .vmem S2x1x2048 .f32) (h : aM.IsWhole) :
    iprop(∃ f, aM.view.loc (thr d i) ↦{fullShare} f) ⊢ (iprop(slotPts d (cV i) (jV i) aM 0 ∗ slotPts d (cV i) (jV i) aM 1) : sProp 𝕄) := by
  unfold slotPts
  iintro ⟨%f, H⟩
  rw [← h.set_eq_univ, slot_all]
  ihave H := (pointsTo_union (slot_disjoint aM)).1 $$ H
  icases H with ⟨H0, H1⟩
  isplitl [H0]
  · iexists f; iexact H0
  · iexists f; iexact H1

theorem buf_of_slots (aM : Memref sig .scVector .vmem S2x1x2048 .f32) (h : aM.IsWhole) :
    (iprop(slotPts d (cV i) (jV i) aM 0 ∗ slotPts d (cV i) (jV i) aM 1) : sProp 𝕄) ⊢ iprop(∃ f, aM.view.loc (thr d i) ↦{fullShare} f) := by
  unfold slotPts
  iintro ⟨⟨%f, H0⟩, ⟨%g, H1⟩⟩
  ihave H := (pointsTo_join (ℓ := aM.view.loc (thr d i)) (I := slot aM 0) (J := slot aM 1) (slot_disjoint aM)) $$ [H0 H1]
  · isplitl [H0] <;> iassumption
  iexists _
  rw [← h.set_eq_univ, slot_all]
  iexact H

theorem base_eq : base i = (i 0).val * 2048 + (i 1).val * 128 := by unfold base; omega

theorem out_lt : 2 * (i 1).val + (i 0).val < 32 := by
  have h0 : (i 0).val < 2 := (i 0).isLt
  have h1 : (i 1).val < 16 := (i 1).isLt
  omega

theorem firstRow_out : firstRow (2 * (i 1).val + (i 0).val) = base i := by
  have h0 : (i 0).val < 2 := (i 0).isLt
  unfold firstRow base
  rw [show (2 * (i 1).val + (i 0).val) / 2 = (i 1).val by omega, show (2 * (i 1).val + (i 0).val) % 2 = (i 0).val by omega]

/-- The task from the core's own cells and buffers and its part of the arrays, and back. -/
theorem tile_body (O : CellTallies nD τ sig (HIx 1)) (W : Waits sig (HIx 1)) (hO : ∀ g, O g none = 0) :
    iprop(levAts (K (F := F)).L (K (F := F)).lev ∗ emp ∗ taskP v d (i 0) (i 1) (v.y d)
        ∗ scopedBufs (thr d i) ∗ scopedSems0 (thr d i) ∗ owes (thr d i) O W)
      ⊢ wp frame (wpE (defs₀ (F := F)) 𝒱₀ (thr d i) none) Set.univ
          (cc0_k i xM (Memref.isWhole_whole _) pM (Memref.isWhole_whole _) yM (Memref.isWhole_whole _)
            c5 (Memref.isWhole_whole _) c6 (Memref.isWhole_whole _) cc0_scoped0 aI (Memref.isWhole_whole _) cc0_scoped2 cc0_scoped3)
          fun _ => iprop(taskP v d (i 0) (i 1) (v.g d) ∗ scopedBufs (thr d i) ∗ scopedSems0 (thr d i)
            ∗ ∃ W', ⌜∀ p ∈ W', p ∈ W ∨ p.2 = none⌝ ∗ owes (thr d i) O W') := by
  have ht := tile d i xM (Memref.isWhole_whole _) pM (Memref.isWhole_whole _) yM (Memref.isWhole_whole _)
            c5 (Memref.isWhole_whole _) c6 (Memref.isWhole_whole _) cc0_scoped0 aI (Memref.isWhole_whole _) cc0_scoped2 cc0_scoped3
            (qt (i 0) (i 1)) (v.x d) (v.y d) (v.g d) (v.p d) (W := W) hO (out_lt i)
            (fun j => congrArg (fun b => countRows (v.p d) (v.x d) b 128 (ix1 j)) (firstRow_out i))
  rw [(K (F := F)).scopedBufs_V facts d (cV i) (jV i), SparseCore.Cfg.scopedSems0_V (Val := Elt F) d (cV i) (jV i), ownSems0_V, ownBufs_V]
  unfold tileRest rowPts inFree owesW at ht
  rw [base_eq] at ht
  unfold taskP
  iintro ⟨#Hlv, -, ⟨Hx, Hp, Hy⟩, ⟨⟨H6, H7, HaI⟩, Hbufs⟩, ⟨⟨Hs0, Hs1, Hi0, Hi1⟩, Hsems⟩, HO⟩
  ihave HaI := (slots_of_buf d i aI (Memref.isWhole_whole _)) $$ HaI
  icases HaI with ⟨HI0, HI1⟩
  iapply (wp_wand frame _ Set.univ) $$ [Hx Hp Hy H6 H7 HI0 HI1 Hs0 Hs1 Hi0 Hi1 HO]
  · iapply ht
    isplitr [Hx Hp Hy H6 H7 HI0 HI1 Hs0 Hs1 Hi0 Hi1 HO]; · iexact Hlv
    isplitl [Hy]; · iexact Hy
    isplitl [Hx]; · iexact Hx
    isplitl [Hp]; · iexact Hp
    isplitl [H6]; · iexact H6
    isplitl [H7]; · iexact H7
    isplitl [HI0 Hi0]
    · isplitl [HI0]; · iexact HI0
      iexact Hi0
    isplitl [HI1 Hi1]
    · isplitl [HI1]; · iexact HI1
      iexact Hi1
    isplitl [Hs0]; · iexact Hs0
    isplitl [Hs1]; · iexact Hs1
    iexists W; isplitr
    · ipureintro; exact fun p hp => .inl hp
    · iexact HO
  iintro %r ⟨Hy, Hx, Hp, H6, H7, ⟨HI0, Hi0⟩, ⟨HI1, Hi1⟩, Hs0, Hs1, HO⟩
  isplitl [Hx Hp Hy]
  · isplitl [Hx]; · iexact Hx
    isplitl [Hp]; · iexact Hp
    iexact Hy
  isplitl [H6 H7 HI0 HI1 Hbufs]
  · isplitr [Hbufs]
    · isplitl [H6]; · iexact H6
      isplitl [H7]; · iexact H7
      iapply (buf_of_slots d i aI (Memref.isWhole_whole _))
      isplitl [HI0] <;> iassumption
    iexact Hbufs
  isplitl [Hs0 Hs1 Hi0 Hi1 Hsems]
  · isplitr [Hsems]
    · isplitl [Hs0]; · iexact Hs0
      isplitl [Hs1]; · iexact Hs1
      isplitl [Hi0]; · iexact Hi0
      iexact Hi1
    iexact Hsems
  iexact HO

/-! ## The obligation -/

theorem defs₀_vector (c : Fin τ.nSC) (s : Fin τ.nSub) :
    defs₀ (F := F) (.scVector c s) 0 ()
      = SparseCore.onTile hcore0 hsub0 (fun c s => cc0_k (coordsV c s) xM (Memref.isWhole_whole _) pM (Memref.isWhole_whole _)
          yM (Memref.isWhole_whole _) c5 (Memref.isWhole_whole _) c6 (Memref.isWhole_whole _) cc0_scoped0 aI (Memref.isWhole_whole _) cc0_scoped2
          cc0_scoped3) ⟨⟩ c s := rfl

theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P v) v₀ 0 := by
  intro d c i O W hO _ _
  simp only [show (P v).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body v d (coordsV ⟨_, hci.1⟩ ⟨_, hci.2⟩) O W hO).trans (wp_mono frame _ _ fun _ => obl_post)

end Task

end Cert.Proof.Hist

end
-- ==== Proof.Hist.Launch.lean ====
/-
  The histogram program's run: the host's operations and the call; what it leaves in memory.
-/
module

public import proofs.«01_k».proof.Proof.Hist.Task
public import Idealize.ShloMosaic.Lib.Pipeline.Frame
public import Idealize.ShloMosaic.Lib.StableHlo.RunRead

@[expose] public section

set_option synthInstance.maxSize 4096

noncomputable section

namespace Cert.Proof.Hist

open Cert.HistIdeal Cert.HistIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight)

variable {F : FTy → Type} [FloatOps F]

local notation "𝕄" => MT nD τ sig (HIx 1) (Elt F) ℕ UU ℕ

open Idealize.ShloMosaic.StableHlo (held held_sub_split held_congr after seqK seq seq_bind_seqK wp_seq)

variable (m : (ℓ : Loc nD τ sig) → Buf (Elt F) ℓ) (ρ : Dev nD → PrngReg)

/-! ## The host's operations -/

/-- Before the call. -/
abbrev ops0 : List (HloOp τ sig (Elt F)) :=
  [StableHlo.reshape main_arg0 main_v0 (rfl : (.f32 : EltTy) = .f32) shapeCasts_S8388608_S4096x2048,
   StableHlo.unary main_arg1 main_v1 ((extractStridedSlice S1 ![0] · slices_S999_S1_0) : (⟨S999, .f32⟩ : BufTy).Contents (Elt F) → (⟨S1, .f32⟩ : BufTy).Contents (Elt F)),
   StableHlo.reshape main_v1 main_v2 (rfl : (.f32 : EltTy) = .f32) shapeCasts_S1_S_,
   StableHlo.unary main_arg1 main_v3 ((extractStridedSlice S1 ![998] · slices_S999_S1_998) : (⟨S999, .f32⟩ : BufTy).Contents (Elt F) → (⟨S1, .f32⟩ : BufTy).Contents (Elt F)),
   StableHlo.reshape main_v3 main_v4 (rfl : (.f32 : EltTy) = .f32) shapeCasts_S1_S_,
   StableHlo.unary main_arg1 main_v5 ((extractStridedSlice S1 ![0] · slices_S999_S1_0) : (⟨S999, .f32⟩ : BufTy).Contents (Elt F) → (⟨S1, .f32⟩ : BufTy).Contents (Elt F)),
   StableHlo.reshape main_v5 main_v6 (rfl : (.f32 : EltTy) = .f32) shapeCasts_S1_S_,
   StableHlo.binary main_v4 main_v6 main_v7 (subf : (⟨S_, .f32⟩ : BufTy).Contents (Elt F) → (⟨S_, .f32⟩ : BufTy).Contents (Elt F) → (⟨S_, .f32⟩ : BufTy).Contents (Elt F)),
   StableHlo.nullary main_cst (constant S_ .f32 0x44798000#32),
   StableHlo.binary main_cst main_v7 main_v8 (Host.divf : (⟨S_, .f32⟩ : BufTy).Contents (Elt F) → (⟨S_, .f32⟩ : BufTy).Contents (Elt F) → (⟨S_, .f32⟩ : BufTy).Contents (Elt F)),
   StableHlo.unary main_v2 main_v9 (broadcastInDim S16 ![] bcast_S_S16 : (⟨S_, .f32⟩ : BufTy).Contents (Elt F) → (⟨S16, .f32⟩ : BufTy).Contents (Elt F)),
   StableHlo.unary main_v8 main_v10 (broadcastInDim S16 ![] bcast_S_S16 : (⟨S_, .f32⟩ : BufTy).Contents (Elt F) → (⟨S16, .f32⟩ : BufTy).Contents (Elt F)),
   StableHlo.unary main_v9 main_v11 (broadcastInDim S1x16 ![1] bcast_S16_S1x16_1 : (⟨S16, .f32⟩ : BufTy).Contents (Elt F) → (⟨S1x16, .f32⟩ : BufTy).Contents (Elt F)),
   StableHlo.unary main_v10 main_v12 (broadcastInDim S1x16 ![1] bcast_S16_S1x16_1 : (⟨S16, .f32⟩ : BufTy).Contents (Elt F) → (⟨S1x16, .f32⟩ : BufTy).Contents (Elt F)),
   StableHlo.binary main_v11 main_v12 main_v13 ((fun a b => concatenate S2x16 0 [⟨S1x16, a⟩, ⟨S1x16, b⟩] concatenates_S1x16_S1x16_S2x16_d0) : (⟨S1x16, .f32⟩ : BufTy).Contents (Elt F) → (⟨S1x16, .f32⟩ : BufTy).Contents (Elt F) → (⟨S2x16, .f32⟩ : BufTy).Contents (Elt F))]

theorem main_eq (d : Dev nD) : (main d : Prog (TpuEff nD τ sig (Elt F) (SparseCore.Sig (Pipeline.Sig Λ₀ (Fin 0) fun p => (pcfgs (F := F) p).Adm) 1) .tc) PUnit)
    = (seq ops0 >>= fun _ => (K (F := F)).run d 0 >>= fun _ => pure ⟨⟩) := by
  rw [seq_bind_seqK]; rfl

theorem ops0_sub : ∀ op ∈ (ops0 : List (HloOp τ sig (Elt F))), op.bufs ⊆ Pipeline.ucRefs τ sig := by
  intro op hop
  refine Pipeline.sub_ucRefs op ?_
  revert op hop
  simp only [List.forall_mem_cons, List.not_mem_nil, false_imp_iff, implies_true, and_true, StableHlo.nullary_bufs, StableHlo.unary_bufs, StableHlo.binary_bufs, StableHlo.reshape_bufs]
  refine ⟨?_, ?_, ?_, ?_, ?_, ?_, ?_, ?_, ?_, ?_, ?_, ?_, ?_, ?_, ?_⟩ <;> (intro b hb; simp only [Finset.mem_insert, Finset.mem_singleton] at hb) <;>
    first | (rcases hb with rfl | rfl | rfl <;> exact StableHlo.devRef_mem_tcRefs _) | (rcases hb with rfl | rfl <;> exact StableHlo.devRef_mem_tcRefs _) | (subst hb; exact StableHlo.devRef_mem_tcRefs _)
theorem ops0_fresh : ∀ op ∈ (ops0 : List (HloOp τ sig (Elt F))), op.fresh = ∅ := by
  intro op h; repeat (cases h with | head => rfl | tail _ h => ?_)
  exact nomatch h

/-! ## The contents along the way -/

abbrev x' : DevRef τ sig := Proc.devRef .tc (main_v0 : Ref sig .tc)
abbrev p' : DevRef τ sig := Proc.devRef .tc (main_v13 : Ref sig .tc)
abbrev y' : DevRef τ sig := Proc.devRef .tc (main_v14 : Ref sig .tc)
abbrev S3 : Finset (DevRef τ sig) := {x', p', y'}

def V0 (d : Dev nD) : Valuation τ sig (Elt F) := fun b => m (d, b)
def Vb (d : Dev nD) : Valuation τ sig (Elt F) := after ops0 (V0 m d)
def vals : Vals F := ⟨fun d => Vb m d x', fun d => Vb m d p', fun d => Vb m d y'⟩
def Ve (d : Dev nD) : Valuation τ sig (Elt F) := Function.update (Vb m d) y' ((vals m).g d)

theorem S3_sub : S3 ⊆ Pipeline.ucRefs τ sig := by
  intro b hb
  simp only [Finset.mem_insert, Finset.mem_singleton] at hb
  rcases hb with rfl | rfl | rfl <;> exact Finset.mem_filter.mpr ⟨StableHlo.devRef_mem_tcRefs _, by decide⟩

theorem held_S3 (d : Dev nD) (V : Valuation τ sig (Elt F)) :
    (held (T d) S3 V : sProp 𝕄) = iprop((xLoc d ↦{fullShare} V x') ∗ (pLoc d ↦{fullShare} V p') ∗ yLoc d ↦{fullShare} V y') := by
  unfold held S3
  rw [SparseCore.bigSep_insert' (by decide), SparseCore.bigSep_insert' (by decide), bigSep_singleton]

theorem held_Vb (d : Dev nD) : (held (T d) S3 (Vb m d) : sProp 𝕄) = bigSep Finset.univ fun c : Fin ((K (F := F)).nCore 0) => (P (vals m)).st 0 d c := by
  rw [held_S3]; exact wholeP_cores (vals m) d _
theorem held_Ve (d : Dev nD) : (held (T d) S3 (Ve m d) : sProp 𝕄) = bigSep Finset.univ fun c : Fin ((K (F := F)).nCore 0) => (P (vals m)).dn 0 d c := by
  rw [held_S3, show Ve m d x' = Vb m d x' from Function.update_of_ne (by decide) _ _,  show Ve m d p' = Vb m d p' from Function.update_of_ne (by decide) _ _, show Ve m d y' = (vals m).g d from Function.update_self _ _ _]
  exact wholeP_cores (vals m) d _
theorem held_rest (d : Dev nD) : (held (T d) (Pipeline.ucRefs τ sig \ S3) (Vb m d) : sProp 𝕄) = held (T d) (Pipeline.ucRefs τ sig \ S3) (Ve m d) :=
  held_congr _ fun b hb => (Function.update_of_ne (fun e => (Finset.mem_sdiff.mp hb).2 (by rw [e]; simp)) _ _).symm

/-! ## The launch -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ (v : Vals F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P v).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P v).x q thr) = bigSep Finset.univ fun _ => iprop(emp) from
    bigSep_congr fun _ _ => bigSep_univ_of_subsingleton (0 : Fin 1), bigSep_emp']
  iempintro

abbrev FIN (d : Dev nD) : sProp 𝕄 := held (T d) (Pipeline.ucRefs τ sig) (Ve m d)

/-- The TensorCore's program. -/
theorem hmain (κ : GSem nD τ sig → ℕ) (d : Dev nD) :
    iprop((K (F := F)).ctx EH (P (vals m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  have hu : (unscopedBufs d (fun b => m ((SparseCore.T d).loc b)) : sProp 𝕄) = held (T d) (Pipeline.ucRefs τ sig) (V0 m d) :=
    Pipeline.unscopedBufs_held d (V0 m d)
  unfold SparseCore.Cfg.tcRes SparseCore.Cfg.tcEnd
  rw [hu, main_eq]
  iintro ⟨#Hctx, Hst, ⟨Hb, Hheld, Hts, -⟩, -⟩
  iapply (wp_seq 𝒱 none Set.univ d (Pipeline.ucRefs τ sig) _ ops0 ops0_sub ops0_fresh (V0 m d)) $$ [Hb Hheld]
  · isplitl [Hb] <;> iassumption
  iintro ⟨Hb, Hheld⟩
  ihave Hheld := (Entails.of_eq (show (held (T d) (Pipeline.ucRefs τ sig) (after ops0 (V0 m d)) : sProp 𝕄)
    = iprop((bigSep Finset.univ fun c : Fin ((K (F := F)).nCore 0) => (P (vals m)).st 0 d c) ∗ held (T d) (Pipeline.ucRefs τ sig \ S3) (Ve m d)) by
      rw [← held_Vb, ← held_rest]; exact held_sub_split _ S3_sub (Vb m d))) $$ Hheld
  icases Hheld with ⟨H3, Hrest⟩
  rw [wp_bind]
  iapply ((K (F := F)).wp_run (D (F := F)) 𝒱 (EH := EH) (P := P (vals m)) κ d 0) $$ [Hst H3 Hrest Hb Hts]
  isplitr; · iexact Hctx
  isplitl [Hst]; · iexact Hst
  isplitl [H3]; · iexact H3
  iintro ⟨Hst, Hdn⟩
  ihave Hheld := (Entails.of_eq (show iprop((bigSep Finset.univ fun c : Fin ((K (F := F)).nCore 0) => (P (vals m)).dn 0 d c) ∗ held (T d) (Pipeline.ucRefs τ sig \ S3) (Ve m d))
    = (held (T d) (Pipeline.ucRefs τ sig) (Ve m d) : sProp 𝕄) by
      rw [← held_Ve]; exact (held_sub_split _ S3_sub (Ve m d)).symm)) $$ [Hdn Hrest]
  · isplitl [Hdn] <;> iassumption
  rw [wp_pure]; imodintro
  isplitl [Hst]; · iexact Hst
  isplitl [Hheld]; · iexact Hheld
  isplitl [Hb] <;> iassumption

def fq (d : Dev nD) (s' : Phys nD τ sig (Elt F)) : Prop := ∀ b ∈ Pipeline.ucRefs τ sig, s'.mem.mem (d, b) = Ve m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- What every final state satisfies. -/
def QC : PUnit × MemSt nD τ sig (Elt F) → Prop := fun r => (∀ (c : Dev nD), ∀ b ∈ Pipeline.ucRefs τ sig, r.2.mem (c, b) = Ve m c b) ∧ r.2.sem = fun _ => 0

theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P (vals m)) (A := ∅) facts v₀
    (fun q hq => match q with | 0 => nomatch hq)
    (fun q _ => match q with | 0 => tileObl (vals m))
    (fun q _ => match q with | 0 => SparseCore.Cfg.VecSplit.of_plain (vecSplit (vals m)))
    m ρ main (fun _ => iprop(emp)) (FIN m) (u₀ (F := F)) (sep_elim_left.trans (hu₀ (vals m))) (hmain m ρ) (fq m) (hfin m) (QC m) (fun _ h hz => ⟨h, hz⟩)

/-! ## What the run leaves -/

theorem mem_uc (r : Ref sig .tc) (h : r.isScoped = false) : (Proc.devRef .tc r : DevRef τ sig) ∈ Pipeline.ucRefs τ sig :=
  Finset.mem_filter.mpr ⟨StableHlo.devRef_mem_tcRefs _, by rw [show (Proc.devRef .tc r : DevRef τ sig).isScoped = r.isScoped from rfl, h]; exact Bool.false_ne_true⟩

theorem Ve_arg0 (d : Dev nD) : Ve m d (Proc.devRef .tc main_arg0) = m (d, Proc.devRef .tc main_arg0) := by
  rw [show Ve m d (Proc.devRef .tc main_arg0) = Vb m d (Proc.devRef .tc main_arg0) from Function.update_of_ne (by decide) _ _]
  unfold Vb
  after_reads_simp
  rfl
theorem Ve_arg1 (d : Dev nD) : Ve m d (Proc.devRef .tc main_arg1) = m (d, Proc.devRef .tc main_arg1) := by
  rw [show Ve m d (Proc.devRef .tc main_arg1) = Vb m d (Proc.devRef .tc main_arg1) from Function.update_of_ne (by decide) _ _]
  unfold Vb
  after_reads_simp
  rfl

end Cert.Proof.Hist

end
-- ==== Proof.Hist.Total.lean ====
/-
  Over the extended reals the counted table is, at each bin, a sum of ones over the elements that fall into the bin.
-/
module

public import proofs.«01_k».proof.Proof.Hist.Model
public import Idealize.ShloMosaic.PureOps.Ideal.Laws
public import Idealize.ShloMosaic.Lib.IdealHost
public import Idealize.ShloMosaic.Lib.StableHlo.Predicate

@[expose] public section

noncomputable section

namespace Cert.Proof.Hist

open Cert.HistIdeal Cert.HistIdeal.Gen
open Cert.Proof.Sc (cell2 col binOf binOf_lt)
open Idealize.ShloMosaic Idealize.ShloMosaic.ValueIdx

theorem foldl_ones {n : ℕ} (c : Fin n → ℕ) (f : (S1024.Idx → EReal) → Fin n → S1024.Idx → EReal)
    (hf : ∀ g k j, f g k j = g j + if c k = (j 0).val then 1 else 0) (l : List (Fin n)) (h : S1024.Idx → EReal) (b : S1024.Idx) :
    l.foldl f h b = h b + (l.map fun k => if c k = (b 0).val then (1 : EReal) else 0).sum := by
  induction l generalizing h with
  | nil => exact (add_zero _).symm
  | cons k l ih => rw [List.foldl_cons, List.map_cons, List.sum_cons, ih, hf, add_assoc]

/-- An indexed addition of ones adds, at each entry, the number of lanes whose index it is. -/
theorem storeIdx_ones {n : ℕ} (h : S1024.Idx → Ideal .f32) (ix : IVec ⟨1, ![n]⟩ 32) (v : Vec Ideal ⟨1, ![n]⟩ .f32)
    (hv : ∀ x, v x = (1 : EReal)) (hb : ∀ a x, ((![ix] : Fin 1 → IVec ⟨1, ![n]⟩ 32) a x).toNat < S1024.size a) (b : S1024.Idx) :
    storeIdx (F := Ideal) (s := S1024) (e := .f32) h ![ix] v (fun _ => 1#1) true hb b
      = ((h b : EReal) + ∑ k : Fin n, if (ix (Shape.Idx.ofFin k)).toNat = (b 0).val then (1 : EReal) else 0 : EReal) := by
  rw [Fin.sum_univ_def]
  refine foldl_ones (fun k => (ix (Shape.Idx.ofFin k)).toNat) _ (fun g k j => ?_) (List.finRange n) h b
  have hk : (Shape.ofLane (d := ![n]) k : (⟨1, ![n]⟩ : Shape).Idx) = Shape.Idx.ofFin k := by
    funext a; match a with | 0 => rfl
  have hi : ∀ a, (idxAt (s := S1024) ![ix] hb (Shape.ofLane (d := ![n]) k) a).val = (ix (Shape.Idx.ofFin k)).toNat := by
    intro a
    match a with
    | 0 => exact congrArg (fun x => (ix x).toNat) hk
  refine (congrFun (if_pos rfl) j).trans ?_
  simp only [↓reduceIte]
  show (if ∀ a, (j a).val = (idxAt (s := S1024) ![ix] hb (Shape.ofLane (d := ![n]) k) a).val
    then (g (idxAt (s := S1024) ![ix] hb (Shape.ofLane (d := ![n]) k)) : EReal) + v (Shape.ofLane (d := ![n]) k) else g j) = _
  by_cases hc : (ix (Shape.Idx.ofFin k)).toNat = (j 0).val
  · have e : idxAt (s := S1024) ![ix] hb (Shape.ofLane (d := ![n]) k) = j := by
      funext a
      match a with
      | 0 => exact Fin.ext ((hi 0).trans hc)
    rw [if_pos hc, e, if_pos fun _ => rfl, hv]
  · rw [if_neg hc, if_neg fun h' => hc ((hi 0).symm.trans (h' 0).symm), add_zero]

/-- One where the element at position `n` falls into bin `c`, else zero. -/
def hit (p0 p1 : EReal) (x : ℕ → EReal) (c n : ℕ) : EReal := if (binOf (F := Ideal) p0 p1 (x n)).toNat = c then 1 else 0

theorem binsAt_ofFin (P : S2x16.Idx → Ideal .f32) (X : S4096x2048.Idx → Ideal .f32) (r j : ℕ) (l : Fin 16) :
    binsAt P X r j (Shape.Idx.ofFin l) = binOf (P (ix2 (0 : Fin 2) l)) (P (ix2 (1 : Fin 2) l)) (X (cell2 r (col (16 * j + l.val)))) := by
  unfold binsAt
  rw [Shape.Idx.ofFin_zero]

section

variable (P : S2x16.Idx → Ideal .f32) (X : S4096x2048.Idx → Ideal .f32) (p0 p1 : EReal) (x : ℕ → EReal)
  (h0 : ∀ l : Fin 16, P (ix2 (0 : Fin 2) l) = p0) (h1 : ∀ l : Fin 16, P (ix2 (1 : Fin 2) l) = p1)
  (hX : ∀ r c, r < 4096 → c < 2048 → X (cell2 r (col c)) = x (r * 2048 + c))

include h0 h1 hX

theorem count16_apply {r j : ℕ} (hr : r < 4096) (hj : j < 128) (h : S1024.Idx → Ideal .f32) (b : S1024.Idx) :
    count16 P X r j h b = ((h b : EReal) + ∑ e ∈ Finset.range 16, hit p0 p1 x (b 0).val (r * 2048 + (16 * j + e)) : EReal) := by
  unfold count16
  refine (storeIdx_ones h _ _ (fun y => ?_) _ b).trans ?_
  · exact Ideal.ofBits_one_f32
  · rw [Finset.sum_range]
    refine congrArg (fun z : EReal => (h b : EReal) + z) (Finset.sum_congr rfl fun l _ => ?_)
    unfold hit
    have hl := l.isLt
    have e : binsAt P X r j (Shape.Idx.ofFin l) = binOf (F := Ideal) p0 p1 (x (r * 2048 + (16 * j + l.val))) := by
      rw [binsAt_ofFin, h0, h1, hX r (16 * j + l.val) hr (by omega)]
    rw [e]

theorem countRow_apply {r : ℕ} (hr : r < 4096) (h : S1024.Idx → Ideal .f32) (b : S1024.Idx) (j : ℕ) (hj : j ≤ 128) :
    countRow P X r h j b = ((h b : EReal) + ∑ e ∈ Finset.range (16 * j), hit p0 p1 x (b 0).val (r * 2048 + e) : EReal) := by
  induction j with
  | zero => exact (add_zero (h b : EReal)).symm
  | succ j ih =>
    refine (count16_apply P X p0 p1 x h0 h1 hX hr (by omega) _ b).trans ?_
    rw [ih (by omega), show 16 * (j + 1) = 16 * j + 16 by omega, Finset.sum_range_add, add_assoc]

theorem countRows_apply (a : ℕ) (b : S1024.Idx) (k : ℕ) (hk : a + k ≤ 4096) :
    countRows P X a k b = (∑ e ∈ Finset.range (2048 * k), hit p0 p1 x (b 0).val (a * 2048 + e) : EReal) := by
  induction k with
  | zero => exact Ideal.ofBits_zero_f32
  | succ k ih =>
    refine (countRow_apply P X p0 p1 x h0 h1 hX (by omega) _ b 128 le_rfl).trans ?_
    rw [ih (by omega), show 2048 * (k + 1) = 2048 * k + 16 * 128 by omega, Finset.sum_range_add]
    refine congrArg (fun z : EReal => _ + z) (Finset.sum_congr rfl fun e _ => ?_)
    rw [show (a + k) * 2048 + e = a * 2048 + (2048 * k + e) by omega]

end

end Cert.Proof.Hist

end

end
-- ==== Proof.Hist.Ref.lean ====
/-
  What the reference of the histogram computes at one part and bin, over the extended reals.
-/
module

public import proofs.«01_k».proof.HistReferenceIdeal
public import proofs.«01_k».proof.Pre_even_grid_hist
public import proofs.«01_k».proof.Proof.Gen.HistReferenceIdeal
public import proofs.«01_k».proof.Proof.Gen.HistReferenceIdeal.Run
public import proofs.«01_k».proof.Proof.Gen.Pre_even_grid_hist
public import proofs.«01_k».proof.Proof.Sc.Ref
public import Idealize.ShloMosaic.Lib.Pointwise.Reduce
public import Idealize.ShloMosaic.Lib.Pipeline.Value
public import Idealize.ShloMosaic.Lib.IdealHost
public import Idealize.ShloMosaic.Lib.ValueIdx

@[expose] public section

noncomputable section

namespace Cert.Proof.Hist

open Cert.HistReferenceIdeal Cert.HistReferenceIdeal.Gen
open Cert.Proof.Sc (below below_le cmp_lt_iff)
open Idealize.ShloMosaic hiding ix1 ix2 ix3
open Idealize.ShloMosaic.ValueIdx Idealize.ShloMosaic.StableHlo.Predicate

/-- The number of boundaries below each element. -/
def refCnt (x : FVec Ideal S8388608 .f32) (B : FVec Ideal S999 .f32) : IVec S8388608 32 :=
  Host.reduce IntOp.addi (extui 32 (cmpf .olt (broadcastInDim S8388608x999 ![0, 1] bcast_S1x999_S8388608x999_0_1 (broadcastInDim S1x999 ![1] bcast_S999_S1x999_1 B)) (broadcastInDim S8388608x999 ![0, 1] bcast_S8388608x1_S8388608x999_0_1 (broadcastInDim S8388608x1 ![0] bcast_S8388608_S8388608x1_0 x))) natLt_1_32) (constantI S_ 32 0#32) reducesTo_S8388608x999_S8388608_d1 h_S_

/-- The same, by part and position in the part. -/
def refPart (C : IVec S8388608 32) : IVec S32x262144 32 :=
  shapeCast S32x262144 (transpose S16x2x262144 [1, 0, 2] (shapeCast S2x16x262144 C shapeCasts_S8388608_S2x16x262144) transposes_S2x16x262144_S16x2x262144_1_0_2) shapeCasts_S16x2x262144_S32x262144

/-- The reference's result as a function of the arguments. -/
def refHist (x : FVec Ideal S8388608 .f32) (B : FVec Ideal S999 .f32) : FVec Ideal S32x1024 .f32 :=
  Host.reduceAdd (uitofp .f32 (cmpi .eq (broadcastInDim S32x262144x1024 ![0, 1, 2] bcast_S32x262144x1_S32x262144x1024_0_1_2 (broadcastInDim S32x262144x1 ![0, 1] bcast_S32x262144_S32x262144x1_0_1 (refPart (refCnt x B)))) (broadcastInDim S32x262144x1024 ![0, 1, 2] bcast_S1x1x1024_S32x262144x1024_0_1_2 (broadcastInDim S1x1x1024 ![2] bcast_S1024_S1x1x1024_2 (iotaInDim S1024 32 0))))) (constant S_ .f32 0x00000000#32) reducesTo_S32x262144x1024_S32x1024_d1 h_S_

theorem refCnt_apply (x : FVec Ideal S8388608 .f32) (B : FVec Ideal S999 .f32) (p : Fin 8388608) :
    (refCnt x B (Shape.Idx.ofFin p)).toNat = below (fun j => B (Shape.Idx.ofFin j)) (x (Shape.Idx.ofFin p)) := by
  unfold refCnt
  rw [toNat_reduce_count_cols (by norm_num)]
  unfold below
  congr 1
  refine Finset.filter_congr fun q _ => ?_
  refine (cmp_lt_iff _ _).trans ?_
  rw [show (Shape.Idx.ofFin p : S8388608.Idx) 0 = p from Shape.Idx.ofFin_zero p, bcast_rows, bcast_cols]

/-- The position of element `e` of part `r`. -/
def pos (r e : ℕ) : ℕ := (r / 2 + r % 2 * 16) * 262144 + e

theorem pos_lt {r e : ℕ} (hr : r < 32) (he : e < 262144) : pos r e < 8388608 := by unfold pos; omega

theorem refPart_apply (C : IVec S8388608 32) (r : Fin 32) (e : Fin 262144) :
    refPart C (ix2 r e) = C (Shape.Idx.ofFin ⟨pos r.val e.val, pos_lt r.isLt e.isLt⟩) := by
  have hr := r.isLt
  unfold refPart
  refine (shapeCast_apply _ _ (ix2 r e) (ix3 (⟨r.val / 2, by omega⟩ : Fin 16) (⟨r.val % 2, by omega⟩ : Fin 2) e) ?_).trans ?_
  · rw [Shape.rowMajor_val_three, Shape.rowMajor_val_two]
    show (r.val / 2 * 2 + r.val % 2) * 262144 + e.val = r.val * 262144 + e.val
    omega
  refine (transpose_apply _ _ _ _ (ix3 (⟨r.val % 2, by omega⟩ : Fin 2) (⟨r.val / 2, by omega⟩ : Fin 16) e)
    (fun c => match c with | ⟨0, _⟩ => rfl | ⟨1, _⟩ => rfl | ⟨2, _⟩ => rfl)).trans ?_
  refine shapeCast_apply _ _ _ _ ?_
  rw [Shape.rowMajor_val_three, Shape.rowMajor_val_one]
  show pos r.val e.val = (r.val % 2 * 16 + r.val / 2) * 262144 + e.val
  unfold pos
  omega

theorem refHist_apply (x : FVec Ideal S8388608 .f32) (B : FVec Ideal S999 .f32) (r : Fin 32) (c : Fin 1024) :
    refHist x B (ix2 r c) = (∑ e : Fin 262144,
      if below (fun j => B (Shape.Idx.ofFin j)) (x (Shape.Idx.ofFin ⟨pos r.val e.val, pos_lt r.isLt e.isLt⟩)) = c.val then (1 : EReal) else 0 : EReal) := by
  unfold refHist
  have hc := c.isLt
  rw [hostReduceAdd_apply, Ideal.hostReduceAdd_r3_a1]
  rw [show constant (F := Ideal) S_ .f32 0x00000000#32 (Shape.Idx.first h_S_) = (0 : EReal) from Ideal.ofBits_zero_f32, zero_add]
  refine Finset.sum_congr rfl fun e _ => ?_
  show (((IntOp.cmpi .eq (broadcastInDim S32x262144x1024 ![0, 1, 2] bcast_S32x262144x1_S32x262144x1024_0_1_2 (broadcastInDim S32x262144x1 ![0, 1] bcast_S32x262144_S32x262144x1_0_1 (refPart (refCnt x B))) (ix3 r e c))
    (broadcastInDim S32x262144x1024 ![0, 1, 2] bcast_S1x1x1024_S32x262144x1024_0_1_2 (broadcastInDim S1x1x1024 ![2] bcast_S1024_S1x1x1024_2 (iotaInDim S1024 32 0)) (ix3 r e c))).toNat : ℝ) : EReal) = _
  rw [broadcastInDim_apply _ bcast_S32x262144x1_S32x262144x1024_0_1_2 _ (ix3 r e c) (ix3 r e (0 : Fin 1))
      (fun a => match a with | ⟨0, _⟩ => rfl | ⟨1, _⟩ => rfl | ⟨2, _⟩ => rfl),
    broadcastInDim_apply _ bcast_S32x262144_S32x262144x1_0_1 _ (ix3 r e (0 : Fin 1)) (ix2 r e)
      (fun a => match a with | ⟨0, _⟩ => rfl | ⟨1, _⟩ => rfl),
    broadcastInDim_apply _ bcast_S1x1x1024_S32x262144x1024_0_1_2 _ (ix3 r e c) (ix3 (0 : Fin 1) (0 : Fin 1) c)
      (fun a => match a with | ⟨0, _⟩ => rfl | ⟨1, _⟩ => rfl | ⟨2, _⟩ => rfl),
    broadcastInDim_apply _ bcast_S1024_S1x1x1024_2 _ (ix3 (0 : Fin 1) (0 : Fin 1) c) (Shape.Idx.ofFin c)
      (fun a => match a with | ⟨0, _⟩ => rfl),
    refPart_apply, iota_apply, ← refCnt_apply]
  generalize refCnt x B _ = v
  have hiff : IntOp.cmpi .eq v (BitVec.ofNat 32 c.val) = 1#1 ↔ v.toNat = c.val := by
    rw [cmpi_eq_iff]
    constructor
    · rintro rfl
      rw [BitVec.toNat_ofNat, Nat.mod_eq_of_lt (by omega)]
    · intro h
      apply BitVec.eq_of_toNat_eq
      rw [BitVec.toNat_ofNat, Nat.mod_eq_of_lt (by omega), h]
  by_cases h : v.toNat = c.val
  · rw [if_pos h, hiff.mpr h]
    norm_num
  · rw [if_neg h, (BitVec.eq_zero_or_eq_one _).resolve_right fun h' => h (hiff.mp h')]
    norm_num

/-- The reference's run. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = refHist (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run (F := Ideal) m ρ

end Cert.Proof.Hist

end

end
-- ==== Proof.Hist.Value.lean ====
/-
  The histogram program's result, over the extended reals: for each part and bin, how many of the part's elements have
  that many boundaries below.
-/
module

public import proofs.«01_k».proof.Proof.Hist.Launch
public import proofs.«01_k».proof.Proof.Hist.Total
public import proofs.«01_k».proof.Proof.Hist.Ref
public import proofs.«01_k».proof.Proof.Sc.Value

@[expose] public section

noncomputable section

namespace Cert.Proof.Hist

open Cert.HistIdeal Cert.HistIdeal.Gen
open Cert.Proof.Sc (cell2 col binOf parsOf parsOf_row0 parsOf_row1 bin_eq_below below)
open Idealize.ShloMosaic hiding ix1 ix2 ix3
open Idealize.ShloMosaic.ValueIdx
open Idealize.ShloMosaic.StableHlo (after)

section AnyF

variable {F : FTy → Type} [FloatOps F]
variable (m : (ℓ : Loc nD τ sig) → Buf (Elt F) ℓ)

theorem Vb_x (d : Dev nD) : (Vb m d x' : S4096x2048.Idx → F .f32) = shapeCast S4096x2048 (m (d, Proc.devRef .tc main_arg0) : S8388608.Idx → F .f32) shapeCasts_S8388608_S4096x2048 := by
  show after ops0 (V0 m d) (Proc.devRef .tc main_v0) = _
  after_reads_simp
  rfl

theorem Vb_p (d : Dev nD) : (Vb m d p' : S2x16.Idx → F .f32) = parsOf (m (d, Proc.devRef .tc main_arg1) : S999.Idx → F .f32) := by
  show after ops0 (V0 m d) (Proc.devRef .tc main_v13) = _
  after_reads_simp
  rfl

end AnyF

/-- The elements of the large array by row and column are the inputs by position. -/
theorem cell_eq (x : S8388608.Idx → EReal) (r c : ℕ) (hr : r < 4096) (hc : c < 2048) :
    shapeCast S4096x2048 x shapeCasts_S8388608_S4096x2048 (cell2 r (col c)) = x (Shape.Idx.ofFin (Fin.ofNat 8388608 (r * 2048 + c))) := by
  refine shapeCast_apply _ _ _ _ ?_
  rw [Shape.rowMajor_val_one, Shape.rowMajor_val_two]
  show (r * 2048 + c) % 8388608 = (r % 4096) * 2048 + c % 2048
  rw [Nat.mod_eq_of_lt hr, Nat.mod_eq_of_lt hc, Nat.mod_eq_of_lt (by omega)]

/-- Over the extended reals, under the precondition, a row of the counted table is the reference's. -/
theorem rows_ideal (x : FVec Ideal S8388608 .f32) (B : FVec Ideal S999 .f32)
    (h : Cert.Pre_even_grid_hist.fn (F := Ideal) x B = fun _ => 1#1) (r : Fin 32) (c : Fin 1024) :
    countRows (F := Ideal) (parsOf B) (shapeCast S4096x2048 x shapeCasts_S8388608_S4096x2048) (firstRow r.val) 128 (ix1 c)
      = refHist x B (ix2 r c) := by
  have hr := r.isLt
  have hf : firstRow r.val + 128 ≤ 4096 := by unfold firstRow; omega
  refine (countRows_apply _ _ _ _ (fun n => x (Shape.Idx.ofFin (Fin.ofNat 8388608 n))) (parsOf_row0 B) (parsOf_row1 B)
    (fun r c hr hc => cell_eq x r c hr hc) (firstRow r.val) (ix1 c) 128 hf).trans ?_
  rw [refHist_apply, show 2048 * 128 = 262144 from rfl, Finset.sum_range]
  refine Finset.sum_congr rfl fun e _ => ?_
  have hp : firstRow r.val * 2048 + e.val = pos r.val e.val := by unfold firstRow pos; omega
  have he : (Fin.ofNat 8388608 (pos r.val e.val)) = ⟨pos r.val e.val, pos_lt hr e.isLt⟩ :=
    Fin.ext (Nat.mod_eq_of_lt (pos_lt hr e.isLt))
  rw [hp]
  unfold hit
  beta_reduce
  rw [he, ← bin_eq_below x (fun _ => (0 : EReal)) B h]

/-- Over the extended reals, under the precondition, the program's result is the reference's. -/
theorem Ve_ideal (m : (ℓ : Loc nD τ sig) → Buf (Elt Ideal) ℓ) (d : Dev nD) (x : FVec Ideal S8388608 .f32) (B : FVec Ideal S999 .f32)
    (ex : (m (d, Proc.devRef .tc main_arg0) : S8388608.Idx → EReal) = x) (eB : (m (d, Proc.devRef .tc main_arg1) : S999.Idx → EReal) = B)
    (h : Cert.Pre_even_grid_hist.fn (F := Ideal) x B = fun _ => 1#1) :
    (Ve m d (Proc.devRef .tc main_v14) : S32x1024.Idx → EReal) = refHist x B := by
  rw [show Ve m d (Proc.devRef .tc main_v14) = (vals m).g d from Function.update_self _ _ _]
  refine funext fun j : S32x1024.Idx => ?_
  obtain ⟨r, c, rfl⟩ : ∃ (r : Fin 32) (c : Fin 1024), j = ix2 r c :=
    ⟨j 0, j 1, by funext a; match a with | 0 => rfl | 1 => rfl⟩
  refine Eq.trans ?_ (rows_ideal x B h r c)
  show countRows (F := Ideal) (Vb m d p') (Vb m d x') (firstRow r.val) 128 (ix1 c) = _
  rw [Vb_p, Vb_x, ex, eB]

end Cert.Proof.Hist

end

end
-- ==== Proof.Stats.Value.lean ====
/-
  The sums over the inputs: what the kernel's accumulated block and the reference hold, over the extended reals.
-/
module

public import proofs.«01_k».proof.Proof.Gen.StatsIdeal.Value
public import proofs.«01_k».proof.Proof.Gen.StatsReferenceIdeal.Run
public import Idealize.ShloMosaic.Lib.Pointwise.Reduce
public import Idealize.ShloMosaic.Lib.Pipeline.Value
public import Idealize.ShloMosaic.Lib.IdealHost
public import Idealize.ShloMosaic.Lib.ValueIdx
public import Idealize.ShloMosaic.Lib.StableHlo.RunRead

@[expose] public section

noncomputable section

namespace Cert.Proof.Stats

open Cert.StatsIdeal Cert.StatsIdeal.Gen
open Idealize.ShloMosaic hiding ix1 ix2 ix3
open Idealize.ShloMosaic.ValueIdx Idealize.ShloMosaic.TcCoe Idealize.SL.Sem

/-- One where the value counts as zero, else zero. -/
def isZero (x : EReal) : EReal := (((FloatOps.cmpf (F := Ideal) (φ := .f32) .olt (FloatOps.absf (F := Ideal) (φ := .f32) x) (FloatOps.ofBits (F := Ideal) .f32 0x358637BD#32)).toNat : ℝ) : EReal)

/-- What one input adds to row `r` of the sums. -/
def stat (r : ℕ) (x : EReal) : EReal := if r = 0 then x else if r = 1 then x * x else if r = 2 then isZero x else 0

/-- A sum over one axis, kept as a row, at a column. -/
theorem colsum (v : FVec Ideal S1024x128 .f32) (c : Fin 128) :
    shapeCast S1x128 (multiReduction .add [0] S128 v 0x00000000#32 reduces_S1024x128_S128 (.inl rfl) rfl) shapeCasts_S128_S1x128 (ix2 (0 : Fin 1) c)
      = ∑ k : Fin 1024, v (ix2 k c) := by
  refine (shapeCast_apply _ _ (ix2 (0 : Fin 1) c) (ix1 c) ?_).trans ?_
  · rw [Shape.rowMajor_val_two, Shape.rowMajor_val_one]
    show c.val = 0 * 128 + c.val
    omega
  exact Ideal.reduceAdd_r2_a0 _ _ _

/-- A row of arrays put below each other is a row of one of them. -/
theorem row_of {α : Type} {R n : ℕ} (xs : List ((s : Shape) × (s.Idx → α))) (h : Shape.Concatenates (xs.map (·.1)) ⟨2, ![R, 128]⟩ 0)
    (k : ℕ) (hk : k < xs.length) (x : (⟨2, ![n, 128]⟩ : Shape).Idx → α) (hx : xs[k] = ⟨⟨2, ![n, 128]⟩, x⟩) (pre : ℕ)
    (hpre : (((xs.take k).map (·.1)).map fun s => if h : s.rank = 2 then s.size ((0 : Fin 2).cast h.symm) else 0).sum = pre)
    (r : Fin R) (i : Fin n) (hi : pre + i.val = r.val) (c : Fin 128) :
    concatenate ⟨2, ![R, 128]⟩ 0 xs h (ix2 r c) = x (ix2 i c) := by
  refine concatenate_apply_piece 0 xs h (ix2 r c) k hk _ x hx rfl pre hpre (ix2 i c) ?_ hi
  intro b hb
  match b with
  | ⟨0, _⟩ => exact absurd rfl hb
  | ⟨1, _⟩ => rfl

/-- Three rows and five rows below them. -/
theorem stacked (a b d : FVec Ideal S1x128 .f32) (e : FVec Ideal S5x128 .f32)
    (h : Shape.Concatenates [S1x128, S1x128, S1x128, S5x128] S8x128 0) (r : Fin 8) (c : Fin 128) :
    concatenate S8x128 0 [⟨S1x128, a⟩, ⟨S1x128, b⟩, ⟨S1x128, d⟩, ⟨S5x128, e⟩] h (ix2 r c)
      = if r.val = 0 then a (ix2 (0 : Fin 1) c) else if r.val = 1 then b (ix2 (0 : Fin 1) c)
        else if r.val = 2 then d (ix2 (0 : Fin 1) c) else e (ix2 (Fin.ofNat 5 (r.val - 3)) c) := by
  have hr := r.isLt
  split
  · exact row_of (n := 1) [⟨S1x128, a⟩, ⟨S1x128, b⟩, ⟨S1x128, d⟩, ⟨S5x128, e⟩] h 0 (by simp) a rfl 0 rfl r 0 (by simp; omega) c
  split
  · exact row_of (n := 1) [⟨S1x128, a⟩, ⟨S1x128, b⟩, ⟨S1x128, d⟩, ⟨S5x128, e⟩] h 1 (by simp) b rfl 1 rfl r 0 (by simp; omega) c
  split
  · exact row_of (n := 1) [⟨S1x128, a⟩, ⟨S1x128, b⟩, ⟨S1x128, d⟩, ⟨S5x128, e⟩] h 2 (by simp) d rfl 2 rfl r 0 (by simp; omega) c
  · exact row_of (n := 5) [⟨S1x128, a⟩, ⟨S1x128, b⟩, ⟨S1x128, d⟩, ⟨S5x128, e⟩] h 3 (by simp) e rfl 3 rfl r _ (by simp; omega) c

theorem bit_int (b : BitVec 1) : (((b.setWidth 32).toInt : ℝ) : EReal) = ((b.toNat : ℝ) : EReal) := by
  rcases BitVec.eq_zero_or_eq_one b with rfl | rfl <;> norm_num

/-- The kernel's step adds each row's sum over the block. -/
theorem pay2_apply (v0 : FVec Ideal S1024x128 .f32) (v19 : FVec Ideal S8x128 .f32) (r : Fin 8) (c : Fin 128) :
    k0_pay2 (F := Ideal) v0 v19 (ix2 r c) = v19 (ix2 r c) + ∑ k : Fin 1024, stat r.val (v0 (ix2 k c)) := by
  have hr := r.isLt
  unfold k0_pay2
  simp only [shapeCast_self]
  show v19 (ix2 r c) + _ = _
  congr 1
  refine (stacked _ _ _ _ _ r c).trans ?_
  rw [show shapeCast S1024x128 v0 shapeCasts_S1024x128_S1024x128 = v0 from shapeCast_self _ _]
  unfold stat
  split
  · exact colsum _ _
  split
  · exact (colsum _ _).trans (Finset.sum_congr rfl fun k _ => rfl)
  split
  · exact (colsum _ _).trans (Finset.sum_congr rfl fun k _ => bit_int _)
  · exact Ideal.ofBits_zero_f32.trans (Finset.sum_eq_zero fun k _ => rfl).symm

/-- A sum over rows of blocks is the sum over all. -/
theorem sum_blocks (f : ℕ → EReal) (n b : ℕ) : ∑ s ∈ Finset.range n, ∑ k ∈ Finset.range b, f (s * b + k) = ∑ p ∈ Finset.range (n * b), f p := by
  induction n with
  | zero => simp
  | succ n ih => rw [Finset.sum_range_succ, ih, Nat.succ_mul, Finset.sum_range_add]

variable (m : (ℓ : Loc nD τ sig) → Buf (Elt Ideal) ℓ)

/-- The inputs of the program, in order. -/
abbrev inp (c : Dev nD) : FVec Ideal S8388608 .f32 := m ((c : Thread nD τ).loc main_arg0)

/-- The input in row `p` and column `q`, of the inputs by position. -/
def at2 (x : FVec Ideal S8388608 .f32) (p : ℕ) (q : Fin 128) : EReal := x (ix1 (Fin.ofNat 8388608 (p * 128 + q.val)))

theorem cast_at2 (x : FVec Ideal S8388608 .f32) (p : Fin 65536) (q : Fin 128) :
    shapeCast S65536x128 x shapeCasts_S8388608_S65536x128 (ix2 p q) = at2 x p.val q := by
  have hp := p.isLt
  have hq := q.isLt
  refine shapeCast_apply _ _ _ _ ?_
  rw [Shape.rowMajor_val_one, Shape.rowMajor_val_two]
  show (p.val * 128 + q.val) % 8388608 = p.val * 128 + q.val
  rw [Nat.mod_eq_of_lt (by omega)]

theorem V_x (c : Dev nD) : (V m c main_v0 : FVec Ideal S65536x128 .f32) = shapeCast S65536x128 (inp m c) shapeCasts_S8388608_S65536x128 := by
  show StableHlo.after hostOps0 (fun b => m (c, b)) (Proc.devRef .tc main_v0) = _
  after_reads_simp
  rfl

theorem idx0 : ∀ t : Fin cfg0.N, win0_0.index t (0 : Fin 2) = t.val ∧ win0_0.index t (1 : Fin 2) = 0 :=
  (by decide +kernel : ∀ t : Fin grid0.N, _)

theorem iblk_apply (c : Dev nD) (t : Fin cfg0.N) (k : Fin 1024) (q : Fin 128) :
    (iblk m c 0 t : FVec Ideal S1024x128 .f32) (ix2 k q) = at2 (inp m c) (t.val * 1024 + k.val) q := by
  have hk := k.isLt
  have ht : t.val < 64 := lt_of_lt_of_eq t.isLt N_0
  obtain ⟨e0, e1⟩ := idx0 t
  unfold iblk
  rw [View.read_apply]
  refine Eq.trans (b := (V m c main_v0 : FVec Ideal S65536x128 .f32) (ix2 (⟨t.val * 1024 + k.val, by omega⟩ : Fin 65536) q)) ?_ ?_
  · show (V m c main_v0 : FVec Ideal S65536x128 .f32) _ = _
    congr 1
    funext a
    apply Fin.ext
    match a with
    | ⟨0, _⟩ => show win0_0.index t (0 : Fin 2) * 1024 + 1 * k.val = t.val * 1024 + k.val; rw [e0]; omega
    | ⟨1, _⟩ => show win0_0.index t (1 : Fin 2) * 128 + 1 * q.val = q.val; rw [e1]; omega
  · rw [V_x, cast_at2]

/-- What point `n` adds. -/
def add (x : FVec Ideal S8388608 .f32) (n : ℕ) (i : S8x128.Idx) : EReal :=
  ∑ k ∈ Finset.range 1024, stat (i 0).val (at2 x (n * 1024 + k) (i 1))

theorem step_apply (c : Dev nD) (n : ℕ) (h : n < cfg0.N) (acc : FVec Ideal S8x128 .f32) (i : S8x128.Idx) :
    k0_pay2 (F := Ideal) (iblk m c 0 ⟨n, h⟩) acc i = acc i + add (inp m c) n i := by
  obtain ⟨r, q, rfl⟩ : ∃ (r : Fin 8) (q : Fin 128), i = ix2 r q := ⟨i 0, i 1, by funext a; match a with | ⟨0, _⟩ => rfl | ⟨1, _⟩ => rfl⟩
  refine (pay2_apply _ _ r q).trans ?_
  congr 1
  rw [add, Finset.sum_range]
  exact Finset.sum_congr rfl fun k _ => congrArg (stat r.val) (iblk_apply m c ⟨n, h⟩ k q)

/-- The result: each row's sum over all inputs of the column. -/
def total (x : FVec Ideal S8388608 .f32) (i : S8x128.Idx) : EReal :=
  ∑ p ∈ Finset.range 65536, stat (i 0).val (at2 x p (i 1))

theorem G_eq (c : Dev nD) : Value.G1 m c = total (inp m c) := by
  funext i
  have hi0 : (i 0).val < 8 := (i 0).isLt
  have hi1 : (i 1).val < 128 := (i 1).isLt
  have hN : cfg0.N = 64 := N_0
  unfold Value.G1
  have hrun : Value.run1Of i = 0 := by show 1 * ((i 0).val / 8 - 0) + 1 * ((i 1).val / 128 - 0) = 0; omega
  rw [dif_pos (by rw [hrun]; omega)]
  refine (Pipeline.accAt_add_apply (Value.reset1 m c) (Value.step1 m c) (fun _ => (0 : EReal)) (add (inp m c)) (64 * Value.run1Of i) 63
    ?_ ?_ 63 le_rfl _ _).trans ?_
  · intro h j
    refine (step_apply m c _ h _ j).trans ?_
    congr 1
    exact Ideal.ofBits_zero_f32
  · intro n h acc j _ _
    exact step_apply m c n h acc j
  · have hloc : Value.loc1Of i = i := by
      funext a
      apply Fin.ext
      match a with
      | ⟨0, _⟩ => show (i 0).val % 8 = (i 0).val; omega
      | ⟨1, _⟩ => show (i 1).val % 128 = (i 1).val; omega
    rw [zero_add, hloc, hrun]
    simp only [Nat.mul_zero, Nat.zero_add]
    unfold add total
    exact sum_blocks (fun p => stat (i 0).val (at2 (inp m c) p (i 1))) 64 1024

/-- A column sum of the reference. -/
theorem hostsum (v : FVec Ideal S65536x128 .f32) (q : Fin 128) (h : S65536x128.ReducesTo [0] S128) (hu : 0 < (⟨0, ![]⟩ : Shape).numel)
    (hb : S128.BroadcastsInDim S1x128 ![1]) :
    broadcastInDim S1x128 ![1] hb (Host.reduceAdd v (constant ⟨0, ![]⟩ .f32 0x00000000#32) h hu) (ix2 (0 : Fin 1) q) = ∑ k : Fin 65536, v (ix2 k q) := by
  refine (broadcastInDim_apply _ hb _ (ix2 (0 : Fin 1) q) (ix1 q) ?_).trans ?_
  · intro a
    match a with
    | ⟨0, _⟩ => exact (if_neg (show ¬ 128 = 1 by decide)).symm
  rw [hostReduceAdd_apply]
  refine (Ideal.hostReduceAdd_r2_a0 _ _ _ _).trans ?_
  rw [show (constant (F := Ideal) ⟨0, ![]⟩ .f32 0x00000000#32 : _ → Ideal .f32) (Shape.Idx.first hu) = 0 from Ideal.ofBits_zero_f32, zero_add]
  rfl

theorem total_apply (x : FVec Ideal S8388608 .f32) (i : S8x128.Idx) :
    total x i = ∑ k : Fin 65536, stat (i 0).val (shapeCast S65536x128 x shapeCasts_S8388608_S65536x128 (ix2 k (i 1))) := by
  unfold total
  rw [Finset.sum_range]
  exact Finset.sum_congr rfl fun k _ => congrArg (stat (i 0).val) (cast_at2 x k (i 1)).symm

/-- Three rows below each other, and five below them. -/
theorem stacked2 (a b d : FVec Ideal S1x128 .f32) (e : FVec Ideal S5x128 .f32)
    (h : Shape.Concatenates [S1x128, S1x128, S1x128] Cert.StatsReferenceIdeal.S3x128 0)
    (h' : Shape.Concatenates [Cert.StatsReferenceIdeal.S3x128, S5x128] S8x128 0) (r : Fin 8) (c : Fin 128) :
    concatenate S8x128 0 [⟨Cert.StatsReferenceIdeal.S3x128, concatenate Cert.StatsReferenceIdeal.S3x128 0 [⟨S1x128, a⟩, ⟨S1x128, b⟩, ⟨S1x128, d⟩] h⟩, ⟨S5x128, e⟩] h' (ix2 r c)
      = if r.val = 0 then a (ix2 (0 : Fin 1) c) else if r.val = 1 then b (ix2 (0 : Fin 1) c)
        else if r.val = 2 then d (ix2 (0 : Fin 1) c) else e (ix2 (Fin.ofNat 5 (r.val - 3)) c) := by
  have hr := r.isLt
  have up : ∀ hlt : r.val < 3, concatenate S8x128 0 [⟨Cert.StatsReferenceIdeal.S3x128, concatenate Cert.StatsReferenceIdeal.S3x128 0 [⟨S1x128, a⟩, ⟨S1x128, b⟩, ⟨S1x128, d⟩] h⟩, ⟨S5x128, e⟩] h' (ix2 r c)
      = concatenate Cert.StatsReferenceIdeal.S3x128 0 [⟨S1x128, a⟩, ⟨S1x128, b⟩, ⟨S1x128, d⟩] h (ix2 (⟨r.val, hlt⟩ : Fin 3) c) := fun hlt =>
    row_of (n := 3) [⟨Cert.StatsReferenceIdeal.S3x128, concatenate Cert.StatsReferenceIdeal.S3x128 0 [⟨S1x128, a⟩, ⟨S1x128, b⟩, ⟨S1x128, d⟩] h⟩, ⟨S5x128, e⟩]
      h' 0 (by simp) _ rfl 0 rfl r ⟨r.val, hlt⟩ (by simp) c
  split
  · exact (up (by omega)).trans (row_of (n := 1) [⟨S1x128, a⟩, ⟨S1x128, b⟩, ⟨S1x128, d⟩] h 0 (by simp) a rfl 0 rfl _ 0 (by simp; omega) c)
  split
  · exact (up (by omega)).trans (row_of (n := 1) [⟨S1x128, a⟩, ⟨S1x128, b⟩, ⟨S1x128, d⟩] h 1 (by simp) b rfl 1 rfl _ 0 (by simp; omega) c)
  split
  · exact (up (by omega)).trans (row_of (n := 1) [⟨S1x128, a⟩, ⟨S1x128, b⟩, ⟨S1x128, d⟩] h 2 (by simp) d rfl 2 rfl _ 0 (by simp; omega) c)
  · exact row_of (n := 5) [⟨Cert.StatsReferenceIdeal.S3x128, concatenate Cert.StatsReferenceIdeal.S3x128 0 [⟨S1x128, a⟩, ⟨S1x128, b⟩, ⟨S1x128, d⟩] h⟩, ⟨S5x128, e⟩]
      h' 1 (by simp) e rfl 3 rfl r _ (by simp; omega) c

/-- The reference's result is the same sums. -/
theorem ref_eq (x : FVec Ideal S8388608 .f32) (a b d : FVec Ideal S1x128 .f32) (e : FVec Ideal S5x128 .f32)
    (h : Shape.Concatenates [S1x128, S1x128, S1x128] Cert.StatsReferenceIdeal.S3x128 0)
    (h' : Shape.Concatenates [Cert.StatsReferenceIdeal.S3x128, S5x128] S8x128 0)
    (ha : ∀ q, a (ix2 (0 : Fin 1) q) = ∑ k : Fin 65536, stat 0 (shapeCast S65536x128 x shapeCasts_S8388608_S65536x128 (ix2 k q)))
    (hb : ∀ q, b (ix2 (0 : Fin 1) q) = ∑ k : Fin 65536, stat 1 (shapeCast S65536x128 x shapeCasts_S8388608_S65536x128 (ix2 k q)))
    (hd : ∀ q, d (ix2 (0 : Fin 1) q) = ∑ k : Fin 65536, stat 2 (shapeCast S65536x128 x shapeCasts_S8388608_S65536x128 (ix2 k q)))
    (he : ∀ i, e i = 0) :
    concatenate S8x128 0 [⟨Cert.StatsReferenceIdeal.S3x128, concatenate Cert.StatsReferenceIdeal.S3x128 0 [⟨S1x128, a⟩, ⟨S1x128, b⟩, ⟨S1x128, d⟩] h⟩, ⟨S5x128, e⟩] h' = total x := by
  funext i
  obtain ⟨r, q, rfl⟩ : ∃ (r : Fin 8) (q : Fin 128), i = ix2 r q := ⟨i 0, i 1, by funext a; match a with | ⟨0, _⟩ => rfl | ⟨1, _⟩ => rfl⟩
  rw [total_apply]
  refine (stacked2 a b d e h h' r q).trans ?_
  show _ = ∑ k : Fin 65536, stat r.val (shapeCast S65536x128 x shapeCasts_S8388608_S65536x128 (ix2 k q))
  split
  · next h0 => rw [h0]; exact ha q
  split
  · next h1 => rw [h1]; exact hb q
  split
  · next h2 => rw [h2]; exact hd q
  · next h0 h1 h2 =>
    rw [he]
    exact (Finset.sum_eq_zero fun k _ => by rw [stat, if_neg h0, if_neg h1, if_neg h2]).symm

/-- The reference's run. -/
theorem ref_run (m : (ℓ : Loc Cert.StatsReferenceIdeal.nD Cert.StatsReferenceIdeal.τ Cert.StatsReferenceIdeal.sig) → Buf (Elt Ideal) ℓ)
    (ρ : Dev Cert.StatsReferenceIdeal.nD → PrngReg) :
    θ_run (Cert.StatsReferenceIdeal.defs (F := Ideal)) (onTc (τ := Cert.StatsReferenceIdeal.τ) (Cert.StatsReferenceIdeal.main (F := Ideal))) ⟨m, fun _ => 0, ρ⟩ fun r => ∀ c : Dev Cert.StatsReferenceIdeal.nD,
      r.2.mem ((c.tc : Thread Cert.StatsReferenceIdeal.nD Cert.StatsReferenceIdeal.τ).loc Cert.StatsReferenceIdeal.main_v14)
        = total (m ((c.tc : Thread Cert.StatsReferenceIdeal.nD Cert.StatsReferenceIdeal.τ).loc Cert.StatsReferenceIdeal.main_arg0) : FVec Ideal S8388608 .f32)
      ∧ r.2.mem ((c.tc : Thread Cert.StatsReferenceIdeal.nD Cert.StatsReferenceIdeal.τ).loc Cert.StatsReferenceIdeal.main_arg0)
        = m ((c.tc : Thread Cert.StatsReferenceIdeal.nD Cert.StatsReferenceIdeal.τ).loc Cert.StatsReferenceIdeal.main_arg0) := by
  refine (θ_run Cert.StatsReferenceIdeal.defs _ _).mono (fun r h c => ⟨(h c).1.trans ?_, (h c).2⟩)
    (Cert.StatsReferenceIdeal.Value.run (F := Ideal) m ρ)
  exact ref_eq _ _ _ _ _ _ _ (fun q => hostsum _ q _ _ _) (fun q => hostsum _ q _ _ _) (fun q => hostsum _ q _ _ _)
    (fun i => Ideal.ofBits_zero_f32)

end Cert.Proof.Stats

end

end
-- ==== Proof.Finalize.Scan.lean ====
/-
  Running sums over the extended reals: by doubling shifts, as the kernel takes them, and by a window.
-/
module

public import proofs.«01_k».proof.Proof.Gen.FinalizeIdeal.Value
public import Idealize.ShloMosaic.Lib.Pointwise.Reduce
public import Idealize.ShloMosaic.Lib.Pipeline.Value
public import Idealize.ShloMosaic.Lib.IdealHost
public import Idealize.ShloMosaic.Lib.ValueIdx

@[expose] public section

noncomputable section

namespace Cert.Proof.Finalize

open Cert.FinalizeIdeal Cert.FinalizeIdeal.Gen
open Idealize.ShloMosaic hiding ix1 ix2 ix3
open Idealize.ShloMosaic.ValueIdx

/-- The sum of the last `s` values up to position `i`. -/
def last (f : ℕ → EReal) (s i : ℕ) : EReal := ∑ k ∈ Finset.range s, if k ≤ i then f (i - k) else 0

theorem last_one (f : ℕ → EReal) (i : ℕ) : last f 1 i = f i := by simp [last]

/-- Twice as many values: the sum here and the sum as many positions before. -/
theorem last_double (f : ℕ → EReal) (d i : ℕ) : last f (d + d) i = last f d i + if i < d then 0 else last f d (i - d) := by
  unfold last
  rw [Finset.sum_range_add]
  congr 1
  split
  · next h => exact Finset.sum_eq_zero fun k _ => if_neg (by omega)
  · next h =>
    refine Finset.sum_congr rfl fun k _ => ?_
    by_cases hk : k ≤ i - d
    · rw [if_pos hk, if_pos (by omega), Nat.sub_add_eq]
    · rw [if_neg hk, if_neg (by omega)]

/-- A row shifted right by `d`, zeros moved in. -/
theorem shifted {d e : ℕ} (hde : d + e = 1024) (z : (⟨2, ![1, d]⟩ : Shape).Idx → EReal) (hz : ∀ i, z i = 0) (x : S1x1024.Idx → EReal)
    (hs : S1x1024.Slices ![0, 0] ⟨2, ![1, e]⟩) (h : Shape.Concatenates [⟨2, ![1, d]⟩, ⟨2, ![1, e]⟩] S1x1024 1) (i : Fin 1024) :
    concatenate S1x1024 1 [⟨⟨2, ![1, d]⟩, z⟩, ⟨⟨2, ![1, e]⟩, extractStridedSlice ⟨2, ![1, e]⟩ ![0, 0] x hs⟩] h (ix2 (0 : Fin 1) i)
      = if i.val < d then 0 else x (ix2 (0 : Fin 1) (⟨i.val - d, by omega⟩ : Fin 1024)) := by
  have hi := i.isLt
  split
  · next hlt =>
    refine Eq.trans ?_ (hz (ix2 (0 : Fin 1) (⟨i.val, hlt⟩ : Fin d)))
    refine concatenate_apply_piece (t := S1x1024) (1 : Fin 2) [⟨⟨2, ![1, d]⟩, z⟩, ⟨⟨2, ![1, e]⟩, extractStridedSlice ⟨2, ![1, e]⟩ ![0, 0] x hs⟩] h
      (ix2 (0 : Fin 1) i) 0 (by simp) ⟨2, ![1, d]⟩ z rfl rfl 0 rfl (ix2 (0 : Fin 1) (⟨i.val, hlt⟩ : Fin d)) ?_ ?_
    · intro b hb
      match b with
      | ⟨0, _⟩ => rfl
      | ⟨1, _⟩ => exact absurd rfl hb
    · exact Nat.zero_add _
  · next hge =>
    refine Eq.trans (b := extractStridedSlice ⟨2, ![1, e]⟩ ![0, 0] x hs (ix2 (0 : Fin 1) (⟨i.val - d, by omega⟩ : Fin e))) ?_ ?_
    · refine concatenate_apply_piece (t := S1x1024) (1 : Fin 2) [⟨⟨2, ![1, d]⟩, z⟩, ⟨⟨2, ![1, e]⟩, extractStridedSlice ⟨2, ![1, e]⟩ ![0, 0] x hs⟩] h
        (ix2 (0 : Fin 1) i) 1 (by simp) ⟨2, ![1, e]⟩ _ rfl rfl d (Nat.add_zero d) (ix2 (0 : Fin 1) (⟨i.val - d, by omega⟩ : Fin e)) ?_ ?_
      · intro b hb
        match b with
        | ⟨0, _⟩ => rfl
        | ⟨1, _⟩ => exact absurd rfl hb
      · show d + (i.val - d) = i.val
        omega
    · refine extractStridedSlice_apply _ _ _ _ _ ?_
      intro a
      match a with
      | ⟨0, _⟩ => rfl
      | ⟨1, _⟩ => exact (Nat.zero_add _).symm

/-- One doubling step. -/
theorem doubled (f : ℕ → EReal) {d e : ℕ} (hde : d + e = 1024) (x : FVec Ideal S1x1024 .f32) (hx : ∀ i : Fin 1024, x (ix2 (0 : Fin 1) i) = last f d i.val)
    (hs : S1x1024.Slices ![0, 0] ⟨2, ![1, e]⟩) (h : Shape.Concatenates [⟨2, ![1, d]⟩, ⟨2, ![1, e]⟩] S1x1024 1) (i : Fin 1024) :
    addf x (concatenate S1x1024 1 [⟨⟨2, ![1, d]⟩, (broadcast ⟨2, ![1, d]⟩ (Scalar.ofBits (F := Ideal) .f32 0x00000000#32) : FVec Ideal ⟨2, ![1, d]⟩ .f32)⟩,
      ⟨⟨2, ![1, e]⟩, extractStridedSlice ⟨2, ![1, e]⟩ ![0, 0] x hs⟩] h) (ix2 (0 : Fin 1) i) = last f (d + d) i.val := by
  rw [last_double]
  refine congrArg₂ (fun a b : EReal => a + b) (hx i) ((shifted hde _ (fun _ => Ideal.ofBits_zero_f32) x hs h i).trans ?_)
  split
  · rfl
  · exact hx _

/-- The counts by position: the columns' sums. -/
def counts (a : FVec Ideal S32x1024 .f32) (i : ℕ) : EReal := ∑ k : Fin 32, a (ix2 k (Fin.ofNat 1024 i))

theorem ofNat_fin (i : Fin 1024) : Fin.ofNat 1024 i.val = i := Fin.ext (Nat.mod_eq_of_lt i.isLt)

theorem counts_first (a : FVec Ideal S32x1024 .f32) (i : Fin 1024) :
    shapeCast S1x1024 (multiReduction .add [0] S1024 a 0x00000000#32 reduces_S32x1024_S1024 (.inl rfl) rfl) shapeCasts_S1024_S1x1024 (ix2 (0 : Fin 1) i)
      = last (counts a) 1 i.val := by
  rw [last_one]
  refine (shapeCast_apply _ _ (ix2 (0 : Fin 1) i) (ix1 i) ?_).trans ?_
  · rw [Shape.rowMajor_val_two, Shape.rowMajor_val_one]
    show i.val = 0 * 1024 + i.val
    omega
  refine (Ideal.reduceAdd_r2_a0 _ _ _).trans ?_
  unfold counts
  rw [ofNat_fin]
  rfl

/-- The kernel's running sums, times the constant. -/
theorem pay1_apply (a : FVec Ideal S32x1024 .f32) (i : Fin 1024) :
    k0_pay1 (F := Ideal) a (ix2 (0 : Fin 1) i) = last (counts a) 1024 i.val * Ideal.ofBits .f32 0x34000000#32 := by
  unfold k0_pay1
  refine congrArg (fun u : EReal => u * Ideal.ofBits .f32 0x34000000#32) ?_
  have h1 := doubled (counts a) (d := 1) (e := 1023) (by decide) _ (counts_first a) slices_S1x1024_o0_0_S1x1023 concatenates_S1x1_S1x1023_S1x1024_d1
  have h2 := doubled (counts a) (d := 2) (e := 1022) (by decide) _ h1 slices_S1x1024_o0_0_S1x1022 concatenates_S1x2_S1x1022_S1x1024_d1
  have h3 := doubled (counts a) (d := 4) (e := 1020) (by decide) _ h2 slices_S1x1024_o0_0_S1x1020 concatenates_S1x4_S1x1020_S1x1024_d1
  have h4 := doubled (counts a) (d := 8) (e := 1016) (by decide) _ h3 slices_S1x1024_o0_0_S1x1016 concatenates_S1x8_S1x1016_S1x1024_d1
  have h5 := doubled (counts a) (d := 16) (e := 1008) (by decide) _ h4 slices_S1x1024_o0_0_S1x1008 concatenates_S1x16_S1x1008_S1x1024_d1
  have h6 := doubled (counts a) (d := 32) (e := 992) (by decide) _ h5 slices_S1x1024_o0_0_S1x992 concatenates_S1x32_S1x992_S1x1024_d1
  have h7 := doubled (counts a) (d := 64) (e := 960) (by decide) _ h6 slices_S1x1024_o0_0_S1x960 concatenates_S1x64_S1x960_S1x1024_d1
  have h8 := doubled (counts a) (d := 128) (e := 896) (by decide) _ h7 slices_S1x1024_o0_0_S1x896 concatenates_S1x128_S1x896_S1x1024_d1
  have h9 := doubled (counts a) (d := 256) (e := 768) (by decide) _ h8 slices_S1x1024_o0_0_S1x768 concatenates_S1x256_S1x768_S1x1024_d1
  exact doubled (counts a) (d := 512) (e := 512) (by decide) _ h9 slices_S1x1024_o0_0_S1x512 concatenates_S1x512_S1x512_S1x1024_d1 i

theorem foldl_sum {n : ℕ} (f : Fin n → EReal) (z : EReal) (l : List (Fin n)) : l.foldl (fun r k => r + f k) z = z + (l.map f).sum := by
  induction l generalizing z with
  | nil => simp
  | cons a l ih => rw [List.foldl_cons, ih, List.map_cons, List.sum_cons, add_assoc]

/-- A window sum that looks back over all positions is the running sum. -/
theorem window_sum (f : ℕ → EReal) (x : S1024.Idx → EReal) (hx : ∀ i : Fin 1024, x (ix1 i) = f i.val) (v : EReal) (hv : v = 0)
    (h : S1024.ReduceWindows ![1024] ![1] ![1023] ![0] S1024) (i : Fin 1024) :
    Ideal.hostReduceWindowAdd ![1024] ![1] ![1023] ![0] h x v (ix1 i) = last f 1024 i.val := by
  have hi := i.isLt
  subst hv
  unfold Ideal.hostReduceWindowAdd Host.reduceWindow
  refine (foldl_sum _ _ _).trans ?_
  rw [zero_add, ← Fin.sum_univ_def]
  have e : ∀ n : Fin (⟨1, ![1024]⟩ : Shape).numel, (((⟨1, ![1024]⟩ : Shape).rowMajor.symm n) 0).val = n.val := fun n => by
    have := Shape.rowMajor_val_one ((⟨1, ![1024]⟩ : Shape).rowMajor.symm n)
    rw [Equiv.apply_symm_apply] at this
    exact this.symm
  refine Eq.trans (Finset.sum_congr rfl fun n _ => ?_)
    ((Fin.sum_univ_eq_sum_range (fun n => if 1023 ≤ i.val + n then f (i.val + n - 1023) else 0) _).trans ?_)
  · have hn : n.val < 1024 := lt_of_lt_of_eq n.isLt (by decide)
    have en := e n
    by_cases hc : 1023 ≤ i.val + n.val
    · rw [if_pos hc, dif_pos]
      · refine Eq.trans (congrArg x ?_) (hx ⟨i.val + n.val - 1023, by omega⟩)
        funext a
        match a with
        | ⟨0, _⟩ =>
          apply Fin.ext
          show i.val * 1 + (((⟨1, ![1024]⟩ : Shape).rowMajor.symm n) 0).val - 1023 = i.val + n.val - 1023
          rw [en, Nat.mul_one]
      · intro a
        match a with
        | ⟨0, _⟩ =>
          show 1023 ≤ i.val * 1 + (((⟨1, ![1024]⟩ : Shape).rowMajor.symm n) 0).val ∧ i.val * 1 + (((⟨1, ![1024]⟩ : Shape).rowMajor.symm n) 0).val - 1023 < 1024
          rw [en]
          omega
    · rw [if_neg hc, dif_neg]
      intro hh
      have := (hh 0).1
      have this : 1023 ≤ i.val * 1 + (((⟨1, ![1024]⟩ : Shape).rowMajor.symm n) 0).val := this
      rw [en] at this
      omega
  · rw [show (⟨1, ![1024]⟩ : Shape).numel = 1024 by decide, ← Finset.sum_range_reflect]
    unfold last
    refine Finset.sum_congr rfl fun k hk => ?_
    have hk' := Finset.mem_range.mp hk
    by_cases hc : k ≤ i.val
    · rw [if_pos hc, if_pos (by omega)]
      congr 1
      omega
    · rw [if_neg hc, if_neg (by omega)]

end Cert.Proof.Finalize

end
-- ==== Proof.Finalize.Lanes.lean ====
/-
  The kernel's scalars over the extended reals: sums over lanes, one lane picked, the weights, the block of parameters.
-/
module

public import proofs.«01_k».proof.Proof.Finalize.Scan

@[expose] public section

noncomputable section

namespace Cert.Proof.Finalize

open Cert.FinalizeIdeal Cert.FinalizeIdeal.Gen
open Idealize.ShloMosaic hiding ix1 ix2 ix3
open Idealize.ShloMosaic.ValueIdx

/-! What both sides compute. -/

/-- The values of a row. -/
abbrev lane (v : FVec Ideal S1x128 .f32) (l : Fin 128) : EReal := v (ix2 (0 : Fin 1) l)

/-- The largest value. -/
def top (w : Fin 128 → EReal) : EReal := (Finset.univ : Finset (Fin 128)).fold (FloatOps.maximumf (F := Ideal) (φ := .f32)) (Ideal.ofBits .f32 0xFF800000#32) w

/-- The exponential of the distance to the largest value. -/
def expo (w : Fin 128 → EReal) (l : Fin 128) : EReal := Ideal.exp (w l - top w)

/-- The weight of a lane. -/
def weight (w : Fin 128 → EReal) (l : Fin 128) : EReal := Ideal.div (expo w l) (∑ k, expo w k)

/-- The mean over all inputs of row `r` of the sums. -/
def meanOf (s : FVec Ideal S8x128 .f32) (r : Fin 8) : EReal := Ideal.div (∑ l : Fin 128, s (ix2 r l)) (Ideal.ofBits .f32 0x4B000000#32)

/-- One over the root of the variance with the small constant added. -/
def invStd (s : FVec Ideal S8x128 .f32) : EReal := Ideal.rsqrt (meanOf s 1 - meanOf s 0 * meanOf s 0 + Ideal.ofBits .f32 0x358637BD#32)

/-- Whether more than half the inputs count as zero, as one or zero. -/
def mostlyZero (s : FVec Ideal S8x128 .f32) : EReal :=
  Scalar.select (FloatOps.cmpf (F := Ideal) (φ := .f32) .ogt (meanOf s 2) (Ideal.ofBits .f32 0x3F000000#32)) (Ideal.ofBits .f32 0x3F800000#32) (Ideal.ofBits .f32 0x00000000#32)

/-- Seven values by position, zeros after them. -/
def seven (x0 x1 x2 x3 x4 x5 x6 : EReal) (j : ℕ) : EReal :=
  if j = 0 then x0 else if j = 1 then x1 else if j = 2 then x2 else if j = 3 then x3 else if j = 4 then x4 else if j = 5 then x5 else if j = 6 then x6 else 0

theorem seven_congr {x0 x1 x2 x3 x4 x5 x6 y0 y1 y2 y3 y4 y5 y6 : EReal} (j : ℕ) (h0 : x0 = y0) (h1 : x1 = y1) (h2 : x2 = y2) (h3 : x3 = y3)
    (h4 : x4 = y4) (h5 : x5 = y5) (h6 : x6 = y6) : seven x0 x1 x2 x3 x4 x5 x6 j = seven y0 y1 y2 y3 y4 y5 y6 j := by
  rw [h0, h1, h2, h3, h4, h5, h6]

/-- The block of parameters, by lane. -/
def params (s : FVec Ideal S8x128 .f32) (w f : Fin 128 → EReal) (j : ℕ) : EReal :=
  seven (meanOf s 0) (Ideal.div (invStd s) (Ideal.sqrt (Ideal.ofBits .f32 0x40000000#32))) (Ideal.ofBits .f32 0x3F000000#32 * weight w 1) (weight w 2)
    (mostlyZero s) (f 0) (f 1) j

/-! The constants. -/

theorem ofBits_scale : Ideal.ofBits .f32 0x34000000#32 = ((1 / 8388608 : ℝ) : EReal) := by
  simp [Ideal.ofBits, Ideal.ieee, -EReal.coe_mul]; norm_num

theorem ofBits_count : Ideal.ofBits .f32 0x4B000000#32 = ((8388608 : ℝ) : EReal) := by
  simp [Ideal.ofBits, Ideal.ieee, -EReal.coe_mul]

theorem ofBits_two : Ideal.ofBits .f32 0x40000000#32 = ((2 : ℝ) : EReal) := by
  simp [Ideal.ofBits, Ideal.ieee, -EReal.coe_mul]; norm_num

/-- Times the reciprocal of the count is the quotient by the count. -/
theorem mul_scale (x : EReal) : x * Ideal.ofBits .f32 0x34000000#32 = Ideal.div x (Ideal.ofBits .f32 0x4B000000#32) := by
  rw [ofBits_scale, ofBits_count, Ideal.div_coe (by norm_num)]

theorem inv_sqrt2 : Named.named (F := Ideal) Cert.FinalizeIdeal.κ "inv_sqrt2" (φ := .f32) 0x3F3504F3#32 = (((Real.sqrt 2)⁻¹ : ℝ) : EReal) :=
  IdealRules.named_const.ideal_named_scalar _ _ _ _ rfl

/-- Times the named constant is the quotient by the root of two. -/
theorem mul_inv_sqrt2 (x : EReal) : x * Named.named (F := Ideal) Cert.FinalizeIdeal.κ "inv_sqrt2" (φ := .f32) 0x3F3504F3#32
    = Ideal.div x (Ideal.sqrt (Ideal.ofBits .f32 0x40000000#32)) := by
  rw [inv_sqrt2, ofBits_two, Ideal.sqrt_coe, if_neg (by norm_num),
    Ideal.div_coe (show Real.sqrt 2 ≠ 0 from (Real.sqrt_pos.mpr (by norm_num)).ne'), one_div]

/-! Sums and the largest value over the lanes. -/

theorem cast3_apply (v : FVec Ideal S1x128 .f32) (a b : Fin 1) (l : Fin 128) :
    shapeCast S1x1x128 v shapeCasts_S1x128_S1x1x128 (ix3 a b l) = lane v l := by
  obtain rfl := Subsingleton.elim a 0
  obtain rfl := Subsingleton.elim b 0
  refine shapeCast_apply _ _ _ _ ?_
  rw [Shape.rowMajor_val_two, Shape.rowMajor_val_three]
  show 0 * 128 + l.val = (0 * 1 + 0) * 128 + l.val
  omega

/-- The one value of an array of one value. -/
theorem extract_one (v : FVec Ideal S1 .f32) :
    extractAt ![0, 0, 0] (shapeCast S1x1x1 v shapeCasts_S1_S1x1x1) inpos_S1x1x1_p0_0_0 = v (ix1 (0 : Fin 1)) := by
  refine shapeCast_apply _ _ _ _ ?_
  rw [Shape.rowMajor_val_one, Shape.rowMajor_val_three]
  rfl

theorem lane_sum (v : FVec Ideal S1x128 .f32) :
    extractAt ![0, 0, 0] (shapeCast S1x1x1 (multiReduction .add [1, 2] S1 (shapeCast S1x1x128 v shapeCasts_S1x128_S1x1x128) 0x00000000#32
      reduces_S1x1x128_S1 (.inl rfl) rfl) shapeCasts_S1_S1x1x1) inpos_S1x1x1_p0_0_0 = ∑ l, lane v l := by
  refine (extract_one _).trans ((Ideal.reduceAdd_r3_a12 _ _ _).trans ?_)
  rw [Fin.sum_univ_one]
  exact Finset.sum_congr rfl fun l _ => cast3_apply v _ _ l

theorem univ_pair : (Finset.univ : Finset (Fin 1 × Fin 128)) = Finset.univ.map ⟨fun l : Fin 128 => ((0 : Fin 1), l), fun _ _ e => (Prod.ext_iff.mp e).2⟩ := by
  ext ⟨a, l⟩
  obtain rfl := Subsingleton.elim a 0
  exact iff_of_true (Finset.mem_univ _) (Finset.mem_map.mpr ⟨l, Finset.mem_univ _, rfl⟩)

theorem lane_max (v : FVec Ideal S1x128 .f32) :
    extractAt ![0, 0, 0] (shapeCast S1x1x1 (multiReduction .maximumf [1, 2] S1 (shapeCast S1x1x128 v shapeCasts_S1x128_S1x1x128) 0xFF800000#32
      reduces_S1x1x128_S1 (.inl rfl) rfl) shapeCasts_S1_S1x1x1) inpos_S1x1x1_p0_0_0 = top (lane v) := by
  refine (extract_one _).trans ?_
  refine (multiReduction_maximumf_eq_fold _ _ _ _ _ _).trans ?_
  refine (Shape.Reduces.fold_fiber_r3_a12 _ _ _ _ _).trans ?_
  rw [univ_pair, Finset.fold_map]
  exact Finset.fold_congr fun l _ => cast3_apply v _ _ l

/-- Where the lane is `n`, the value, else zero. -/
theorem picked (n : Fin 128) (v : FVec Ideal S1x128 .f32) (l : Fin 128) :
    select (cmpi .eq (iota .tc S1x128 32 [1] iota_S1x128_d1_w32) (broadcast S1x128 (BitVec.ofNat 32 n.val))) v
      (broadcast S1x128 (Scalar.ofBits (F := Ideal) .f32 0x00000000#32) : FVec Ideal S1x128 .f32) (ix2 (0 : Fin 1) l) = if l = n then lane v l else 0 := by
  have hl := l.isLt
  have hn := n.isLt
  have hi : iota .tc S1x128 32 [1] iota_S1x128_d1_w32 (ix2 (0 : Fin 1) l) = BitVec.ofNat 32 l.val := by
    show BitVec.ofNat 32 (0 * 128 + l.val) = _
    rw [Nat.zero_mul, Nat.zero_add]
  show Scalar.select (IntOp.cmpi .eq (iota .tc S1x128 32 [1] iota_S1x128_d1_w32 (ix2 (0 : Fin 1) l)) (BitVec.ofNat 32 n.val)) _ _ = _
  rw [hi]
  by_cases h : l = n
  · subst h
    simp [Scalar.select, IntOp.cmpi]
  · have hne : BitVec.ofNat 32 l.val ≠ BitVec.ofNat 32 n.val := fun e => h (Fin.ext (by
      have := congrArg BitVec.toNat e
      simpa [BitVec.toNat_ofNat, Nat.mod_eq_of_lt (show l.val < 4294967296 by omega), Nat.mod_eq_of_lt (show n.val < 4294967296 by omega)] using this))
    rw [if_neg h]
    rw [show IntOp.cmpi .eq (BitVec.ofNat 32 l.val) (BitVec.ofNat 32 n.val) = 0#1 by simp [IntOp.cmpi, beq_false_of_ne hne]]
    exact Ideal.ofBits_zero_f32

/-- The sum of a row with one lane kept is that lane. -/
theorem sum_picked (n : Fin 128) (v : FVec Ideal S1x128 .f32) :
    ∑ l, lane (select (cmpi .eq (iota .tc S1x128 32 [1] iota_S1x128_d1_w32) (broadcast S1x128 (BitVec.ofNat 32 n.val))) v
      (broadcast S1x128 (Scalar.ofBits (F := Ideal) .f32 0x00000000#32) : FVec Ideal S1x128 .f32)) l = lane v n := by
  refine (Finset.sum_congr rfl fun l _ => picked n v l).trans ?_
  rw [Finset.sum_ite_eq' Finset.univ n, if_pos (Finset.mem_univ n)]

/-! The kernel's values. -/

theorem row_sum (s : FVec Ideal S8x128 .f32) (r : Fin 8) (h : S8x128.Slices ![r.val, 0] S1x128) :
    ∑ l, lane (extractStridedSlice S1x128 ![r.val, 0] s h) l = ∑ l : Fin 128, s (ix2 r l) := by
  refine Finset.sum_congr rfl fun l _ => extractStridedSlice_apply _ _ _ _ _ ?_
  intro a
  match a with
  | ⟨0, _⟩ => exact (Nat.add_zero _).symm
  | ⟨1, _⟩ => exact (Nat.zero_add _).symm

/-- A row's sum times the constant. -/
theorem row_mean (s : FVec Ideal S8x128 .f32) (r : Fin 8) (h : S8x128.Slices ![r.val, 0] S1x128) :
    extractAt ![0, 0, 0] (shapeCast S1x1x1 (multiReduction .add [1, 2] S1 (shapeCast S1x1x128 (extractStridedSlice S1x128 ![r.val, 0] s h) shapeCasts_S1x128_S1x1x128) 0x00000000#32
      reduces_S1x1x128_S1 (.inl rfl) rfl) shapeCasts_S1_S1x1x1) inpos_S1x1x1_p0_0_0 * Ideal.ofBits .f32 0x34000000#32 = meanOf s r := by
  rw [lane_sum, row_sum, mul_scale, meanOf]

theorem pay2_eq (s : FVec Ideal S8x128 .f32) : k0_pay2 (F := Ideal) s = meanOf s 0 := row_mean s 0 _

theorem pay3_eq (s : FVec Ideal S8x128 .f32) : k0_pay3 (F := Ideal) s = invStd s := by
  unfold k0_pay3 invStd
  rw [pay2_eq, ← row_mean s 1 slices_S8x128_o1_0_S1x128]
  rfl

theorem pay4_eq (s : FVec Ideal S8x128 .f32) : k0_pay4 (F := Ideal) s = mostlyZero s := by
  unfold k0_pay4 mostlyZero
  rw [← row_mean s 2 slices_S8x128_o2_0_S1x128]
  rfl

theorem pay5_apply (w : FVec Ideal S1x128 .f32) (l : Fin 128) : k0_pay5 (F := Ideal) w (ix2 (0 : Fin 1) l) = expo (lane w) l := by
  have e : k0_pay5 (F := Ideal) w = exp (subf w (broadcast S1x128 (extractAt ![0, 0, 0] (shapeCast S1x1x1 (multiReduction .maximumf [1, 2] S1
      (shapeCast S1x1x128 w shapeCasts_S1x128_S1x1x128) 0xFF800000#32 reduces_S1x1x128_S1 (.inl rfl) rfl) shapeCasts_S1_S1x1x1) inpos_S1x1x1_p0_0_0))) := rfl
  rw [e, lane_max w]
  rfl

theorem pay6_eq (w : FVec Ideal S1x128 .f32) : k0_pay6 (F := Ideal) w = ∑ k, expo (lane w) k :=
  (lane_sum _).trans (Finset.sum_congr rfl fun l _ => pay5_apply w l)

/-- One lane of the exponentials over their sum. -/
theorem weight_eq (w : FVec Ideal S1x128 .f32) (n : Fin 128) :
    Scalar.divf (F := Ideal) (extractAt ![0, 0, 0] (shapeCast S1x1x1 (multiReduction .add [1, 2] S1 (shapeCast S1x1x128
      (select (cmpi .eq (iota .tc S1x128 32 [1] iota_S1x128_d1_w32) (broadcast S1x128 (BitVec.ofNat 32 n.val))) (k0_pay5 (F := Ideal) w)
        (broadcast S1x128 (Scalar.ofBits (F := Ideal) .f32 0x00000000#32) : FVec Ideal S1x128 .f32)) shapeCasts_S1x128_S1x1x128) 0x00000000#32
      reduces_S1x1x128_S1 (.inl rfl) rfl) shapeCasts_S1_S1x1x1) inpos_S1x1x1_p0_0_0) (k0_pay6 (F := Ideal) w) = weight (lane w) n := by
  rw [lane_sum, sum_picked, pay6_eq, lane, pay5_apply]
  rfl

/-- The first result: the running sums over the count, times the first weight. -/
theorem G4_apply (a : FVec Ideal S32x1024 .f32) (s : FVec Ideal S8x128 .f32) (w f : FVec Ideal S1x128 .f32) (i : Fin 1024) :
    Value.G4 (F := Ideal) a s w f (ix2 (0 : Fin 1) i) = Ideal.div (last (counts a) 1024 i.val) (Ideal.ofBits .f32 0x4B000000#32) * weight (lane w) 0 := by
  refine congrArg₂ (fun a b : EReal => a * b) ((pay1_apply a i).trans (mul_scale _)) ?_
  exact weight_eq w 0

/-- Seven rows, each with one lane kept, added. -/
theorem pick7 (x0 x1 x2 x3 x4 x5 x6 : EReal) (j : ℕ) :
    ((((((if j = 0 then x0 else 0) + if j = 1 then x1 else 0) + if j = 2 then x2 else 0) + if j = 3 then x3 else 0) + if j = 4 then x4 else 0)
        + if j = 5 then x5 else 0) + (if j = 6 then x6 else 0)
      = seven x0 x1 x2 x3 x4 x5 x6 j := by
  unfold seven
  by_cases h0 : j = 0
  · simp [h0]
  by_cases h1 : j = 1
  · simp [h1]
  by_cases h2 : j = 2
  · simp [h2]
  by_cases h3 : j = 3
  · simp [h3]
  by_cases h4 : j = 4
  · simp [h4]
  by_cases h5 : j = 5
  · simp [h5]
  by_cases h6 : j = 6
  · simp [h6]
  simp [h0, h1, h2, h3, h4, h5, h6]

theorem picked_const (n : Fin 128) (x : EReal) (l : Fin 128) :
    select (cmpi .eq (iota .tc S1x128 32 [1] iota_S1x128_d1_w32) (broadcast S1x128 (BitVec.ofNat 32 n.val))) (broadcast S1x128 x : FVec Ideal S1x128 .f32)
      (broadcast S1x128 (Scalar.ofBits (F := Ideal) .f32 0x00000000#32) : FVec Ideal S1x128 .f32) (ix2 (0 : Fin 1) l) = if l.val = n.val then x else 0 := by
  rw [picked]
  simp only [Fin.ext_iff]
  rfl

theorem pay13_apply (x0 x1 x4 x2 x3 x5 x6 : EReal) (l : Fin 128) :
    k0_pay13 (F := Ideal) x0 x1 x4 (iota .tc S1x128 32 [1] iota_S1x128_d1_w32) x2 x3 x5 x6 (ix2 (0 : Fin 1) l)
      = seven x0 (Ideal.div x1 (Ideal.sqrt (Ideal.ofBits .f32 0x40000000#32))) (Ideal.ofBits .f32 0x3F000000#32 * x2) x3 x4 x5 x6 l.val := by
  rw [← pick7, ← mul_inv_sqrt2]
  have e := fun (n : Fin 128) (x : EReal) => picked_const n x l
  exact congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
    (e 0 _) (e 1 _)) (e 2 _)) (e 3 _)) (e 4 _)) (e 5 _)) (e 6 _)

/-- The second result: the block of parameters. -/
theorem G5_apply (a : FVec Ideal S32x1024 .f32) (s : FVec Ideal S8x128 .f32) (w f : FVec Ideal S1x128 .f32) (l : Fin 128) :
    Value.G5 (F := Ideal) a s w f (ix2 (0 : Fin 1) l) = params s (lane w) (lane f) l.val := by
  have h15 : k0_pay15 (F := Ideal) a s w f = k0_pay5 (F := Ideal) w :=
    congrArg (k0_pay5 (F := Ideal)) (View.ld_unit_zero (S := S1x128) (Val := Elt Ideal) (e := .f32) Value.hz2 inb_S1x128_S1x128_0_0 w)
  refine (pay13_apply _ _ _ _ _ _ _ l).trans ?_
  rw [h15]
  exact seven_congr l.val (pay2_eq s) (congrArg (fun x => Ideal.div x _) (pay3_eq s)) (congrArg (fun x : EReal => _ * x) (weight_eq w 1)) (weight_eq w 2)
    (pay4_eq s) ((lane_sum _).trans (sum_picked 0 f)) ((lane_sum _).trans (sum_picked 1 f))

end Cert.Proof.Finalize

end
-- ==== Proof.Finalize.Value.lean ====
/-
  The reference's two arrays, read at an index: the same running sums, weights and block of parameters.
-/
module

public import proofs.«01_k».proof.Proof.Finalize.Lanes
public import proofs.«01_k».proof.Proof.Gen.FinalizeReferenceIdeal.Run

@[expose] public section

noncomputable section

namespace Cert.Proof.Finalize

open Cert.FinalizeReferenceIdeal Cert.FinalizeReferenceIdeal.Gen
open Idealize.ShloMosaic hiding ix0 ix1 ix2 ix3
open Idealize.ShloMosaic.ValueIdx Idealize.ShloMosaic.TcCoe Idealize.SL.Sem

/-! Arrays of one axis, and of none. -/

theorem flat_apply (w : FVec Ideal S1x128 .f32) (l : Fin 128) : shapeCast S128 w shapeCasts_S1x128_S128 (ix1 l) = lane w l := by
  refine shapeCast_apply _ _ _ _ ?_
  rw [Shape.rowMajor_val_two, Shape.rowMajor_val_one]
  show 0 * 128 + l.val = l.val
  omega

theorem spread_apply (x : FVec Ideal S_ .f32) (l : Fin 128) :
    broadcastInDim S128 ![0] bcast_S1_S128_0 (broadcastInDim S1 ![] bcast_S_S1 x) (ix1 l) = x ix0 := by
  refine (broadcastInDim_apply _ bcast_S1_S128_0 _ (ix1 l) (ix1 (0 : Fin 1)) ?_).trans (broadcastInDim_scalar_apply _ x _)
  intro a
  match a with
  | ⟨0, _⟩ => exact (if_pos rfl).symm

theorem row_sum_host (v : FVec Ideal S128 .f32) : Host.reduceAdd v (constant S_ .f32 0x00000000#32) reducesTo_S128_S_d0 h_S_ ix0 = ∑ l : Fin 128, v (ix1 l) := by
  rw [hostReduceAdd_apply]
  refine (Ideal.hostReduceAdd_r1_a0 _ _ _ _).trans ?_
  rw [show (constant (F := Ideal) S_ .f32 0x00000000#32 : _ → Ideal .f32) (Shape.Idx.first h_S_) = 0 from Ideal.ofBits_zero_f32, zero_add]
  rfl

theorem ofBits_bot : Ideal.ofBits .f32 0xFF800000#32 = ⊥ := by
  simp [Ideal.ofBits, Ideal.ieee]

/-- The largest of the values, and of them and minus infinity. -/
theorem row_max_host (v : FVec Ideal S128 .f32) :
    maximumf (constant S_ .f32 0xFF800000#32) (Host.reduce FloatOps.maximumf v (constant S_ .f32 0xFF800000#32) reducesTo_S128_S_d0 h_S_) ix0 = top (fun l => v (ix1 l)) := by
  have e : Host.reduce (FloatOps.maximumf (F := Ideal) (φ := .f32)) v (constant S_ .f32 0xFF800000#32) reducesTo_S128_S_d0 h_S_ ix0 = top (fun l => v (ix1 l)) := by
    rw [Host.reduce_eq_fold]
    exact Shape.ReducesTo.fold_fiber_r1_a0 _ _ _ _ _
  refine Eq.trans (b := max (Ideal.ofBits .f32 0xFF800000#32) (top (fun l => v (ix1 l)))) (congrArg (fun t : EReal => max (Ideal.ofBits .f32 0xFF800000#32) t) e) ?_
  rw [ofBits_bot]
  exact max_eq_right bot_le

/-- One value of an array, as an array without axes. -/
theorem pick_apply (v : FVec Ideal S128 .f32) (n : Fin 128) (h : S128.Slices ![n.val] S1) :
    shapeCast S_ (extractStridedSlice S1 ![n.val] v h) shapeCasts_S1_S_ ix0 = v (ix1 n) := by
  refine (shapeCast_apply _ _ ix0 (ix1 (0 : Fin 1)) ?_).trans (extractStridedSlice_apply _ _ _ _ _ ?_)
  · rw [Shape.rowMajor_val_one]
    rfl
  intro a
  match a with
  | ⟨0, _⟩ => rfl

theorem pick_apply_row (v : FVec Ideal S1x128 .f32) (n : Fin 128) (h : S1x128.Slices ![0, n.val] S1x1) :
    shapeCast S_ (extractStridedSlice S1x1 ![0, n.val] v h) shapeCasts_S1x1_S_ ix0 = lane v n := by
  refine (shapeCast_apply _ _ ix0 (ix2 (0 : Fin 1) (0 : Fin 1)) ?_).trans (extractStridedSlice_apply _ _ _ _ _ ?_)
  · rw [Shape.rowMajor_val_two]
    rfl
  intro a
  match a with
  | ⟨0, _⟩ => rfl
  | ⟨1, _⟩ => rfl

/-! The weights. -/

/-- The exponentials of the distances to the largest value. -/
abbrev expos (w : FVec Ideal S1x128 .f32) : FVec Ideal S128 .f32 :=
  Host.exp (subf (shapeCast S128 w shapeCasts_S1x128_S128) (broadcastInDim S128 ![0] bcast_S1_S128_0 (broadcastInDim S1 ![] bcast_S_S1
    (maximumf (constant S_ .f32 0xFF800000#32) (Host.reduce FloatOps.maximumf (shapeCast S128 w shapeCasts_S1x128_S128) (constant S_ .f32 0xFF800000#32) reducesTo_S128_S_d0 h_S_)))))

/-- The exponentials over their sum. -/
abbrev weights (w : FVec Ideal S1x128 .f32) : FVec Ideal S128 .f32 :=
  Host.divf (expos w) (broadcastInDim S128 ![0] bcast_S1_S128_0 (broadcastInDim S1 ![] bcast_S_S1 (Host.reduceAdd (expos w) (constant S_ .f32 0x00000000#32) reducesTo_S128_S_d0 h_S_)))

theorem expos_apply (w : FVec Ideal S1x128 .f32) (l : Fin 128) : expos w (ix1 l) = expo (lane w) l := by
  have e : (fun l => shapeCast S128 w shapeCasts_S1x128_S128 (ix1 l)) = lane w := funext (flat_apply w)
  refine congrArg Ideal.exp (congrArg₂ (fun a b : EReal => a - b) (flat_apply w l) ((spread_apply _ l).trans ?_))
  rw [row_max_host, e]

theorem weights_apply (w : FVec Ideal S1x128 .f32) (l : Fin 128) : weights w (ix1 l) = weight (lane w) l := by
  refine congrArg₂ Ideal.div (expos_apply w l) ((spread_apply _ l).trans ((row_sum_host _).trans ?_))
  exact Finset.sum_congr rfl fun k _ => expos_apply w k

/-! The means. -/

/-- The sum of a row over the count. -/
abbrev mean (s : FVec Ideal S8x128 .f32) (r : Fin 8) (h : S8x128.Slices ![r.val, 0] S1x128) : FVec Ideal S_ .f32 :=
  Host.divf (Host.reduceAdd (shapeCast S128 (extractStridedSlice S1x128 ![r.val, 0] s h) shapeCasts_S1x128_S128) (constant S_ .f32 0x00000000#32) reducesTo_S128_S_d0 h_S_)
    (constant S_ .f32 0x4B000000#32)

theorem mean_apply (s : FVec Ideal S8x128 .f32) (r : Fin 8) (h : S8x128.Slices ![r.val, 0] S1x128) : mean s r h ix0 = meanOf s r := by
  refine congrArg (fun t => Ideal.div t (Ideal.ofBits .f32 0x4B000000#32)) ((row_sum_host _).trans ?_)
  exact (Finset.sum_congr rfl fun l _ => flat_apply _ l).trans (row_sum s r h)

/-! The first result. -/

theorem ref_sums (a : FVec Ideal S32x1024 .f32) (i : Fin 1024) :
    Host.reduceWindowAdd ![1024] ![1] ![1023] ![0] (Host.reduceAdd a (constant S_ .f32 0x00000000#32) reducesTo_S32x1024_S1024_d0 h_S_)
      (broadcastInDim S_ ![] bcast_S_S_ (constant S_ .f32 0x00000000#32)) reduceWindows_S1024_S1024_w1024s1p1023_0 h_S_ (ix1 i) = last (counts a) 1024 i.val := by
  have hx : ∀ k : Fin 1024, Host.reduceAdd a (constant S_ .f32 0x00000000#32) reducesTo_S32x1024_S1024_d0 h_S_ (ix1 k) = counts a k.val := by
    intro k
    rw [hostReduceAdd_apply]
    refine (Ideal.hostReduceAdd_r2_a0 _ _ _ _).trans ?_
    rw [show (constant (F := Ideal) S_ .f32 0x00000000#32 : _ → Ideal .f32) (Shape.Idx.first h_S_) = 0 from Ideal.ofBits_zero_f32, zero_add]
    unfold counts
    rw [ofNat_fin]
    rfl
  have hv : (broadcastInDim S_ ![] bcast_S_S_ (constant (F := Ideal) S_ .f32 0x00000000#32) : FVec Ideal S_ .f32) (Shape.Idx.first h_S_) = 0 :=
    (broadcastInDim_scalar_apply _ _ _).trans Ideal.ofBits_zero_f32
  generalize Host.reduceAdd a (constant S_ .f32 0x00000000#32) reducesTo_S32x1024_S1024_d0 h_S_ = x at hx ⊢
  generalize (broadcastInDim S_ ![] bcast_S_S_ (constant (F := Ideal) S_ .f32 0x00000000#32) : FVec Ideal S_ .f32) = v at hv ⊢
  unfold Host.reduceWindowAdd
  rw [Ideal.hostReduceWindowAdd_def]
  exact window_sum (counts a) x hx _ hv reduceWindows_S1024_S1024_w1024s1p1023_0 i

/-- The first result, as the kernel's. -/
theorem ref_first (a : FVec Ideal S32x1024 .f32) (s : FVec Ideal S8x128 .f32) (w f : FVec Ideal S1x128 .f32) :
    broadcastInDim S1x1024 ![1] bcast_S1024_S1x1024_1 (mulf (broadcastInDim S1024 ![] bcast_S_S1024 (shapeCast S_ (extractStridedSlice S1 ![0] (weights w) slices_S128_S1_0) shapeCasts_S1_S_))
      (Host.divf (Host.reduceWindowAdd ![1024] ![1] ![1023] ![0] (Host.reduceAdd a (constant S_ .f32 0x00000000#32) reducesTo_S32x1024_S1024_d0 h_S_)
        (broadcastInDim S_ ![] bcast_S_S_ (constant S_ .f32 0x00000000#32)) reduceWindows_S1024_S1024_w1024s1p1023_0 h_S_)
        (broadcastInDim S1024 ![] bcast_S_S1024 (constant S_ .f32 0x4B000000#32)))) = Cert.FinalizeIdeal.Value.G4 (F := Ideal) a s w f := by
  funext i
  obtain ⟨k, i, rfl⟩ : ∃ (k : Fin 1) (j : Fin 1024), i = ix2 k j := ⟨i 0, i 1, by funext a; match a with | ⟨0, _⟩ => rfl | ⟨1, _⟩ => rfl⟩
  obtain rfl := Subsingleton.elim k 0
  refine Eq.trans ?_ (G4_apply a s w f i).symm
  refine (broadcastInDim_apply _ bcast_S1024_S1x1024_1 _ (ix2 (0 : Fin 1) i) (ix1 i) ?_).trans ?_
  · intro b
    match b with
    | ⟨0, _⟩ => exact (if_neg (show ¬ 1024 = 1 by decide)).symm
  rw [mul_comm]
  refine congrArg₂ (fun a b : EReal => a * b) ((broadcastInDim_scalar_apply _ _ _).trans ((pick_apply _ 0 _).trans (weights_apply w 0)))
    (congrArg₂ Ideal.div (ref_sums a i) (broadcastInDim_scalar_apply _ _ _))

/-! The second result. -/

/-- A value of arrays put one after the other is a value of one of them. -/
theorem place {α : Type} {R n : ℕ} (xs : List ((s : Shape) × (s.Idx → α))) (h : Shape.Concatenates (xs.map (·.1)) ⟨1, ![R]⟩ 0)
    (k : ℕ) (hk : k < xs.length) (x : (⟨1, ![n]⟩ : Shape).Idx → α) (hx : xs[k] = ⟨⟨1, ![n]⟩, x⟩) (pre : ℕ)
    (hpre : (((xs.take k).map (·.1)).map fun s => if h : s.rank = 1 then s.size ((0 : Fin 1).cast h.symm) else 0).sum = pre)
    (r : Fin R) (i : Fin n) (hi : pre + i.val = r.val) : concatenate ⟨1, ![R]⟩ 0 xs h (ix1 r) = x (ix1 i) := by
  refine concatenate_apply_piece 0 xs h (ix1 r) k hk _ x hx rfl pre hpre (ix1 i) ?_ hi
  intro b hb
  match b with
  | ⟨0, _⟩ => exact absurd rfl hb

theorem seven_apply (x0 x1 x2 x3 x4 x5 x6 : FVec Ideal S1 .f32) (e : FVec Ideal S121 .f32) (he : ∀ i, e i = 0)
    (h : Shape.Concatenates [S1, S1, S1, S1, S1, S1, S1] S7 0) (h' : Shape.Concatenates [S7, S121] S128 0) (l : Fin 128) :
    concatenate S128 0 [⟨S7, concatenate S7 0 [⟨S1, x0⟩, ⟨S1, x1⟩, ⟨S1, x2⟩, ⟨S1, x3⟩, ⟨S1, x4⟩, ⟨S1, x5⟩, ⟨S1, x6⟩] h⟩, ⟨S121, e⟩] h' (ix1 l)
      = seven (x0 (ix1 0)) (x1 (ix1 0)) (x2 (ix1 0)) (x3 (ix1 0)) (x4 (ix1 0)) (x5 (ix1 0)) (x6 (ix1 0)) l.val := by
  have hl := l.isLt
  have up : ∀ hlt : l.val < 7, concatenate S128 0 [⟨S7, concatenate S7 0 [⟨S1, x0⟩, ⟨S1, x1⟩, ⟨S1, x2⟩, ⟨S1, x3⟩, ⟨S1, x4⟩, ⟨S1, x5⟩, ⟨S1, x6⟩] h⟩, ⟨S121, e⟩] h' (ix1 l)
      = concatenate S7 0 [⟨S1, x0⟩, ⟨S1, x1⟩, ⟨S1, x2⟩, ⟨S1, x3⟩, ⟨S1, x4⟩, ⟨S1, x5⟩, ⟨S1, x6⟩] h (ix1 (⟨l.val, hlt⟩ : Fin 7)) := fun hlt =>
    place (n := 7) [⟨S7, concatenate S7 0 [⟨S1, x0⟩, ⟨S1, x1⟩, ⟨S1, x2⟩, ⟨S1, x3⟩, ⟨S1, x4⟩, ⟨S1, x5⟩, ⟨S1, x6⟩] h⟩, ⟨S121, e⟩]
      h' 0 (by simp) _ rfl 0 rfl l ⟨l.val, hlt⟩ (by simp)
  have one : ∀ (k : ℕ) (hk : k < 7) (x : FVec Ideal S1 .f32) (hx : [(⟨S1, x0⟩ : (s : Shape) × (s.Idx → EReal)), ⟨S1, x1⟩, ⟨S1, x2⟩, ⟨S1, x3⟩, ⟨S1, x4⟩, ⟨S1, x5⟩, ⟨S1, x6⟩][k]'hk = ⟨S1, x⟩)
      (hpre : ((([(⟨S1, x0⟩ : (s : Shape) × (s.Idx → EReal)), ⟨S1, x1⟩, ⟨S1, x2⟩, ⟨S1, x3⟩, ⟨S1, x4⟩, ⟨S1, x5⟩, ⟨S1, x6⟩].take k).map (·.1)).map
        fun s => if h : s.rank = 1 then s.size ((0 : Fin 1).cast h.symm) else 0).sum = k) (hlk : l.val = k),
      concatenate S128 0 [⟨S7, concatenate S7 0 [⟨S1, x0⟩, ⟨S1, x1⟩, ⟨S1, x2⟩, ⟨S1, x3⟩, ⟨S1, x4⟩, ⟨S1, x5⟩, ⟨S1, x6⟩] h⟩, ⟨S121, e⟩] h' (ix1 l) = x (ix1 0) := fun k hk x hx hpre hlk =>
    (up (by omega)).trans (place (n := 1) [⟨S1, x0⟩, ⟨S1, x1⟩, ⟨S1, x2⟩, ⟨S1, x3⟩, ⟨S1, x4⟩, ⟨S1, x5⟩, ⟨S1, x6⟩] h k hk x hx k hpre ⟨l.val, by omega⟩ 0 (by simp; omega))
  unfold seven
  split
  · next hk => exact one 0 (by omega) x0 rfl rfl hk
  split
  · next hk => exact one 1 (by omega) x1 rfl rfl hk
  split
  · next hk => exact one 2 (by omega) x2 rfl rfl hk
  split
  · next hk => exact one 3 (by omega) x3 rfl rfl hk
  split
  · next hk => exact one 4 (by omega) x4 rfl rfl hk
  split
  · next hk => exact one 5 (by omega) x5 rfl rfl hk
  split
  · next hk => exact one 6 (by omega) x6 rfl rfl hk
  · exact (place (n := 121) [⟨S7, concatenate S7 0 [⟨S1, x0⟩, ⟨S1, x1⟩, ⟨S1, x2⟩, ⟨S1, x3⟩, ⟨S1, x4⟩, ⟨S1, x5⟩, ⟨S1, x6⟩] h⟩, ⟨S121, e⟩]
      h' 1 (by simp) e rfl 7 rfl l ⟨l.val - 7, by omega⟩ (by simp; omega)).trans (he _)

/-- The second result, as the kernel's. -/
theorem ref_second (m : (ℓ : Loc nD τ sig) → Buf (Elt Ideal) ℓ) (c : Dev nD) (a : FVec Ideal S32x1024 .f32) (s : FVec Ideal S8x128 .f32) (w f : FVec Ideal S1x128 .f32)
    (hs : m ((c.tc : Thread nD τ).loc main_arg1) = s) (hw : m ((c.tc : Thread nD τ).loc main_arg2) = w) (hf : m ((c.tc : Thread nD τ).loc main_arg3) = f) :
    Cert.FinalizeReferenceIdeal.Value.res_main_v61 m c = Cert.FinalizeIdeal.Value.G5 (F := Ideal) a s w f := by
  subst hs hw hf
  unfold Cert.FinalizeReferenceIdeal.Value.res_main_v61
  funext i
  obtain ⟨k, l, rfl⟩ : ∃ (k : Fin 1) (j : Fin 128), i = ix2 k j := ⟨i 0, i 1, by funext a; match a with | ⟨0, _⟩ => rfl | ⟨1, _⟩ => rfl⟩
  obtain rfl := Subsingleton.elim k 0
  refine Eq.trans ?_ (G5_apply a _ _ _ l).symm
  refine (broadcastInDim_apply _ bcast_S128_S1x128_1 _ (ix2 (0 : Fin 1) l) (ix1 l) ?_).trans ?_
  · intro b
    match b with
    | ⟨0, _⟩ => exact (if_neg (show ¬ 128 = 1 by decide)).symm
  refine (seven_apply _ _ _ _ _ _ _ _ (fun i => (broadcastInDim_scalar_apply _ _ _).trans Ideal.ofBits_zero_f32) _ _ l).trans ?_
  refine seven_congr l.val ((broadcastInDim_scalar_apply _ _ _).trans (mean_apply _ 0 _)) ((broadcastInDim_scalar_apply _ _ _).trans ?_)
    ((broadcastInDim_scalar_apply _ _ _).trans ?_) ((broadcastInDim_scalar_apply _ _ _).trans ((pick_apply _ 2 _).trans (weights_apply _ 2)))
    ((broadcastInDim_scalar_apply _ _ _).trans ?_) ((broadcastInDim_scalar_apply _ _ _).trans (pick_apply_row _ 0 _)) ((broadcastInDim_scalar_apply _ _ _).trans (pick_apply_row _ 1 _))
  · refine congrArg (fun t => Ideal.div t (Ideal.sqrt (Ideal.ofBits .f32 0x40000000#32))) ?_
    refine congrArg (fun t : EReal => Ideal.rsqrt (t + Ideal.ofBits .f32 0x358637BD#32)) ?_
    exact congrArg₂ (fun a b : EReal => a - b * b) (mean_apply _ 1 _) (mean_apply _ 0 _)
  · exact congrArg (fun t : EReal => Ideal.ofBits .f32 0x3F000000#32 * t) ((pick_apply _ 1 _).trans (weights_apply _ 1))
  · exact congrArg (fun t : EReal => Scalar.select (FloatOps.cmpf (F := Ideal) (φ := .f32) .ogt t (Ideal.ofBits .f32 0x3F000000#32)) (Ideal.ofBits .f32 0x3F800000#32) (Ideal.ofBits .f32 0x00000000#32))
      (mean_apply _ 2 _)

end Cert.Proof.Finalize

end
-- ==== Proof.Combine.Poly.lean ====
/-
  Polynomials with integer coefficients, as lists, and a test that one is nonnegative on the nonnegative reals.
-/
module

public import Mathlib.Data.Real.Basic
public import Mathlib.Tactic.Ring
public import Mathlib.Tactic.Linarith
public import Mathlib.Tactic.Positivity

@[expose] public section

namespace Cert.Proof.Combine

/-- The value of the polynomial whose coefficients are listed, the lowest first. -/
noncomputable def eval : List ℤ → ℝ → ℝ
  | [], _ => 0
  | a :: l, x => a + x * eval l x

def add : List ℤ → List ℤ → List ℤ
  | [], m => m
  | a :: l, [] => a :: l
  | a :: l, b :: m => (a + b) :: add l m

def scale (c : ℤ) : List ℤ → List ℤ
  | [] => []
  | a :: l => (c * a) :: scale c l

def mul : List ℤ → List ℤ → List ℤ
  | [], _ => []
  | a :: l, m => add (scale a m) (0 :: mul l m)

def pow (l : List ℤ) : ℕ → List ℤ
  | 0 => [1]
  | n + 1 => mul l (pow l n)

/-- The polynomial at `u + x`. -/
def shift (u : ℤ) (l : List ℤ) : List ℤ := l.foldr (fun a q => add (a :: q) (scale u q)) []

/-- A lower bound of the values between 0 and `h`. -/
def low (h : ℤ) (l : List ℤ) : ℤ := l.foldr (fun a r => a + min 0 (h * r)) 0

/-- Whether the values are seen to be nonnegative: on pieces of the listed widths by `low`, beyond them because no coefficient is negative. -/
def check : List ℤ → List ℤ → Bool
  | [], l => l.all (fun a => decide (0 ≤ a))
  | h :: hs, l => decide (0 ≤ low h l) && check hs (shift h l)

theorem eval_add (l m : List ℤ) (x : ℝ) : eval (add l m) x = eval l x + eval m x := by
  induction l generalizing m with
  | nil => simp [add, eval]
  | cons a l ih =>
    cases m with
    | nil => simp [add, eval]
    | cons b m =>
      simp only [add, eval, ih, Int.cast_add]
      ring

theorem eval_scale (c : ℤ) (l : List ℤ) (x : ℝ) : eval (scale c l) x = c * eval l x := by
  induction l with
  | nil => simp [scale, eval]
  | cons a l ih =>
    simp only [scale, eval, ih, Int.cast_mul]
    ring

theorem eval_mul (l m : List ℤ) (x : ℝ) : eval (mul l m) x = eval l x * eval m x := by
  induction l with
  | nil => simp [mul, eval]
  | cons a l ih =>
    simp only [mul, eval, eval_add, eval_scale, ih, Int.cast_zero]
    ring

theorem eval_pow (l : List ℤ) (n : ℕ) (x : ℝ) : eval (pow l n) x = eval l x ^ n := by
  induction n with
  | zero => simp [pow, eval]
  | succ n ih => rw [pow, eval_mul, ih, pow_succ']

theorem eval_shift (u : ℤ) (l : List ℤ) (x : ℝ) : eval (shift u l) x = eval l (u + x) := by
  induction l with
  | nil => rfl
  | cons a l ih =>
    have e : shift u (a :: l) = add (a :: shift u l) (scale u (shift u l)) := rfl
    rw [e, eval_add, eval_scale, eval, ih, eval]
    ring

theorem low_le (h : ℤ) (l : List ℤ) (x : ℝ) (h0 : 0 ≤ x) (h1 : x ≤ h) : (low h l : ℝ) ≤ eval l x := by
  induction l with
  | nil => simp [low, eval]
  | cons a l ih =>
    have e : low h (a :: l) = a + min 0 (h * low h l) := rfl
    rw [e, eval, Int.cast_add, Int.cast_min, Int.cast_mul, Int.cast_zero]
    have s : min 0 ((h : ℝ) * (low h l : ℝ)) ≤ x * (low h l : ℝ) := by
      rcases le_total 0 (low h l : ℝ) with p | p
      · exact (min_le_left _ _).trans (mul_nonneg h0 p)
      · exact (min_le_right _ _).trans (mul_le_mul_of_nonpos_right h1 p)
    have t := mul_le_mul_of_nonneg_left ih h0
    linarith

theorem eval_nonneg (l : List ℤ) (x : ℝ) (hl : l.all (fun a => decide (0 ≤ a)) = true) (h0 : 0 ≤ x) : 0 ≤ eval l x := by
  induction l with
  | nil => exact le_rfl
  | cons a l ih =>
    rw [List.all_cons, Bool.and_eq_true, decide_eq_true_eq] at hl
    have p : (0 : ℝ) ≤ a := by exact_mod_cast hl.1
    exact add_nonneg p (mul_nonneg h0 (ih hl.2))

/-- The test is right. -/
theorem eval_nonneg_of_check (hs l : List ℤ) (x : ℝ) (hc : check hs l = true) (h0 : 0 ≤ x) : 0 ≤ eval l x := by
  induction hs generalizing l x with
  | nil => exact eval_nonneg l x hc h0
  | cons h hs ih =>
    rw [check, Bool.and_eq_true, decide_eq_true_eq] at hc
    rcases le_total x h with p | p
    · have q : (0 : ℝ) ≤ low h l := by exact_mod_cast hc.1
      exact q.trans (low_le h l x h0 p)
    · have q := ih (shift h l) (x - h) hc.2 (by linarith)
      rw [eval_shift] at q
      rwa [add_sub_cancel] at q

end Cert.Proof.Combine
-- ==== Proof.Combine.Pi.lean ====
/-
  Nine digits of `π`, and of the factor before the integral in the error function.
-/
module

public import Mathlib.Analysis.SpecialFunctions.Trigonometric.Basic
public import Mathlib.Analysis.Complex.Trigonometric
public import Mathlib.Tactic.NormNum
public import Mathlib.Tactic.Positivity

@[expose] public section

namespace Cert.Proof.Combine

open Real

theorem root_le {n : ℕ} {a b : ℝ} (h : sqrtTwoAddSeries 0 n ≤ a) (hb : 0 ≤ b) (hab : 2 + a ≤ b ^ 2) : sqrtTwoAddSeries 0 (n + 1) ≤ b :=
  Real.sqrt_le_iff.2 ⟨hb, by linarith⟩

theorem le_root {n : ℕ} {a b : ℝ} (h : a ≤ sqrtTwoAddSeries 0 n) (hab : b ^ 2 ≤ 2 + a) : b ≤ sqrtTwoAddSeries 0 (n + 1) :=
  Real.le_sqrt_of_sq_le (by linarith)

/-- Twice the cosine of `π / 2⁸`, from above. -/
theorem cos_le : sqrtTwoAddSeries 0 7 ≤ 2251630257300664 / 2 ^ 50 := by
  have h0 : sqrtTwoAddSeries 0 0 ≤ 0 := le_rfl
  have h1 := root_le (b := 1592262918131444 / 2 ^ 50) h0 (by norm_num) (by norm_num)
  have h2 := root_le (b := 2080391759176530 / 2 ^ 50) h1 (by norm_num) (by norm_num)
  have h3 := root_le (b := 2208532111677229 / 2 ^ 50) h2 (by norm_num) (by norm_num)
  have h4 := root_le (b := 2240956782102858 / 2 ^ 50) h3 (by norm_num) (by norm_num)
  have h5 := root_le (b := 2249087422192480 / 2 ^ 50) h4 (by norm_num) (by norm_num)
  have h6 := root_le (b := 2251121613681476 / 2 ^ 50) h5 (by norm_num) (by norm_num)
  exact root_le (b := 2251630257300664 / 2 ^ 50) h6 (by norm_num) (by norm_num)

/-- The same from below. -/
theorem le_cos : 2251630257300662 / 2 ^ 50 ≤ sqrtTwoAddSeries 0 7 := by
  have h0 : 0 ≤ sqrtTwoAddSeries 0 0 := le_rfl
  have h1 := le_root (b := 1592262918131443 / 2 ^ 50) h0 (by norm_num)
  have h2 := le_root (b := 2080391759176529 / 2 ^ 50) h1 (by norm_num)
  have h3 := le_root (b := 2208532111677227 / 2 ^ 50) h2 (by norm_num)
  have h4 := le_root (b := 2240956782102857 / 2 ^ 50) h3 (by norm_num)
  have h5 := le_root (b := 2249087422192479 / 2 ^ 50) h4 (by norm_num)
  have h6 := le_root (b := 2251121613681475 / 2 ^ 50) h5 (by norm_num)
  exact le_root (b := 2251630257300662 / 2 ^ 50) h6 (by norm_num)

theorem sin_eq : sin (π / 2 ^ 9) = √(2 - sqrtTwoAddSeries 0 7) / 2 := sin_pi_over_two_pow_succ 7

theorem lt_pi : 3.141592653 < π := by
  by_contra h
  have h := not_lt.1 h
  have hx : π / 2 ^ 9 ≤ 3.141592653 / 2 ^ 9 := by gcongr
  have m : sin (π / 2 ^ 9) ≤ sin (3.141592653 / 2 ^ 9) := by
    refine sin_le_sin_of_le_of_le_pi_div_two ?_ ?_ hx
    · have := pi_pos
      have : (0 : ℝ) < π / 2 ^ 9 := by positivity
      linarith
    · have := two_le_pi
      norm_num
      linarith
  have b := abs_le.1 (sin_bound (x := 3.141592653 / 2 ^ 9) (by rw [abs_of_nonneg (by norm_num)]; norm_num))
  rw [abs_of_nonneg (by norm_num : (0 : ℝ) ≤ 3.141592653 / 2 ^ 9)] at b
  rw [sin_eq] at m
  have r : √(2 - sqrtTwoAddSeries 0 7) ≤ 2 * (3.141592653 / 2 ^ 9 - (3.141592653 / 2 ^ 9) ^ 3 / 6 + (3.141592653 / 2 ^ 9) ^ 5 / 100) := by linarith [b.2]
  have q := (Real.sqrt_le_iff.1 r).2
  have := cos_le
  norm_num at q this
  linarith

theorem pi_lt : π < 3.141592654 := by
  by_contra h
  have h := not_lt.1 h
  have hx : 3.141592654 / 2 ^ 9 ≤ π / 2 ^ 9 := by gcongr
  have m : sin (3.141592654 / 2 ^ 9) ≤ sin (π / 2 ^ 9) := by
    refine sin_le_sin_of_le_of_le_pi_div_two ?_ ?_ hx
    · have := pi_pos
      norm_num
      linarith
    · have := pi_pos
      norm_num
      linarith
  have b := abs_le.1 (sin_bound (x := 3.141592654 / 2 ^ 9) (by rw [abs_of_nonneg (by norm_num)]; norm_num))
  rw [abs_of_nonneg (by norm_num : (0 : ℝ) ≤ 3.141592654 / 2 ^ 9)] at b
  rw [sin_eq] at m
  have r : 2 * (3.141592654 / 2 ^ 9 - (3.141592654 / 2 ^ 9) ^ 3 / 6 - (3.141592654 / 2 ^ 9) ^ 5 / 100) ≤ √(2 - sqrtTwoAddSeries 0 7) := by linarith [b.1]
  have q := Real.le_sqrt' (by norm_num) |>.1 r
  have := le_cos
  norm_num at q this
  linarith

theorem le_factor : 1240666014680 / 2 ^ 40 ≤ 2 / √π := by
  rw [le_div_iff₀ (Real.sqrt_pos.2 pi_pos)]
  have h : √π ≤ 2 / (1240666014680 / 2 ^ 40) := Real.sqrt_le_iff.2 ⟨by norm_num, pi_lt.le.trans (by norm_num)⟩
  have := mul_le_mul_of_nonneg_left h (by norm_num : (0 : ℝ) ≤ 1240666014680 / 2 ^ 40)
  refine this.trans (by norm_num)

theorem factor_le : 2 / √π ≤ 1240666014879 / 2 ^ 40 := by
  rw [div_le_iff₀ (Real.sqrt_pos.2 pi_pos)]
  have h : 2 / (1240666014879 / 2 ^ 40) ≤ √π := Real.le_sqrt_of_sq_le (le_trans (by norm_num) lt_pi.le)
  have := mul_le_mul_of_nonneg_left h (by norm_num : (0 : ℝ) ≤ 1240666014879 / 2 ^ 40)
  refine le_trans (by norm_num) this

end Cert.Proof.Combine
-- ==== Proof.Combine.Erf.lean ====
/-
  How near the kernel's polynomial comes to the error function: within 3/20000000 of it.

  For an argument `x ≥ 0`, with `t = 1 / (1 + p x)`, the kernel computes `1 - q(t) exp (-x²)` with a polynomial `q` of
  degree 5. With a certain polynomial `r` of degree 9 in place of `q` the distance from the error function is 0 at 0 and
  grows no faster than `c (1 - t⁴) / 4` does, with a small `c`; and `(q(t) - r(t)) exp (-x²)` is small itself. Where `exp (x²)`
  is replaced by the beginning of its series, these are inequalities between polynomials in `x`.
-/
module

public import proofs.«01_k».proof.Proof.Combine.Poly
public import proofs.«01_k».proof.Proof.Combine.Pi
public import Mathlib.Analysis.Complex.Exponential
public import Mathlib.MeasureTheory.Integral.IntervalIntegral.Basic
public import Mathlib.Analysis.Calculus.Deriv.Inv
public import Mathlib.Analysis.Calculus.Deriv.MeanValue
public import Mathlib.Analysis.Calculus.Deriv.Pow
public import Mathlib.Analysis.SpecialFunctions.ExpDeriv
public import Mathlib.Tactic.FieldSimp

@[expose] public section

noncomputable section

namespace Cert.Proof.Combine

/-! The inequalities between polynomials, at `v = 256 x`. Here `p = 10992133 / 2²⁵`. -/

/-- `2³³ (1 + p x)`. -/
def lin : List ℤ := [8589934592, 10992133]

/-- `2⁴⁰ q`. -/
def kern : List ℤ := [0, 280188092416, -312807456768, 1562860978176, -1597757587456, 1167027601408]

/-- `2⁴⁰ r`. -/
def near : List ℤ :=
  [0, 210149969574, 122363815381, 607160105222, -1053504916106, 2409262964252, -2594990651053, 2046021560747, -748940672745, 101989452504]

/-- The beginning of the exponential series at `x²`, times `12! · 256²⁴`. -/
def series : List ℤ :=
  [479001600 * 256 ^ 24, 0, 479001600 * 256 ^ 22, 0, 239500800 * 256 ^ 20, 0, 79833600 * 256 ^ 18, 0, 19958400 * 256 ^ 16, 0,
    3991680 * 256 ^ 14, 0, 665280 * 256 ^ 12, 0, 95040 * 256 ^ 10, 0, 11880 * 256 ^ 8, 0, 1320 * 256 ^ 6, 0, 132 * 256 ^ 4, 0, 12 * 256 ^ 2, 0, 1]

/-- A polynomial in `t` times a power of `2³³ (1 + p x)`, as a polynomial in `v`. -/
def hom : List ℤ → List ℤ
  | [] => []
  | a :: l => add (scale a (pow lin (l.length + 1))) (scale (2 ^ 33) (hom l))

/-- The derivative. -/
def der : List ℤ → List ℤ
  | [] => []
  | _ :: l => add l (0 :: der l)

def above : List ℤ := scale (13194 * 128 * 10992133 * 2 ^ 40 * (2 ^ 33) ^ 5) (mul (pow lin 7) series)

def slope (s : ℤ) : List ℤ :=
  scale (479001600 * 256 ^ 24) (add (scale (128 * 2 ^ 25 * 2 ^ 40 * s) (pow lin 12))
    (scale (-2 ^ 40) (add (scale (2 ^ 25) (mul [0, 1] (mul (pow lin 2) (hom near)))) (scale (128 * 10992133 * 2 ^ 66) (hom (der near))))))

def gap (s : ℤ) : List ℤ :=
  add (scale (169479467294 * 2 ^ 40) (mul (pow lin 10) series))
    (scale (s * 479001600 * 256 ^ 24 * 2 ^ 60) (hom (add kern (scale (-1) near))))

theorem check_upper : check [13, 42, 59, 112, 205, 711] (add above (slope 1240666014680)) = true := by decide +kernel

theorem check_lower : check [24, 42, 76, 148, 283] (add above (scale (-1) (slope 1240666014879))) = true := by decide +kernel

theorem check_gap_upper : check [5, 3, 3, 19, 53, 33, 16, 168, 48, 32] (gap 1) = true := by decide +kernel

theorem check_gap_lower : check [24, 19, 7, 4, 2, 4, 99, 51, 14, 11, 265, 56] (gap (-1)) = true := by decide +kernel

/-! What they say. -/

/-- `p`. -/
abbrev pp : ℝ := 10992133 / 2 ^ 25

/-- `t`. -/
abbrev tt (x : ℝ) : ℝ := 1 / (1 + pp * x)

theorem eval_lin (x : ℝ) : eval lin (256 * x) = 2 ^ 33 * (1 + pp * x) := by
  simp only [lin, eval, pp]
  push_cast
  ring

theorem lin_pos {x : ℝ} (h : 0 ≤ x) : 0 < 1 + pp * x := by
  have : 0 ≤ pp * x := mul_nonneg (by norm_num) h
  linarith

theorem eval_hom (l : List ℤ) {x : ℝ} (h : 0 ≤ x) : eval (hom l) (256 * x) = (2 ^ 33 * (1 + pp * x)) ^ l.length * eval l (tt x) := by
  have y := (lin_pos h).ne'
  induction l with
  | nil => simp [hom, eval]
  | cons a l ih =>
    simp only [hom, eval, eval_add, eval_scale, eval_pow, eval_lin, ih, List.length_cons, tt]
    push_cast
    rw [pow_succ]
    field_simp
    ring

theorem eval_der (l : List ℤ) (t : ℝ) : HasDerivAt (eval l) (eval (der l) t) t := by
  induction l with
  | nil => exact hasDerivAt_const t 0
  | cons a l ih =>
    have h := ((hasDerivAt_id t).mul ih).const_add (a : ℝ)
    refine (h.congr_deriv ?_)
    simp only [der, eval_add, eval, id, Int.cast_zero]
    ring

theorem series_le (x : ℝ) : eval series (256 * x) ≤ 479001600 * 256 ^ 24 * Real.exp (x ^ 2) := by
  have h := mul_le_mul_of_nonneg_left (Real.sum_le_exp_of_nonneg (sq_nonneg x) 13) (by norm_num : (0 : ℝ) ≤ 479001600 * 256 ^ 24)
  refine le_trans (le_of_eq ?_) h
  simp only [series, eval, Finset.sum_range_succ, Finset.sum_range_zero, Nat.factorial]
  push_cast
  ring

theorem eval_id (v : ℝ) : eval [0, 1] v = v := by
  simp [eval]

/-- The constant `c`. -/
abbrev cc : ℝ := 13194 / 2 ^ 40

theorem tt_pos {x : ℝ} (h : 0 ≤ x) : 0 < tt x := one_div_pos.2 (lin_pos h)

/-- The derivative, without its factor `exp (-x²)`, of the distance of `1 - r(t) exp (-x²)` from the error function. -/
abbrev rate (f x : ℝ) : ℝ := f - (2 * x * (eval near (tt x) / 2 ^ 40) + pp * tt x ^ 2 * (eval (der near) (tt x) / 2 ^ 40))

theorem slope_eq (s : ℤ) {x : ℝ} (h : 0 ≤ x) : eval (slope s) (256 * x) =
    479001600 * 256 ^ 24 * 128 * 2 ^ 65 * 2 ^ 40 * (2 ^ 33 * (1 + pp * x)) ^ 12 * rate (s / 2 ^ 40) x := by
  have n1 : near.length = 10 := rfl
  have n2 : (der near).length = 10 := rfl
  simp only [slope, eval_add, eval_scale, eval_mul, eval_pow, eval_hom _ h, eval_lin, eval_id, n1, n2, rate]
  generalize eval near (tt x) = q
  generalize eval (der near) (tt x) = q'
  have y := (lin_pos h).ne'
  simp only [tt]
  generalize hy : 1 + pp * x = Y at y ⊢
  push_cast
  field_simp
  ring

theorem above_le {x : ℝ} (h : 0 ≤ x) : eval above (256 * x) ≤
    479001600 * 256 ^ 24 * 128 * 2 ^ 65 * 2 ^ 40 * (2 ^ 33 * (1 + pp * x)) ^ 12 * (cc * pp * tt x ^ 5 * Real.exp (x ^ 2)) := by
  have hs := series_le x
  have y := lin_pos h
  simp only [above, eval_scale, eval_mul, eval_pow, eval_lin, tt]
  generalize eval series (256 * x) = S at hs ⊢
  generalize Real.exp (x ^ 2) = E at hs ⊢
  generalize hy : 1 + pp * x = Y at y ⊢
  have e : 479001600 * 256 ^ 24 * 128 * 2 ^ 65 * 2 ^ 40 * (2 ^ 33 * Y) ^ 12 * (cc * pp * (1 / Y) ^ 5 * E)
      = 13194 * 128 * 10992133 * 2 ^ 40 * (2 ^ 33) ^ 5 * ((2 ^ 33 * Y) ^ 7 * (479001600 * 256 ^ 24 * E)) := by
    field_simp
  rw [e]
  refine (le_of_eq ?_).trans (mul_le_mul_of_nonneg_left (mul_le_mul_of_nonneg_left hs (by positivity : 0 ≤ (2 ^ 33 * Y) ^ 7))
    (by norm_num : (0 : ℝ) ≤ 13194 * 128 * 10992133 * 2 ^ 40 * (2 ^ 33) ^ 5))
  push_cast
  ring

theorem rate_mono {f f' x : ℝ} (h : f ≤ f') : rate f x ≤ rate f' x := sub_le_sub_right h _

theorem le_rate {x : ℝ} (h : 0 ≤ x) : 0 ≤ cc * pp * tt x ^ 5 * Real.exp (x ^ 2) + rate (2 / √Real.pi) x := by
  have e := eval_nonneg_of_check _ _ (256 * x) check_upper (by positivity)
  rw [eval_add, slope_eq _ h] at e
  have a := above_le h
  have w : (0 : ℝ) < 479001600 * 256 ^ 24 * 128 * 2 ^ 65 * 2 ^ 40 * (2 ^ 33 * (1 + pp * x)) ^ 12 := by
    have := lin_pos h
    positivity
  have r := (mul_nonneg_iff_of_pos_left w).1 (by rw [mul_add]; exact e.trans (add_le_add_left a _))
  refine r.trans (add_le_add_right (rate_mono ?_) _)
  push_cast
  exact le_factor

theorem rate_le {x : ℝ} (h : 0 ≤ x) : 0 ≤ cc * pp * tt x ^ 5 * Real.exp (x ^ 2) - rate (2 / √Real.pi) x := by
  have e := eval_nonneg_of_check _ _ (256 * x) check_lower (by positivity)
  rw [eval_add, eval_scale, slope_eq _ h] at e
  have a := above_le h
  have w : (0 : ℝ) < 479001600 * 256 ^ 24 * 128 * 2 ^ 65 * 2 ^ 40 * (2 ^ 33 * (1 + pp * x)) ^ 12 := by
    have := lin_pos h
    positivity
  push_cast at e
  have r : 0 ≤ cc * pp * tt x ^ 5 * Real.exp (x ^ 2) - rate (1240666014879 / 2 ^ 40) x := by
    refine (mul_nonneg_iff_of_pos_left w).1 ?_
    rw [mul_sub]
    rw [neg_one_mul, ← sub_eq_add_neg] at e
    exact e.trans (sub_le_sub_right a _)
  refine r.trans (sub_le_sub_left (rate_mono ?_) _)
  exact factor_le

/-- The two polynomials are near each other. -/
theorem gap_le {x : ℝ} (h : 0 ≤ x) : |eval kern (tt x) / 2 ^ 40 - eval near (tt x) / 2 ^ 40| * Real.exp (-(x ^ 2)) ≤ 169479467294 / 2 ^ 60 := by
  have n1 : (add kern (scale (-1) near)).length = 10 := rfl
  have y := lin_pos h
  have hs := series_le x
  have e1 := eval_nonneg_of_check _ _ (256 * x) check_gap_upper (by positivity)
  have e2 := eval_nonneg_of_check _ _ (256 * x) check_gap_lower (by positivity)
  simp only [gap, eval_add, eval_scale, eval_mul, eval_pow, eval_lin, eval_hom _ h, n1] at e1 e2
  generalize eval kern (tt x) = a at e1 e2 ⊢
  generalize eval near (tt x) = b at e1 e2 ⊢
  generalize eval series (256 * x) = S at hs e1 e2
  have z : (0 : ℝ) < (2 ^ 33 * (1 + pp * x)) ^ 10 := by positivity
  generalize (2 ^ 33 * (1 + pp * x)) ^ 10 = Y at e1 e2 z
  have i : Real.exp (x ^ 2) * Real.exp (-(x ^ 2)) = 1 := by rw [← Real.exp_add, add_neg_cancel, Real.exp_zero]
  have p := Real.exp_pos (-(x ^ 2))
  generalize Real.exp (x ^ 2) = E at hs i
  generalize Real.exp (-(x ^ 2)) = e at i p ⊢
  have s1 : 0 ≤ 169479467294 * 2 ^ 40 * S + 479001600 * 256 ^ 24 * 2 ^ 60 * (a - b) := by
    refine (mul_nonneg_iff_of_pos_left z).1 (e1.trans (le_of_eq ?_))
    push_cast
    ring
  have s2 : 0 ≤ 169479467294 * 2 ^ 40 * S + 479001600 * 256 ^ 24 * 2 ^ 60 * (b - a) := by
    refine (mul_nonneg_iff_of_pos_left z).1 (e2.trans (le_of_eq ?_))
    push_cast
    ring
  have k : |a / 2 ^ 40 - b / 2 ^ 40| ≤ 169479467294 / 2 ^ 60 * E := by
    rw [abs_le]
    constructor <;> norm_num at s1 s2 hs ⊢ <;> linarith
  refine (mul_le_mul_of_nonneg_right k p.le).trans (le_of_eq ?_)
  rw [mul_assoc, i, mul_one]

/-! The error function. -/

/-- The error function. -/
abbrev erfR (x : ℝ) : ℝ := 2 / √Real.pi * ∫ t in (0 : ℝ)..x, Real.exp (-(t ^ 2))

theorem hasDerivAt_integral (f : ℝ → ℝ) (hf : Continuous f) (x : ℝ) :
    HasDerivAt (fun y => ∫ t in (0 : ℝ)..y, f t) (f x) x := by
  rw [hasDerivAt_iff_isLittleO, Asymptotics.isLittleO_iff]
  intro ε hε
  obtain ⟨δ, hδ, hd⟩ := Metric.continuousAt_iff.1 (hf.continuousAt (x := x)) ε hε
  filter_upwards [Metric.ball_mem_nhds x hδ] with y hy
  have e : (∫ t in (0 : ℝ)..y, f t) - (∫ t in (0 : ℝ)..x, f t) - (y - x) • f x = ∫ t in x..y, (f t - f x) := by
    rw [intervalIntegral.integral_interval_sub_left (hf.intervalIntegrable _ _) (hf.intervalIntegrable _ _), ← intervalIntegral.integral_const,
      intervalIntegral.integral_sub (hf.intervalIntegrable _ _) (continuous_const.intervalIntegrable _ _)]
  rw [e]
  refine intervalIntegral.norm_integral_le_of_norm_le_const fun t ht => ?_
  have h := Set.abs_sub_left_of_mem_uIcc (Set.uIoc_subset_uIcc ht)
  exact (hd (lt_of_le_of_lt h hy)).le

theorem hasDerivAt_tt {x : ℝ} (h : 0 ≤ x) : HasDerivAt tt (-(pp * tt x ^ 2)) x := by
  have y := (lin_pos h).ne'
  have d := (((hasDerivAt_id x).const_mul pp).const_add 1).fun_inv y
  refine (d.congr_deriv ?_).congr_of_eventuallyEq (Filter.Eventually.of_forall fun z => ?_)
  · simp only [id, tt]
    field_simp
  · simp only [id, tt, one_div]

/-- The distance of `1 - r(t) exp (-x²)` from the error function. -/
abbrev dist9 (x : ℝ) : ℝ := erfR x - 1 + eval near (tt x) / 2 ^ 40 * Real.exp (-(x ^ 2))

theorem hasDerivAt_dist9 {x : ℝ} (h : 0 ≤ x) : HasDerivAt dist9 (rate (2 / √Real.pi) x * Real.exp (-(x ^ 2))) x := by
  have a := (hasDerivAt_integral (fun t => Real.exp (-(t ^ 2))) (by fun_prop) x).const_mul (2 / √Real.pi)
  have b := ((eval_der near (tt x)).comp x (hasDerivAt_tt h)).div_const (2 ^ 40)
  have c := ((hasDerivAt_id x).pow 2).neg.exp
  refine ((a.sub_const 1).add (b.mul c)).congr_deriv ?_
  simp only [id, rate, Function.comp, Pi.neg_apply, Pi.pow_apply]
  push_cast
  ring

/-- What the distance is compared with. -/
abbrev room (x : ℝ) : ℝ := cc / 4 * (1 - tt x ^ 4)

theorem hasDerivAt_room {x : ℝ} (h : 0 ≤ x) : HasDerivAt room (cc * pp * tt x ^ 5) x := by
  refine ((((hasDerivAt_tt h).pow 4).const_sub 1).const_mul (cc / 4)).congr_deriv ?_
  push_cast
  ring

theorem dist9_zero : dist9 0 = 0 := by
  have e : eval near 1 = 2 ^ 40 := by
    simp only [near, eval]
    norm_num
  have t : tt 0 = 1 := by simp [tt]
  rw [dist9, t, e]
  simp

theorem room_zero : room 0 = 0 := by
  simp [room, tt]

theorem exp_cancel (x : ℝ) : Real.exp (x ^ 2) * Real.exp (-(x ^ 2)) = 1 := by
  rw [← Real.exp_add, add_neg_cancel, Real.exp_zero]

theorem dist9_le {x : ℝ} (h : 0 ≤ x) : |dist9 x| ≤ room x := by
  have up : MonotoneOn (fun z => room z + dist9 z) (Set.Ici 0) := by
    refine monotoneOn_of_hasDerivWithinAt_nonneg (convex_Ici 0)
      (fun z hz => ((hasDerivAt_room hz).add (hasDerivAt_dist9 hz)).continuousAt.continuousWithinAt)
      (fun z hz => ((hasDerivAt_room (interior_subset hz)).add (hasDerivAt_dist9 (interior_subset hz))).hasDerivWithinAt) fun z hz => ?_
    have r := mul_nonneg (le_rate (interior_subset hz)) (Real.exp_pos (-(z ^ 2))).le
    rwa [add_mul, mul_assoc, exp_cancel, mul_one] at r
  have down : MonotoneOn (fun z => room z - dist9 z) (Set.Ici 0) := by
    refine monotoneOn_of_hasDerivWithinAt_nonneg (convex_Ici 0)
      (fun z hz => ((hasDerivAt_room hz).sub (hasDerivAt_dist9 hz)).continuousAt.continuousWithinAt)
      (fun z hz => ((hasDerivAt_room (interior_subset hz)).sub (hasDerivAt_dist9 (interior_subset hz))).hasDerivWithinAt) fun z hz => ?_
    have r := mul_nonneg (rate_le (interior_subset hz)) (Real.exp_pos (-(z ^ 2))).le
    rwa [sub_mul, mul_assoc, exp_cancel, mul_one] at r
  have u := up (Set.mem_Ici.2 le_rfl) (Set.mem_Ici.2 h) h
  have d := down (Set.mem_Ici.2 le_rfl) (Set.mem_Ici.2 h) h
  simp only [dist9_zero, room_zero] at u d
  rw [abs_le]
  constructor <;> linarith

/-- The kernel's value at `x ≥ 0` is within 3/20000000 of the error function. -/
theorem fit_near {x : ℝ} (h : 0 ≤ x) : |1 - eval kern (tt x) / 2 ^ 40 * Real.exp (-(x ^ 2)) - erfR x| ≤ 10555312 / 2 ^ 46 := by
  have a := dist9_le h
  have b := gap_le h
  have t := tt_pos h
  have r : room x ≤ cc / 4 := by
    have : 0 ≤ cc / 4 * tt x ^ 4 := by positivity
    simp only [room]
    linarith
  have e : 1 - eval kern (tt x) / 2 ^ 40 * Real.exp (-(x ^ 2)) - erfR x
      = -(dist9 x + (eval kern (tt x) / 2 ^ 40 - eval near (tt x) / 2 ^ 40) * Real.exp (-(x ^ 2))) := by
    simp only [dist9]
    ring
  rw [← abs_of_pos (Real.exp_pos (-(x ^ 2))), ← abs_mul] at b
  rw [e, abs_neg]
  refine (abs_add_le _ _).trans ((add_le_add (a.trans r) b).trans ?_)
  norm_num

end Cert.Proof.Combine
-- ==== Proof.Combine.Point.lean ====
/-
  One element of the kernel's result and of the sum of encodings it stands for, over the extended reals: at finite
  arguments they are apart by at most the tolerance times the weight of the error function.
-/
module

public import proofs.«01_k».proof.Proof.Combine.Erf
public import Idealize.ShloMosaic.Lib.IdealHost
public import Idealize.ShloMosaic.PureOps.Ideal.Laws

@[expose] public section

noncomputable section

namespace Cert.Proof.Combine

open Idealize.ShloMosaic

/-! The error function at every real. -/

/-- The kernel's value for the error function. -/
def erfK (u : ℝ) : ℝ := SignType.sign u * (1 - eval kern (tt |u|) / 2 ^ 40 * Real.exp (-(u ^ 2)))

theorem erfR_neg (x : ℝ) : erfR (-x) = -erfR x := by
  have h := intervalIntegral.integral_comp_neg (a := 0) (b := x) fun t => Real.exp (-(t ^ 2))
  simp only [neg_sq, neg_zero] at h
  rw [erfR, erfR, intervalIntegral.integral_symm, ← h]
  ring

theorem erfK_near (u : ℝ) : |erfK u - erfR u| ≤ 10555312 / 2 ^ 46 := by
  rcases lt_trichotomy u 0 with h | rfl | h
  · have e := fit_near (neg_nonneg.2 h.le)
    rw [erfR_neg, neg_sq] at e
    rw [erfK, sign_neg h, abs_of_neg h, ← abs_neg]
    convert e using 2
    simp
    ring
  · norm_num [erfK, erfR]
  · have e := fit_near h.le
    rw [erfK, sign_pos h, abs_of_pos h]
    simpa using e

/-! The literals. -/

theorem lit_p : Ideal.ofBits .f32 0x3EA7BA05#32 = ((pp : ℝ) : EReal) := by
  simp [Ideal.ofBits, Ideal.ieee, pp]
  norm_cast
theorem lit_a1 : Ideal.ofBits .f32 0x3E827906#32 = ((280188092416 / 2 ^ 40 : ℝ) : EReal) := by
  simp [Ideal.ofBits, Ideal.ieee]
  norm_cast
  norm_num
theorem lit_a2 : Ideal.ofBits .f32 0xBE91A98E#32 = ((-(312807456768 / 2 ^ 40) : ℝ) : EReal) := by
  simp [Ideal.ofBits, Ideal.ieee]
  norm_cast
  norm_num
theorem lit_a3 : Ideal.ofBits .f32 0x3FB5F0E3#32 = ((1562860978176 / 2 ^ 40 : ℝ) : EReal) := by
  simp [Ideal.ofBits, Ideal.ieee]
  norm_cast
  norm_num
theorem lit_a4 : Ideal.ofBits .f32 0xBFBA00E3#32 = ((-(1597757587456 / 2 ^ 40) : ℝ) : EReal) := by
  simp [Ideal.ofBits, Ideal.ieee]
  norm_cast
  norm_num
theorem lit_a5 : Ideal.ofBits .f32 0x3F87DC22#32 = ((1167027601408 / 2 ^ 40 : ℝ) : EReal) := by
  simp [Ideal.ofBits, Ideal.ieee]
  norm_cast
  norm_num
theorem lit_tol : Ideal.ofBits .f32 0x34210FB0#32 = ((10555312 / 2 ^ 46 : ℝ) : EReal) := by
  simp [Ideal.ofBits, Ideal.ieee]
  norm_cast
theorem lit_one : Ideal.ofBits .f32 0x3F800000#32 = ((1 : ℝ) : EReal) := by
  rw [Ideal.ofBits_one_f32, EReal.coe_one]
theorem lit_zero : Ideal.ofBits .f32 0x00000000#32 = ((0 : ℝ) : EReal) := by
  rw [Ideal.ofBits_zero_f32, EReal.coe_zero]

/-! One element. -/

theorem abs_coe (x : ℝ) : max (x : EReal) (-(x : EReal)) = ((|x| : ℝ) : EReal) := by
  rw [← EReal.coe_neg, abs_eq_max_neg]
  exact (EReal.coe_strictMono.monotone.map_max).symm

/-- The kernel's `t`. -/
def tOf (u : EReal) : EReal :=
  Ideal.div (Ideal.ofBits .f32 0x3F800000#32) (Ideal.ofBits .f32 0x3F800000#32 + Ideal.ofBits .f32 0x3EA7BA05#32 * max u (-u))

/-- The kernel's error function. -/
def erfOf (u : EReal) : EReal :=
  Scalar.select (Ideal.cmp .ogt (max u (-u)) (Ideal.ofBits .f32 0x00000000#32))
      (Scalar.select (Ideal.cmp .olt u (Ideal.ofBits .f32 0x00000000#32)) (Ideal.ofBits .f32 0xBF800000#32) (Ideal.ofBits .f32 0x3F800000#32)) u
    * (Ideal.ofBits .f32 0x3F800000#32
      - (((((Ideal.ofBits .f32 0x3F87DC22#32 * tOf u + Ideal.ofBits .f32 0xBFBA00E3#32) * tOf u + Ideal.ofBits .f32 0x3FB5F0E3#32) * tOf u
        + Ideal.ofBits .f32 0xBE91A98E#32) * tOf u + Ideal.ofBits .f32 0x3E827906#32) * tOf u)
        * Ideal.exp ((Ideal.ofBits .f32 0x00000000#32 - max u (-u)) * max u (-u)))

/-- Whether a value counts as zero. -/
def zeroBit (x : EReal) : BitVec 1 := Ideal.cmp .olt (max x (-x)) (Ideal.ofBits .f32 0x358637BD#32)

/-- The kernel's element. -/
def point (q x mean factor half w flag freq phase : EReal) : EReal :=
  ((q + half * (Ideal.ofBits .f32 0x3F800000#32 + erfOf ((x - mean) * factor))) + w * Ideal.sin (freq * x + phase))
    * (Ideal.ofBits .f32 0x3F800000#32 - flag * ((((zeroBit x).setWidth 32).toInt : ℝ) : EReal))

/-- The gate. -/
def gate (x flag : EReal) : EReal := Ideal.ofBits .f32 0x3F800000#32 - flag * (((zeroBit x).toNat : ℝ) : EReal)

/-- The sum of encodings. -/
def want (q x mean factor half w flag freq phase : EReal) : EReal :=
  ((q + half * (Ideal.ofBits .f32 0x3F800000#32 + Ideal.erf ((x - mean) * factor))) + w * Ideal.sin (freq * x + phase)) * gate x flag

theorem tOf_coe (u : ℝ) : tOf u = ((tt |u| : ℝ) : EReal) := by
  have h : (1 : ℝ) + pp * |u| ≠ 0 := by
    have : 0 ≤ pp * |u| := mul_nonneg (by norm_num [pp]) (abs_nonneg u)
    linarith
  rw [tOf, abs_coe, lit_one, lit_p, ← EReal.coe_mul, ← EReal.coe_add, Ideal.div_coe h, ← EReal.coe_mul, one_mul]

/-- The kernel's sign is the sign. -/
theorem sgn (u : EReal) : Scalar.select (Ideal.cmp .ogt (max u (-u)) (Ideal.ofBits .f32 0x00000000#32))
    (Scalar.select (Ideal.cmp .olt u (Ideal.ofBits .f32 0x00000000#32)) (Ideal.ofBits .f32 0xBF800000#32) (Ideal.ofBits .f32 0x3F800000#32)) u
    = Ideal.sign u := Ideal.jnp_sign_eq_sign_f32 u

theorem erfOf_coe (u : ℝ) : erfOf u = ((erfK u : ℝ) : EReal) := by
  rw [erfOf, sgn, Ideal.sign_coe, tOf_coe, abs_coe, lit_one, lit_zero, lit_a1, lit_a2, lit_a3, lit_a4, lit_a5]
  have e : Ideal.exp ((((0 : ℝ) : EReal) - ((|u| : ℝ) : EReal)) * ((|u| : ℝ) : EReal)) = ((Real.exp (-(u ^ 2)) : ℝ) : EReal) := by
    rw [← EReal.coe_sub, ← EReal.coe_mul, show (0 - |u|) * |u| = -(u ^ 2) by rw [← sq_abs]; ring]
    rfl
  rw [e]
  simp only [← EReal.coe_mul, ← EReal.coe_add, ← EReal.coe_sub]
  congr 2
  simp only [erfK, kern, eval]
  push_cast
  ring

/-- At the infinities the kernel's error function is the sign. -/
theorem erfOf_far {u : EReal} (h : max u (-u) = ⊤) : erfOf u = Ideal.sign u := by
  have t : tOf u = 0 := by
    have e : Ideal.ofBits .f32 0x3F800000#32 + Ideal.ofBits .f32 0x3EA7BA05#32 * ⊤ = (⊤ : EReal) := by
      rw [lit_one, lit_p, EReal.coe_mul_top_of_pos (by norm_num [pp]), EReal.coe_add_top]
    rw [tOf, h, e, Ideal.div, if_neg EReal.top_ne_zero, EReal.inv_top, mul_zero]
  have e : ((0 : ℝ) : EReal) - ⊤ = ⊥ := rfl
  rw [erfOf, sgn, t, h, mul_zero, lit_one, lit_zero, e, EReal.bot_mul_top, Ideal.exp_bot, mul_zero, EReal.coe_one, sub_zero, mul_one]

/-- The kernel's error function is near the error function, and both are finite. -/
theorem erfOf_near (u : EReal) : ∃ a b : ℝ, erfOf u = a ∧ Ideal.erf u = b ∧ |a - b| ≤ 10555312 / 2 ^ 46 := by
  induction u with
  | bot =>
    refine ⟨-1, -1, (erfOf_far (max_eq_right bot_le)).trans ?_, ?_, by norm_num⟩
    · rw [Ideal.sign_of_neg EReal.bot_lt_zero]; simp
    · rw [Ideal.erf_bot]; simp
  | top =>
    refine ⟨1, 1, (erfOf_far (max_eq_left le_top)).trans ?_, ?_, by norm_num⟩
    · rw [Ideal.sign_of_pos EReal.zero_lt_top]; simp
    · rw [Ideal.erf_top]; simp
  | coe x => exact ⟨erfK x, erfR x, erfOf_coe x, rfl, erfK_near x⟩

theorem bit_int (b : BitVec 1) : (((b.setWidth 32).toInt : ℝ) : EReal) = ((b.toNat : ℝ) : EReal) := by
  rcases BitVec.eq_zero_or_eq_one b with rfl | rfl <;> norm_num

theorem point_near (mean factor half : EReal) (q x w flag freq phase : ℝ) :
    max (point q x mean factor half w flag freq phase - want q x mean factor half w flag freq phase)
        (-(point q x mean factor half w flag freq phase - want q x mean factor half w flag freq phase))
      ≤ Ideal.ofBits .f32 0x34210FB0#32 * max (half * gate x flag) (-(half * gate x flag)) := by
  have g : gate x flag = ((1 - flag * (zeroBit x).toNat : ℝ) : EReal) := by
    rw [gate, lit_one, ← EReal.coe_mul, ← EReal.coe_sub]
  obtain ⟨a, b, k, e, h⟩ := erfOf_near (((x : EReal) - mean) * factor)
  have s : Ideal.sin ((freq : EReal) * x + phase) = ((Real.sin (freq * x + phase) : ℝ) : EReal) := by
    rw [← EReal.coe_mul, ← EReal.coe_add]
    rfl
  rw [point, want, bit_int, ← gate, g, e, k, s, lit_one, lit_tol]
  generalize (1 - flag * (zeroBit x).toNat : ℝ) = z
  generalize Real.sin (freq * x + phase) = y
  have far : ∀ v : EReal, (v = ⊤ ∨ v = ⊥) → ∀ d : EReal, z ≠ 0 → d ≤ ((10555312 / 2 ^ 46 : ℝ) : EReal) * max (v * z) (-(v * z)) := by
    intro v hv d hz
    have e : max (v * z) (-(v * z)) = ⊤ := by
      rcases hv with rfl | rfl <;> rcases lt_or_gt_of_ne hz with n | n <;>
        simp [EReal.top_mul_coe_of_neg, EReal.top_mul_coe_of_pos, EReal.bot_mul_coe_of_neg, EReal.bot_mul_coe_of_pos, n]
    rw [e, EReal.coe_mul_top_of_pos (by norm_num)]
    exact le_top
  by_cases hz : z = 0
  · subst hz
    simp
  induction half with
  | top => exact far _ (.inl rfl) _ hz
  | bot => exact far _ (.inr rfl) _ hz
  | coe half =>
    simp only [← EReal.coe_mul, ← EReal.coe_add, ← EReal.coe_sub, abs_coe, EReal.coe_le_coe_iff]
    rw [show (q + half * (1 + a) + w * y) * z - (q + half * (1 + b) + w * y) * z = (a - b) * (half * z) by ring, abs_mul]
    exact mul_le_mul_of_nonneg_right h (abs_nonneg _)

end Cert.Proof.Combine

end

end
-- ==== Proof.Combine.Value.lean ====
/-
  The kernel's result at an index, and the postcondition there.
-/
module

public import proofs.«01_k».proof.Proof.Combine.Point
public import proofs.«01_k».proof.Proof.Sc.Ref
public import proofs.«01_k».proof.Proof.Gen.CombineIdeal.Frame
public import proofs.«01_k».proof.Proof.Gen.Pre_finite
public import proofs.«01_k».proof.Proof.Gen.Post_near_encoding
public import Idealize.ShloMosaic.Lib.Pipeline.ValueKit
public import Idealize.ShloMosaic.Lib.ValueIdx
public import Idealize.ShloMosaic.Lib.StableHlo.RunRead

@[expose] public section

noncomputable section

namespace Cert.Proof.Combine

open Cert.CombineIdeal Cert.CombineIdeal.Gen
open Idealize.ShloMosaic hiding ix0 ix1 ix2 ix3
open Idealize.ShloMosaic.ValueIdx Idealize.ShloMosaic.TcCoe Idealize.SL.Sem

/-! The body's block at an index. -/

/-- The only index of a 1×1 array. -/
abbrev one : S1x1.Idx := ix2 (0 : Fin 1) (0 : Fin 1)

theorem spread (v : FVec Ideal S1x1 .f32) : broadcastTo S1024x128 v broadcasts_S1x1_S1024x128 = fun _ => v one := by
  funext y
  refine broadcastTo_apply _ _ y one fun a => ?_
  match a with
  | ⟨0, _⟩ => exact (if_pos rfl).symm
  | ⟨1, _⟩ => exact (if_pos rfl).symm

theorem pay_apply (P0 P2 : FVec Ideal S1024x128 .f32) (P1 P3 P4 P5 P6 P7 P8 : FVec Ideal S1x1 .f32) (y : S1024x128.Idx) :
    k0_pay1 (F := Ideal) P1 P5 P8 P6 P7 (k0_pay2 P2) (k0_pay4 P3 P4 P2) (k0_pay5 P3 P4 P2) (k0_pay6 P3 P4 P2) (k0_pay7 P3 P4 P2) P0 y
      = point (P0 y) (P2 y) (P3 one) (P4 one) (P1 one) (P5 one) (P8 one) (P6 one) (P7 one) := by
  simp only [k0_pay1, k0_pay2, k0_pay3, k0_pay4, k0_pay5, k0_pay6, k0_pay7, shapeCast_self, spread]
  rfl

theorem lane_load (x : FVec Ideal S1x128 .f32) (n : Fin 128) (h : ∀ a, (![0, n.val] : Fin 2 → ℕ) a + S1x1.size a ≤ S1x128.size a) (z : S1x1.Idx) :
    View.ld (Val := Elt Ideal) (e' := .f32) x (Rect.unit (s := S1x128) ![0, n.val] S1x1.size h) z = x (ix2 (0 : Fin 1) n) := by
  refine congrArg x (funext fun a => Fin.ext ?_)
  have h0 : (z 0).val < 1 := (z 0).isLt
  have h1 : (z 1).val < 1 := (z 1).isLt
  match a with
  | ⟨0, _⟩ => show 0 + 1 * (z 0).val = 0; omega
  | ⟨1, _⟩ => show n.val + 1 * (z 1).val = n.val; omega

theorem out_apply (x0 : FVec Ideal S1x128 .f32) (x1 x2 : FVec Ideal S1024x128 .f32) (k : Fin 1024) (l : Fin 128) :
    out0_3 (F := Ideal) x0 x1 x2 (ix2 k l)
      = point (x2 (ix2 k l)) (x1 (ix2 k l)) (x0 (ix2 (0 : Fin 1) (0 : Fin 128))) (x0 (ix2 (0 : Fin 1) (1 : Fin 128))) (x0 (ix2 (0 : Fin 1) (2 : Fin 128)))
        (x0 (ix2 (0 : Fin 1) (3 : Fin 128))) (x0 (ix2 (0 : Fin 1) (4 : Fin 128))) (x0 (ix2 (0 : Fin 1) (5 : Fin 128))) (x0 (ix2 (0 : Fin 1) (6 : Fin 128))) := by
  have e : ∀ x : FVec Ideal S1024x128 .f32, View.ld (Val := Elt Ideal) (e' := .f32) x r0_7 (ix2 k l) = x (ix2 k l) := by
    intro x
    refine congrArg x (funext fun a => Fin.ext ?_)
    match a with
    | ⟨0, _⟩ => show 0 + 1 * k.val = k.val; omega
    | ⟨1, _⟩ => show 0 + 1 * l.val = l.val; omega
  unfold out0_3
  refine (congrFun (View.canon_cons_unit_lit _ _ _ (by decide)) (ix2 k l)).trans ((pay_apply _ _ _ _ _ _ _ _ _ _).trans ?_)
  rw [e, e,
    show View.ld (Val := Elt Ideal) (e' := .f32) x0 r0_0 one = x0 (ix2 (0 : Fin 1) (0 : Fin 128)) from lane_load x0 0 _ _,
    show View.ld (Val := Elt Ideal) (e' := .f32) x0 r0_1 one = x0 (ix2 (0 : Fin 1) (1 : Fin 128)) from lane_load x0 1 _ _,
    show View.ld (Val := Elt Ideal) (e' := .f32) x0 r0_2 one = x0 (ix2 (0 : Fin 1) (2 : Fin 128)) from lane_load x0 2 _ _,
    show View.ld (Val := Elt Ideal) (e' := .f32) x0 r0_3 one = x0 (ix2 (0 : Fin 1) (3 : Fin 128)) from lane_load x0 3 _ _,
    show View.ld (Val := Elt Ideal) (e' := .f32) x0 r0_4 one = x0 (ix2 (0 : Fin 1) (4 : Fin 128)) from lane_load x0 4 _ _,
    show View.ld (Val := Elt Ideal) (e' := .f32) x0 r0_5 one = x0 (ix2 (0 : Fin 1) (5 : Fin 128)) from lane_load x0 5 _ _,
    show View.ld (Val := Elt Ideal) (e' := .f32) x0 r0_6 one = x0 (ix2 (0 : Fin 1) (6 : Fin 128)) from lane_load x0 6 _ _]

/-! The blocks of the arrays. -/

variable (m : (ℓ : Loc nD τ sig) → Buf (Elt Ideal) ℓ)

/-- The scalars, the inputs and the quantile encoding. -/
abbrev scal (c : Dev nD) : FVec Ideal S1x128 .f32 := m ((c : Thread nD τ).loc main_arg0)
abbrev inputs (c : Dev nD) : FVec Ideal S8388608 .f32 := m ((c : Thread nD τ).loc main_arg1)
abbrev quant (c : Dev nD) : FVec Ideal S8388608 .f32 := m ((c : Thread nD τ).loc main_arg2)

/-- An array's element at row `p` and column `l`. -/
abbrev elt (x : FVec Ideal S8388608 .f32) (p : Fin 65536) (l : Fin 128) : EReal := x (ix1 (⟨p.val * 128 + l.val, by omega⟩ : Fin 8388608))

theorem cast_elt (x : FVec Ideal S8388608 .f32) (p : Fin 65536) (l : Fin 128) :
    shapeCast S65536x128 x shapeCasts_S8388608_S65536x128 (ix2 p l) = elt x p l := by
  refine shapeCast_apply _ _ _ _ ?_
  rw [Shape.rowMajor_val_one, Shape.rowMajor_val_two]
  rfl

theorem V_inputs (c : Dev nD) : (V m c main_v0 : FVec Ideal S65536x128 .f32) = shapeCast S65536x128 (inputs m c) shapeCasts_S8388608_S65536x128 := by
  show StableHlo.after hostOps0 (fun b => m (c, b)) (Proc.devRef .tc main_v0) = _
  after_reads_simp
  rfl

theorem V_quant (c : Dev nD) : (V m c main_v1 : FVec Ideal S65536x128 .f32) = shapeCast S65536x128 (quant m c) shapeCasts_S8388608_S65536x128 := by
  show StableHlo.after hostOps0 (fun b => m (c, b)) (Proc.devRef .tc main_v1) = _
  after_reads_simp
  rfl

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)

/-- Row `k` of block `t`. -/
abbrev rowOf (t : Fin cfg0.N) (k : Fin 1024) : Fin 65536 := ⟨t.val * 1024 + k.val, by have := lt_of_lt_of_eq t.isLt N_0; omega⟩

theorem block0 (c : Dev nD) (t : Fin cfg0.N) (l : Fin 128) : (iblk m c 0 t : FVec Ideal S1x128 .f32) (ix2 (0 : Fin 1) l) = scal m c (ix2 (0 : Fin 1) l) := by
  obtain ⟨e0, e1⟩ := idx0 t
  unfold iblk
  rw [View.read_apply]
  refine Eq.trans (b := (V m c main_arg0 : FVec Ideal S1x128 .f32) (ix2 (0 : Fin 1) l)) ?_ (congrFun (V_main_arg0 m c) _)
  show (V m c main_arg0 : FVec Ideal S1x128 .f32) _ = _
  refine congrArg _ (funext fun a => Fin.ext ?_)
  match a with
  | ⟨0, _⟩ => show win0_0.index t (0 : Fin 2) * 1 + 1 * 0 = 0; rw [e0]
  | ⟨1, _⟩ => show win0_0.index t (1 : Fin 2) * 128 + 1 * l.val = l.val; rw [e1]; omega

theorem block1 (c : Dev nD) (t : Fin cfg0.N) (k : Fin 1024) (l : Fin 128) :
    (iblk m c 1 t : FVec Ideal S1024x128 .f32) (ix2 k l) = elt (inputs m c) (rowOf t k) l := by
  obtain ⟨e0, e1⟩ := idx1 t
  unfold iblk
  rw [View.read_apply]
  refine Eq.trans (b := (V m c main_v0 : FVec Ideal S65536x128 .f32) (ix2 (rowOf t k) l)) ?_ ((congrFun (V_inputs m c) _).trans (cast_elt _ _ _))
  show (V m c main_v0 : FVec Ideal S65536x128 .f32) _ = _
  refine congrArg _ (funext fun a => Fin.ext ?_)
  match a with
  | ⟨0, _⟩ => show win0_1.index t (0 : Fin 2) * 1024 + 1 * k.val = t.val * 1024 + k.val; rw [e0]; omega
  | ⟨1, _⟩ => show win0_1.index t (1 : Fin 2) * 128 + 1 * l.val = l.val; rw [e1]; omega

theorem block2 (c : Dev nD) (t : Fin cfg0.N) (k : Fin 1024) (l : Fin 128) :
    (iblk m c 2 t : FVec Ideal S1024x128 .f32) (ix2 k l) = elt (quant m c) (rowOf t k) l := by
  obtain ⟨e0, e1⟩ := idx2 t
  unfold iblk
  rw [View.read_apply]
  refine Eq.trans (b := (V m c main_v1 : FVec Ideal S65536x128 .f32) (ix2 (rowOf t k) l)) ?_ ((congrFun (V_quant m c) _).trans (cast_elt _ _ _))
  show (V m c main_v1 : FVec Ideal S65536x128 .f32) _ = _
  refine congrArg _ (funext fun a => Fin.ext ?_)
  match a with
  | ⟨0, _⟩ => show win0_2.index t (0 : Fin 2) * 1024 + 1 * k.val = t.val * 1024 + k.val; rw [e0]; omega
  | ⟨1, _⟩ => show win0_2.index t (1 : Fin 2) * 128 + 1 * l.val = l.val; rw [e1]; omega

/-! The result's blocks. -/

theorem flushed (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

theorem idx_inj : ∀ t t' : Fin cfg0.N, win0_3.index t = win0_3.index t' → t = t' :=
  (by decide +kernel : ∀ t t' : Fin grid0.N, win0_3.index t = win0_3.index t' → t = t')

theorem blocks (c : Dev nD) (t : Fin cfg0.N) :
    ((cfg0.win 3).blk t).view.read (Elt Ideal) ((dats m 0 c).arrAt 3 cfg0.N) = (dats m 0 c).flushed 3 t :=
  (dats m 0 c).read_blk_arrAt_eq_flushed 3 (fun t t' _ _ hne => (cfg0.win 3).disjoint_blk fun h => hne (idx_inj t t' h)) cfg0.N t t.isLt (flush0_3 t)

/-- A function of an element's scalars at the scalars' array. -/
abbrev withScal (f : EReal → EReal → EReal → EReal → EReal → EReal → EReal → EReal) (s : FVec Ideal S1x128 .f32) : EReal :=
  f (s (ix2 (0 : Fin 1) (0 : Fin 128))) (s (ix2 (0 : Fin 1) (1 : Fin 128))) (s (ix2 (0 : Fin 1) (2 : Fin 128))) (s (ix2 (0 : Fin 1) (3 : Fin 128)))
    (s (ix2 (0 : Fin 1) (4 : Fin 128))) (s (ix2 (0 : Fin 1) (5 : Fin 128))) (s (ix2 (0 : Fin 1) (6 : Fin 128)))

/-- The result. -/
theorem result_apply (c : Dev nD) (p : Fin 65536) (l : Fin 128) :
    ((dats m 0 c).arrAt 3 cfg0.N : FVec Ideal S65536x128 .f32) (ix2 p l) = withScal (point (elt (quant m c) p l) (elt (inputs m c) p l)) (scal m c) := by
  obtain ⟨t, k, rfl⟩ : ∃ (t : Fin cfg0.N) (k : Fin 1024), p = rowOf t k := by
    refine ⟨⟨p.val / 1024, ?_⟩, ⟨p.val % 1024, Nat.mod_lt _ (by norm_num)⟩, Fin.ext ?_⟩
    · have := N_0; show p.val / 1024 < grid0.N; omega
    · show p.val = p.val / 1024 * 1024 + p.val % 1024; omega
  obtain ⟨e0, e1⟩ := idx3 t
  have h := congrFun (blocks m c t) (ix2 k l)
  rw [View.read_apply, flushed] at h
  refine Eq.trans ?_ (h.trans ?_)
  · refine congrArg ((dats m 0 c).arrAt 3 cfg0.N : FVec Ideal S65536x128 .f32) (funext fun a => Fin.ext ?_)
    match a with
    | ⟨0, _⟩ => show t.val * 1024 + k.val = win0_3.index t (0 : Fin 2) * 1024 + 1 * k.val; rw [e0]; omega
    | ⟨1, _⟩ => show l.val = win0_3.index t (1 : Fin 2) * 128 + 1 * l.val; rw [e1]; omega
  · refine Eq.trans (b := out0_3 (F := Ideal) (iblk m c 0 t) (iblk m c 1 t) (iblk m c 2 t) (ix2 k l)) ?_ ?_
    · rfl
    · rw [out_apply, block1, block2]
      simp only [block0]

/-! The precondition. -/

theorem coe_of_abs_lt {x : EReal} (h : max x (-x) < ⊤) : ∃ r : ℝ, x = r := by
  induction x with
  | bot => simp at h
  | top => simp at h
  | coe r => exact ⟨r, rfl⟩

instance : Subsingleton Cert.Pre_finite.S_.Idx := ⟨fun a b => funext fun i => i.elim0⟩

theorem coe_of_bit {x : EReal} (h : Ideal.cmp .olt (max x (-x)) (Ideal.ofBits .f32 0x7F800000#32) = 1#1) : ∃ r : ℝ, x = r := by
  rw [Sc.cmp_lt_iff, Sc.lit_inf] at h
  exact coe_of_abs_lt h

theorem finite_facts (s : FVec Ideal S1x128 .f32) (x q : FVec Ideal S8388608 .f32) (h : Cert.Pre_finite.fn (F := Ideal) s x q = fun _ => 1#1) :
    (∀ l : Fin 4, ∃ r : ℝ, s (ix2 (0 : Fin 1) (⟨3 + l.val, by omega⟩ : Fin 128)) = r) ∧ (∀ n, ∃ r : ℝ, x n = r) ∧ ∀ n, ∃ r : ℝ, q n = r := by
  have h' := congrFun h (Shape.Idx.first Cert.Pre_finite.Facts.h_S_)
  unfold Cert.Pre_finite.fn at h'
  obtain ⟨h', hq⟩ := Sc.andi_one h'
  obtain ⟨hs, hx⟩ := Sc.andi_one h'
  refine ⟨fun l => ?_, fun n => coe_of_bit (Host.reduce_andi_all _ _ _ _ _ hx n), fun n => coe_of_bit (Host.reduce_andi_all _ _ _ _ _ hq n)⟩
  have e : shapeCast Cert.Pre_finite.S4 (extractStridedSlice Cert.Pre_finite.S1x4 ![0, 3] s Cert.Pre_finite.Facts.slices_S1x128_S1x4_0_3)
      Cert.Pre_finite.Facts.shapeCasts_S1x4_S4 (ix1 l) = s (ix2 (0 : Fin 1) (⟨3 + l.val, by omega⟩ : Fin 128)) := by
    refine (shapeCast_apply _ _ (ix1 l) (ix2 (0 : Fin 1) l) ?_).trans (extractStridedSlice_apply _ _ _ _ _ ?_)
    · rw [Shape.rowMajor_val_one, Shape.rowMajor_val_two]
      show 0 * 4 + l.val = l.val
      omega
    intro a
    match a with
    | ⟨0, _⟩ => rfl
    | ⟨1, _⟩ => show 3 + l.val = 3 + l.val; rfl
  rw [← e]
  exact coe_of_bit (Host.reduce_andi_all _ _ _ _ _ hs (ix1 l))

/-! The postcondition. -/

/-- A scalar, spread over the elements. -/
def spreadLane (s : FVec Ideal S1x128 .f32) (n : Fin 128) (h : S1x128.Slices ![0, n.val] S1x1) (j : S8388608.Idx) : EReal :=
  broadcastInDim S8388608 ![] Cert.Post_near_encoding.Facts.bcast_S_S8388608
    (shapeCast Cert.Post_near_encoding.S_ (extractStridedSlice S1x1 ![0, n.val] s h) Cert.Post_near_encoding.Facts.shapeCasts_S1x1_S_) j

theorem pick (s : FVec Ideal S1x128 .f32) (n : Fin 128) (h : S1x128.Slices ![0, n.val] S1x1) (j : S8388608.Idx) :
    spreadLane s n h j = s (ix2 (0 : Fin 1) n) := by
  refine (broadcastInDim_scalar_apply _ _ _).trans ((shapeCast_apply _ _ _ one ?_).trans (extractStridedSlice_apply _ _ _ _ _ ?_))
  · rw [Shape.rowMajor_val_two]
    rfl
  intro a
  match a with
  | ⟨0, _⟩ => rfl
  | ⟨1, _⟩ => rfl

theorem flat_elt (y : FVec Ideal S65536x128 .f32) (p : Fin 65536) (l : Fin 128) (h : S65536x128.ShapeCasts S8388608) :
    shapeCast S8388608 y h (ix1 (⟨p.val * 128 + l.val, by omega⟩ : Fin 8388608)) = y (ix2 p l) := by
  refine shapeCast_apply _ _ _ _ ?_
  rw [Shape.rowMajor_val_one, Shape.rowMajor_val_two]
  rfl

theorem post_apply (s : FVec Ideal S1x128 .f32) (x q : FVec Ideal S8388608 .f32) (y : FVec Ideal S65536x128 .f32) (p : Fin 65536) (l : Fin 128) :
    Cert.Post_near_encoding.fn (F := Ideal) s x q y (ix1 (⟨p.val * 128 + l.val, by omega⟩ : Fin 8388608))
      = Ideal.cmp .ole (max (y (ix2 p l) - withScal (want (elt q p l) (elt x p l)) s) (-(y (ix2 p l) - withScal (want (elt q p l) (elt x p l)) s)))
        (Ideal.ofBits .f32 0x34210FB0#32 * max (s (ix2 (0 : Fin 1) (2 : Fin 128)) * gate (elt x p l) (s (ix2 (0 : Fin 1) (4 : Fin 128))))
          (-(s (ix2 (0 : Fin 1) (2 : Fin 128)) * gate (elt x p l) (s (ix2 (0 : Fin 1) (4 : Fin 128)))))) := by
  rw [← flat_elt y p l Cert.Post_near_encoding.Facts.shapeCasts_S65536x128_S8388608]
  unfold withScal elt
  generalize (ix1 (⟨p.val * 128 + l.val, by omega⟩ : Fin 8388608)) = j
  simp only [← pick s 0 Cert.Post_near_encoding.Facts.slices_S1x128_S1x1_0_0 j, ← pick s 1 Cert.Post_near_encoding.Facts.slices_S1x128_S1x1_0_1 j,
    ← pick s 2 Cert.Post_near_encoding.Facts.slices_S1x128_S1x1_0_2 j, ← pick s 3 Cert.Post_near_encoding.Facts.slices_S1x128_S1x1_0_3 j,
    ← pick s 4 Cert.Post_near_encoding.Facts.slices_S1x128_S1x1_0_4 j, ← pick s 5 Cert.Post_near_encoding.Facts.slices_S1x128_S1x1_0_5 j,
    ← pick s 6 Cert.Post_near_encoding.Facts.slices_S1x128_S1x1_0_6 j]
  rfl

theorem post_holds (c : Dev nD) (h : Cert.Pre_finite.fn (F := Ideal) (scal m c) (inputs m c) (quant m c) = fun _ => 1#1) :
    Cert.Post_near_encoding.fn (F := Ideal) (scal m c) (inputs m c) (quant m c) ((dats m 0 c).arrAt 3 cfg0.N : FVec Ideal S65536x128 .f32) = fun _ => 1#1 := by
  obtain ⟨hs, hx, hq⟩ := finite_facts _ _ _ h
  funext j
  obtain ⟨p, l, rfl⟩ : ∃ (p : Fin 65536) (l : Fin 128), j = ix1 (⟨p.val * 128 + l.val, by omega⟩ : Fin 8388608) := by
    have hj : (j 0).val < 8388608 := (j 0).isLt
    refine ⟨⟨(j 0).val / 128, by omega⟩, ⟨(j 0).val % 128, Nat.mod_lt _ (by norm_num)⟩, funext fun a => Fin.ext ?_⟩
    match a with
    | ⟨0, _⟩ => show (j 0).val = (j 0).val / 128 * 128 + (j 0).val % 128; omega
  rw [post_apply, Sc.cmp_le_iff, result_apply]
  obtain ⟨a, ha⟩ := hx (ix1 (⟨p.val * 128 + l.val, by omega⟩ : Fin 8388608))
  obtain ⟨b, hb⟩ := hq (ix1 (⟨p.val * 128 + l.val, by omega⟩ : Fin 8388608))
  obtain ⟨r3, h3⟩ := hs 0
  obtain ⟨r4, h4⟩ := hs 1
  obtain ⟨r5, h5⟩ := hs 2
  obtain ⟨r6, h6⟩ := hs 3
  have h3 : scal m c (ix2 (0 : Fin 1) (3 : Fin 128)) = r3 := h3
  have h4 : scal m c (ix2 (0 : Fin 1) (4 : Fin 128)) = r4 := h4
  have h5 : scal m c (ix2 (0 : Fin 1) (5 : Fin 128)) = r5 := h5
  have h6 : scal m c (ix2 (0 : Fin 1) (6 : Fin 128)) = r6 := h6
  unfold withScal elt
  rw [ha, hb, h3, h4, h5, h6]
  exact point_near _ _ _ _ _ _ _ _ _

/-! The run. -/

variable (ρ : Dev nD → PrngReg)

theorem run_result : θ_run defs (onTc (τ := τ) (main (F := Ideal))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_v2) = (dats m 0 c).arrAt 3 cfg0.N) :=
  (θ_run defs _ _).mono (fun r h c =>
    ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c), (h c).1 3⟩) (run_main m ρ)

end Cert.Proof.Combine

end

end
-- ==== Proof.lean ====
/-
  The claims of Defs.lean.
-/
module

public import proofs.«01_k».proof.Defs
public import proofs.«01_k».proof.Proof.Gen.Hist
public import proofs.«01_k».proof.Proof.Gen.HistIdeal
public import proofs.«01_k».proof.Proof.Gen.HistIdeal.Skeleton
public import proofs.«01_k».proof.Proof.Gen.HistReferenceIdeal
public import proofs.«01_k».proof.Proof.Gen.HistReferenceIdeal.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Stats
public import proofs.«01_k».proof.Proof.Gen.Stats.Frame
public import proofs.«01_k».proof.Proof.Gen.StatsIdeal
public import proofs.«01_k».proof.Proof.Gen.StatsIdeal.Value
public import proofs.«01_k».proof.Proof.Gen.StatsReferenceIdeal
public import proofs.«01_k».proof.Proof.Gen.StatsReferenceIdeal.Run
public import proofs.«01_k».proof.Proof.Gen.Finalize
public import proofs.«01_k».proof.Proof.Gen.Finalize.Frame
public import proofs.«01_k».proof.Proof.Gen.FinalizeIdeal
public import proofs.«01_k».proof.Proof.Gen.FinalizeIdeal.Value
public import proofs.«01_k».proof.Proof.Gen.FinalizeReferenceIdeal
public import proofs.«01_k».proof.Proof.Gen.FinalizeReferenceIdeal.Run
public import proofs.«01_k».proof.Proof.Gen.Combine
public import proofs.«01_k».proof.Proof.Gen.Combine.Frame
public import proofs.«01_k».proof.Proof.Gen.CombineIdeal
public import proofs.«01_k».proof.Proof.Gen.CombineIdeal.Frame
public import proofs.«01_k».proof.Proof.Gen.Pre_finite
public import proofs.«01_k».proof.Proof.Gen.Post_near_encoding
public import proofs.«01_k».proof.Proof.Gen.Pre_even_grid
public import proofs.«01_k».proof.Proof.Gen.Pre_even_grid_hist
public import proofs.«01_k».proof.Proof.Sc.Launch
public import proofs.«01_k».proof.Proof.Sc.Value
public import proofs.«01_k».proof.Proof.Hist.Value
public import proofs.«01_k».proof.Proof.Stats.Value
public import proofs.«01_k».proof.Proof.Finalize.Value
public import proofs.«01_k».proof.Proof.Combine.Value
public import Idealize.ShloMosaic.Lib.Quiescent

@[expose] public section

noncomputable section

namespace Cert.Proof

open Idealize.ShloMosaic Idealize.SL.Sem

theorem frame_kernel : Cert.quiescent_Kernel := fun m ρ _ =>
  (θ_run (Cert.KernelIdeal.defs (F := Bits)) _ _).mono
    (fun r h => ⟨fun c => ⟨(h.1 c _ (Sc.mem_uc Cert.KernelIdeal.main_arg0 rfl)).trans (Sc.Vf_arg0 m c),
      (h.1 c _ (Sc.mem_uc Cert.KernelIdeal.main_arg1 rfl)).trans (Sc.Vf_arg1 m c),
      (h.1 c _ (Sc.mem_uc Cert.KernelIdeal.main_arg2 rfl)).trans (Sc.Vf_arg2 m c)⟩, h.2⟩)
    (Sc.run_main (F := Bits) m ρ)

theorem frame_kernelIdeal : Cert.quiescent_KernelIdeal := fun m ρ _ =>
  (θ_run (Cert.KernelIdeal.defs (F := Ideal)) _ _).mono
    (fun r h => ⟨fun c => ⟨(h.1 c _ (Sc.mem_uc Cert.KernelIdeal.main_arg0 rfl)).trans (Sc.Vf_arg0 m c),
      (h.1 c _ (Sc.mem_uc Cert.KernelIdeal.main_arg1 rfl)).trans (Sc.Vf_arg1 m c),
      (h.1 c _ (Sc.mem_uc Cert.KernelIdeal.main_arg2 rfl)).trans (Sc.Vf_arg2 m c)⟩, h.2⟩)
    (Sc.run_main (F := Ideal) m ρ)

theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

theorem algebraic : Cert.algebraic_KernelIdeal_ReferenceIdeal_pre_even_grid := by
  intro m g m' g' hpre hagree
  refine ⟨fun c => Sc.Vf m c (Proc.devRef .tc Cert.KernelIdeal.main_v15), ?_, ?_⟩
  · exact (θ_run (Cert.KernelIdeal.defs (F := Ideal)) _ _).mono
      (fun r h c => ⟨h.1 c _ (Sc.mem_uc Cert.KernelIdeal.main_v15 rfl),
        (h.1 c _ (Sc.mem_uc Cert.KernelIdeal.main_arg0 rfl)).trans (Sc.Vf_arg0 m c),
        (h.1 c _ (Sc.mem_uc Cert.KernelIdeal.main_arg1 rfl)).trans (Sc.Vf_arg1 m c),
        (h.1 c _ (Sc.mem_uc Cert.KernelIdeal.main_arg2 rfl)).trans (Sc.Vf_arg2 m c)⟩)
      (Sc.run_main (F := Ideal) m g)
  · refine (θ_run (Cert.ReferenceIdeal.defs (F := Ideal)) _ _).mono (fun r h c => ⟨?_, (h c).2⟩)
      (Cert.ReferenceIdeal.Value.run (F := Ideal) m' g')
    refine (h c).1.trans ((Sc.ref_eq m' c).trans ?_)
    rw [(hagree c).1, (hagree c).2.1, (hagree c).2.2]
    exact (Sc.Vf_ideal m c _ _ _ rfl rfl rfl (hpre c)).symm

/-! The histogram call. -/

theorem frame_hist : Cert.quiescent_Hist := fun m ρ _ =>
  (θ_run (Cert.HistIdeal.defs (F := Bits)) _ _).mono
    (fun r h => ⟨fun c => ⟨(h.1 c _ (Hist.mem_uc Cert.HistIdeal.main_arg0 rfl)).trans (Hist.Ve_arg0 m c),
      (h.1 c _ (Hist.mem_uc Cert.HistIdeal.main_arg1 rfl)).trans (Hist.Ve_arg1 m c)⟩, h.2⟩)
    (Hist.run_main (F := Bits) m ρ)

theorem frame_histIdeal : Cert.quiescent_HistIdeal := fun m ρ _ =>
  (θ_run (Cert.HistIdeal.defs (F := Ideal)) _ _).mono
    (fun r h => ⟨fun c => ⟨(h.1 c _ (Hist.mem_uc Cert.HistIdeal.main_arg0 rfl)).trans (Hist.Ve_arg0 m c),
      (h.1 c _ (Hist.mem_uc Cert.HistIdeal.main_arg1 rfl)).trans (Hist.Ve_arg1 m c)⟩, h.2⟩)
    (Hist.run_main (F := Ideal) m ρ)

theorem frame_histReference : Cert.quiescent_HistReferenceIdeal := fun m ρ _ =>
  (θ_run (Cert.HistReferenceIdeal.defs (F := Ideal)) _ _).mono
    (fun r h => ⟨fun c => (h c).2, Idealize.ShloMosaic.sem_eq_zero_of_no_sems (by decide) r.2⟩)
    (Hist.ref_run m ρ)

theorem algebraic_hist : Cert.algebraic_HistIdeal_HistReferenceIdeal_pre_even_grid_hist := by
  intro m g m' g' hpre hagree
  refine ⟨fun c => Hist.Ve m c (Proc.devRef .tc Cert.HistIdeal.main_v14), ?_, ?_⟩
  · exact (θ_run (Cert.HistIdeal.defs (F := Ideal)) _ _).mono
      (fun r h c => ⟨h.1 c _ (Hist.mem_uc Cert.HistIdeal.main_v14 rfl),
        (h.1 c _ (Hist.mem_uc Cert.HistIdeal.main_arg0 rfl)).trans (Hist.Ve_arg0 m c),
        (h.1 c _ (Hist.mem_uc Cert.HistIdeal.main_arg1 rfl)).trans (Hist.Ve_arg1 m c)⟩)
      (Hist.run_main (F := Ideal) m g)
  · refine (θ_run (Cert.HistReferenceIdeal.defs (F := Ideal)) _ _).mono (fun r h c => ⟨?_, (h c).2⟩) (Hist.ref_run m' g')
    refine (h c).1.trans ?_
    rw [(hagree c).1, (hagree c).2]
    exact (Hist.Ve_ideal m c _ _ rfl rfl (hpre c)).symm

/-! The sums over the inputs. -/

theorem frame_statsReference : Cert.quiescent_StatsReferenceIdeal := fun m ρ _ =>
  (θ_run (Cert.StatsReferenceIdeal.defs (F := Ideal)) _ _).mono
    (fun r h => ⟨fun c => (h c).2, Idealize.ShloMosaic.sem_eq_zero_of_no_sems (by decide) r.2⟩)
    (Stats.ref_run m ρ)

theorem algebraic_stats : Cert.algebraic_StatsIdeal_StatsReferenceIdeal := by
  intro m g m' g' _ hagree
  refine ⟨_, Cert.StatsIdeal.Value.run (F := Ideal) m g, ?_⟩
  refine (θ_run (Cert.StatsReferenceIdeal.defs (F := Ideal)) _ _).mono (fun r h c => ⟨(h c).1.trans ?_, (h c).2⟩) (Stats.ref_run m' g')
  rw [hagree c]
  exact (Stats.G_eq m c).symm

/-! The parameters computed from the counts and the sums. -/

theorem frame_finalizeReference : Cert.quiescent_FinalizeReferenceIdeal := fun m ρ _ =>
  (θ_run (Cert.FinalizeReferenceIdeal.defs (F := Ideal)) _ _).mono
    (fun r h => ⟨fun c => (h c).2.2, Idealize.ShloMosaic.sem_eq_zero_of_no_sems (by decide) r.2⟩)
    (Cert.FinalizeReferenceIdeal.Value.run (F := Ideal) m ρ)

theorem preserves_finalize : Cert.preserves_Finalize_FinalizeIdeal :=
  IdealRules.named_const.statement Cert.FinalizeIdeal.κ "inv_sqrt2" .f32 0x3F3504F3#32 (((Real.sqrt 2)⁻¹ : ℝ) : EReal) rfl

theorem algebraic_finalize : Cert.algebraic_FinalizeIdeal_FinalizeReferenceIdeal := by
  intro m g m' g' _ hagree
  refine ⟨_, _, Cert.FinalizeIdeal.Value.run (F := Ideal) m g, ?_⟩
  refine (θ_run (Cert.FinalizeReferenceIdeal.defs (F := Ideal)) _ _).mono (fun r h c => ⟨(h c).1.trans ?_, (h c).2.1.trans ?_, (h c).2.2⟩)
    (Cert.FinalizeReferenceIdeal.Value.run (F := Ideal) m' g')
  · rw [(hagree c).1, (hagree c).2.2.1]
    exact Finalize.ref_first _ _ _ _
  · exact Finalize.ref_second m' c _ _ _ _ (hagree c).2.1 (hagree c).2.2.1 (hagree c).2.2.2

/-! The sum of the encodings. -/

theorem holds_combine : Cert.holds_CombineIdeal_near_encoding_pre_finite := fun m g hpre =>
  (θ_run (Cert.CombineIdeal.defs (F := Ideal)) _ _).mono
    (fun r h c => ⟨(h c).1, (h c).2.1, (h c).2.2.1, by rw [(h c).2.2.2]; exact Combine.post_holds m c (hpre c)⟩)
    (Combine.run_result m g)

theorem claim : Cert.Claim :=
  ⟨Cert.Kernel.Gen.facts, Cert.KernelIdeal.Gen.facts, Cert.ReferenceIdeal.Gen.facts, Cert.Hist.Gen.facts, Cert.HistIdeal.Gen.facts,
    Cert.HistReferenceIdeal.Gen.facts, Cert.Stats.Gen.facts, Cert.StatsIdeal.Gen.facts, Cert.StatsReferenceIdeal.Gen.facts,
    Cert.Finalize.Gen.facts, Cert.FinalizeIdeal.Gen.facts, Cert.FinalizeReferenceIdeal.Gen.facts,
    Cert.Combine.Gen.facts, Cert.CombineIdeal.Gen.facts,
    Cert.Pre_even_grid.Gen.facts, Cert.Pre_even_grid_hist.Gen.facts, Cert.Pre_finite.Gen.facts, Cert.Post_near_encoding.Gen.facts,
    frame_kernel, frame_kernelIdeal, fun m ρ _ => frame_kernelIdeal m ρ trivial, frame_reference,
    fun m ρ _ => frame_reference m ρ trivial,
    frame_hist, frame_histIdeal, fun m ρ _ => frame_histIdeal m ρ trivial, frame_histReference,
    fun m ρ _ => frame_histReference m ρ trivial,
    fun m ρ _ => Cert.Stats.Gen.frame m ρ, fun m ρ _ => Cert.StatsIdeal.Gen.frame m ρ, frame_statsReference,
    fun m ρ _ => Cert.Finalize.Gen.frame m ρ, fun m ρ _ => Cert.FinalizeIdeal.Gen.frame m ρ, frame_finalizeReference,
    fun m ρ _ => Cert.Combine.Gen.frame m ρ, fun m ρ _ => Cert.CombineIdeal.Gen.frame m ρ, fun m ρ _ => Cert.CombineIdeal.Gen.frame m ρ,
    trivial, algebraic, trivial, algebraic_hist, trivial, algebraic_stats, preserves_finalize, algebraic_finalize,
    IdealRules.sign_bit.statement _ _, holds_combine⟩

end Cert.Proof

end
